-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v29) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_v107) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S8x2048x1024 : Shape := ⟨3, ![8, 2048, 1024]⟩
abbrev S128x4x1024 : Shape := ⟨3, ![128, 4, 1024]⟩
abbrev S1x1024 : Shape := ⟨2, ![1, 1024]⟩
abbrev S1x1024x1024 : Shape := ⟨3, ![1, 1024, 1024]⟩
abbrev S1x128x256x4x256 : Shape := ⟨5, ![1, 128, 256, 4, 256]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S1x128x256x4x256 : S_.BroadcastsInDim S1x128x256x4x256 (![] : Fin 0 → Fin S1x128x256x4x256.rank)

variable [Facts]

def fn {F : FTy → Type} [FloatOps F] (main_arg0 : FVec F S8x2048x1024 .f32) (main_arg1 : FVec F S128x4x1024 .f32) (main_arg2 : FVec F S1x1024 .f32) (main_arg3 : FVec F S1x1024x1024 .f32) (main_arg4 : FVec F S1x1024x1024 .f32) (main_arg5 : FVec F S1x128x256x4x256 .f32) (main_arg6 : FVec F S1x128x256x4x256 .f32) (main_arg7 : FVec F S1x1024 .f32) (main_arg8 : FVec F S1x1024x4096 .f32) (main_arg9 : FVec F S1x4096x1024 .f32) (main_arg10 : FVec F S1024 .f32) : IVec S1x1024 1 × IVec S1x1024x1024 1 × IVec S1x128x256x4x256 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x1024 .f32 := Host.absf main_arg3
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S1x128x256x4x256 .f32 := Host.absf main_arg5
  let main_cst_1 : FVec F S_ .f32 := constant S_ .f32 0x7F800000#32
  let main_v7 : FVec F S1x128x256x4x256 .f32 := broadcastInDim S1x128x256x4x256 ![] bcast_S_S1x128x256x4x256 main_cst_1
  let main_v8 : IVec S1x128x256x4x256 1 := cmpf .olt main_v6 main_v7
  (main_v2, main_v5, main_v8)
-- ==== Pre_finite3.lean ====
abbrev S8x2048x1024 : Shape := ⟨3, ![8, 2048, 1024]⟩
abbrev S1x1024 : Shape := ⟨2, ![1, 1024]⟩
abbrev S1x1024x1024 : Shape := ⟨3, ![1, 1024, 1024]⟩
abbrev S8x256x4x256 : Shape := ⟨4, ![8, 256, 4, 256]⟩
abbrev S_ : Shape := ⟨0, ![]⟩

class Facts : Prop where
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S8x256x4x256 : S_.BroadcastsInDim S8x256x4x256 (![] : Fin 0 → Fin S8x256x4x256.rank)

variable [Facts]

def fn {F : FTy → Type} [FloatOps F] (main_arg0 : FVec F S8x2048x1024 .f32) (main_arg1 : FVec F S1x1024 .f32) (main_arg2 : FVec F S1x1024x1024 .f32) (main_arg3 : FVec F S1x1024x1024 .f32) (main_arg4 : FVec F S8x256x4x256 .f32) (main_arg5 : FVec F S8x256x4x256 .f32) : IVec S1x1024 1 × IVec S1x1024x1024 1 × IVec S8x256x4x256 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x1024 .f32 := Host.absf main_arg2
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S8x256x4x256 .f32 := Host.absf main_arg4
  let main_cst_1 : FVec F S_ .f32 := constant S_ .f32 0x7F800000#32
  let main_v7 : FVec F S8x256x4x256 .f32 := broadcastInDim S8x256x4x256 ![] bcast_S_S8x256x4x256 main_cst_1
  let main_v8 : IVec S8x256x4x256 1 := cmpf .olt main_v6 main_v7
  (main_v2, main_v5, main_v8)
-- ==== Kernel.lean ====
abbrev S8x256x1024 : Shape := ⟨3, ![8, 256, 1024]⟩
abbrev S1x1024 : Shape := ⟨2, ![1, 1024]⟩
abbrev S1x1024x1024 : Shape := ⟨3, ![1, 1024, 1024]⟩
abbrev S1x1024x2304 : Shape := ⟨3, ![1, 1024, 2304]⟩
abbrev S2048x1024 : Shape := ⟨2, ![2048, 1024]⟩
abbrev S1024 : Shape := ⟨1, ![1024]⟩
abbrev S1024x1024 : Shape := ⟨2, ![1024, 1024]⟩
abbrev S1024x2304 : Shape := ⟨2, ![1024, 2304]⟩
abbrev S16384x128 : Shape := ⟨2, ![16384, 128]⟩
abbrev S3x512x1024 : Shape := ⟨3, ![3, 512, 1024]⟩
abbrev S3 : Shape := ⟨1, ![3]⟩
abbrev S3x256x2304 : Shape := ⟨3, ![3, 256, 2304]⟩
abbrev S3x256x1024 : Shape := ⟨3, ![3, 256, 1024]⟩
abbrev S2x4096x128 : Shape := ⟨3, ![2, 4096, 128]⟩
abbrev S2 : Shape := ⟨1, ![2]⟩
abbrev S2x512x1024 : Shape := ⟨3, ![2, 512, 1024]⟩
abbrev S2x256x2304 : Shape := ⟨3, ![2, 256, 2304]⟩
abbrev S2x256x1024 : Shape := ⟨3, ![2, 256, 1024]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x256x2304 : Shape := ⟨3, ![1, 256, 2304]⟩
abbrev S256x2304 : Shape := ⟨2, ![256, 2304]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S512x128 : Shape := ⟨2, ![512, 128]⟩
abbrev S1x4096x128 : Shape := ⟨3, ![1, 4096, 128]⟩
abbrev S4096x128 : Shape := ⟨2, ![4096, 128]⟩
abbrev S8x256x2x4x128 : Shape := ⟨5, ![8, 256, 2, 4, 128]⟩
abbrev S8x256x4x2x128 : Shape := ⟨5, ![8, 256, 4, 2, 128]⟩
abbrev S1x8x256x4x256 : Shape := ⟨5, ![1, 8, 256, 4, 256]⟩

abbrev nBuf : Space → Nat
  | .hbm => 25
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1x1024x2304, .f32⟩
  | .hbm, ⟨5, _⟩ => ⟨S1x1024x1024, .f32⟩
  | .hbm, ⟨6, _⟩ => ⟨S2048x1024, .f32⟩
  | .hbm, ⟨7, _⟩ => ⟨S1024, .f32⟩
  | .hbm, ⟨8, _⟩ => ⟨S1x1024, .f32⟩
  | .hbm, ⟨9, _⟩ => ⟨S1024x1024, .f32⟩
  | .hbm, ⟨10, _⟩ => ⟨S1024x1024, .f32⟩
  | .hbm, ⟨11, _⟩ => ⟨S1024x2304, .f32⟩
  | .hbm, ⟨12, _⟩ => ⟨S1024x1024, .f32⟩
  | .hbm, ⟨13, _⟩ => ⟨S16384x128, .f32⟩
  | .hbm, ⟨14, _⟩ => ⟨S16384x128, .f32⟩
  | .hbm, ⟨15, _⟩ => ⟨S2048x1024, .bf16⟩
  | .hbm, ⟨16, _⟩ => ⟨S2048x1024, .bf16⟩
  | .hbm, ⟨17, _⟩ => ⟨S1024x2304, .bf16⟩
  | .hbm, ⟨18, _⟩ => ⟨S1024x1024, .bf16⟩
  | .hbm, ⟨19, _⟩ => ⟨S8x256x2x4x128, .f32⟩
  | .hbm, ⟨20, _⟩ => ⟨S8x256x4x2x128, .f32⟩
  | .hbm, ⟨21, _⟩ => ⟨S1x8x256x4x256, .f32⟩
  | .hbm, ⟨22, _⟩ => ⟨S8x256x2x4x128, .f32⟩
  | .hbm, ⟨23, _⟩ => ⟨S8x256x4x2x128, .f32⟩
  | .hbm, ⟨24, _⟩ => ⟨S1x8x256x4x256, .f32⟩
  | .local _ .vmem, ⟨0, _⟩ => ⟨S3x512x1024, .f32⟩
  | .local _ .vmem, ⟨1, _⟩ => ⟨S1x1024, .f32⟩
  | .local _ .vmem, ⟨2, _⟩ => ⟨S1024x1024, .f32⟩
  | .local _ .vmem, ⟨3, _⟩ => ⟨S1024x1024, .f32⟩
  | .local _ .vmem, ⟨4, _⟩ => ⟨S3x256x2304, .f32⟩
  | .local _ .vmem, ⟨5, _⟩ => ⟨S3x256x1024, .f32⟩
  | .local _ .vmem, ⟨6, _⟩ => ⟨S2x4096x128, .f32⟩
  | .local _ .vmem, ⟨7, _⟩ => ⟨S2x4096x128, .f32⟩
  | .local _ .vmem, ⟨8, _⟩ => ⟨S2x512x1024, .bf16⟩
  | .local _ .vmem, ⟨9, _⟩ => ⟨S2x512x1024, .bf16⟩
  | .local _ .vmem, ⟨10, _⟩ => ⟨S2x256x2304, .bf16⟩
  | .local _ .vmem, ⟨11, _⟩ => ⟨S2x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_scoped0 : Ref sig .tc := ⟨.vmem, 0, rfl⟩
abbrev cc0_scoped2 : Ref sig .tc := ⟨.vmem, 1, rfl⟩
abbrev cc0_scoped3 : Ref sig .tc := ⟨.vmem, 2, rfl⟩
abbrev cc0_scoped4 : Ref sig .tc := ⟨.vmem, 3, rfl⟩
abbrev cc0_scoped5 : Ref sig .tc := ⟨.vmem, 4, rfl⟩
abbrev cc0_scoped7 : Ref sig .tc := ⟨.vmem, 5, rfl⟩
abbrev cc0_scoped9 : Ref sig .tc := ⟨.vmem, 6, rfl⟩
abbrev cc0_scoped11 : Ref sig .tc := ⟨.vmem, 7, rfl⟩
abbrev cc0_scoped13 : Ref sig .tc := ⟨.vmem, 8, rfl⟩
abbrev cc0_scoped15 : Ref sig .tc := ⟨.vmem, 9, rfl⟩
abbrev cc0_scoped17 : Ref sig .tc := ⟨.vmem, 10, rfl⟩
abbrev cc0_scoped19 : Ref sig .tc := ⟨.vmem, 11, rfl⟩

abbrev nD : Nat := 1
abbrev τ : Topo := Topo.v7x

variable {F : FTy → Type} [FloatOps F]

abbrev grid0 : Pipeline.Grid := .none

def k0_off1 : Fin 1 → Nat :=
  let c0_i32_27_r0 : BitVec 32 := 0#32
  let c3_i32_28_r0 : BitVec 32 := 3#32
  let v27_r0 : BitVec 32 := Scalar.remui c0_i32_27_r0 c3_i32_28_r0
  ![v27_r0.toNat]
def k0_off2 : Fin 3 → Nat :=
  let c0_i32_27_r0 : BitVec 32 := 0#32
  let c3_i32_28_r0 : BitVec 32 := 3#32
  let v27_r0 : BitVec 32 := Scalar.remui c0_i32_27_r0 c3_i32_28_r0
  let c0_i32_29_r0 : BitVec 32 := 0#32
  let c0_i32_30_r0 : BitVec 32 := 0#32
  ![v27_r0.toNat, 0, 0]
def k0_off3 : Fin 3 → Nat :=
  let c0_i32_35_r0 : BitVec 32 := 0#32
  let c3_i32_36_r0 : BitVec 32 := 3#32
  let v34_r0 : BitVec 32 := Scalar.remui c0_i32_35_r0 c3_i32_36_r0
  let c0_i32_37_r0 : BitVec 32 := 0#32
  let c0_i32_38_r0 : BitVec 32 := 0#32
  ![v34_r0.toNat, 0, 0]
def k0_off4 : Fin 3 → Nat :=
  let c0_i32_43_r0 : BitVec 32 := 0#32
  let c3_i32_44_r0 : BitVec 32 := 3#32
  let v41_r0 : BitVec 32 := Scalar.remui c0_i32_43_r0 c3_i32_44_r0
  let c0_i32_45_r0 : BitVec 32 := 0#32
  let c0_i32_46_r0 : BitVec 32 := 0#32
  ![v41_r0.toNat, 0, 0]
def k0_cond1 : BitVec 1 :=
  let true_52_r0 : BitVec 1 := 1#1
  let true_13_r0 : BitVec 1 := 1#1
  let c1_i32_r0 : BitVec 32 := 1#32
  let c0_i32_14_r0 : BitVec 32 := 0#32
  let v13_r0 : BitVec 32 := Scalar.select true_13_r0 c1_i32_r0 c0_i32_14_r0
  let c4_i32_r0 : BitVec 32 := 4#32
  let v14_r0 : BitVec 1 := Scalar.cmpi .eq v13_r0 c4_i32_r0
  let c0_i32_15_r0 : BitVec 32 := 0#32
  let v15_r0 : BitVec 32 := Scalar.select v14_r0 c0_i32_15_r0 v13_r0
  let c0_i32_16_r0 : BitVec 32 := 0#32
  let v16_r0 : BitVec 32 := Scalar.addi v15_r0 c0_i32_16_r0
  let c0_i32_51_r0 : BitVec 32 := 0#32
  let v48_r0 : BitVec 1 := Scalar.cmpi .ne v16_r0 c0_i32_51_r0
  let v49_r0 : BitVec 1 := Scalar.andi true_52_r0 v48_r0
  let true_53_r0 : BitVec 1 := 1#1
  let v50_r0 : BitVec 1 := Scalar.andi v49_r0 true_53_r0
  let v51_r0 : BitVec 32 := Scalar.extui v50_r0
  let c0_i32_54_r0 : BitVec 32 := 0#32
  let v52_r0 : BitVec 1 := Scalar.cmpi .ne v51_r0 c0_i32_54_r0
  v52_r0

def k0_off5 : Fin 1 → Nat :=
  let c0_i32_33_r0 : BitVec 32 := 0#32
  let c1_i32_34_r0 : BitVec 32 := 1#32
  let v33_r0 : BitVec 32 := Scalar.addi c0_i32_33_r0 c1_i32_34_r0
  let c3_i32_143_r0 : BitVec 32 := 3#32
  let v138_r0 : BitVec 32 := Scalar.remui v33_r0 c3_i32_143_r0
  ![v138_r0.toNat]
def k0_off6 : Fin 3 → Nat :=
  let c0_i32_33_r0 : BitVec 32 := 0#32
  let c1_i32_34_r0 : BitVec 32 := 1#32
  let v33_r0 : BitVec 32 := Scalar.addi c0_i32_33_r0 c1_i32_34_r0
  let c3_i32_143_r0 : BitVec 32 := 3#32
  let v138_r0 : BitVec 32 := Scalar.remui v33_r0 c3_i32_143_r0
  let c0_i32_145_r0 : BitVec 32 := 0#32
  let c0_i32_146_r0 : BitVec 32 := 0#32
  ![v138_r0.toNat, 0, 0]
def k0_off7 : Fin 2 → Nat :=
  let c512_i32_144_r0 : BitVec 32 := 512#32
  let true_13_r0 : BitVec 1 := 1#1
  let c1_i32_r0 : BitVec 32 := 1#32
  let c0_i32_14_r0 : BitVec 32 := 0#32
  let v13_r0 : BitVec 32 := Scalar.select true_13_r0 c1_i32_r0 c0_i32_14_r0
  let c4_i32_r0 : BitVec 32 := 4#32
  let v14_r0 : BitVec 1 := Scalar.cmpi .eq v13_r0 c4_i32_r0
  let c0_i32_15_r0 : BitVec 32 := 0#32
  let v15_r0 : BitVec 32 := Scalar.select v14_r0 c0_i32_15_r0 v13_r0
  let c0_i32_16_r0 : BitVec 32 := 0#32
  let v16_r0 : BitVec 32 := Scalar.addi v15_r0 c0_i32_16_r0
  let v139_r0 : BitVec 32 := Scalar.muli c512_i32_144_r0 v16_r0
  let c0_i32_147_r0 : BitVec 32 := 0#32
  ![v139_r0.toNat, 0]
def k0_cond2 : BitVec 1 :=
  let true_57_r0 : BitVec 1 := 1#1
  let true_13_r0 : BitVec 1 := 1#1
  let c1_i32_r0 : BitVec 32 := 1#32
  let c0_i32_14_r0 : BitVec 32 := 0#32
  let v13_r0 : BitVec 32 := Scalar.select true_13_r0 c1_i32_r0 c0_i32_14_r0
  let c4_i32_r0 : BitVec 32 := 4#32
  let v14_r0 : BitVec 1 := Scalar.cmpi .eq v13_r0 c4_i32_r0
  let c0_i32_15_r0 : BitVec 32 := 0#32
  let v15_r0 : BitVec 32 := Scalar.select v14_r0 c0_i32_15_r0 v13_r0
  let c0_i32_16_r0 : BitVec 32 := 0#32
  let v16_r0 : BitVec 32 := Scalar.addi v15_r0 c0_i32_16_r0
  let c0_i32_56_r0 : BitVec 32 := 0#32
  let v55_r0 : BitVec 1 := Scalar.cmpi .ne v16_r0 c0_i32_56_r0
  let v56_r0 : BitVec 1 := Scalar.andi true_57_r0 v55_r0
  let true_58_r0 : BitVec 1 := 1#1
  let v57_r0 : BitVec 1 := Scalar.andi v56_r0 true_58_r0
  let v58_r0 : BitVec 32 := Scalar.extui v57_r0
  let c0_i32_59_r0 : BitVec 32 := 0#32
  let v59_r0 : BitVec 1 := Scalar.cmpi .ne v58_r0 c0_i32_59_r0
  v59_r0

def k0_off8 : Fin 1 → Nat :=
  let c0_i32_41_r0 : BitVec 32 := 0#32
  let c1_i32_42_r0 : BitVec 32 := 1#32
  let v40_r0 : BitVec 32 := Scalar.addi c0_i32_41_r0 c1_i32_42_r0
  let c3_i32_143_r0 : BitVec 32 := 3#32
  let v138_r0 : BitVec 32 := Scalar.remui v40_r0 c3_i32_143_r0
  ![v138_r0.toNat]
def k0_off9 : Fin 3 → Nat :=
  let c0_i32_41_r0 : BitVec 32 := 0#32
  let c1_i32_42_r0 : BitVec 32 := 1#32
  let v40_r0 : BitVec 32 := Scalar.addi c0_i32_41_r0 c1_i32_42_r0
  let c3_i32_143_r0 : BitVec 32 := 3#32
  let v138_r0 : BitVec 32 := Scalar.remui v40_r0 c3_i32_143_r0
  let c0_i32_145_r0 : BitVec 32 := 0#32
  let c0_i32_146_r0 : BitVec 32 := 0#32
  ![v138_r0.toNat, 0, 0]
def k0_off10 : Fin 2 → Nat :=
  let c256_i32_144_r0 : BitVec 32 := 256#32
  let true_13_r0 : BitVec 1 := 1#1
  let c1_i32_r0 : BitVec 32 := 1#32
  let c0_i32_14_r0 : BitVec 32 := 0#32
  let v13_r0 : BitVec 32 := Scalar.select true_13_r0 c1_i32_r0 c0_i32_14_r0
  let c4_i32_r0 : BitVec 32 := 4#32
  let v14_r0 : BitVec 1 := Scalar.cmpi .eq v13_r0 c4_i32_r0
  let c0_i32_15_r0 : BitVec 32 := 0#32
  let v15_r0 : BitVec 32 := Scalar.select v14_r0 c0_i32_15_r0 v13_r0
  let c0_i32_16_r0 : BitVec 32 := 0#32
  let v16_r0 : BitVec 32 := Scalar.addi v15_r0 c0_i32_16_r0
  let v139_r0 : BitVec 32 := Scalar.muli c256_i32_144_r0 v16_r0
  let c0_i32_147_r0 : BitVec 32 := 0#32
  ![v139_r0.toNat, 0]
def k0_cond3 : BitVec 1 :=
  let true_62_r0 : BitVec 1 := 1#1
  let true_13_r0 : BitVec 1 := 1#1
  let c1_i32_r0 : BitVec 32 := 1#32
  let c0_i32_14_r0 : BitVec 32 := 0#32
  let v13_r0 : BitVec 32 := Scalar.select true_13_r0 c1_i32_r0 c0_i32_14_r0
  let c4_i32_r0 : BitVec 32 := 4#32
  let v14_r0 : BitVec 1 := Scalar.cmpi .eq v13_r0 c4_i32_r0
  let c0_i32_15_r0 : BitVec 32 := 0#32
  let v15_r0 : BitVec 32 := Scalar.select v14_r0 c0_i32_15_r0 v13_r0
  let c0_i32_16_r0 : BitVec 32 := 0#32
  let v16_r0 : BitVec 32 := Scalar.addi v15_r0 c0_i32_16_r0
  let c0_i32_61_r0 : BitVec 32 := 0#32
  let v62_r0 : BitVec 1 := Scalar.cmpi .ne v16_r0 c0_i32_61_r0
  let v63_r0 : BitVec 1 := Scalar.andi true_62_r0 v62_r0
  let true_63_r0 : BitVec 1 := 1#1
  let v64_r0 : BitVec 1 := Scalar.andi v63_r0 true_63_r0
  let v65_r0 : BitVec 32 := Scalar.extui v64_r0
  let c0_i32_64_r0 : BitVec 32 := 0#32
  let v66_r0 : BitVec 1 := Scalar.cmpi .ne v65_r0 c0_i32_64_r0
  v66_r0

def k0_off11 : Fin 1 → Nat :=
  let c0_i32_49_r0 : BitVec 32 := 0#32
  let c1_i32_50_r0 : BitVec 32 := 1#32
  let v47_r0 : BitVec 32 := Scalar.addi c0_i32_49_r0 c1_i32_50_r0
  let c3_i32_143_r0 : BitVec 32 := 3#32
  let v138_r0 : BitVec 32 := Scalar.remui v47_r0 c3_i32_143_r0
  ![v138_r0.toNat]
def k0_off12 : Fin 3 → Nat :=
  let c0_i32_49_r0 : BitVec 32 := 0#32
  let c1_i32_50_r0 : BitVec 32 := 1#32
  let v47_r0 : BitVec 32 := Scalar.addi c0_i32_49_r0 c1_i32_50_r0
  let c3_i32_143_r0 : BitVec 32 := 3#32
  let v138_r0 : BitVec 32 := Scalar.remui v47_r0 c3_i32_143_r0
  let c0_i32_145_r0 : BitVec 32 := 0#32
  let c0_i32_146_r0 : BitVec 32 := 0#32
  ![v138_r0.toNat, 0, 0]
def k0_off13 : Fin 2 → Nat :=
  let c256_i32_144_r0 : BitVec 32 := 256#32
  let true_13_r0 : BitVec 1 := 1#1
  let c1_i32_r0 : BitVec 32 := 1#32
  let c0_i32_14_r0 : BitVec 32 := 0#32
  let v13_r0 : BitVec 32 := Scalar.select true_13_r0 c1_i32_r0 c0_i32_14_r0
  let c4_i32_r0 : BitVec 32 := 4#32
  let v14_r0 : BitVec 1 := Scalar.cmpi .eq v13_r0 c4_i32_r0
  let c0_i32_15_r0 : BitVec 32 := 0#32
  let v15_r0 : BitVec 32 := Scalar.select v14_r0 c0_i32_15_r0 v13_r0
  let c0_i32_16_r0 : BitVec 32 := 0#32
  let v16_r0 : BitVec 32 := Scalar.addi v15_r0 c0_i32_16_r0
  let v139_r0 : BitVec 32 := Scalar.muli c256_i32_144_r0 v16_r0
  let c0_i32_147_r0 : BitVec 32 := 0#32
  ![v139_r0.toNat, 0]
@[reducible] def k0_t1_loop : Scf.Loop 32 :=
  let c0_i32_88_r0 : BitVec 32 := 0#32
  let c4_i32_89_r0 : BitVec 32 := 4#32
  let v69_r0 : BitVec 32 := Scalar.addi c0_i32_88_r0 c4_i32_89_r0
  let c1_i32_90_r0 : BitVec 32 := 1#32
  ⟨c0_i32_88_r0, v69_r0, c1_i32_90_r0⟩
def k0_off14 (arg13_r0 : BitVec 32) : Fin 1 → Nat :=
  let c3_i32_372_r0 : BitVec 32 := 3#32
  let v542_r0 : BitVec 32 := Scalar.remui arg13_r0 c3_i32_372_r0
  ![v542_r0.toNat]
def k0_cond4 (k0_t1 : Fin k0_t1_loop.trips) (arg34_r0 : BitVec 32) : BitVec 1 :=
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c0_i32_155_r0 : BitVec 32 := 0#32
  let v150_r0 : BitVec 32 := Scalar.addi v149_r0 c0_i32_155_r0
  let true_157_r0 : BitVec 1 := 1#1
  let c1_i32_156_r0 : BitVec 32 := 1#32
  let v151_r0 : BitVec 32 := Scalar.addi v149_r0 c1_i32_156_r0
  let v152_r0 : BitVec 32 := Scalar.select true_157_r0 v151_r0 v149_r0
  let c4_i32_158_r0 : BitVec 32 := 4#32
  let v153_r0 : BitVec 1 := Scalar.cmpi .eq v152_r0 c4_i32_158_r0
  let c0_i32_159_r0 : BitVec 32 := 0#32
  let v154_r0 : BitVec 32 := Scalar.select v153_r0 c0_i32_159_r0 v152_r0
  let c0_i32_160_r0 : BitVec 32 := 0#32
  let v155_r0 : BitVec 32 := Scalar.addi v154_r0 c0_i32_160_r0
  let v161_r0 : BitVec 1 := Scalar.cmpi .ne v150_r0 v155_r0
  let c0_i32_88_r0 : BitVec 32 := 0#32
  let c1_i32_90_r0 : BitVec 32 := 1#32
  let arg12_r0 : BitVec 32 := Scf.iv c0_i32_88_r0 c1_i32_90_r0 k0_t1
  let c2_i32_166_r0 : BitVec 32 := 2#32
  let v162_r0 : BitVec 1 := Scalar.cmpi .sge arg12_r0 c2_i32_166_r0
  let true_167_r0 : BitVec 1 := 1#1
  let v163_r0 : BitVec 1 := Scalar.xori v162_r0 true_167_r0
  let v164_r0 : BitVec 1 := Scalar.andi v161_r0 v163_r0
  let true_168_r0 : BitVec 1 := 1#1
  let v165_r0 : BitVec 1 := Scalar.andi v164_r0 true_168_r0
  let v166_r0 : BitVec 32 := Scalar.extui v165_r0
  let c0_i32_169_r0 : BitVec 32 := 0#32
  let v167_r0 : BitVec 1 := Scalar.cmpi .ne v166_r0 c0_i32_169_r0
  v167_r0

def k0_off15 (arg13_r0 : BitVec 32) : Fin 3 → Nat :=
  let c3_i32_372_r0 : BitVec 32 := 3#32
  let v542_r0 : BitVec 32 := Scalar.remui arg13_r0 c3_i32_372_r0
  let c0_i32_374_r0 : BitVec 32 := 0#32
  let c0_i32_375_r0 : BitVec 32 := 0#32
  ![v542_r0.toNat, 0, 0]
def k0_off16 (arg34_r0 : BitVec 32) : Fin 2 → Nat :=
  let c512_i32_373_r0 : BitVec 32 := 512#32
  let true_157_r0 : BitVec 1 := 1#1
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c1_i32_156_r0 : BitVec 32 := 1#32
  let v151_r0 : BitVec 32 := Scalar.addi v149_r0 c1_i32_156_r0
  let v152_r0 : BitVec 32 := Scalar.select true_157_r0 v151_r0 v149_r0
  let c4_i32_158_r0 : BitVec 32 := 4#32
  let v153_r0 : BitVec 1 := Scalar.cmpi .eq v152_r0 c4_i32_158_r0
  let c0_i32_159_r0 : BitVec 32 := 0#32
  let v154_r0 : BitVec 32 := Scalar.select v153_r0 c0_i32_159_r0 v152_r0
  let c0_i32_160_r0 : BitVec 32 := 0#32
  let v155_r0 : BitVec 32 := Scalar.addi v154_r0 c0_i32_160_r0
  let v543_r0 : BitVec 32 := Scalar.muli c512_i32_373_r0 v155_r0
  let c0_i32_376_r0 : BitVec 32 := 0#32
  ![v543_r0.toNat, 0]
def k0_off17 (arg18_r0 : BitVec 32) : Fin 1 → Nat :=
  let c3_i32_372_r0 : BitVec 32 := 3#32
  let v542_r0 : BitVec 32 := Scalar.remui arg18_r0 c3_i32_372_r0
  ![v542_r0.toNat]
def k0_cond5 (k0_t1 : Fin k0_t1_loop.trips) (arg34_r0 : BitVec 32) : BitVec 1 :=
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c0_i32_155_r0 : BitVec 32 := 0#32
  let v150_r0 : BitVec 32 := Scalar.addi v149_r0 c0_i32_155_r0
  let true_157_r0 : BitVec 1 := 1#1
  let c1_i32_156_r0 : BitVec 32 := 1#32
  let v151_r0 : BitVec 32 := Scalar.addi v149_r0 c1_i32_156_r0
  let v152_r0 : BitVec 32 := Scalar.select true_157_r0 v151_r0 v149_r0
  let c4_i32_158_r0 : BitVec 32 := 4#32
  let v153_r0 : BitVec 1 := Scalar.cmpi .eq v152_r0 c4_i32_158_r0
  let c0_i32_159_r0 : BitVec 32 := 0#32
  let v154_r0 : BitVec 32 := Scalar.select v153_r0 c0_i32_159_r0 v152_r0
  let c0_i32_160_r0 : BitVec 32 := 0#32
  let v155_r0 : BitVec 32 := Scalar.addi v154_r0 c0_i32_160_r0
  let v171_r0 : BitVec 1 := Scalar.cmpi .ne v150_r0 v155_r0
  let c0_i32_88_r0 : BitVec 32 := 0#32
  let c1_i32_90_r0 : BitVec 32 := 1#32
  let arg12_r0 : BitVec 32 := Scf.iv c0_i32_88_r0 c1_i32_90_r0 k0_t1
  let c2_i32_172_r0 : BitVec 32 := 2#32
  let v172_r0 : BitVec 1 := Scalar.cmpi .sge arg12_r0 c2_i32_172_r0
  let true_173_r0 : BitVec 1 := 1#1
  let v173_r0 : BitVec 1 := Scalar.xori v172_r0 true_173_r0
  let v174_r0 : BitVec 1 := Scalar.andi v171_r0 v173_r0
  let true_174_r0 : BitVec 1 := 1#1
  let v175_r0 : BitVec 1 := Scalar.andi v174_r0 true_174_r0
  let v176_r0 : BitVec 32 := Scalar.extui v175_r0
  let c0_i32_175_r0 : BitVec 32 := 0#32
  let v177_r0 : BitVec 1 := Scalar.cmpi .ne v176_r0 c0_i32_175_r0
  v177_r0

def k0_off18 (arg18_r0 : BitVec 32) : Fin 3 → Nat :=
  let c3_i32_372_r0 : BitVec 32 := 3#32
  let v542_r0 : BitVec 32 := Scalar.remui arg18_r0 c3_i32_372_r0
  let c0_i32_374_r0 : BitVec 32 := 0#32
  let c0_i32_375_r0 : BitVec 32 := 0#32
  ![v542_r0.toNat, 0, 0]
def k0_off19 (arg34_r0 : BitVec 32) : Fin 2 → Nat :=
  let c256_i32_373_r0 : BitVec 32 := 256#32
  let true_157_r0 : BitVec 1 := 1#1
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c1_i32_156_r0 : BitVec 32 := 1#32
  let v151_r0 : BitVec 32 := Scalar.addi v149_r0 c1_i32_156_r0
  let v152_r0 : BitVec 32 := Scalar.select true_157_r0 v151_r0 v149_r0
  let c4_i32_158_r0 : BitVec 32 := 4#32
  let v153_r0 : BitVec 1 := Scalar.cmpi .eq v152_r0 c4_i32_158_r0
  let c0_i32_159_r0 : BitVec 32 := 0#32
  let v154_r0 : BitVec 32 := Scalar.select v153_r0 c0_i32_159_r0 v152_r0
  let c0_i32_160_r0 : BitVec 32 := 0#32
  let v155_r0 : BitVec 32 := Scalar.addi v154_r0 c0_i32_160_r0
  let v543_r0 : BitVec 32 := Scalar.muli c256_i32_373_r0 v155_r0
  let c0_i32_376_r0 : BitVec 32 := 0#32
  ![v543_r0.toNat, 0]
def k0_off20 (arg20_r0 : BitVec 32) : Fin 1 → Nat :=
  let c3_i32_372_r0 : BitVec 32 := 3#32
  let v542_r0 : BitVec 32 := Scalar.remui arg20_r0 c3_i32_372_r0
  ![v542_r0.toNat]
def k0_cond6 (k0_t1 : Fin k0_t1_loop.trips) (arg34_r0 : BitVec 32) : BitVec 1 :=
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c0_i32_155_r0 : BitVec 32 := 0#32
  let v150_r0 : BitVec 32 := Scalar.addi v149_r0 c0_i32_155_r0
  let true_157_r0 : BitVec 1 := 1#1
  let c1_i32_156_r0 : BitVec 32 := 1#32
  let v151_r0 : BitVec 32 := Scalar.addi v149_r0 c1_i32_156_r0
  let v152_r0 : BitVec 32 := Scalar.select true_157_r0 v151_r0 v149_r0
  let c4_i32_158_r0 : BitVec 32 := 4#32
  let v153_r0 : BitVec 1 := Scalar.cmpi .eq v152_r0 c4_i32_158_r0
  let c0_i32_159_r0 : BitVec 32 := 0#32
  let v154_r0 : BitVec 32 := Scalar.select v153_r0 c0_i32_159_r0 v152_r0
  let c0_i32_160_r0 : BitVec 32 := 0#32
  let v155_r0 : BitVec 32 := Scalar.addi v154_r0 c0_i32_160_r0
  let v181_r0 : BitVec 1 := Scalar.cmpi .ne v150_r0 v155_r0
  let c0_i32_88_r0 : BitVec 32 := 0#32
  let c1_i32_90_r0 : BitVec 32 := 1#32
  let arg12_r0 : BitVec 32 := Scf.iv c0_i32_88_r0 c1_i32_90_r0 k0_t1
  let c2_i32_178_r0 : BitVec 32 := 2#32
  let v182_r0 : BitVec 1 := Scalar.cmpi .sge arg12_r0 c2_i32_178_r0
  let true_179_r0 : BitVec 1 := 1#1
  let v183_r0 : BitVec 1 := Scalar.xori v182_r0 true_179_r0
  let v184_r0 : BitVec 1 := Scalar.andi v181_r0 v183_r0
  let true_180_r0 : BitVec 1 := 1#1
  let v185_r0 : BitVec 1 := Scalar.andi v184_r0 true_180_r0
  let v186_r0 : BitVec 32 := Scalar.extui v185_r0
  let c0_i32_181_r0 : BitVec 32 := 0#32
  let v187_r0 : BitVec 1 := Scalar.cmpi .ne v186_r0 c0_i32_181_r0
  v187_r0

def k0_off21 (arg20_r0 : BitVec 32) : Fin 3 → Nat :=
  let c3_i32_372_r0 : BitVec 32 := 3#32
  let v542_r0 : BitVec 32 := Scalar.remui arg20_r0 c3_i32_372_r0
  let c0_i32_374_r0 : BitVec 32 := 0#32
  let c0_i32_375_r0 : BitVec 32 := 0#32
  ![v542_r0.toNat, 0, 0]
def k0_off22 (arg34_r0 : BitVec 32) : Fin 2 → Nat :=
  let c256_i32_373_r0 : BitVec 32 := 256#32
  let true_157_r0 : BitVec 1 := 1#1
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c1_i32_156_r0 : BitVec 32 := 1#32
  let v151_r0 : BitVec 32 := Scalar.addi v149_r0 c1_i32_156_r0
  let v152_r0 : BitVec 32 := Scalar.select true_157_r0 v151_r0 v149_r0
  let c4_i32_158_r0 : BitVec 32 := 4#32
  let v153_r0 : BitVec 1 := Scalar.cmpi .eq v152_r0 c4_i32_158_r0
  let c0_i32_159_r0 : BitVec 32 := 0#32
  let v154_r0 : BitVec 32 := Scalar.select v153_r0 c0_i32_159_r0 v152_r0
  let c0_i32_160_r0 : BitVec 32 := 0#32
  let v155_r0 : BitVec 32 := Scalar.addi v154_r0 c0_i32_160_r0
  let v543_r0 : BitVec 32 := Scalar.muli c256_i32_373_r0 v155_r0
  let c0_i32_376_r0 : BitVec 32 := 0#32
  ![v543_r0.toNat, 0]
def k0_off23 (arg14_r0 : BitVec 32) : Fin 1 → Nat :=
  let c3_i32_373_r0 : BitVec 32 := 3#32
  let v543_r0 : BitVec 32 := Scalar.remui arg14_r0 c3_i32_373_r0
  ![v543_r0.toNat]
def k0_cond7 (k0_t1 : Fin k0_t1_loop.trips) (arg34_r0 : BitVec 32) : BitVec 1 :=
  let c0_i32_145_r0 : BitVec 32 := 0#32
  let v140_r0 : BitVec 32 := Scalar.addi arg34_r0 c0_i32_145_r0
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v215_r0 : BitVec 1 := Scalar.cmpi .ne v140_r0 v145_r0
  let c0_i32_88_r0 : BitVec 32 := 0#32
  let c1_i32_90_r0 : BitVec 32 := 1#32
  let arg12_r0 : BitVec 32 := Scf.iv c0_i32_88_r0 c1_i32_90_r0 k0_t1
  let c0_i32_143_r0 : BitVec 32 := 0#32
  let v138_r0 : BitVec 1 := Scalar.cmpi .eq arg12_r0 c0_i32_143_r0
  let v216_r0 : BitVec 1 := Scalar.ori v215_r0 v138_r0
  let c0_i32_196_r0 : BitVec 32 := 0#32
  let v217_r0 : BitVec 1 := Scalar.cmpi .sge arg12_r0 c0_i32_196_r0
  let v218_r0 : BitVec 1 := Scalar.andi v216_r0 v217_r0
  let v219_r0 : BitVec 32 := Scalar.extui v218_r0
  let c0_i32_197_r0 : BitVec 32 := 0#32
  let v220_r0 : BitVec 1 := Scalar.cmpi .ne v219_r0 c0_i32_197_r0
  v220_r0

def k0_off24 (arg14_r0 : BitVec 32) : Fin 3 → Nat :=
  let c3_i32_373_r0 : BitVec 32 := 3#32
  let v543_r0 : BitVec 32 := Scalar.remui arg14_r0 c3_i32_373_r0
  let c0_i32_374_r0 : BitVec 32 := 0#32
  let c0_i32_375_r0 : BitVec 32 := 0#32
  ![v543_r0.toNat, 0, 0]
def k0_off25 (arg34_r0 : BitVec 32) : Fin 2 → Nat :=
  let c512_i32_372_r0 : BitVec 32 := 512#32
  let c0_i32_145_r0 : BitVec 32 := 0#32
  let v140_r0 : BitVec 32 := Scalar.addi arg34_r0 c0_i32_145_r0
  let v542_r0 : BitVec 32 := Scalar.muli c512_i32_372_r0 v140_r0
  let c0_i32_376_r0 : BitVec 32 := 0#32
  ![v542_r0.toNat, 0]
def k0_off26 (arg19_r0 : BitVec 32) : Fin 1 → Nat :=
  let c3_i32_373_r0 : BitVec 32 := 3#32
  let v543_r0 : BitVec 32 := Scalar.remui arg19_r0 c3_i32_373_r0
  ![v543_r0.toNat]
def k0_cond8 (k0_t1 : Fin k0_t1_loop.trips) (arg34_r0 : BitVec 32) : BitVec 1 :=
  let c0_i32_145_r0 : BitVec 32 := 0#32
  let v140_r0 : BitVec 32 := Scalar.addi arg34_r0 c0_i32_145_r0
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v221_r0 : BitVec 1 := Scalar.cmpi .ne v140_r0 v145_r0
  let c0_i32_88_r0 : BitVec 32 := 0#32
  let c1_i32_90_r0 : BitVec 32 := 1#32
  let arg12_r0 : BitVec 32 := Scf.iv c0_i32_88_r0 c1_i32_90_r0 k0_t1
  let c0_i32_143_r0 : BitVec 32 := 0#32
  let v138_r0 : BitVec 1 := Scalar.cmpi .eq arg12_r0 c0_i32_143_r0
  let v222_r0 : BitVec 1 := Scalar.ori v221_r0 v138_r0
  let c0_i32_198_r0 : BitVec 32 := 0#32
  let v223_r0 : BitVec 1 := Scalar.cmpi .sge arg12_r0 c0_i32_198_r0
  let v224_r0 : BitVec 1 := Scalar.andi v222_r0 v223_r0
  let v225_r0 : BitVec 32 := Scalar.extui v224_r0
  let c0_i32_199_r0 : BitVec 32 := 0#32
  let v226_r0 : BitVec 1 := Scalar.cmpi .ne v225_r0 c0_i32_199_r0
  v226_r0

def k0_off27 (arg19_r0 : BitVec 32) : Fin 3 → Nat :=
  let c3_i32_373_r0 : BitVec 32 := 3#32
  let v543_r0 : BitVec 32 := Scalar.remui arg19_r0 c3_i32_373_r0
  let c0_i32_374_r0 : BitVec 32 := 0#32
  let c0_i32_375_r0 : BitVec 32 := 0#32
  ![v543_r0.toNat, 0, 0]
def k0_off28 (arg34_r0 : BitVec 32) : Fin 2 → Nat :=
  let c256_i32_372_r0 : BitVec 32 := 256#32
  let c0_i32_145_r0 : BitVec 32 := 0#32
  let v140_r0 : BitVec 32 := Scalar.addi arg34_r0 c0_i32_145_r0
  let v542_r0 : BitVec 32 := Scalar.muli c256_i32_372_r0 v140_r0
  let c0_i32_376_r0 : BitVec 32 := 0#32
  ![v542_r0.toNat, 0]
def k0_off29 (arg21_r0 : BitVec 32) : Fin 1 → Nat :=
  let c3_i32_373_r0 : BitVec 32 := 3#32
  let v543_r0 : BitVec 32 := Scalar.remui arg21_r0 c3_i32_373_r0
  ![v543_r0.toNat]
def k0_cond9 (k0_t1 : Fin k0_t1_loop.trips) (arg34_r0 : BitVec 32) : BitVec 1 :=
  let c0_i32_145_r0 : BitVec 32 := 0#32
  let v140_r0 : BitVec 32 := Scalar.addi arg34_r0 c0_i32_145_r0
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v227_r0 : BitVec 1 := Scalar.cmpi .ne v140_r0 v145_r0
  let c0_i32_88_r0 : BitVec 32 := 0#32
  let c1_i32_90_r0 : BitVec 32 := 1#32
  let arg12_r0 : BitVec 32 := Scf.iv c0_i32_88_r0 c1_i32_90_r0 k0_t1
  let c0_i32_143_r0 : BitVec 32 := 0#32
  let v138_r0 : BitVec 1 := Scalar.cmpi .eq arg12_r0 c0_i32_143_r0
  let v228_r0 : BitVec 1 := Scalar.ori v227_r0 v138_r0
  let c0_i32_200_r0 : BitVec 32 := 0#32
  let v229_r0 : BitVec 1 := Scalar.cmpi .sge arg12_r0 c0_i32_200_r0
  let v230_r0 : BitVec 1 := Scalar.andi v228_r0 v229_r0
  let v231_r0 : BitVec 32 := Scalar.extui v230_r0
  let c0_i32_201_r0 : BitVec 32 := 0#32
  let v232_r0 : BitVec 1 := Scalar.cmpi .ne v231_r0 c0_i32_201_r0
  v232_r0

def k0_off30 (arg21_r0 : BitVec 32) : Fin 3 → Nat :=
  let c3_i32_373_r0 : BitVec 32 := 3#32
  let v543_r0 : BitVec 32 := Scalar.remui arg21_r0 c3_i32_373_r0
  let c0_i32_374_r0 : BitVec 32 := 0#32
  let c0_i32_375_r0 : BitVec 32 := 0#32
  ![v543_r0.toNat, 0, 0]
def k0_off31 (arg34_r0 : BitVec 32) : Fin 2 → Nat :=
  let c256_i32_372_r0 : BitVec 32 := 256#32
  let c0_i32_145_r0 : BitVec 32 := 0#32
  let v140_r0 : BitVec 32 := Scalar.addi arg34_r0 c0_i32_145_r0
  let v542_r0 : BitVec 32 := Scalar.muli c256_i32_372_r0 v140_r0
  let c0_i32_376_r0 : BitVec 32 := 0#32
  ![v542_r0.toNat, 0]
def k0_off32 (arg19_r0 : BitVec 32) : Fin 3 → Nat :=
  let c3_i32_215_r0 : BitVec 32 := 3#32
  let v270_r0 : BitVec 32 := Scalar.remui arg19_r0 c3_i32_215_r0
  let v278_r0 : Index := Scalar.indexCast v270_r0
  let c0_r0 : Index := 0#32
  let c0_223_r0 : Index := 0#32
  ![v278_r0.toNat, 0, 0]

def k0_chk2 (arg19_r0 : BitVec 32) : Prop :=
  (∀ a, (k0_off32 arg19_r0) a + S1x256x2304.size a ≤ S3x256x2304.size a)
theorem k0_off32_inb : ∀ (arg19_r0 : BitVec 32) (k0_hw2 : k0_chk2 arg19_r0), ∀ a, (k0_off32 arg19_r0) a + S1x256x2304.size a ≤ S3x256x2304.size a := fun arg19_r0 k0_hw2 => k0_hw2

def k0_off33 (arg30_r0 : BitVec 32) : Fin 3 → Nat :=
  let c2_i32_221_r0 : BitVec 32 := 2#32
  let v276_r0 : BitVec 32 := Scalar.remui arg30_r0 c2_i32_221_r0
  let v282_r0 : Index := Scalar.indexCast v276_r0
  let c0_224_r0 : Index := 0#32
  let c0_225_r0 : Index := 0#32
  ![v282_r0.toNat, 0, 0]

def k0_chk3 (arg30_r0 : BitVec 32) : Prop :=
  (∀ a, (k0_off33 arg30_r0) a + S1x256x2304.size a ≤ S2x256x2304.size a) ∧
  (∀ (hinb : ∀ a, (k0_off33 arg30_r0) a + S1x256x2304.size a ≤ S2x256x2304.size a), (Rect.unit (s := S2x256x2304) (k0_off33 arg30_r0) S1x256x2304.size hinb).PackedRows (EltTy.packing .bf16))
theorem k0_off33_inb : ∀ (arg30_r0 : BitVec 32) (k0_hw3 : k0_chk3 arg30_r0), ∀ a, (k0_off33 arg30_r0) a + S1x256x2304.size a ≤ S2x256x2304.size a := fun arg30_r0 k0_hw3 => k0_hw3.1
theorem k0_off33_packedbf16 : ∀ (arg30_r0 : BitVec 32) (k0_hw3 : k0_chk3 arg30_r0), (Rect.unit (s := S2x256x2304) (k0_off33 arg30_r0) S1x256x2304.size (k0_off33_inb arg30_r0 k0_hw3)).PackedRows (EltTy.packing .bf16) := fun arg30_r0 k0_hw3 => k0_hw3.2 (k0_off33_inb arg30_r0 k0_hw3)

def k0_off34 (arg21_r0 : BitVec 32) : Fin 3 → Nat :=
  let c3_i32_216_r0 : BitVec 32 := 3#32
  let v271_r0 : BitVec 32 := Scalar.remui arg21_r0 c3_i32_216_r0
  let v286_r0 : Index := Scalar.indexCast v271_r0
  let c0_226_r0 : Index := 0#32
  let c0_227_r0 : Index := 0#32
  ![v286_r0.toNat, 0, 0]

def k0_chk4 (arg21_r0 : BitVec 32) : Prop :=
  (∀ a, (k0_off34 arg21_r0) a + S1x256x1024.size a ≤ S3x256x1024.size a)
theorem k0_off34_inb : ∀ (arg21_r0 : BitVec 32) (k0_hw4 : k0_chk4 arg21_r0), ∀ a, (k0_off34 arg21_r0) a + S1x256x1024.size a ≤ S3x256x1024.size a := fun arg21_r0 k0_hw4 => k0_hw4

def k0_off35 (arg32_r0 : BitVec 32) : Fin 3 → Nat :=
  let c2_i32_222_r0 : BitVec 32 := 2#32
  let v277_r0 : BitVec 32 := Scalar.remui arg32_r0 c2_i32_222_r0
  let v290_r0 : Index := Scalar.indexCast v277_r0
  let c0_228_r0 : Index := 0#32
  let c0_229_r0 : Index := 0#32
  ![v290_r0.toNat, 0, 0]

def k0_chk5 (arg32_r0 : BitVec 32) : Prop :=
  (∀ a, (k0_off35 arg32_r0) a + S1x256x1024.size a ≤ S2x256x1024.size a) ∧
  (∀ (hinb : ∀ a, (k0_off35 arg32_r0) a + S1x256x1024.size a ≤ S2x256x1024.size a), (Rect.unit (s := S2x256x1024) (k0_off35 arg32_r0) S1x256x1024.size hinb).PackedRows (EltTy.packing .bf16))
theorem k0_off35_inb : ∀ (arg32_r0 : BitVec 32) (k0_hw5 : k0_chk5 arg32_r0), ∀ a, (k0_off35 arg32_r0) a + S1x256x1024.size a ≤ S2x256x1024.size a := fun arg32_r0 k0_hw5 => k0_hw5.1
theorem k0_off35_packedbf16 : ∀ (arg32_r0 : BitVec 32) (k0_hw5 : k0_chk5 arg32_r0), (Rect.unit (s := S2x256x1024) (k0_off35 arg32_r0) S1x256x1024.size (k0_off35_inb arg32_r0 k0_hw5)).PackedRows (EltTy.packing .bf16) := fun arg32_r0 k0_hw5 => k0_hw5.2 (k0_off35_inb arg32_r0 k0_hw5)

def k0_off36 (arg14_r0 : BitVec 32) : Fin 3 → Nat :=
  let c3_i32_214_r0 : BitVec 32 := 3#32
  let v269_r0 : BitVec 32 := Scalar.remui arg14_r0 c3_i32_214_r0
  let v294_r0 : Index := Scalar.indexCast v269_r0
  let c0_230_r0 : Index := 0#32
  let c0_231_r0 : Index := 0#32
  ![v294_r0.toNat, 0, 0]

def k0_chk6 (arg14_r0 : BitVec 32) : Prop :=
  (∀ a, (k0_off36 arg14_r0) a + S1x512x1024.size a ≤ S3x512x1024.size a)
theorem k0_off36_inb : ∀ (arg14_r0 : BitVec 32) (k0_hw6 : k0_chk6 arg14_r0), ∀ a, (k0_off36 arg14_r0) a + S1x512x1024.size a ≤ S3x512x1024.size a := fun arg14_r0 k0_hw6 => k0_hw6

def k0_off37 (arg22_r0 : BitVec 32) : Fin 3 → Nat :=
  let c2_i32_217_r0 : BitVec 32 := 2#32
  let v272_r0 : BitVec 32 := Scalar.remui arg22_r0 c2_i32_217_r0
  let c0_i32_242_r0 : BitVec 32 := 0#32
  let c0_i32_243_r0 : BitVec 32 := 0#32
  ![v272_r0.toNat, 0, 0]

def k0_off38 (arg24_r0 : BitVec 32) : Fin 3 → Nat :=
  let c2_i32_218_r0 : BitVec 32 := 2#32
  let v273_r0 : BitVec 32 := Scalar.remui arg24_r0 c2_i32_218_r0
  let c0_i32_246_r0 : BitVec 32 := 0#32
  let c0_i32_247_r0 : BitVec 32 := 0#32
  ![v273_r0.toNat, 0, 0]

def k0_chk8 (arg24_r0 : BitVec 32) : Prop :=
  (∀ a, (k0_off38 arg24_r0) a + S1x4096x128.size a ≤ S2x4096x128.size a)
theorem k0_off38_inb : ∀ (arg24_r0 : BitVec 32) (k0_hw8 : k0_chk8 arg24_r0), ∀ a, (k0_off38 arg24_r0) a + S1x4096x128.size a ≤ S2x4096x128.size a := fun arg24_r0 k0_hw8 => k0_hw8

def k0_off39 (arg22_r0 : BitVec 32) : Fin 3 → Nat :=
  let c2_i32_217_r0 : BitVec 32 := 2#32
  let v272_r0 : BitVec 32 := Scalar.remui arg22_r0 c2_i32_217_r0
  let c0_i32_250_r0 : BitVec 32 := 0#32
  let c0_i32_251_r0 : BitVec 32 := 0#32
  ![v272_r0.toNat, 0, 0]

def k0_chk7 (arg22_r0 : BitVec 32) : Prop :=
  (∀ a, (k0_off37 arg22_r0) a + S1x4096x128.size a ≤ S2x4096x128.size a) ∧
  (∀ a, (k0_off39 arg22_r0) a + S1x4096x128.size a ≤ S2x4096x128.size a)
theorem k0_off37_inb : ∀ (arg22_r0 : BitVec 32) (k0_hw7 : k0_chk7 arg22_r0), ∀ a, (k0_off37 arg22_r0) a + S1x4096x128.size a ≤ S2x4096x128.size a := fun arg22_r0 k0_hw7 => k0_hw7.1
theorem k0_off39_inb : ∀ (arg22_r0 : BitVec 32) (k0_hw7 : k0_chk7 arg22_r0), ∀ a, (k0_off39 arg22_r0) a + S1x4096x128.size a ≤ S2x4096x128.size a := fun arg22_r0 k0_hw7 => k0_hw7.2

def k0_off40 (arg26_r0 : BitVec 32) : Fin 3 → Nat :=
  let c2_i32_219_r0 : BitVec 32 := 2#32
  let v274_r0 : BitVec 32 := Scalar.remui arg26_r0 c2_i32_219_r0
  let v385_r0 : Index := Scalar.indexCast v274_r0
  let c0_299_r0 : Index := 0#32
  let c0_300_r0 : Index := 0#32
  ![v385_r0.toNat, 0, 0]

def k0_chk9 (arg26_r0 : BitVec 32) : Prop :=
  (∀ a, (k0_off40 arg26_r0) a + S1x512x1024.size a ≤ S2x512x1024.size a) ∧
  (∀ (hinb : ∀ a, (k0_off40 arg26_r0) a + S1x512x1024.size a ≤ S2x512x1024.size a), (Rect.unit (s := S2x512x1024) (k0_off40 arg26_r0) S1x512x1024.size hinb).PackedRows (EltTy.packing .bf16))
theorem k0_off40_inb : ∀ (arg26_r0 : BitVec 32) (k0_hw9 : k0_chk9 arg26_r0), ∀ a, (k0_off40 arg26_r0) a + S1x512x1024.size a ≤ S2x512x1024.size a := fun arg26_r0 k0_hw9 => k0_hw9.1
theorem k0_off40_packedbf16 : ∀ (arg26_r0 : BitVec 32) (k0_hw9 : k0_chk9 arg26_r0), (Rect.unit (s := S2x512x1024) (k0_off40 arg26_r0) S1x512x1024.size (k0_off40_inb arg26_r0 k0_hw9)).PackedRows (EltTy.packing .bf16) := fun arg26_r0 k0_hw9 => k0_hw9.2 (k0_off40_inb arg26_r0 k0_hw9)

def k0_off41 (arg28_r0 : BitVec 32) : Fin 3 → Nat :=
  let c2_i32_220_r0 : BitVec 32 := 2#32
  let v275_r0 : BitVec 32 := Scalar.remui arg28_r0 c2_i32_220_r0
  let v390_r0 : Index := Scalar.indexCast v275_r0
  let c0_301_r0 : Index := 0#32
  let c0_302_r0 : Index := 0#32
  ![v390_r0.toNat, 0, 0]

def k0_chk10 (arg28_r0 : BitVec 32) : Prop :=
  (∀ a, (k0_off41 arg28_r0) a + S1x512x1024.size a ≤ S2x512x1024.size a) ∧
  (∀ (hinb : ∀ a, (k0_off41 arg28_r0) a + S1x512x1024.size a ≤ S2x512x1024.size a), (Rect.unit (s := S2x512x1024) (k0_off41 arg28_r0) S1x512x1024.size hinb).PackedRows (EltTy.packing .bf16))
theorem k0_off41_inb : ∀ (arg28_r0 : BitVec 32) (k0_hw10 : k0_chk10 arg28_r0), ∀ a, (k0_off41 arg28_r0) a + S1x512x1024.size a ≤ S2x512x1024.size a := fun arg28_r0 k0_hw10 => k0_hw10.1
theorem k0_off41_packedbf16 : ∀ (arg28_r0 : BitVec 32) (k0_hw10 : k0_chk10 arg28_r0), (Rect.unit (s := S2x512x1024) (k0_off41 arg28_r0) S1x512x1024.size (k0_off41_inb arg28_r0 k0_hw10)).PackedRows (EltTy.packing .bf16) := fun arg28_r0 k0_hw10 => k0_hw10.2 (k0_off41_inb arg28_r0 k0_hw10)

def k0_off42 (arg22_r0 : BitVec 32) : Fin 1 → Nat :=
  let c2_i32_372_r0 : BitVec 32 := 2#32
  let v542_r0 : BitVec 32 := Scalar.remui arg22_r0 c2_i32_372_r0
  ![v542_r0.toNat]
def k0_cond19 (k0_t1 : Fin k0_t1_loop.trips) (arg34_r0 : BitVec 32) : BitVec 1 :=
  let c0_i32_145_r0 : BitVec 32 := 0#32
  let v140_r0 : BitVec 32 := Scalar.addi arg34_r0 c0_i32_145_r0
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c0_i32_155_r0 : BitVec 32 := 0#32
  let v150_r0 : BitVec 32 := Scalar.addi v149_r0 c0_i32_155_r0
  let v409_r0 : BitVec 1 := Scalar.cmpi .ne v140_r0 v150_r0
  let c0_i32_88_r0 : BitVec 32 := 0#32
  let c1_i32_90_r0 : BitVec 32 := 1#32
  let arg12_r0 : BitVec 32 := Scf.iv c0_i32_88_r0 c1_i32_90_r0 k0_t1
  let c3_i32_144_r0 : BitVec 32 := 3#32
  let v139_r0 : BitVec 1 := Scalar.cmpi .eq arg12_r0 c3_i32_144_r0
  let v410_r0 : BitVec 1 := Scalar.ori v409_r0 v139_r0
  let v411_r0 : BitVec 32 := Scalar.extui v410_r0
  let c0_i32_308_r0 : BitVec 32 := 0#32
  let v412_r0 : BitVec 1 := Scalar.cmpi .ne v411_r0 c0_i32_308_r0
  v412_r0

def k0_off43 (arg34_r0 : BitVec 32) : Fin 2 → Nat :=
  let c4096_i32_373_r0 : BitVec 32 := 4096#32
  let c0_i32_145_r0 : BitVec 32 := 0#32
  let v140_r0 : BitVec 32 := Scalar.addi arg34_r0 c0_i32_145_r0
  let v543_r0 : BitVec 32 := Scalar.muli c4096_i32_373_r0 v140_r0
  let c0_i32_374_r0 : BitVec 32 := 0#32
  ![v543_r0.toNat, 0]
def k0_off44 (arg22_r0 : BitVec 32) : Fin 3 → Nat :=
  let c2_i32_372_r0 : BitVec 32 := 2#32
  let v542_r0 : BitVec 32 := Scalar.remui arg22_r0 c2_i32_372_r0
  let c0_i32_375_r0 : BitVec 32 := 0#32
  let c0_i32_376_r0 : BitVec 32 := 0#32
  ![v542_r0.toNat, 0, 0]
def k0_off45 (arg24_r0 : BitVec 32) : Fin 1 → Nat :=
  let c2_i32_372_r0 : BitVec 32 := 2#32
  let v542_r0 : BitVec 32 := Scalar.remui arg24_r0 c2_i32_372_r0
  ![v542_r0.toNat]
def k0_cond20 (k0_t1 : Fin k0_t1_loop.trips) (arg34_r0 : BitVec 32) : BitVec 1 :=
  let c0_i32_145_r0 : BitVec 32 := 0#32
  let v140_r0 : BitVec 32 := Scalar.addi arg34_r0 c0_i32_145_r0
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c0_i32_155_r0 : BitVec 32 := 0#32
  let v150_r0 : BitVec 32 := Scalar.addi v149_r0 c0_i32_155_r0
  let v416_r0 : BitVec 1 := Scalar.cmpi .ne v140_r0 v150_r0
  let c0_i32_88_r0 : BitVec 32 := 0#32
  let c1_i32_90_r0 : BitVec 32 := 1#32
  let arg12_r0 : BitVec 32 := Scf.iv c0_i32_88_r0 c1_i32_90_r0 k0_t1
  let c3_i32_144_r0 : BitVec 32 := 3#32
  let v139_r0 : BitVec 1 := Scalar.cmpi .eq arg12_r0 c3_i32_144_r0
  let v417_r0 : BitVec 1 := Scalar.ori v416_r0 v139_r0
  let v418_r0 : BitVec 32 := Scalar.extui v417_r0
  let c0_i32_311_r0 : BitVec 32 := 0#32
  let v419_r0 : BitVec 1 := Scalar.cmpi .ne v418_r0 c0_i32_311_r0
  v419_r0

def k0_off46 (arg34_r0 : BitVec 32) : Fin 2 → Nat :=
  let c4096_i32_373_r0 : BitVec 32 := 4096#32
  let c0_i32_145_r0 : BitVec 32 := 0#32
  let v140_r0 : BitVec 32 := Scalar.addi arg34_r0 c0_i32_145_r0
  let v543_r0 : BitVec 32 := Scalar.muli c4096_i32_373_r0 v140_r0
  let c0_i32_374_r0 : BitVec 32 := 0#32
  ![v543_r0.toNat, 0]
def k0_off47 (arg24_r0 : BitVec 32) : Fin 3 → Nat :=
  let c2_i32_372_r0 : BitVec 32 := 2#32
  let v542_r0 : BitVec 32 := Scalar.remui arg24_r0 c2_i32_372_r0
  let c0_i32_375_r0 : BitVec 32 := 0#32
  let c0_i32_376_r0 : BitVec 32 := 0#32
  ![v542_r0.toNat, 0, 0]
def k0_off48 (arg26_r0 : BitVec 32) : Fin 1 → Nat :=
  let c2_i32_372_r0 : BitVec 32 := 2#32
  let v542_r0 : BitVec 32 := Scalar.remui arg26_r0 c2_i32_372_r0
  ![v542_r0.toNat]
def k0_cond21 (k0_t1 : Fin k0_t1_loop.trips) (arg34_r0 : BitVec 32) : BitVec 1 :=
  let c0_i32_145_r0 : BitVec 32 := 0#32
  let v140_r0 : BitVec 32 := Scalar.addi arg34_r0 c0_i32_145_r0
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c0_i32_155_r0 : BitVec 32 := 0#32
  let v150_r0 : BitVec 32 := Scalar.addi v149_r0 c0_i32_155_r0
  let v423_r0 : BitVec 1 := Scalar.cmpi .ne v140_r0 v150_r0
  let c0_i32_88_r0 : BitVec 32 := 0#32
  let c1_i32_90_r0 : BitVec 32 := 1#32
  let arg12_r0 : BitVec 32 := Scf.iv c0_i32_88_r0 c1_i32_90_r0 k0_t1
  let c3_i32_144_r0 : BitVec 32 := 3#32
  let v139_r0 : BitVec 1 := Scalar.cmpi .eq arg12_r0 c3_i32_144_r0
  let v424_r0 : BitVec 1 := Scalar.ori v423_r0 v139_r0
  let v425_r0 : BitVec 32 := Scalar.extui v424_r0
  let c0_i32_314_r0 : BitVec 32 := 0#32
  let v426_r0 : BitVec 1 := Scalar.cmpi .ne v425_r0 c0_i32_314_r0
  v426_r0

def k0_off49 (arg34_r0 : BitVec 32) : Fin 2 → Nat :=
  let c512_i32_373_r0 : BitVec 32 := 512#32
  let c0_i32_145_r0 : BitVec 32 := 0#32
  let v140_r0 : BitVec 32 := Scalar.addi arg34_r0 c0_i32_145_r0
  let v543_r0 : BitVec 32 := Scalar.muli c512_i32_373_r0 v140_r0
  let c0_i32_374_r0 : BitVec 32 := 0#32
  ![v543_r0.toNat, 0]
def k0_off50 (arg26_r0 : BitVec 32) : Fin 3 → Nat :=
  let c2_i32_372_r0 : BitVec 32 := 2#32
  let v542_r0 : BitVec 32 := Scalar.remui arg26_r0 c2_i32_372_r0
  let c0_i32_375_r0 : BitVec 32 := 0#32
  let c0_i32_376_r0 : BitVec 32 := 0#32
  ![v542_r0.toNat, 0, 0]
def k0_off51 (arg28_r0 : BitVec 32) : Fin 1 → Nat :=
  let c2_i32_372_r0 : BitVec 32 := 2#32
  let v542_r0 : BitVec 32 := Scalar.remui arg28_r0 c2_i32_372_r0
  ![v542_r0.toNat]
def k0_cond22 (k0_t1 : Fin k0_t1_loop.trips) (arg34_r0 : BitVec 32) : BitVec 1 :=
  let c0_i32_145_r0 : BitVec 32 := 0#32
  let v140_r0 : BitVec 32 := Scalar.addi arg34_r0 c0_i32_145_r0
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c0_i32_155_r0 : BitVec 32 := 0#32
  let v150_r0 : BitVec 32 := Scalar.addi v149_r0 c0_i32_155_r0
  let v430_r0 : BitVec 1 := Scalar.cmpi .ne v140_r0 v150_r0
  let c0_i32_88_r0 : BitVec 32 := 0#32
  let c1_i32_90_r0 : BitVec 32 := 1#32
  let arg12_r0 : BitVec 32 := Scf.iv c0_i32_88_r0 c1_i32_90_r0 k0_t1
  let c3_i32_144_r0 : BitVec 32 := 3#32
  let v139_r0 : BitVec 1 := Scalar.cmpi .eq arg12_r0 c3_i32_144_r0
  let v431_r0 : BitVec 1 := Scalar.ori v430_r0 v139_r0
  let v432_r0 : BitVec 32 := Scalar.extui v431_r0
  let c0_i32_317_r0 : BitVec 32 := 0#32
  let v433_r0 : BitVec 1 := Scalar.cmpi .ne v432_r0 c0_i32_317_r0
  v433_r0

def k0_off52 (arg34_r0 : BitVec 32) : Fin 2 → Nat :=
  let c512_i32_373_r0 : BitVec 32 := 512#32
  let c0_i32_145_r0 : BitVec 32 := 0#32
  let v140_r0 : BitVec 32 := Scalar.addi arg34_r0 c0_i32_145_r0
  let v543_r0 : BitVec 32 := Scalar.muli c512_i32_373_r0 v140_r0
  let c0_i32_374_r0 : BitVec 32 := 0#32
  ![v543_r0.toNat, 0]
def k0_off53 (arg28_r0 : BitVec 32) : Fin 3 → Nat :=
  let c2_i32_372_r0 : BitVec 32 := 2#32
  let v542_r0 : BitVec 32 := Scalar.remui arg28_r0 c2_i32_372_r0
  let c0_i32_375_r0 : BitVec 32 := 0#32
  let c0_i32_376_r0 : BitVec 32 := 0#32
  ![v542_r0.toNat, 0, 0]
def k0_off54 (arg30_r0 : BitVec 32) : Fin 1 → Nat :=
  let c2_i32_372_r0 : BitVec 32 := 2#32
  let v542_r0 : BitVec 32 := Scalar.remui arg30_r0 c2_i32_372_r0
  ![v542_r0.toNat]
def k0_cond23 (k0_t1 : Fin k0_t1_loop.trips) (arg34_r0 : BitVec 32) : BitVec 1 :=
  let c0_i32_145_r0 : BitVec 32 := 0#32
  let v140_r0 : BitVec 32 := Scalar.addi arg34_r0 c0_i32_145_r0
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c0_i32_155_r0 : BitVec 32 := 0#32
  let v150_r0 : BitVec 32 := Scalar.addi v149_r0 c0_i32_155_r0
  let v437_r0 : BitVec 1 := Scalar.cmpi .ne v140_r0 v150_r0
  let c0_i32_88_r0 : BitVec 32 := 0#32
  let c1_i32_90_r0 : BitVec 32 := 1#32
  let arg12_r0 : BitVec 32 := Scf.iv c0_i32_88_r0 c1_i32_90_r0 k0_t1
  let c3_i32_144_r0 : BitVec 32 := 3#32
  let v139_r0 : BitVec 1 := Scalar.cmpi .eq arg12_r0 c3_i32_144_r0
  let v438_r0 : BitVec 1 := Scalar.ori v437_r0 v139_r0
  let v439_r0 : BitVec 32 := Scalar.extui v438_r0
  let c0_i32_320_r0 : BitVec 32 := 0#32
  let v440_r0 : BitVec 1 := Scalar.cmpi .ne v439_r0 c0_i32_320_r0
  v440_r0

def k0_off55 (arg34_r0 : BitVec 32) : Fin 2 → Nat :=
  let c256_i32_373_r0 : BitVec 32 := 256#32
  let c0_i32_145_r0 : BitVec 32 := 0#32
  let v140_r0 : BitVec 32 := Scalar.addi arg34_r0 c0_i32_145_r0
  let v543_r0 : BitVec 32 := Scalar.muli c256_i32_373_r0 v140_r0
  let c0_i32_374_r0 : BitVec 32 := 0#32
  ![v543_r0.toNat, 0]
def k0_off56 (arg30_r0 : BitVec 32) : Fin 3 → Nat :=
  let c2_i32_372_r0 : BitVec 32 := 2#32
  let v542_r0 : BitVec 32 := Scalar.remui arg30_r0 c2_i32_372_r0
  let c0_i32_375_r0 : BitVec 32 := 0#32
  let c0_i32_376_r0 : BitVec 32 := 0#32
  ![v542_r0.toNat, 0, 0]
def k0_off57 (arg32_r0 : BitVec 32) : Fin 1 → Nat :=
  let c2_i32_372_r0 : BitVec 32 := 2#32
  let v542_r0 : BitVec 32 := Scalar.remui arg32_r0 c2_i32_372_r0
  ![v542_r0.toNat]
def k0_cond24 (k0_t1 : Fin k0_t1_loop.trips) (arg34_r0 : BitVec 32) : BitVec 1 :=
  let c0_i32_145_r0 : BitVec 32 := 0#32
  let v140_r0 : BitVec 32 := Scalar.addi arg34_r0 c0_i32_145_r0
  let true_152_r0 : BitVec 1 := 1#1
  let c1_i32_151_r0 : BitVec 32 := 1#32
  let v146_r0 : BitVec 32 := Scalar.addi arg34_r0 c1_i32_151_r0
  let v147_r0 : BitVec 32 := Scalar.select true_152_r0 v146_r0 arg34_r0
  let c4_i32_153_r0 : BitVec 32 := 4#32
  let v148_r0 : BitVec 1 := Scalar.cmpi .eq v147_r0 c4_i32_153_r0
  let c0_i32_154_r0 : BitVec 32 := 0#32
  let v149_r0 : BitVec 32 := Scalar.select v148_r0 c0_i32_154_r0 v147_r0
  let c0_i32_155_r0 : BitVec 32 := 0#32
  let v150_r0 : BitVec 32 := Scalar.addi v149_r0 c0_i32_155_r0
  let v444_r0 : BitVec 1 := Scalar.cmpi .ne v140_r0 v150_r0
  let c0_i32_88_r0 : BitVec 32 := 0#32
  let c1_i32_90_r0 : BitVec 32 := 1#32
  let arg12_r0 : BitVec 32 := Scf.iv c0_i32_88_r0 c1_i32_90_r0 k0_t1
  let c3_i32_144_r0 : BitVec 32 := 3#32
  let v139_r0 : BitVec 1 := Scalar.cmpi .eq arg12_r0 c3_i32_144_r0
  let v445_r0 : BitVec 1 := Scalar.ori v444_r0 v139_r0
  let v446_r0 : BitVec 32 := Scalar.extui v445_r0
  let c0_i32_323_r0 : BitVec 32 := 0#32
  let v447_r0 : BitVec 1 := Scalar.cmpi .ne v446_r0 c0_i32_323_r0
  v447_r0

def k0_off58 (arg34_r0 : BitVec 32) : Fin 2 → Nat :=
  let c256_i32_373_r0 : BitVec 32 := 256#32
  let c0_i32_145_r0 : BitVec 32 := 0#32
  let v140_r0 : BitVec 32 := Scalar.addi arg34_r0 c0_i32_145_r0
  let v543_r0 : BitVec 32 := Scalar.muli c256_i32_373_r0 v140_r0
  let c0_i32_374_r0 : BitVec 32 := 0#32
  ![v543_r0.toNat, 0]
def k0_off59 (arg32_r0 : BitVec 32) : Fin 3 → Nat :=
  let c2_i32_372_r0 : BitVec 32 := 2#32
  let v542_r0 : BitVec 32 := Scalar.remui arg32_r0 c2_i32_372_r0
  let c0_i32_375_r0 : BitVec 32 := 0#32
  let c0_i32_376_r0 : BitVec 32 := 0#32
  ![v542_r0.toNat, 0, 0]
def k0_off60 (arg23_r0 : BitVec 32) : Fin 1 → Nat :=
  let c2_i32_372_r0 : BitVec 32 := 2#32
  let v542_r0 : BitVec 32 := Scalar.remui arg23_r0 c2_i32_372_r0
  ![v542_r0.toNat]
def k0_cond28 (k0_t1 : Fin k0_t1_loop.trips) (arg34_r0 : BitVec 32) : BitVec 1 :=
  let c0_i32_145_r0 : BitVec 32 := 0#32
  let v140_r0 : BitVec 32 := Scalar.addi arg34_r0 c0_i32_145_r0
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v469_r0 : BitVec 1 := Scalar.cmpi .ne v140_r0 v145_r0
  let c0_i32_88_r0 : BitVec 32 := 0#32
  let c1_i32_90_r0 : BitVec 32 := 1#32
  let arg12_r0 : BitVec 32 := Scf.iv c0_i32_88_r0 c1_i32_90_r0 k0_t1
  let c0_i32_143_r0 : BitVec 32 := 0#32
  let v138_r0 : BitVec 1 := Scalar.cmpi .eq arg12_r0 c0_i32_143_r0
  let true_335_r0 : BitVec 1 := 1#1
  let v470_r0 : BitVec 1 := Scalar.xori v138_r0 true_335_r0
  let v471_r0 : BitVec 1 := Scalar.andi v469_r0 v470_r0
  let v472_r0 : BitVec 32 := Scalar.extui v471_r0
  let c0_i32_336_r0 : BitVec 32 := 0#32
  let v473_r0 : BitVec 1 := Scalar.cmpi .ne v472_r0 c0_i32_336_r0
  v473_r0

def k0_off61 (arg34_r0 : BitVec 32) : Fin 2 → Nat :=
  let c4096_i32_373_r0 : BitVec 32 := 4096#32
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v543_r0 : BitVec 32 := Scalar.muli c4096_i32_373_r0 v145_r0
  let c0_i32_374_r0 : BitVec 32 := 0#32
  ![v543_r0.toNat, 0]
def k0_off62 (arg23_r0 : BitVec 32) : Fin 3 → Nat :=
  let c2_i32_372_r0 : BitVec 32 := 2#32
  let v542_r0 : BitVec 32 := Scalar.remui arg23_r0 c2_i32_372_r0
  let c0_i32_375_r0 : BitVec 32 := 0#32
  let c0_i32_376_r0 : BitVec 32 := 0#32
  ![v542_r0.toNat, 0, 0]
def k0_off63 (arg25_r0 : BitVec 32) : Fin 1 → Nat :=
  let c2_i32_372_r0 : BitVec 32 := 2#32
  let v542_r0 : BitVec 32 := Scalar.remui arg25_r0 c2_i32_372_r0
  ![v542_r0.toNat]
def k0_cond29 (k0_t1 : Fin k0_t1_loop.trips) (arg34_r0 : BitVec 32) : BitVec 1 :=
  let c0_i32_145_r0 : BitVec 32 := 0#32
  let v140_r0 : BitVec 32 := Scalar.addi arg34_r0 c0_i32_145_r0
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v477_r0 : BitVec 1 := Scalar.cmpi .ne v140_r0 v145_r0
  let c0_i32_88_r0 : BitVec 32 := 0#32
  let c1_i32_90_r0 : BitVec 32 := 1#32
  let arg12_r0 : BitVec 32 := Scf.iv c0_i32_88_r0 c1_i32_90_r0 k0_t1
  let c0_i32_143_r0 : BitVec 32 := 0#32
  let v138_r0 : BitVec 1 := Scalar.cmpi .eq arg12_r0 c0_i32_143_r0
  let true_339_r0 : BitVec 1 := 1#1
  let v478_r0 : BitVec 1 := Scalar.xori v138_r0 true_339_r0
  let v479_r0 : BitVec 1 := Scalar.andi v477_r0 v478_r0
  let v480_r0 : BitVec 32 := Scalar.extui v479_r0
  let c0_i32_340_r0 : BitVec 32 := 0#32
  let v481_r0 : BitVec 1 := Scalar.cmpi .ne v480_r0 c0_i32_340_r0
  v481_r0

def k0_off64 (arg34_r0 : BitVec 32) : Fin 2 → Nat :=
  let c4096_i32_373_r0 : BitVec 32 := 4096#32
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v543_r0 : BitVec 32 := Scalar.muli c4096_i32_373_r0 v145_r0
  let c0_i32_374_r0 : BitVec 32 := 0#32
  ![v543_r0.toNat, 0]
def k0_off65 (arg25_r0 : BitVec 32) : Fin 3 → Nat :=
  let c2_i32_372_r0 : BitVec 32 := 2#32
  let v542_r0 : BitVec 32 := Scalar.remui arg25_r0 c2_i32_372_r0
  let c0_i32_375_r0 : BitVec 32 := 0#32
  let c0_i32_376_r0 : BitVec 32 := 0#32
  ![v542_r0.toNat, 0, 0]
def k0_off66 (arg27_r0 : BitVec 32) : Fin 1 → Nat :=
  let c2_i32_372_r0 : BitVec 32 := 2#32
  let v542_r0 : BitVec 32 := Scalar.remui arg27_r0 c2_i32_372_r0
  ![v542_r0.toNat]
def k0_cond30 (k0_t1 : Fin k0_t1_loop.trips) (arg34_r0 : BitVec 32) : BitVec 1 :=
  let c0_i32_145_r0 : BitVec 32 := 0#32
  let v140_r0 : BitVec 32 := Scalar.addi arg34_r0 c0_i32_145_r0
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v485_r0 : BitVec 1 := Scalar.cmpi .ne v140_r0 v145_r0
  let c0_i32_88_r0 : BitVec 32 := 0#32
  let c1_i32_90_r0 : BitVec 32 := 1#32
  let arg12_r0 : BitVec 32 := Scf.iv c0_i32_88_r0 c1_i32_90_r0 k0_t1
  let c0_i32_143_r0 : BitVec 32 := 0#32
  let v138_r0 : BitVec 1 := Scalar.cmpi .eq arg12_r0 c0_i32_143_r0
  let true_343_r0 : BitVec 1 := 1#1
  let v486_r0 : BitVec 1 := Scalar.xori v138_r0 true_343_r0
  let v487_r0 : BitVec 1 := Scalar.andi v485_r0 v486_r0
  let v488_r0 : BitVec 32 := Scalar.extui v487_r0
  let c0_i32_344_r0 : BitVec 32 := 0#32
  let v489_r0 : BitVec 1 := Scalar.cmpi .ne v488_r0 c0_i32_344_r0
  v489_r0

def k0_off67 (arg34_r0 : BitVec 32) : Fin 2 → Nat :=
  let c512_i32_373_r0 : BitVec 32 := 512#32
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v543_r0 : BitVec 32 := Scalar.muli c512_i32_373_r0 v145_r0
  let c0_i32_374_r0 : BitVec 32 := 0#32
  ![v543_r0.toNat, 0]
def k0_off68 (arg27_r0 : BitVec 32) : Fin 3 → Nat :=
  let c2_i32_372_r0 : BitVec 32 := 2#32
  let v542_r0 : BitVec 32 := Scalar.remui arg27_r0 c2_i32_372_r0
  let c0_i32_375_r0 : BitVec 32 := 0#32
  let c0_i32_376_r0 : BitVec 32 := 0#32
  ![v542_r0.toNat, 0, 0]
def k0_off69 (arg29_r0 : BitVec 32) : Fin 1 → Nat :=
  let c2_i32_372_r0 : BitVec 32 := 2#32
  let v542_r0 : BitVec 32 := Scalar.remui arg29_r0 c2_i32_372_r0
  ![v542_r0.toNat]
def k0_cond31 (k0_t1 : Fin k0_t1_loop.trips) (arg34_r0 : BitVec 32) : BitVec 1 :=
  let c0_i32_145_r0 : BitVec 32 := 0#32
  let v140_r0 : BitVec 32 := Scalar.addi arg34_r0 c0_i32_145_r0
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v493_r0 : BitVec 1 := Scalar.cmpi .ne v140_r0 v145_r0
  let c0_i32_88_r0 : BitVec 32 := 0#32
  let c1_i32_90_r0 : BitVec 32 := 1#32
  let arg12_r0 : BitVec 32 := Scf.iv c0_i32_88_r0 c1_i32_90_r0 k0_t1
  let c0_i32_143_r0 : BitVec 32 := 0#32
  let v138_r0 : BitVec 1 := Scalar.cmpi .eq arg12_r0 c0_i32_143_r0
  let true_347_r0 : BitVec 1 := 1#1
  let v494_r0 : BitVec 1 := Scalar.xori v138_r0 true_347_r0
  let v495_r0 : BitVec 1 := Scalar.andi v493_r0 v494_r0
  let v496_r0 : BitVec 32 := Scalar.extui v495_r0
  let c0_i32_348_r0 : BitVec 32 := 0#32
  let v497_r0 : BitVec 1 := Scalar.cmpi .ne v496_r0 c0_i32_348_r0
  v497_r0

def k0_off70 (arg34_r0 : BitVec 32) : Fin 2 → Nat :=
  let c512_i32_373_r0 : BitVec 32 := 512#32
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v543_r0 : BitVec 32 := Scalar.muli c512_i32_373_r0 v145_r0
  let c0_i32_374_r0 : BitVec 32 := 0#32
  ![v543_r0.toNat, 0]
def k0_off71 (arg29_r0 : BitVec 32) : Fin 3 → Nat :=
  let c2_i32_372_r0 : BitVec 32 := 2#32
  let v542_r0 : BitVec 32 := Scalar.remui arg29_r0 c2_i32_372_r0
  let c0_i32_375_r0 : BitVec 32 := 0#32
  let c0_i32_376_r0 : BitVec 32 := 0#32
  ![v542_r0.toNat, 0, 0]
def k0_off72 (arg31_r0 : BitVec 32) : Fin 1 → Nat :=
  let c2_i32_372_r0 : BitVec 32 := 2#32
  let v542_r0 : BitVec 32 := Scalar.remui arg31_r0 c2_i32_372_r0
  ![v542_r0.toNat]
def k0_cond32 (k0_t1 : Fin k0_t1_loop.trips) (arg34_r0 : BitVec 32) : BitVec 1 :=
  let c0_i32_145_r0 : BitVec 32 := 0#32
  let v140_r0 : BitVec 32 := Scalar.addi arg34_r0 c0_i32_145_r0
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v501_r0 : BitVec 1 := Scalar.cmpi .ne v140_r0 v145_r0
  let c0_i32_88_r0 : BitVec 32 := 0#32
  let c1_i32_90_r0 : BitVec 32 := 1#32
  let arg12_r0 : BitVec 32 := Scf.iv c0_i32_88_r0 c1_i32_90_r0 k0_t1
  let c0_i32_143_r0 : BitVec 32 := 0#32
  let v138_r0 : BitVec 1 := Scalar.cmpi .eq arg12_r0 c0_i32_143_r0
  let true_351_r0 : BitVec 1 := 1#1
  let v502_r0 : BitVec 1 := Scalar.xori v138_r0 true_351_r0
  let v503_r0 : BitVec 1 := Scalar.andi v501_r0 v502_r0
  let v504_r0 : BitVec 32 := Scalar.extui v503_r0
  let c0_i32_352_r0 : BitVec 32 := 0#32
  let v505_r0 : BitVec 1 := Scalar.cmpi .ne v504_r0 c0_i32_352_r0
  v505_r0

def k0_off73 (arg34_r0 : BitVec 32) : Fin 2 → Nat :=
  let c256_i32_373_r0 : BitVec 32 := 256#32
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v543_r0 : BitVec 32 := Scalar.muli c256_i32_373_r0 v145_r0
  let c0_i32_374_r0 : BitVec 32 := 0#32
  ![v543_r0.toNat, 0]
def k0_off74 (arg31_r0 : BitVec 32) : Fin 3 → Nat :=
  let c2_i32_372_r0 : BitVec 32 := 2#32
  let v542_r0 : BitVec 32 := Scalar.remui arg31_r0 c2_i32_372_r0
  let c0_i32_375_r0 : BitVec 32 := 0#32
  let c0_i32_376_r0 : BitVec 32 := 0#32
  ![v542_r0.toNat, 0, 0]
def k0_off75 (arg33_r0 : BitVec 32) : Fin 1 → Nat :=
  let c2_i32_372_r0 : BitVec 32 := 2#32
  let v542_r0 : BitVec 32 := Scalar.remui arg33_r0 c2_i32_372_r0
  ![v542_r0.toNat]
def k0_cond33 (k0_t1 : Fin k0_t1_loop.trips) (arg34_r0 : BitVec 32) : BitVec 1 :=
  let c0_i32_145_r0 : BitVec 32 := 0#32
  let v140_r0 : BitVec 32 := Scalar.addi arg34_r0 c0_i32_145_r0
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v509_r0 : BitVec 1 := Scalar.cmpi .ne v140_r0 v145_r0
  let c0_i32_88_r0 : BitVec 32 := 0#32
  let c1_i32_90_r0 : BitVec 32 := 1#32
  let arg12_r0 : BitVec 32 := Scf.iv c0_i32_88_r0 c1_i32_90_r0 k0_t1
  let c0_i32_143_r0 : BitVec 32 := 0#32
  let v138_r0 : BitVec 1 := Scalar.cmpi .eq arg12_r0 c0_i32_143_r0
  let true_355_r0 : BitVec 1 := 1#1
  let v510_r0 : BitVec 1 := Scalar.xori v138_r0 true_355_r0
  let v511_r0 : BitVec 1 := Scalar.andi v509_r0 v510_r0
  let v512_r0 : BitVec 32 := Scalar.extui v511_r0
  let c0_i32_356_r0 : BitVec 32 := 0#32
  let v513_r0 : BitVec 1 := Scalar.cmpi .ne v512_r0 c0_i32_356_r0
  v513_r0

def k0_off76 (arg34_r0 : BitVec 32) : Fin 2 → Nat :=
  let c256_i32_373_r0 : BitVec 32 := 256#32
  let true_147_r0 : BitVec 1 := 1#1
  let c1_i32_146_r0 : BitVec 32 := 1#32
  let v141_r0 : BitVec 32 := Scalar.subi arg34_r0 c1_i32_146_r0
  let v142_r0 : BitVec 32 := Scalar.select true_147_r0 v141_r0 arg34_r0
  let c_m1_i32_148_r0 : BitVec 32 := 4294967295#32
  let v143_r0 : BitVec 1 := Scalar.cmpi .eq v142_r0 c_m1_i32_148_r0
  let c3_i32_149_r0 : BitVec 32 := 3#32
  let v144_r0 : BitVec 32 := Scalar.select v143_r0 c3_i32_149_r0 v142_r0
  let c0_i32_150_r0 : BitVec 32 := 0#32
  let v145_r0 : BitVec 32 := Scalar.addi v144_r0 c0_i32_150_r0
  let v543_r0 : BitVec 32 := Scalar.muli c256_i32_373_r0 v145_r0
  let c0_i32_374_r0 : BitVec 32 := 0#32
  ![v543_r0.toNat, 0]
def k0_off77 (arg33_r0 : BitVec 32) : Fin 3 → Nat :=
  let c2_i32_372_r0 : BitVec 32 := 2#32
  let v542_r0 : BitVec 32 := Scalar.remui arg33_r0 c2_i32_372_r0
  let c0_i32_375_r0 : BitVec 32 := 0#32
  let c0_i32_376_r0 : BitVec 32 := 0#32
  ![v542_r0.toNat, 0, 0]

def k0_chk1_0 (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) : Prop :=
  (∀ (k0_h4 : k0_cond4 k0_t1 arg34_r0 = 1#1), ∀ a, (k0_off14 arg13_r0) a + S1.size a ≤ S3.size a) ∧
  (∀ (k0_h4 : k0_cond4 k0_t1 arg34_r0 = 1#1), ∀ a, (k0_off15 arg13_r0) a + S1x512x1024.size a ≤ S3x512x1024.size a) ∧
  (∀ (k0_h4 : k0_cond4 k0_t1 arg34_r0 = 1#1), ∀ a, (k0_off16 arg34_r0) a + S512x1024.size a ≤ S2048x1024.size a) ∧
  (∀ (k0_h5 : k0_cond5 k0_t1 arg34_r0 = 1#1), ∀ a, (k0_off17 arg18_r0) a + S1.size a ≤ S3.size a) ∧
  (∀ (k0_h5 : k0_cond5 k0_t1 arg34_r0 = 1#1), ∀ a, (k0_off18 arg18_r0) a + S1x256x2304.size a ≤ S3x256x2304.size a) ∧
  (∀ (k0_h5 : k0_cond5 k0_t1 arg34_r0 = 1#1), ∀ a, (k0_off19 arg34_r0) a + S256x2304.size a ≤ S1024x2304.size a) ∧
  (∀ (k0_h6 : k0_cond6 k0_t1 arg34_r0 = 1#1), ∀ a, (k0_off20 arg20_r0) a + S1.size a ≤ S3.size a) ∧
  (∀ (k0_h6 : k0_cond6 k0_t1 arg34_r0 = 1#1), ∀ a, (k0_off21 arg20_r0) a + S1x256x1024.size a ≤ S3x256x1024.size a) ∧
  (∀ (k0_h6 : k0_cond6 k0_t1 arg34_r0 = 1#1), ∀ a, (k0_off22 arg34_r0) a + S256x1024.size a ≤ S1024x1024.size a) ∧
  (∀ (k0_h7 : k0_cond7 k0_t1 arg34_r0 = 1#1), ∀ a, (k0_off23 arg14_r0) a + S1.size a ≤ S3.size a) ∧
  (∀ (k0_h7 : k0_cond7 k0_t1 arg34_r0 = 1#1), ∀ a, (k0_off24 arg14_r0) a + S1x512x1024.size a ≤ S3x512x1024.size a) ∧
  (∀ (k0_h7 : k0_cond7 k0_t1 arg34_r0 = 1#1), ∀ a, (k0_off25 arg34_r0) a + S512x1024.size a ≤ S2048x1024.size a) ∧
  (∀ (k0_h8 : k0_cond8 k0_t1 arg34_r0 = 1#1), ∀ a, (k0_off26 arg19_r0) a + S1.size a ≤ S3.size a) ∧
  (∀ (k0_h8 : k0_cond8 k0_t1 arg34_r0 = 1#1), ∀ a, (k0_off27 arg19_r0) a + S1x256x2304.size a ≤ S3x256x2304.size a) ∧
  (∀ (k0_h8 : k0_cond8 k0_t1 arg34_r0 = 1#1), ∀ a, (k0_off28 arg34_r0) a + S256x2304.size a ≤ S1024x2304.size a) ∧
  (∀ (k0_h9 : k0_cond9 k0_t1 arg34_r0 = 1#1), ∀ a, (k0_off29 arg21_r0) a + S1.size a ≤ S3.size a) ∧
  (∀ (k0_h9 : k0_cond9 k0_t1 arg34_r0 = 1#1), ∀ a, (k0_off30 arg21_r0) a + S1x256x1024.size a ≤ S3x256x1024.size a) ∧
  (∀ (k0_h9 : k0_cond9 k0_t1 arg34_r0 = 1#1), ∀ a, (k0_off31 arg34_r0) a + S256x1024.size a ≤ S1024x1024.size a) ∧
  (∀ (k0_h19 : k0_cond19 k0_t1 arg34_r0 = 1#1), ∀ a, (k0_off42 arg22_r0) a + S1.size a ≤ S2.size a) ∧
  (∀ (k0_h19 : k0_cond19 k0_t1 arg34_r0 = 1#1), ∀ a, (k0_off43 arg34_r0) a + S4096x128.size a ≤ S16384x128.size a) ∧
  (∀ (k0_h19 : k0_cond19 k0_t1 arg34_r0 = 1#1), ∀ a, (k0_off44 arg22_r0) a + S1x4096x128.size a ≤ S2x4096x128.size a) ∧
  (∀ (k0_h20 : k0_cond20 k0_t1 arg34_r0 = 1#1), ∀ a, (k0_off45 arg24_r0) a + S1.size a ≤ S2.size a) ∧
  (∀ (k0_h20 : k0_cond20 k0_t1 arg34_r0 = 1#1), ∀ a, (k0_off46 arg34_r0) a + S4096x128.size a ≤ S16384x128.size a) ∧
  (∀ (k0_h20 : k0_cond20 k0_t1 arg34_r0 = 1#1), ∀ a, (k0_off47 arg24_r0) a + S1x4096x128.size a ≤ S2x4096x128.size a) ∧
  (∀ (k0_h21 : k0_cond21 k0_t1 arg34_r0 = 1#1), ∀ a, (k0_off48 arg26_r0) a + S1.size a ≤ S2.size a) ∧
  (∀ (k0_h21 : k0_cond21 k0_t1 arg34_r0 = 1#1), ∀ a, (k0_off49 arg34_r0) a + S512x1024.size a ≤ S2048x1024.size a) ∧
  (∀ (k0_h21 : k0_cond21 k0_t1 arg34_r0 = 1#1), ∀ a, (k0_off50 arg26_r0) a + S1x512x1024.size a ≤ S2x512x1024.size a) ∧
  (∀ (k0_h21 : k0_cond21 k0_t1 arg34_r0 = 1#1), ∀ (hinb : ∀ a, (k0_off50 arg26_r0) a + S1x512x1024.size a ≤ S2x512x1024.size a), (Rect.unit (s := S2x512x1024) (k0_off50 arg26_r0) S1x512x1024.size hinb).WholeWords (EltTy.packing .bf16)) ∧
  (∀ (k0_h21 : k0_cond21 k0_t1 arg34_r0 = 1#1), ∀ (hinb : ∀ a, (k0_off49 arg34_r0) a + S512x1024.size a ≤ S2048x1024.size a), (Rect.unit (s := S2048x1024) (k0_off49 arg34_r0) S512x1024.size hinb).WholeWords (EltTy.packing .bf16)) ∧
  (∀ (k0_h22 : k0_cond22 k0_t1 arg34_r0 = 1#1), ∀ a, (k0_off51 arg28_r0) a + S1.size a ≤ S2.size a) ∧
  (∀ (k0_h22 : k0_cond22 k0_t1 arg34_r0 = 1#1), ∀ a, (k0_off52 arg34_r0) a + S512x1024.size a ≤ S2048x1024.size a) ∧
  (∀ (k0_h22 : k0_cond22 k0_t1 arg34_r0 = 1#1), ∀ a, (k0_off53 arg28_r0) a + S1x512x1024.size a ≤ S2x512x1024.size a)
def k0_chk1_1 (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) : Prop :=
  (∀ (k0_h22 : k0_cond22 k0_t1 arg34_r0 = 1#1), ∀ (hinb : ∀ a, (k0_off53 arg28_r0) a + S1x512x1024.size a ≤ S2x512x1024.size a), (Rect.unit (s := S2x512x1024) (k0_off53 arg28_r0) S1x512x1024.size hinb).WholeWords (EltTy.packing .bf16)) ∧
  (∀ (k0_h22 : k0_cond22 k0_t1 arg34_r0 = 1#1), ∀ (hinb : ∀ a, (k0_off52 arg34_r0) a + S512x1024.size a ≤ S2048x1024.size a), (Rect.unit (s := S2048x1024) (k0_off52 arg34_r0) S512x1024.size hinb).WholeWords (EltTy.packing .bf16)) ∧
  (∀ (k0_h23 : k0_cond23 k0_t1 arg34_r0 = 1#1), ∀ a, (k0_off54 arg30_r0) a + S1.size a ≤ S2.size a) ∧
  (∀ (k0_h23 : k0_cond23 k0_t1 arg34_r0 = 1#1), ∀ a, (k0_off55 arg34_r0) a + S256x2304.size a ≤ S1024x2304.size a) ∧
  (∀ (k0_h23 : k0_cond23 k0_t1 arg34_r0 = 1#1), ∀ a, (k0_off56 arg30_r0) a + S1x256x2304.size a ≤ S2x256x2304.size a) ∧
  (∀ (k0_h23 : k0_cond23 k0_t1 arg34_r0 = 1#1), ∀ (hinb : ∀ a, (k0_off56 arg30_r0) a + S1x256x2304.size a ≤ S2x256x2304.size a), (Rect.unit (s := S2x256x2304) (k0_off56 arg30_r0) S1x256x2304.size hinb).WholeWords (EltTy.packing .bf16)) ∧
  (∀ (k0_h23 : k0_cond23 k0_t1 arg34_r0 = 1#1), ∀ (hinb : ∀ a, (k0_off55 arg34_r0) a + S256x2304.size a ≤ S1024x2304.size a), (Rect.unit (s := S1024x2304) (k0_off55 arg34_r0) S256x2304.size hinb).WholeWords (EltTy.packing .bf16)) ∧
  (∀ (k0_h24 : k0_cond24 k0_t1 arg34_r0 = 1#1), ∀ a, (k0_off57 arg32_r0) a + S1.size a ≤ S2.size a) ∧
  (∀ (k0_h24 : k0_cond24 k0_t1 arg34_r0 = 1#1), ∀ a, (k0_off58 arg34_r0) a + S256x1024.size a ≤ S1024x1024.size a) ∧
  (∀ (k0_h24 : k0_cond24 k0_t1 arg34_r0 = 1#1), ∀ a, (k0_off59 arg32_r0) a + S1x256x1024.size a ≤ S2x256x1024.size a) ∧
  (∀ (k0_h24 : k0_cond24 k0_t1 arg34_r0 = 1#1), ∀ (hinb : ∀ a, (k0_off59 arg32_r0) a + S1x256x1024.size a ≤ S2x256x1024.size a), (Rect.unit (s := S2x256x1024) (k0_off59 arg32_r0) S1x256x1024.size hinb).WholeWords (EltTy.packing .bf16)) ∧
  (∀ (k0_h24 : k0_cond24 k0_t1 arg34_r0 = 1#1), ∀ (hinb : ∀ a, (k0_off58 arg34_r0) a + S256x1024.size a ≤ S1024x1024.size a), (Rect.unit (s := S1024x1024) (k0_off58 arg34_r0) S256x1024.size hinb).WholeWords (EltTy.packing .bf16)) ∧
  (∀ (k0_h28 : k0_cond28 k0_t1 arg34_r0 = 1#1), ∀ a, (k0_off60 arg23_r0) a + S1.size a ≤ S2.size a) ∧
  (∀ (k0_h28 : k0_cond28 k0_t1 arg34_r0 = 1#1), ∀ a, (k0_off61 arg34_r0) a + S4096x128.size a ≤ S16384x128.size a) ∧
  (∀ (k0_h28 : k0_cond28 k0_t1 arg34_r0 = 1#1), ∀ a, (k0_off62 arg23_r0) a + S1x4096x128.size a ≤ S2x4096x128.size a) ∧
  (∀ (k0_h29 : k0_cond29 k0_t1 arg34_r0 = 1#1), ∀ a, (k0_off63 arg25_r0) a + S1.size a ≤ S2.size a) ∧
  (∀ (k0_h29 : k0_cond29 k0_t1 arg34_r0 = 1#1), ∀ a, (k0_off64 arg34_r0) a + S4096x128.size a ≤ S16384x128.size a) ∧
  (∀ (k0_h29 : k0_cond29 k0_t1 arg34_r0 = 1#1), ∀ a, (k0_off65 arg25_r0) a + S1x4096x128.size a ≤ S2x4096x128.size a) ∧
  (∀ (k0_h30 : k0_cond30 k0_t1 arg34_r0 = 1#1), ∀ a, (k0_off66 arg27_r0) a + S1.size a ≤ S2.size a) ∧
  (∀ (k0_h30 : k0_cond30 k0_t1 arg34_r0 = 1#1), ∀ a, (k0_off67 arg34_r0) a + S512x1024.size a ≤ S2048x1024.size a) ∧
  (∀ (k0_h30 : k0_cond30 k0_t1 arg34_r0 = 1#1), ∀ a, (k0_off68 arg27_r0) a + S1x512x1024.size a ≤ S2x512x1024.size a) ∧
  (∀ (k0_h30 : k0_cond30 k0_t1 arg34_r0 = 1#1), ∀ (hinb : ∀ a, (k0_off68 arg27_r0) a + S1x512x1024.size a ≤ S2x512x1024.size a), (Rect.unit (s := S2x512x1024) (k0_off68 arg27_r0) S1x512x1024.size hinb).WholeWords (EltTy.packing .bf16)) ∧
  (∀ (k0_h30 : k0_cond30 k0_t1 arg34_r0 = 1#1), ∀ (hinb : ∀ a, (k0_off67 arg34_r0) a + S512x1024.size a ≤ S2048x1024.size a), (Rect.unit (s := S2048x1024) (k0_off67 arg34_r0) S512x1024.size hinb).WholeWords (EltTy.packing .bf16)) ∧
  (∀ (k0_h31 : k0_cond31 k0_t1 arg34_r0 = 1#1), ∀ a, (k0_off69 arg29_r0) a + S1.size a ≤ S2.size a) ∧
  (∀ (k0_h31 : k0_cond31 k0_t1 arg34_r0 = 1#1), ∀ a, (k0_off70 arg34_r0) a + S512x1024.size a ≤ S2048x1024.size a) ∧
  (∀ (k0_h31 : k0_cond31 k0_t1 arg34_r0 = 1#1), ∀ a, (k0_off71 arg29_r0) a + S1x512x1024.size a ≤ S2x512x1024.size a) ∧
  (∀ (k0_h31 : k0_cond31 k0_t1 arg34_r0 = 1#1), ∀ (hinb : ∀ a, (k0_off71 arg29_r0) a + S1x512x1024.size a ≤ S2x512x1024.size a), (Rect.unit (s := S2x512x1024) (k0_off71 arg29_r0) S1x512x1024.size hinb).WholeWords (EltTy.packing .bf16)) ∧
  (∀ (k0_h31 : k0_cond31 k0_t1 arg34_r0 = 1#1), ∀ (hinb : ∀ a, (k0_off70 arg34_r0) a + S512x1024.size a ≤ S2048x1024.size a), (Rect.unit (s := S2048x1024) (k0_off70 arg34_r0) S512x1024.size hinb).WholeWords (EltTy.packing .bf16)) ∧
  (∀ (k0_h32 : k0_cond32 k0_t1 arg34_r0 = 1#1), ∀ a, (k0_off72 arg31_r0) a + S1.size a ≤ S2.size a) ∧
  (∀ (k0_h32 : k0_cond32 k0_t1 arg34_r0 = 1#1), ∀ a, (k0_off73 arg34_r0) a + S256x2304.size a ≤ S1024x2304.size a) ∧
  (∀ (k0_h32 : k0_cond32 k0_t1 arg34_r0 = 1#1), ∀ a, (k0_off74 arg31_r0) a + S1x256x2304.size a ≤ S2x256x2304.size a) ∧
  (∀ (k0_h32 : k0_cond32 k0_t1 arg34_r0 = 1#1), ∀ (hinb : ∀ a, (k0_off74 arg31_r0) a + S1x256x2304.size a ≤ S2x256x2304.size a), (Rect.unit (s := S2x256x2304) (k0_off74 arg31_r0) S1x256x2304.size hinb).WholeWords (EltTy.packing .bf16))
def k0_chk1_2 (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) : Prop :=
  (∀ (k0_h32 : k0_cond32 k0_t1 arg34_r0 = 1#1), ∀ (hinb : ∀ a, (k0_off73 arg34_r0) a + S256x2304.size a ≤ S1024x2304.size a), (Rect.unit (s := S1024x2304) (k0_off73 arg34_r0) S256x2304.size hinb).WholeWords (EltTy.packing .bf16)) ∧
  (∀ (k0_h33 : k0_cond33 k0_t1 arg34_r0 = 1#1), ∀ a, (k0_off75 arg33_r0) a + S1.size a ≤ S2.size a) ∧
  (∀ (k0_h33 : k0_cond33 k0_t1 arg34_r0 = 1#1), ∀ a, (k0_off76 arg34_r0) a + S256x1024.size a ≤ S1024x1024.size a) ∧
  (∀ (k0_h33 : k0_cond33 k0_t1 arg34_r0 = 1#1), ∀ a, (k0_off77 arg33_r0) a + S1x256x1024.size a ≤ S2x256x1024.size a) ∧
  (∀ (k0_h33 : k0_cond33 k0_t1 arg34_r0 = 1#1), ∀ (hinb : ∀ a, (k0_off77 arg33_r0) a + S1x256x1024.size a ≤ S2x256x1024.size a), (Rect.unit (s := S2x256x1024) (k0_off77 arg33_r0) S1x256x1024.size hinb).WholeWords (EltTy.packing .bf16)) ∧
  (∀ (k0_h33 : k0_cond33 k0_t1 arg34_r0 = 1#1), ∀ (hinb : ∀ a, (k0_off76 arg34_r0) a + S256x1024.size a ≤ S1024x1024.size a), (Rect.unit (s := S1024x1024) (k0_off76 arg34_r0) S256x1024.size hinb).WholeWords (EltTy.packing .bf16))
def k0_chk1 (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) : Prop :=
  k0_chk1_0 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 ∧
  k0_chk1_1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 ∧
  k0_chk1_2 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0
theorem k0_off14_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h4 : k0_cond4 k0_t1 arg34_r0 = 1#1), ∀ a, (k0_off14 arg13_r0) a + S1.size a ≤ S3.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h4 => k0_hw1.1.1 k0_h4
theorem k0_off15_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h4 : k0_cond4 k0_t1 arg34_r0 = 1#1), ∀ a, (k0_off15 arg13_r0) a + S1x512x1024.size a ≤ S3x512x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h4 => k0_hw1.1.2.1 k0_h4
theorem k0_off16_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h4 : k0_cond4 k0_t1 arg34_r0 = 1#1), ∀ a, (k0_off16 arg34_r0) a + S512x1024.size a ≤ S2048x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h4 => k0_hw1.1.2.2.1 k0_h4
theorem k0_off17_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h5 : k0_cond5 k0_t1 arg34_r0 = 1#1), ∀ a, (k0_off17 arg18_r0) a + S1.size a ≤ S3.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h5 => k0_hw1.1.2.2.2.1 k0_h5
theorem k0_off18_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h5 : k0_cond5 k0_t1 arg34_r0 = 1#1), ∀ a, (k0_off18 arg18_r0) a + S1x256x2304.size a ≤ S3x256x2304.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h5 => k0_hw1.1.2.2.2.2.1 k0_h5
theorem k0_off19_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h5 : k0_cond5 k0_t1 arg34_r0 = 1#1), ∀ a, (k0_off19 arg34_r0) a + S256x2304.size a ≤ S1024x2304.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h5 => k0_hw1.1.2.2.2.2.2.1 k0_h5
theorem k0_off20_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h6 : k0_cond6 k0_t1 arg34_r0 = 1#1), ∀ a, (k0_off20 arg20_r0) a + S1.size a ≤ S3.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h6 => k0_hw1.1.2.2.2.2.2.2.1 k0_h6
theorem k0_off21_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h6 : k0_cond6 k0_t1 arg34_r0 = 1#1), ∀ a, (k0_off21 arg20_r0) a + S1x256x1024.size a ≤ S3x256x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h6 => k0_hw1.1.2.2.2.2.2.2.2.1 k0_h6
theorem k0_off22_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h6 : k0_cond6 k0_t1 arg34_r0 = 1#1), ∀ a, (k0_off22 arg34_r0) a + S256x1024.size a ≤ S1024x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h6 => k0_hw1.1.2.2.2.2.2.2.2.2.1 k0_h6
theorem k0_off23_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h7 : k0_cond7 k0_t1 arg34_r0 = 1#1), ∀ a, (k0_off23 arg14_r0) a + S1.size a ≤ S3.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h7 => k0_hw1.1.2.2.2.2.2.2.2.2.2.1 k0_h7
theorem k0_off24_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h7 : k0_cond7 k0_t1 arg34_r0 = 1#1), ∀ a, (k0_off24 arg14_r0) a + S1x512x1024.size a ≤ S3x512x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h7 => k0_hw1.1.2.2.2.2.2.2.2.2.2.2.1 k0_h7
theorem k0_off25_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h7 : k0_cond7 k0_t1 arg34_r0 = 1#1), ∀ a, (k0_off25 arg34_r0) a + S512x1024.size a ≤ S2048x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h7 => k0_hw1.1.2.2.2.2.2.2.2.2.2.2.2.1 k0_h7
theorem k0_off26_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h8 : k0_cond8 k0_t1 arg34_r0 = 1#1), ∀ a, (k0_off26 arg19_r0) a + S1.size a ≤ S3.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h8 => k0_hw1.1.2.2.2.2.2.2.2.2.2.2.2.2.1 k0_h8
theorem k0_off27_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h8 : k0_cond8 k0_t1 arg34_r0 = 1#1), ∀ a, (k0_off27 arg19_r0) a + S1x256x2304.size a ≤ S3x256x2304.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h8 => k0_hw1.1.2.2.2.2.2.2.2.2.2.2.2.2.2.1 k0_h8
theorem k0_off28_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h8 : k0_cond8 k0_t1 arg34_r0 = 1#1), ∀ a, (k0_off28 arg34_r0) a + S256x2304.size a ≤ S1024x2304.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h8 => k0_hw1.1.2.2.2.2.2.2.2.2.2.2.2.2.2.2.1 k0_h8
theorem k0_off29_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h9 : k0_cond9 k0_t1 arg34_r0 = 1#1), ∀ a, (k0_off29 arg21_r0) a + S1.size a ≤ S3.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h9 => k0_hw1.1.2.2.2.2.2.2.2.2.2.2.2.2.2.2.2.1 k0_h9
theorem k0_off30_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h9 : k0_cond9 k0_t1 arg34_r0 = 1#1), ∀ a, (k0_off30 arg21_r0) a + S1x256x1024.size a ≤ S3x256x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h9 => k0_hw1.1.2.2.2.2.2.2.2.2.2.2.2.2.2.2.2.2.1 k0_h9
theorem k0_off31_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h9 : k0_cond9 k0_t1 arg34_r0 = 1#1), ∀ a, (k0_off31 arg34_r0) a + S256x1024.size a ≤ S1024x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h9 => k0_hw1.1.2.2.2.2.2.2.2.2.2.2.2.2.2.2.2.2.2.1 k0_h9
theorem k0_off42_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h19 : k0_cond19 k0_t1 arg34_r0 = 1#1), ∀ a, (k0_off42 arg22_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h19 => k0_hw1.1.2.2.2.2.2.2.2.2.2.2.2.2.2.2.2.2.2.2.1 k0_h19
theorem k0_off43_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h19 : k0_cond19 k0_t1 arg34_r0 = 1#1), ∀ a, (k0_off43 arg34_r0) a + S4096x128.size a ≤ S16384x128.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h19 => k0_hw1.1.2.2.2.2.2.2.2.2.2.2.2.2.2.2.2.2.2.2.2.1 k0_h19
theorem k0_off44_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h19 : k0_cond19 k0_t1 arg34_r0 = 1#1), ∀ a, (k0_off44 arg22_r0) a + S1x4096x128.size a ≤ S2x4096x128.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h19 => k0_hw1.1.2.2.2.2.2.2.2.2.2.2.2.2.2.2.2.2.2.2.2.2.1 k0_h19
theorem k0_off45_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h20 : k0_cond20 k0_t1 arg34_r0 = 1#1), ∀ a, (k0_off45 arg24_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h20 => k0_hw1.1.2.2.2.2.2.2.2.2.2.2.2.2.2.2.2.2.2.2.2.2.2.1 k0_h20
theorem k0_off46_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h20 : k0_cond20 k0_t1 arg34_r0 = 1#1), ∀ a, (k0_off46 arg34_r0) a + S4096x128.size a ≤ S16384x128.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h20 => k0_hw1.1.2.2.2.2.2.2.2.2.2.2.2.2.2.2.2.2.2.2.2.2.2.2.1 k0_h20
theorem k0_off47_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h20 : k0_cond20 k0_t1 arg34_r0 = 1#1), ∀ a, (k0_off47 arg24_r0) a + S1x4096x128.size a ≤ S2x4096x128.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h20 => k0_hw1.1.2.2.2.2.2.2.2.2.2.2.2.2.2.2.2.2.2.2.2.2.2.2.2.1 k0_h20
theorem k0_off48_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h21 : k0_cond21 k0_t1 arg34_r0 = 1#1), ∀ a, (k0_off48 arg26_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h21 => k0_hw1.1.2.2.2.2.2.2.2.2.2.2.2.2.2.2.2.2.2.2.2.2.2.2.2.2.1 k0_h21
theorem k0_off49_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h21 : k0_cond21 k0_t1 arg34_r0 = 1#1), ∀ a, (k0_off49 arg34_r0) a + S512x1024.size a ≤ S2048x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h21 => k0_hw1.1.2.2.2.2.2.2.2.2.2.2.2.2.2.2.2.2.2.2.2.2.2.2.2.2.2.1 k0_h21
theorem k0_off50_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h21 : k0_cond21 k0_t1 arg34_r0 = 1#1), ∀ a, (k0_off50 arg26_r0) a + S1x512x1024.size a ≤ S2x512x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h21 => k0_hw1.1.2.2.2.2.2.2.2.2.2.2.2.2.2.2.2.2.2.2.2.2.2.2.2.2.2.2.1 k0_h21
theorem k0_off50_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h21 : k0_cond21 k0_t1 arg34_r0 = 1#1), (Rect.unit (s := S2x512x1024) (k0_off50 arg26_r0) S1x512x1024.size (k0_off50_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h21)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h21 => k0_hw1.1.2.2.2.2.2.2.2.2.2.2.2.2.2.2.2.2.2.2.2.2.2.2.2.2.2.2.2.1 k0_h21 (k0_off50_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h21)
theorem k0_off49_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h21 : k0_cond21 k0_t1 arg34_r0 = 1#1), (Rect.unit (s := S2048x1024) (k0_off49 arg34_r0) S512x1024.size (k0_off49_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h21)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h21 => k0_hw1.1.2.2.2.2.2.2.2.2.2.2.2.2.2.2.2.2.2.2.2.2.2.2.2.2.2.2.2.2.1 k0_h21 (k0_off49_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h21)
theorem k0_off51_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h22 : k0_cond22 k0_t1 arg34_r0 = 1#1), ∀ a, (k0_off51 arg28_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h22 => k0_hw1.1.2.2.2.2.2.2.2.2.2.2.2.2.2.2.2.2.2.2.2.2.2.2.2.2.2.2.2.2.2.1 k0_h22
theorem k0_off52_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h22 : k0_cond22 k0_t1 arg34_r0 = 1#1), ∀ a, (k0_off52 arg34_r0) a + S512x1024.size a ≤ S2048x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h22 => k0_hw1.1.2.2.2.2.2.2.2.2.2.2.2.2.2.2.2.2.2.2.2.2.2.2.2.2.2.2.2.2.2.2.1 k0_h22
theorem k0_off53_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h22 : k0_cond22 k0_t1 arg34_r0 = 1#1), ∀ a, (k0_off53 arg28_r0) a + S1x512x1024.size a ≤ S2x512x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h22 => k0_hw1.1.2.2.2.2.2.2.2.2.2.2.2.2.2.2.2.2.2.2.2.2.2.2.2.2.2.2.2.2.2.2.2 k0_h22
theorem k0_off53_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h22 : k0_cond22 k0_t1 arg34_r0 = 1#1), (Rect.unit (s := S2x512x1024) (k0_off53 arg28_r0) S1x512x1024.size (k0_off53_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h22)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h22 => k0_hw1.2.1.1 k0_h22 (k0_off53_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h22)
theorem k0_off52_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h22 : k0_cond22 k0_t1 arg34_r0 = 1#1), (Rect.unit (s := S2048x1024) (k0_off52 arg34_r0) S512x1024.size (k0_off52_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h22)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h22 => k0_hw1.2.1.2.1 k0_h22 (k0_off52_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h22)
theorem k0_off54_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h23 : k0_cond23 k0_t1 arg34_r0 = 1#1), ∀ a, (k0_off54 arg30_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h23 => k0_hw1.2.1.2.2.1 k0_h23
theorem k0_off55_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h23 : k0_cond23 k0_t1 arg34_r0 = 1#1), ∀ a, (k0_off55 arg34_r0) a + S256x2304.size a ≤ S1024x2304.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h23 => k0_hw1.2.1.2.2.2.1 k0_h23
theorem k0_off56_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h23 : k0_cond23 k0_t1 arg34_r0 = 1#1), ∀ a, (k0_off56 arg30_r0) a + S1x256x2304.size a ≤ S2x256x2304.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h23 => k0_hw1.2.1.2.2.2.2.1 k0_h23
theorem k0_off56_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h23 : k0_cond23 k0_t1 arg34_r0 = 1#1), (Rect.unit (s := S2x256x2304) (k0_off56 arg30_r0) S1x256x2304.size (k0_off56_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h23)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h23 => k0_hw1.2.1.2.2.2.2.2.1 k0_h23 (k0_off56_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h23)
theorem k0_off55_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h23 : k0_cond23 k0_t1 arg34_r0 = 1#1), (Rect.unit (s := S1024x2304) (k0_off55 arg34_r0) S256x2304.size (k0_off55_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h23)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h23 => k0_hw1.2.1.2.2.2.2.2.2.1 k0_h23 (k0_off55_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h23)
theorem k0_off57_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h24 : k0_cond24 k0_t1 arg34_r0 = 1#1), ∀ a, (k0_off57 arg32_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h24 => k0_hw1.2.1.2.2.2.2.2.2.2.1 k0_h24
theorem k0_off58_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h24 : k0_cond24 k0_t1 arg34_r0 = 1#1), ∀ a, (k0_off58 arg34_r0) a + S256x1024.size a ≤ S1024x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h24 => k0_hw1.2.1.2.2.2.2.2.2.2.2.1 k0_h24
theorem k0_off59_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h24 : k0_cond24 k0_t1 arg34_r0 = 1#1), ∀ a, (k0_off59 arg32_r0) a + S1x256x1024.size a ≤ S2x256x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h24 => k0_hw1.2.1.2.2.2.2.2.2.2.2.2.1 k0_h24
theorem k0_off59_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h24 : k0_cond24 k0_t1 arg34_r0 = 1#1), (Rect.unit (s := S2x256x1024) (k0_off59 arg32_r0) S1x256x1024.size (k0_off59_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h24)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h24 => k0_hw1.2.1.2.2.2.2.2.2.2.2.2.2.1 k0_h24 (k0_off59_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h24)
theorem k0_off58_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h24 : k0_cond24 k0_t1 arg34_r0 = 1#1), (Rect.unit (s := S1024x1024) (k0_off58 arg34_r0) S256x1024.size (k0_off58_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h24)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h24 => k0_hw1.2.1.2.2.2.2.2.2.2.2.2.2.2.1 k0_h24 (k0_off58_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h24)
theorem k0_off60_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h28 : k0_cond28 k0_t1 arg34_r0 = 1#1), ∀ a, (k0_off60 arg23_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h28 => k0_hw1.2.1.2.2.2.2.2.2.2.2.2.2.2.2.1 k0_h28
theorem k0_off61_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h28 : k0_cond28 k0_t1 arg34_r0 = 1#1), ∀ a, (k0_off61 arg34_r0) a + S4096x128.size a ≤ S16384x128.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h28 => k0_hw1.2.1.2.2.2.2.2.2.2.2.2.2.2.2.2.1 k0_h28
theorem k0_off62_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h28 : k0_cond28 k0_t1 arg34_r0 = 1#1), ∀ a, (k0_off62 arg23_r0) a + S1x4096x128.size a ≤ S2x4096x128.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h28 => k0_hw1.2.1.2.2.2.2.2.2.2.2.2.2.2.2.2.2.1 k0_h28
theorem k0_off63_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h29 : k0_cond29 k0_t1 arg34_r0 = 1#1), ∀ a, (k0_off63 arg25_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h29 => k0_hw1.2.1.2.2.2.2.2.2.2.2.2.2.2.2.2.2.2.1 k0_h29
theorem k0_off64_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h29 : k0_cond29 k0_t1 arg34_r0 = 1#1), ∀ a, (k0_off64 arg34_r0) a + S4096x128.size a ≤ S16384x128.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h29 => k0_hw1.2.1.2.2.2.2.2.2.2.2.2.2.2.2.2.2.2.2.1 k0_h29
theorem k0_off65_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h29 : k0_cond29 k0_t1 arg34_r0 = 1#1), ∀ a, (k0_off65 arg25_r0) a + S1x4096x128.size a ≤ S2x4096x128.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h29 => k0_hw1.2.1.2.2.2.2.2.2.2.2.2.2.2.2.2.2.2.2.2.1 k0_h29
theorem k0_off66_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h30 : k0_cond30 k0_t1 arg34_r0 = 1#1), ∀ a, (k0_off66 arg27_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h30 => k0_hw1.2.1.2.2.2.2.2.2.2.2.2.2.2.2.2.2.2.2.2.2.1 k0_h30
theorem k0_off67_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h30 : k0_cond30 k0_t1 arg34_r0 = 1#1), ∀ a, (k0_off67 arg34_r0) a + S512x1024.size a ≤ S2048x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h30 => k0_hw1.2.1.2.2.2.2.2.2.2.2.2.2.2.2.2.2.2.2.2.2.2.1 k0_h30
theorem k0_off68_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h30 : k0_cond30 k0_t1 arg34_r0 = 1#1), ∀ a, (k0_off68 arg27_r0) a + S1x512x1024.size a ≤ S2x512x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h30 => k0_hw1.2.1.2.2.2.2.2.2.2.2.2.2.2.2.2.2.2.2.2.2.2.2.1 k0_h30
theorem k0_off68_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h30 : k0_cond30 k0_t1 arg34_r0 = 1#1), (Rect.unit (s := S2x512x1024) (k0_off68 arg27_r0) S1x512x1024.size (k0_off68_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h30)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h30 => k0_hw1.2.1.2.2.2.2.2.2.2.2.2.2.2.2.2.2.2.2.2.2.2.2.2.1 k0_h30 (k0_off68_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h30)
theorem k0_off67_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h30 : k0_cond30 k0_t1 arg34_r0 = 1#1), (Rect.unit (s := S2048x1024) (k0_off67 arg34_r0) S512x1024.size (k0_off67_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h30)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h30 => k0_hw1.2.1.2.2.2.2.2.2.2.2.2.2.2.2.2.2.2.2.2.2.2.2.2.2.1 k0_h30 (k0_off67_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h30)
theorem k0_off69_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h31 : k0_cond31 k0_t1 arg34_r0 = 1#1), ∀ a, (k0_off69 arg29_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h31 => k0_hw1.2.1.2.2.2.2.2.2.2.2.2.2.2.2.2.2.2.2.2.2.2.2.2.2.2.1 k0_h31
theorem k0_off70_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h31 : k0_cond31 k0_t1 arg34_r0 = 1#1), ∀ a, (k0_off70 arg34_r0) a + S512x1024.size a ≤ S2048x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h31 => k0_hw1.2.1.2.2.2.2.2.2.2.2.2.2.2.2.2.2.2.2.2.2.2.2.2.2.2.2.1 k0_h31
theorem k0_off71_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h31 : k0_cond31 k0_t1 arg34_r0 = 1#1), ∀ a, (k0_off71 arg29_r0) a + S1x512x1024.size a ≤ S2x512x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h31 => k0_hw1.2.1.2.2.2.2.2.2.2.2.2.2.2.2.2.2.2.2.2.2.2.2.2.2.2.2.2.1 k0_h31
theorem k0_off71_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h31 : k0_cond31 k0_t1 arg34_r0 = 1#1), (Rect.unit (s := S2x512x1024) (k0_off71 arg29_r0) S1x512x1024.size (k0_off71_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h31)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h31 => k0_hw1.2.1.2.2.2.2.2.2.2.2.2.2.2.2.2.2.2.2.2.2.2.2.2.2.2.2.2.2.1 k0_h31 (k0_off71_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h31)
theorem k0_off70_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h31 : k0_cond31 k0_t1 arg34_r0 = 1#1), (Rect.unit (s := S2048x1024) (k0_off70 arg34_r0) S512x1024.size (k0_off70_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h31)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h31 => k0_hw1.2.1.2.2.2.2.2.2.2.2.2.2.2.2.2.2.2.2.2.2.2.2.2.2.2.2.2.2.2.1 k0_h31 (k0_off70_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h31)
theorem k0_off72_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h32 : k0_cond32 k0_t1 arg34_r0 = 1#1), ∀ a, (k0_off72 arg31_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h32 => k0_hw1.2.1.2.2.2.2.2.2.2.2.2.2.2.2.2.2.2.2.2.2.2.2.2.2.2.2.2.2.2.2.1 k0_h32
theorem k0_off73_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h32 : k0_cond32 k0_t1 arg34_r0 = 1#1), ∀ a, (k0_off73 arg34_r0) a + S256x2304.size a ≤ S1024x2304.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h32 => k0_hw1.2.1.2.2.2.2.2.2.2.2.2.2.2.2.2.2.2.2.2.2.2.2.2.2.2.2.2.2.2.2.2.1 k0_h32
theorem k0_off74_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h32 : k0_cond32 k0_t1 arg34_r0 = 1#1), ∀ a, (k0_off74 arg31_r0) a + S1x256x2304.size a ≤ S2x256x2304.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h32 => k0_hw1.2.1.2.2.2.2.2.2.2.2.2.2.2.2.2.2.2.2.2.2.2.2.2.2.2.2.2.2.2.2.2.2.1 k0_h32
theorem k0_off74_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h32 : k0_cond32 k0_t1 arg34_r0 = 1#1), (Rect.unit (s := S2x256x2304) (k0_off74 arg31_r0) S1x256x2304.size (k0_off74_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h32)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h32 => k0_hw1.2.1.2.2.2.2.2.2.2.2.2.2.2.2.2.2.2.2.2.2.2.2.2.2.2.2.2.2.2.2.2.2.2 k0_h32 (k0_off74_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h32)
theorem k0_off73_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h32 : k0_cond32 k0_t1 arg34_r0 = 1#1), (Rect.unit (s := S1024x2304) (k0_off73 arg34_r0) S256x2304.size (k0_off73_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h32)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h32 => k0_hw1.2.2.1 k0_h32 (k0_off73_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h32)
theorem k0_off75_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h33 : k0_cond33 k0_t1 arg34_r0 = 1#1), ∀ a, (k0_off75 arg33_r0) a + S1.size a ≤ S2.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h33 => k0_hw1.2.2.2.1 k0_h33
theorem k0_off76_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h33 : k0_cond33 k0_t1 arg34_r0 = 1#1), ∀ a, (k0_off76 arg34_r0) a + S256x1024.size a ≤ S1024x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h33 => k0_hw1.2.2.2.2.1 k0_h33
theorem k0_off77_inb : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h33 : k0_cond33 k0_t1 arg34_r0 = 1#1), ∀ a, (k0_off77 arg33_r0) a + S1x256x1024.size a ≤ S2x256x1024.size a := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h33 => k0_hw1.2.2.2.2.2.1 k0_h33
theorem k0_off77_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h33 : k0_cond33 k0_t1 arg34_r0 = 1#1), (Rect.unit (s := S2x256x1024) (k0_off77 arg33_r0) S1x256x1024.size (k0_off77_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h33)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h33 => k0_hw1.2.2.2.2.2.2.1 k0_h33 (k0_off77_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h33)
theorem k0_off76_wordsbf16 : ∀ (k0_t1 : Fin k0_t1_loop.trips) (arg13_r0 : BitVec 32) (arg14_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (k0_hw1 : k0_chk1 k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0), ∀ (k0_h33 : k0_cond33 k0_t1 arg34_r0 = 1#1), (Rect.unit (s := S1024x1024) (k0_off76 arg34_r0) S256x1024.size (k0_off76_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h33)).WholeWords (EltTy.packing .bf16) := fun k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h33 => k0_hw1.2.2.2.2.2.2.2 k0_h33 (k0_off76_inb k0_t1 arg13_r0 arg14_r0 arg18_r0 arg19_r0 arg20_r0 arg21_r0 arg22_r0 arg23_r0 arg24_r0 arg25_r0 arg26_r0 arg27_r0 arg28_r0 arg29_r0 arg30_r0 arg31_r0 arg32_r0 arg33_r0 arg34_r0 k0_hw1 k0_h33)

def k0_off78 (v70_10_r0 : BitVec 32) : Fin 1 → Nat :=
  let c2_i32_r0 : BitVec 32 := 2#32
  let v96_r0 : BitVec 32 := Scalar.remui v70_10_r0 c2_i32_r0
  ![v96_r0.toNat]

def k0_off79 (v70_21_r0 : BitVec 32) : Fin 2 → Nat :=
  let c4096_i32_r0 : BitVec 32 := 4096#32
  let true_93_r0 : BitVec 1 := 1#1
  let c1_i32_92_r0 : BitVec 32 := 1#32
  let v71_r0 : BitVec 32 := Scalar.subi v70_21_r0 c1_i32_92_r0
  let v72_r0 : BitVec 32 := Scalar.select true_93_r0 v71_r0 v70_21_r0
  let c_m1_i32_94_r0 : BitVec 32 := 4294967295#32
  let v73_r0 : BitVec 1 := Scalar.cmpi .eq v72_r0 c_m1_i32_94_r0
  let c3_i32_95_r0 : BitVec 32 := 3#32
  let v74_r0 : BitVec 32 := Scalar.select v73_r0 c3_i32_95_r0 v72_r0
  let c0_i32_96_r0 : BitVec 32 := 0#32
  let v75_r0 : BitVec 32 := Scalar.addi v74_r0 c0_i32_96_r0
  let v97_r0 : BitVec 32 := Scalar.muli c4096_i32_r0 v75_r0
  let c0_i32_117_r0 : BitVec 32 := 0#32
  ![v97_r0.toNat, 0]

def k0_off80 (v70_10_r0 : BitVec 32) : Fin 3 → Nat :=
  let c2_i32_r0 : BitVec 32 := 2#32
  let v96_r0 : BitVec 32 := Scalar.remui v70_10_r0 c2_i32_r0
  let c0_i32_118_r0 : BitVec 32 := 0#32
  let c0_i32_119_r0 : BitVec 32 := 0#32
  ![v96_r0.toNat, 0, 0]

def k0_chk11 (v70_10_r0 : BitVec 32) : Prop :=
  (∀ a, (k0_off78 v70_10_r0) a + S1.size a ≤ S2.size a) ∧
  (∀ a, (k0_off80 v70_10_r0) a + S1x4096x128.size a ≤ S2x4096x128.size a)
theorem k0_off78_inb : ∀ (v70_10_r0 : BitVec 32) (k0_hw11 : k0_chk11 v70_10_r0), ∀ a, (k0_off78 v70_10_r0) a + S1.size a ≤ S2.size a := fun v70_10_r0 k0_hw11 => k0_hw11.1
theorem k0_off80_inb : ∀ (v70_10_r0 : BitVec 32) (k0_hw11 : k0_chk11 v70_10_r0), ∀ a, (k0_off80 v70_10_r0) a + S1x4096x128.size a ≤ S2x4096x128.size a := fun v70_10_r0 k0_hw11 => k0_hw11.2

def k0_off81 (v70_12_r0 : BitVec 32) : Fin 1 → Nat :=
  let c2_i32_120_r0 : BitVec 32 := 2#32
  let v103_r0 : BitVec 32 := Scalar.remui v70_12_r0 c2_i32_120_r0
  ![v103_r0.toNat]

def k0_off82 (v70_21_r0 : BitVec 32) : Fin 2 → Nat :=
  let c4096_i32_121_r0 : BitVec 32 := 4096#32
  let true_93_r0 : BitVec 1 := 1#1
  let c1_i32_92_r0 : BitVec 32 := 1#32
  let v71_r0 : BitVec 32 := Scalar.subi v70_21_r0 c1_i32_92_r0
  let v72_r0 : BitVec 32 := Scalar.select true_93_r0 v71_r0 v70_21_r0
  let c_m1_i32_94_r0 : BitVec 32 := 4294967295#32
  let v73_r0 : BitVec 1 := Scalar.cmpi .eq v72_r0 c_m1_i32_94_r0
  let c3_i32_95_r0 : BitVec 32 := 3#32
  let v74_r0 : BitVec 32 := Scalar.select v73_r0 c3_i32_95_r0 v72_r0
  let c0_i32_96_r0 : BitVec 32 := 0#32
  let v75_r0 : BitVec 32 := Scalar.addi v74_r0 c0_i32_96_r0
  let v104_r0 : BitVec 32 := Scalar.muli c4096_i32_121_r0 v75_r0
  let c0_i32_122_r0 : BitVec 32 := 0#32
  ![v104_r0.toNat, 0]
def k0_off83 (v70_12_r0 : BitVec 32) : Fin 3 → Nat :=
  let c2_i32_120_r0 : BitVec 32 := 2#32
  let v103_r0 : BitVec 32 := Scalar.remui v70_12_r0 c2_i32_120_r0
  let c0_i32_123_r0 : BitVec 32 := 0#32
  let c0_i32_124_r0 : BitVec 32 := 0#32
  ![v103_r0.toNat, 0, 0]

def k0_chk13 (v70_12_r0 : BitVec 32) : Prop :=
  (∀ a, (k0_off81 v70_12_r0) a + S1.size a ≤ S2.size a) ∧
  (∀ a, (k0_off83 v70_12_r0) a + S1x4096x128.size a ≤ S2x4096x128.size a)
theorem k0_off81_inb : ∀ (v70_12_r0 : BitVec 32) (k0_hw13 : k0_chk13 v70_12_r0), ∀ a, (k0_off81 v70_12_r0) a + S1.size a ≤ S2.size a := fun v70_12_r0 k0_hw13 => k0_hw13.1
theorem k0_off83_inb : ∀ (v70_12_r0 : BitVec 32) (k0_hw13 : k0_chk13 v70_12_r0), ∀ a, (k0_off83 v70_12_r0) a + S1x4096x128.size a ≤ S2x4096x128.size a := fun v70_12_r0 k0_hw13 => k0_hw13.2

def k0_off84 (v70_14_r0 : BitVec 32) : Fin 1 → Nat :=
  let c2_i32_125_r0 : BitVec 32 := 2#32
  let v110_r0 : BitVec 32 := Scalar.remui v70_14_r0 c2_i32_125_r0
  ![v110_r0.toNat]

def k0_off85 (v70_21_r0 : BitVec 32) : Fin 2 → Nat :=
  let c512_i32_r0 : BitVec 32 := 512#32
  let true_93_r0 : BitVec 1 := 1#1
  let c1_i32_92_r0 : BitVec 32 := 1#32
  let v71_r0 : BitVec 32 := Scalar.subi v70_21_r0 c1_i32_92_r0
  let v72_r0 : BitVec 32 := Scalar.select true_93_r0 v71_r0 v70_21_r0
  let c_m1_i32_94_r0 : BitVec 32 := 4294967295#32
  let v73_r0 : BitVec 1 := Scalar.cmpi .eq v72_r0 c_m1_i32_94_r0
  let c3_i32_95_r0 : BitVec 32 := 3#32
  let v74_r0 : BitVec 32 := Scalar.select v73_r0 c3_i32_95_r0 v72_r0
  let c0_i32_96_r0 : BitVec 32 := 0#32
  let v75_r0 : BitVec 32 := Scalar.addi v74_r0 c0_i32_96_r0
  let v111_r0 : BitVec 32 := Scalar.muli c512_i32_r0 v75_r0
  let c0_i32_126_r0 : BitVec 32 := 0#32
  ![v111_r0.toNat, 0]
def k0_off86 (v70_14_r0 : BitVec 32) : Fin 3 → Nat :=
  let c2_i32_125_r0 : BitVec 32 := 2#32
  let v110_r0 : BitVec 32 := Scalar.remui v70_14_r0 c2_i32_125_r0
  let c0_i32_127_r0 : BitVec 32 := 0#32
  let c0_i32_128_r0 : BitVec 32 := 0#32
  ![v110_r0.toNat, 0, 0]

def k0_chk14 (v70_14_r0 : BitVec 32) : Prop :=
  (∀ a, (k0_off84 v70_14_r0) a + S1.size a ≤ S2.size a) ∧
  (∀ a, (k0_off86 v70_14_r0) a + S1x512x1024.size a ≤ S2x512x1024.size a) ∧
  (∀ (hinb : ∀ a, (k0_off86 v70_14_r0) a + S1x512x1024.size a ≤ S2x512x1024.size a), (Rect.unit (s := S2x512x1024) (k0_off86 v70_14_r0) S1x512x1024.size hinb).WholeWords (EltTy.packing .bf16))
theorem k0_off84_inb : ∀ (v70_14_r0 : BitVec 32) (k0_hw14 : k0_chk14 v70_14_r0), ∀ a, (k0_off84 v70_14_r0) a + S1.size a ≤ S2.size a := fun v70_14_r0 k0_hw14 => k0_hw14.1
theorem k0_off86_inb : ∀ (v70_14_r0 : BitVec 32) (k0_hw14 : k0_chk14 v70_14_r0), ∀ a, (k0_off86 v70_14_r0) a + S1x512x1024.size a ≤ S2x512x1024.size a := fun v70_14_r0 k0_hw14 => k0_hw14.2.1
theorem k0_off86_wordsbf16 : ∀ (v70_14_r0 : BitVec 32) (k0_hw14 : k0_chk14 v70_14_r0), (Rect.unit (s := S2x512x1024) (k0_off86 v70_14_r0) S1x512x1024.size (k0_off86_inb v70_14_r0 k0_hw14)).WholeWords (EltTy.packing .bf16) := fun v70_14_r0 k0_hw14 => k0_hw14.2.2 (k0_off86_inb v70_14_r0 k0_hw14)

def k0_off87 (v70_16_r0 : BitVec 32) : Fin 1 → Nat :=
  let c2_i32_129_r0 : BitVec 32 := 2#32
  let v117_r0 : BitVec 32 := Scalar.remui v70_16_r0 c2_i32_129_r0
  ![v117_r0.toNat]

def k0_off88 (v70_21_r0 : BitVec 32) : Fin 2 → Nat :=
  let c512_i32_130_r0 : BitVec 32 := 512#32
  let true_93_r0 : BitVec 1 := 1#1
  let c1_i32_92_r0 : BitVec 32 := 1#32
  let v71_r0 : BitVec 32 := Scalar.subi v70_21_r0 c1_i32_92_r0
  let v72_r0 : BitVec 32 := Scalar.select true_93_r0 v71_r0 v70_21_r0
  let c_m1_i32_94_r0 : BitVec 32 := 4294967295#32
  let v73_r0 : BitVec 1 := Scalar.cmpi .eq v72_r0 c_m1_i32_94_r0
  let c3_i32_95_r0 : BitVec 32 := 3#32
  let v74_r0 : BitVec 32 := Scalar.select v73_r0 c3_i32_95_r0 v72_r0
  let c0_i32_96_r0 : BitVec 32 := 0#32
  let v75_r0 : BitVec 32 := Scalar.addi v74_r0 c0_i32_96_r0
  let v118_r0 : BitVec 32 := Scalar.muli c512_i32_130_r0 v75_r0
  let c0_i32_131_r0 : BitVec 32 := 0#32
  ![v118_r0.toNat, 0]
def k0_off89 (v70_16_r0 : BitVec 32) : Fin 3 → Nat :=
  let c2_i32_129_r0 : BitVec 32 := 2#32
  let v117_r0 : BitVec 32 := Scalar.remui v70_16_r0 c2_i32_129_r0
  let c0_i32_132_r0 : BitVec 32 := 0#32
  let c0_i32_133_r0 : BitVec 32 := 0#32
  ![v117_r0.toNat, 0, 0]

def k0_chk15 (v70_16_r0 : BitVec 32) : Prop :=
  (∀ a, (k0_off87 v70_16_r0) a + S1.size a ≤ S2.size a) ∧
  (∀ a, (k0_off89 v70_16_r0) a + S1x512x1024.size a ≤ S2x512x1024.size a) ∧
  (∀ (hinb : ∀ a, (k0_off89 v70_16_r0) a + S1x512x1024.size a ≤ S2x512x1024.size a), (Rect.unit (s := S2x512x1024) (k0_off89 v70_16_r0) S1x512x1024.size hinb).WholeWords (EltTy.packing .bf16))
theorem k0_off87_inb : ∀ (v70_16_r0 : BitVec 32) (k0_hw15 : k0_chk15 v70_16_r0), ∀ a, (k0_off87 v70_16_r0) a + S1.size a ≤ S2.size a := fun v70_16_r0 k0_hw15 => k0_hw15.1
theorem k0_off89_inb : ∀ (v70_16_r0 : BitVec 32) (k0_hw15 : k0_chk15 v70_16_r0), ∀ a, (k0_off89 v70_16_r0) a + S1x512x1024.size a ≤ S2x512x1024.size a := fun v70_16_r0 k0_hw15 => k0_hw15.2.1
theorem k0_off89_wordsbf16 : ∀ (v70_16_r0 : BitVec 32) (k0_hw15 : k0_chk15 v70_16_r0), (Rect.unit (s := S2x512x1024) (k0_off89 v70_16_r0) S1x512x1024.size (k0_off89_inb v70_16_r0 k0_hw15)).WholeWords (EltTy.packing .bf16) := fun v70_16_r0 k0_hw15 => k0_hw15.2.2 (k0_off89_inb v70_16_r0 k0_hw15)

def k0_off90 (v70_18_r0 : BitVec 32) : Fin 1 → Nat :=
  let c2_i32_134_r0 : BitVec 32 := 2#32
  let v124_r0 : BitVec 32 := Scalar.remui v70_18_r0 c2_i32_134_r0
  ![v124_r0.toNat]

def k0_off91 (v70_21_r0 : BitVec 32) : Fin 2 → Nat :=
  let c256_i32_r0 : BitVec 32 := 256#32
  let true_93_r0 : BitVec 1 := 1#1
  let c1_i32_92_r0 : BitVec 32 := 1#32
  let v71_r0 : BitVec 32 := Scalar.subi v70_21_r0 c1_i32_92_r0
  let v72_r0 : BitVec 32 := Scalar.select true_93_r0 v71_r0 v70_21_r0
  let c_m1_i32_94_r0 : BitVec 32 := 4294967295#32
  let v73_r0 : BitVec 1 := Scalar.cmpi .eq v72_r0 c_m1_i32_94_r0
  let c3_i32_95_r0 : BitVec 32 := 3#32
  let v74_r0 : BitVec 32 := Scalar.select v73_r0 c3_i32_95_r0 v72_r0
  let c0_i32_96_r0 : BitVec 32 := 0#32
  let v75_r0 : BitVec 32 := Scalar.addi v74_r0 c0_i32_96_r0
  let v125_r0 : BitVec 32 := Scalar.muli c256_i32_r0 v75_r0
  let c0_i32_135_r0 : BitVec 32 := 0#32
  ![v125_r0.toNat, 0]
def k0_off92 (v70_18_r0 : BitVec 32) : Fin 3 → Nat :=
  let c2_i32_134_r0 : BitVec 32 := 2#32
  let v124_r0 : BitVec 32 := Scalar.remui v70_18_r0 c2_i32_134_r0
  let c0_i32_136_r0 : BitVec 32 := 0#32
  let c0_i32_137_r0 : BitVec 32 := 0#32
  ![v124_r0.toNat, 0, 0]

def k0_chk16 (v70_18_r0 : BitVec 32) : Prop :=
  (∀ a, (k0_off90 v70_18_r0) a + S1.size a ≤ S2.size a) ∧
  (∀ a, (k0_off92 v70_18_r0) a + S1x256x2304.size a ≤ S2x256x2304.size a) ∧
  (∀ (hinb : ∀ a, (k0_off92 v70_18_r0) a + S1x256x2304.size a ≤ S2x256x2304.size a), (Rect.unit (s := S2x256x2304) (k0_off92 v70_18_r0) S1x256x2304.size hinb).WholeWords (EltTy.packing .bf16))
theorem k0_off90_inb : ∀ (v70_18_r0 : BitVec 32) (k0_hw16 : k0_chk16 v70_18_r0), ∀ a, (k0_off90 v70_18_r0) a + S1.size a ≤ S2.size a := fun v70_18_r0 k0_hw16 => k0_hw16.1
theorem k0_off92_inb : ∀ (v70_18_r0 : BitVec 32) (k0_hw16 : k0_chk16 v70_18_r0), ∀ a, (k0_off92 v70_18_r0) a + S1x256x2304.size a ≤ S2x256x2304.size a := fun v70_18_r0 k0_hw16 => k0_hw16.2.1
theorem k0_off92_wordsbf16 : ∀ (v70_18_r0 : BitVec 32) (k0_hw16 : k0_chk16 v70_18_r0), (Rect.unit (s := S2x256x2304) (k0_off92 v70_18_r0) S1x256x2304.size (k0_off92_inb v70_18_r0 k0_hw16)).WholeWords (EltTy.packing .bf16) := fun v70_18_r0 k0_hw16 => k0_hw16.2.2 (k0_off92_inb v70_18_r0 k0_hw16)

def k0_off93 (v70_20_r0 : BitVec 32) : Fin 1 → Nat :=
  let c2_i32_138_r0 : BitVec 32 := 2#32
  let v131_r0 : BitVec 32 := Scalar.remui v70_20_r0 c2_i32_138_r0
  ![v131_r0.toNat]

def k0_off94 (v70_21_r0 : BitVec 32) : Fin 2 → Nat :=
  let c256_i32_139_r0 : BitVec 32 := 256#32
  let true_93_r0 : BitVec 1 := 1#1
  let c1_i32_92_r0 : BitVec 32 := 1#32
  let v71_r0 : BitVec 32 := Scalar.subi v70_21_r0 c1_i32_92_r0
  let v72_r0 : BitVec 32 := Scalar.select true_93_r0 v71_r0 v70_21_r0
  let c_m1_i32_94_r0 : BitVec 32 := 4294967295#32
  let v73_r0 : BitVec 1 := Scalar.cmpi .eq v72_r0 c_m1_i32_94_r0
  let c3_i32_95_r0 : BitVec 32 := 3#32
  let v74_r0 : BitVec 32 := Scalar.select v73_r0 c3_i32_95_r0 v72_r0
  let c0_i32_96_r0 : BitVec 32 := 0#32
  let v75_r0 : BitVec 32 := Scalar.addi v74_r0 c0_i32_96_r0
  let v132_r0 : BitVec 32 := Scalar.muli c256_i32_139_r0 v75_r0
  let c0_i32_140_r0 : BitVec 32 := 0#32
  ![v132_r0.toNat, 0]
def k0_off95 (v70_20_r0 : BitVec 32) : Fin 3 → Nat :=
  let c2_i32_138_r0 : BitVec 32 := 2#32
  let v131_r0 : BitVec 32 := Scalar.remui v70_20_r0 c2_i32_138_r0
  let c0_i32_141_r0 : BitVec 32 := 0#32
  let c0_i32_142_r0 : BitVec 32 := 0#32
  ![v131_r0.toNat, 0, 0]

def k0_chk17 (v70_20_r0 : BitVec 32) : Prop :=
  (∀ a, (k0_off93 v70_20_r0) a + S1.size a ≤ S2.size a) ∧
  (∀ a, (k0_off95 v70_20_r0) a + S1x256x1024.size a ≤ S2x256x1024.size a) ∧
  (∀ (hinb : ∀ a, (k0_off95 v70_20_r0) a + S1x256x1024.size a ≤ S2x256x1024.size a), (Rect.unit (s := S2x256x1024) (k0_off95 v70_20_r0) S1x256x1024.size hinb).WholeWords (EltTy.packing .bf16))
theorem k0_off93_inb : ∀ (v70_20_r0 : BitVec 32) (k0_hw17 : k0_chk17 v70_20_r0), ∀ a, (k0_off93 v70_20_r0) a + S1.size a ≤ S2.size a := fun v70_20_r0 k0_hw17 => k0_hw17.1
theorem k0_off95_inb : ∀ (v70_20_r0 : BitVec 32) (k0_hw17 : k0_chk17 v70_20_r0), ∀ a, (k0_off95 v70_20_r0) a + S1x256x1024.size a ≤ S2x256x1024.size a := fun v70_20_r0 k0_hw17 => k0_hw17.2.1
theorem k0_off95_wordsbf16 : ∀ (v70_20_r0 : BitVec 32) (k0_hw17 : k0_chk17 v70_20_r0), (Rect.unit (s := S2x256x1024) (k0_off95 v70_20_r0) S1x256x1024.size (k0_off95_inb v70_20_r0 k0_hw17)).WholeWords (EltTy.packing .bf16) := fun v70_20_r0 k0_hw17 => k0_hw17.2.2 (k0_off95_inb v70_20_r0 k0_hw17)

def k0_chk12 (v70_21_r0 : BitVec 32) : Prop :=
  (∀ a, (k0_off79 v70_21_r0) a + S4096x128.size a ≤ S16384x128.size a) ∧
  (∀ a, (k0_off82 v70_21_r0) a + S4096x128.size a ≤ S16384x128.size a) ∧
  (∀ a, (k0_off85 v70_21_r0) a + S512x1024.size a ≤ S2048x1024.size a) ∧
  (∀ (hinb : ∀ a, (k0_off85 v70_21_r0) a + S512x1024.size a ≤ S2048x1024.size a), (Rect.unit (s := S2048x1024) (k0_off85 v70_21_r0) S512x1024.size hinb).WholeWords (EltTy.packing .bf16)) ∧
  (∀ a, (k0_off88 v70_21_r0) a + S512x1024.size a ≤ S2048x1024.size a) ∧
  (∀ (hinb : ∀ a, (k0_off88 v70_21_r0) a + S512x1024.size a ≤ S2048x1024.size a), (Rect.unit (s := S2048x1024) (k0_off88 v70_21_r0) S512x1024.size hinb).WholeWords (EltTy.packing .bf16)) ∧
  (∀ a, (k0_off91 v70_21_r0) a + S256x2304.size a ≤ S1024x2304.size a) ∧
  (∀ (hinb : ∀ a, (k0_off91 v70_21_r0) a + S256x2304.size a ≤ S1024x2304.size a), (Rect.unit (s := S1024x2304) (k0_off91 v70_21_r0) S256x2304.size hinb).WholeWords (EltTy.packing .bf16)) ∧
  (∀ a, (k0_off94 v70_21_r0) a + S256x1024.size a ≤ S1024x1024.size a) ∧
  (∀ (hinb : ∀ a, (k0_off94 v70_21_r0) a + S256x1024.size a ≤ S1024x1024.size a), (Rect.unit (s := S1024x1024) (k0_off94 v70_21_r0) S256x1024.size hinb).WholeWords (EltTy.packing .bf16))
theorem k0_off79_inb : ∀ (v70_21_r0 : BitVec 32) (k0_hw12 : k0_chk12 v70_21_r0), ∀ a, (k0_off79 v70_21_r0) a + S4096x128.size a ≤ S16384x128.size a := fun v70_21_r0 k0_hw12 => k0_hw12.1
theorem k0_off82_inb : ∀ (v70_21_r0 : BitVec 32) (k0_hw12 : k0_chk12 v70_21_r0), ∀ a, (k0_off82 v70_21_r0) a + S4096x128.size a ≤ S16384x128.size a := fun v70_21_r0 k0_hw12 => k0_hw12.2.1
theorem k0_off85_inb : ∀ (v70_21_r0 : BitVec 32) (k0_hw12 : k0_chk12 v70_21_r0), ∀ a, (k0_off85 v70_21_r0) a + S512x1024.size a ≤ S2048x1024.size a := fun v70_21_r0 k0_hw12 => k0_hw12.2.2.1
theorem k0_off85_wordsbf16 : ∀ (v70_21_r0 : BitVec 32) (k0_hw12 : k0_chk12 v70_21_r0), (Rect.unit (s := S2048x1024) (k0_off85 v70_21_r0) S512x1024.size (k0_off85_inb v70_21_r0 k0_hw12)).WholeWords (EltTy.packing .bf16) := fun v70_21_r0 k0_hw12 => k0_hw12.2.2.2.1 (k0_off85_inb v70_21_r0 k0_hw12)
theorem k0_off88_inb : ∀ (v70_21_r0 : BitVec 32) (k0_hw12 : k0_chk12 v70_21_r0), ∀ a, (k0_off88 v70_21_r0) a + S512x1024.size a ≤ S2048x1024.size a := fun v70_21_r0 k0_hw12 => k0_hw12.2.2.2.2.1
theorem k0_off88_wordsbf16 : ∀ (v70_21_r0 : BitVec 32) (k0_hw12 : k0_chk12 v70_21_r0), (Rect.unit (s := S2048x1024) (k0_off88 v70_21_r0) S512x1024.size (k0_off88_inb v70_21_r0 k0_hw12)).WholeWords (EltTy.packing .bf16) := fun v70_21_r0 k0_hw12 => k0_hw12.2.2.2.2.2.1 (k0_off88_inb v70_21_r0 k0_hw12)
theorem k0_off91_inb : ∀ (v70_21_r0 : BitVec 32) (k0_hw12 : k0_chk12 v70_21_r0), ∀ a, (k0_off91 v70_21_r0) a + S256x2304.size a ≤ S1024x2304.size a := fun v70_21_r0 k0_hw12 => k0_hw12.2.2.2.2.2.2.1
theorem k0_off91_wordsbf16 : ∀ (v70_21_r0 : BitVec 32) (k0_hw12 : k0_chk12 v70_21_r0), (Rect.unit (s := S1024x2304) (k0_off91 v70_21_r0) S256x2304.size (k0_off91_inb v70_21_r0 k0_hw12)).WholeWords (EltTy.packing .bf16) := fun v70_21_r0 k0_hw12 => k0_hw12.2.2.2.2.2.2.2.1 (k0_off91_inb v70_21_r0 k0_hw12)
theorem k0_off94_inb : ∀ (v70_21_r0 : BitVec 32) (k0_hw12 : k0_chk12 v70_21_r0), ∀ a, (k0_off94 v70_21_r0) a + S256x1024.size a ≤ S1024x1024.size a := fun v70_21_r0 k0_hw12 => k0_hw12.2.2.2.2.2.2.2.2.1
theorem k0_off94_wordsbf16 : ∀ (v70_21_r0 : BitVec 32) (k0_hw12 : k0_chk12 v70_21_r0), (Rect.unit (s := S1024x1024) (k0_off94 v70_21_r0) S256x1024.size (k0_off94_inb v70_21_r0 k0_hw12)).WholeWords (EltTy.packing .bf16) := fun v70_21_r0 k0_hw12 => k0_hw12.2.2.2.2.2.2.2.2.2 (k0_off94_inb v70_21_r0 k0_hw12)
-- ==== ReferenceIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1x1024x2304 : Shape := ⟨3, ![1, 1024, 2304]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x256x4x256 : Shape := ⟨4, ![8, 256, 4, 256]⟩
abbrev S1x8x256x4x256 : Shape := ⟨5, ![1, 8, 256, 4, 256]⟩
abbrev S2048x1024 : Shape := ⟨2, ![2048, 1024]⟩
abbrev S1024x2304 : Shape := ⟨2, ![1024, 2304]⟩

abbrev nBuf : Space → Nat
  | .hbm => 39
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1x1024x2304, .f32⟩
  | .hbm, ⟨5, _⟩ => ⟨S1x1024x1024, .f32⟩
  | .hbm, ⟨6, _⟩ => ⟨S1024, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S1024x1024, .f32⟩
  | .hbm, ⟨24, _⟩ => ⟨S8x256x1024, .f32⟩
  | .hbm, ⟨25, _⟩ => ⟨S8x256x4x256, .f32⟩
  | .hbm, ⟨26, _⟩ => ⟨S1024x1024, .f32⟩
  | .hbm, ⟨27, _⟩ => ⟨S8x256x1024, .f32⟩
  | .hbm, ⟨28, _⟩ => ⟨S8x256x4x256, .f32⟩
  | .hbm, ⟨29, _⟩ => ⟨S1x8x256x4x256, .f32⟩
  | .hbm, ⟨30, _⟩ => ⟨S1x8x256x4x256, .f32⟩
  | .hbm, ⟨31, _⟩ => ⟨S2048x1024, .f32⟩
  | .hbm, ⟨32, _⟩ => ⟨S2048x1024, .bf16⟩
  | .hbm, ⟨33, _⟩ => ⟨S2048x1024, .f32⟩
  | .hbm, ⟨34, _⟩ => ⟨S2048x1024, .bf16⟩
  | .hbm, ⟨35, _⟩ => ⟨S1024x2304, .f32⟩
  | .hbm, ⟨36, _⟩ => ⟨S1024x2304, .bf16⟩
  | .hbm, ⟨37, _⟩ => ⟨S1024x1024, .f32⟩
  | .hbm, ⟨38, _⟩ => ⟨S1024x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel2.lean ====
abbrev S8x2048x1024 : Shape := ⟨3, ![8, 2048, 1024]⟩
abbrev S128x4x1024 : Shape := ⟨3, ![128, 4, 1024]⟩
abbrev S1x1024 : Shape := ⟨2, ![1, 1024]⟩
abbrev S1x1024x1024 : Shape := ⟨3, ![1, 1024, 1024]⟩
abbrev S1x128x256x4x256 : Shape := ⟨5, ![1, 128, 256, 4, 256]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S512x1024 : Shape := ⟨2, ![512, 1024]⟩
abbrev S1024x1024 : Shape := ⟨2, ![1024, 1024]⟩
abbrev S128x256x4x256 : Shape := ⟨4, ![128, 256, 4, 256]⟩
abbrev S128x256x4x2x128 : Shape := ⟨5, ![128, 256, 4, 2, 128]⟩
abbrev S128x256x2x4x128 : Shape := ⟨5, ![128, 256, 2, 4, 128]⟩
abbrev S128x2048x128 : Shape := ⟨3, ![128, 2048, 128]⟩
abbrev S1024x4096 : Shape := ⟨2, ![1024, 4096]⟩
abbrev S4096x1024 : Shape := ⟨2, ![4096, 1024]⟩
abbrev S4x2048x128 : Shape := ⟨3, ![4, 2048, 128]⟩
abbrev S512 : Shape := ⟨1, ![512]⟩
abbrev S512x1 : Shape := ⟨2, ![512, 1]⟩
abbrev S8x1 : Shape := ⟨2, ![8, 1]⟩
abbrev S1024x256 : Shape := ⟨2, ![1024, 256]⟩
abbrev S512x256 : Shape := ⟨2, ![512, 256]⟩
abbrev S2x4x1024 : Shape := ⟨3, ![2, 4, 1024]⟩
abbrev S8x1024 : Shape := ⟨2, ![8, 1024]⟩
abbrev S8x256 : Shape := ⟨2, ![8, 256]⟩
abbrev S1x256x128 : Shape := ⟨3, ![1, 256, 128]⟩
abbrev S256x128 : Shape := ⟨2, ![256, 128]⟩
abbrev S256x256 : Shape := ⟨2, ![256, 256]⟩
abbrev S32x256 : Shape := ⟨2, ![32, 256]⟩
abbrev S32 : Shape := ⟨1, ![32]⟩
abbrev S32x1 : Shape := ⟨2, ![32, 1]⟩

abbrev nBuf : Space → Nat
  | .hbm => 36
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1x1024, .f32⟩
  | .hbm, ⟨3, _⟩ => ⟨S1x1024x1024, .f32⟩
  | .hbm, ⟨4, _⟩ => ⟨S1x1024x1024, .f32⟩
  | .hbm, ⟨5, _⟩ => ⟨S1x128x256x4x256, .f32⟩
  | .hbm, ⟨6, _⟩ => ⟨S1x128x256x4x256, .f32⟩
  | .hbm, ⟨7, _⟩ => ⟨S1x1024, .f32⟩
  | .hbm, ⟨8, _⟩ => ⟨S1x1024x4096, .f32⟩
  | .hbm, ⟨9, _⟩ => ⟨S1x4096x1024, .f32⟩
  | .hbm, ⟨10, _⟩ => ⟨S1024, .f32⟩
  | .hbm, ⟨11, _⟩ => ⟨S16384x1024, .f32⟩
  | .hbm, ⟨12, _⟩ => ⟨S512x1024, .f32⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S128x256x4x256, .f32⟩
  | .hbm, ⟨20, _⟩ => ⟨S128x256x4x2x128, .f32⟩
  | .hbm, ⟨21, _⟩ => ⟨S128x256x2x4x128, .f32⟩
  | .hbm, ⟨22, _⟩ => ⟨S128x2048x128, .f32⟩
  | .hbm, ⟨23, _⟩ => ⟨S128x256x4x256, .f32⟩
  | .hbm, ⟨24, _⟩ => ⟨S128x256x4x2x128, .f32⟩
  | .hbm, ⟨25, _⟩ => ⟨S128x256x2x4x128, .f32⟩
  | .hbm, ⟨26, _⟩ => ⟨S128x2048x128, .f32⟩
  | .hbm, ⟨27, _⟩ => ⟨S1024, .f32⟩
  | .hbm, ⟨28, _⟩ => ⟨S1x1024, .f32⟩
  | .hbm, ⟨29, _⟩ => ⟨S1024x4096, .f32⟩
  | .hbm, ⟨30, _⟩ => ⟨S1024x4096, .bf16⟩
  | .hbm, ⟨31, _⟩ => ⟨S4096x1024, .f32⟩
  | .hbm, ⟨32, _⟩ => ⟨S4096x1024, .bf16⟩
  | .hbm, ⟨33, _⟩ => ⟨S1x1024, .f32⟩
  | .hbm, ⟨34, _⟩ => ⟨S16384x1024, .f32⟩
  | .hbm, ⟨35, _⟩ => ⟨S128x4x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S4x2048x128, .f32⟩
  | .local _ .vmem, ⟨7, _⟩ => ⟨S4x2048x128, .f32⟩
  | .local _ .vmem, ⟨8, _⟩ => ⟨S4x2048x128, .f32⟩
  | .local _ .vmem, ⟨9, _⟩ => ⟨S4x2048x128, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S128x4x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off1 (i : grid0.Coords) (c0_i32_5 : BitVec 32) : Fin 3 → Nat :=
  let arg0 : BitVec 32 := BitVec.ofNat 32 (i 0).val
  let c4_i32_4 : BitVec 32 := 4#32
  let v12 : BitVec 32 := Scalar.muli arg0 c4_i32_4
  let v13 : BitVec 32 := Scalar.addi v12 c0_i32_5
  let v44 : Index := Scalar.indexCast v13
  let c0_20 : Index := 0#32
  let c0_21 : Index := 0#32
  ![v44.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8x2048x1024 : Shape := ⟨3, ![8, 2048, 1024]⟩
abbrev S128x4x1024 : Shape := ⟨3, ![128, 4, 1024]⟩
abbrev S1x1024 : Shape := ⟨2, ![1, 1024]⟩
abbrev S1x1024x1024 : Shape := ⟨3, ![1, 1024, 1024]⟩
abbrev S1x128x256x4x256 : Shape := ⟨5, ![1, 128, 256, 4, 256]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x256x4x256 : Shape := ⟨4, ![128, 256, 4, 256]⟩
abbrev S1024x1024 : Shape := ⟨2, ![1024, 1024]⟩
abbrev S128x4x4x256 : Shape := ⟨4, ![128, 4, 4, 256]⟩
abbrev S128x4x4 : Shape := ⟨3, ![128, 4, 4]⟩
abbrev S128x4x4x1 : Shape := ⟨4, ![128, 4, 4, 1]⟩
abbrev S128x4x256x4 : Shape := ⟨4, ![128, 4, 256, 4]⟩
abbrev S8x2048 : Shape := ⟨2, ![8, 2048]⟩
abbrev S8x2048x1 : Shape := ⟨3, ![8, 2048, 1]⟩
abbrev S1024x4096 : Shape := ⟨2, ![1024, 4096]⟩
abbrev S4096x1024 : Shape := ⟨2, ![4096, 1024]⟩
abbrev S8x2048x4096 : Shape := ⟨3, ![8, 2048, 4096]⟩
abbrev S128x4x4096 : Shape := ⟨3, ![128, 4, 4096]⟩
abbrev S16384x1024 : Shape := ⟨2, ![16384, 1024]⟩

abbrev nBuf : Space → Nat
  | .hbm => 142
  | .vmem => 0
  | .smem => 0
  | _ => 0

abbrev hbmTy0_0 (i : Nat) : BufTy := match i % 128 with
  | 0 => ⟨S8x2048x1024, .f32⟩
  | 1 => ⟨S128x4x1024, .f32⟩
  | 2 => ⟨S1x1024, .f32⟩
  | 3 => ⟨S1x1024x1024, .f32⟩
  | 4 => ⟨S1x1024x1024, .f32⟩
  | 5 => ⟨S1x128x256x4x256, .f32⟩
  | 6 => ⟨S1x128x256x4x256, .f32⟩
  | 7 => ⟨S1x1024, .f32⟩
  | 8 => ⟨S1x1024x4096, .f32⟩
  | 9 => ⟨S1x4096x1024, .f32⟩
  | 10 => ⟨S1024, .f32⟩
  | 11 => ⟨S1024, .f32⟩
  | 12 => ⟨S128x4x1024, .f32⟩
  | 13 => ⟨S_, .f32⟩
  | 14 => ⟨S128x4, .f32⟩
  | 15 => ⟨S128x4x1, .f32⟩
  | 16 => ⟨S_, .f32⟩
  | 17 => ⟨S128x4x1, .f32⟩
  | 18 => ⟨S128x4x1, .f32⟩
  | 19 => ⟨S_, .f32⟩
  | 20 => ⟨S128x4x1, .f32⟩
  | 21 => ⟨S128x4x1, .f32⟩
  | 22 => ⟨S128x4x1, .f32⟩
  | 23 => ⟨S128x4x1024, .f32⟩
  | 24 => ⟨S128x4x1024, .f32⟩
  | 25 => ⟨S1x1x1024, .f32⟩
  | 26 => ⟨S128x4x1024, .f32⟩
  | 27 => ⟨S128x4x1024, .f32⟩
  | 28 => ⟨S128x256x4x256, .f32⟩
  | 29 => ⟨S128x256x4x256, .f32⟩
  | 30 => ⟨S1024x1024, .f32⟩
  | 31 => ⟨S1024x1024, .f32⟩
  | 32 => ⟨S128x4x1024, .f32⟩
  | 33 => ⟨S128x4x4x256, .f32⟩
  | 34 => ⟨S128x4x4x256, .f32⟩
  | 35 => ⟨S_, .f32⟩
  | 36 => ⟨S128x4x4x256, .f32⟩
  | 37 => ⟨S128x4x4x256, .f32⟩
  | 38 => ⟨S_, .f32⟩
  | 39 => ⟨S128x4x4, .f32⟩
  | 40 => ⟨S_, .f32⟩
  | 41 => ⟨S128x4x4, .f32⟩
  | 42 => ⟨S128x4x4, .f32⟩
  | 43 => ⟨S128x4x4x1, .f32⟩
  | 44 => ⟨S128x4x4x256, .f32⟩
  | 45 => ⟨S128x4x4x256, .f32⟩
  | 46 => ⟨S128x4x4x256, .f32⟩
  | 47 => ⟨S_, .f32⟩
  | 48 => ⟨S128x4x4, .f32⟩
  | 49 => ⟨S128x4x4x1, .f32⟩
  | 50 => ⟨S128x4x4x256, .f32⟩
  | 51 => ⟨S128x4x4x256, .f32⟩
  | 52 => ⟨S128x4x256x4, .f32⟩
  | 53 => ⟨S128x4x4x256, .f32⟩
  | 54 => ⟨S128x4x1024, .f32⟩
  | 55 => ⟨S128x4x1024, .f32⟩
  | 56 => ⟨S128x4x1024, .f32⟩
  | 57 => ⟨S1024, .f32⟩
  | 58 => ⟨S8x2048x1024, .f32⟩
  | 59 => ⟨S_, .f32⟩
  | 60 => ⟨S8x2048, .f32⟩
  | 61 => ⟨S8x2048x1, .f32⟩
  | 62 => ⟨S_, .f32⟩
  | 63 => ⟨S8x2048x1, .f32⟩
  | 64 => ⟨S8x2048x1, .f32⟩
  | 65 => ⟨S_, .f32⟩
  | 66 => ⟨S8x2048x1, .f32⟩
  | 67 => ⟨S8x2048x1, .f32⟩
  | 68 => ⟨S8x2048x1, .f32⟩
  | 69 => ⟨S8x2048x1024, .f32⟩
  | 70 => ⟨S8x2048x1024, .f32⟩
  | 71 => ⟨S1x1x1024, .f32⟩
  | 72 => ⟨S8x2048x1024, .f32⟩
  | 73 => ⟨S8x2048x1024, .f32⟩
  | 74 => ⟨S1024x4096, .f32⟩
  | 75 => ⟨S4096x1024, .f32⟩
  | 76 => ⟨S8x2048x4096, .f32⟩
  | 77 => ⟨S_, .f32⟩
  | 78 => ⟨S8x2048x4096, .f32⟩
  | 79 => ⟨S8x2048x4096, .f32⟩
  | 80 => ⟨S8x2048x4096, .f32⟩
  | 81 => ⟨S8x2048x1024, .f32⟩
  | 82 => ⟨S8x2048x1024, .f32⟩
  | 83 => ⟨S1024, .f32⟩
  | 84 => ⟨S128x4x1024, .f32⟩
  | 85 => ⟨S_, .f32⟩
  | 86 => ⟨S128x4, .f32⟩
  | 87 => ⟨S128x4x1, .f32⟩
  | 88 => ⟨S_, .f32⟩
  | 89 => ⟨S128x4x1, .f32⟩
  | 90 => ⟨S128x4x1, .f32⟩
  | 91 => ⟨S_, .f32⟩
  | 92 => ⟨S128x4x1, .f32⟩
  | 93 => ⟨S128x4x1, .f32⟩
  | 94 => ⟨S128x4x1, .f32⟩
  | 95 => ⟨S128x4x1024, .f32⟩
  | 96 => ⟨S128x4x1024, .f32⟩
  | 97 => ⟨S1x1x1024, .f32⟩
  | 98 => ⟨S128x4x1024, .f32⟩
  | 99 => ⟨S128x4x1024, .f32⟩
  | 100 => ⟨S1024x4096, .f32⟩
  | 101 => ⟨S4096x1024, .f32⟩
  | 102 => ⟨S128x4x4096, .f32⟩
  | 103 => ⟨S_, .f32⟩
  | 104 => ⟨S128x4x4096, .f32⟩
  | 105 => ⟨S128x4x4096, .f32⟩
  | 106 => ⟨S128x4x4096, .f32⟩
  | 107 => ⟨S128x4x1024, .f32⟩
  | 108 => ⟨S128x4x1024, .f32⟩
  | 109 => ⟨S8x2048x1024, .f32⟩
  | 110 => ⟨S_, .f32⟩
  | 111 => ⟨S8x2048, .f32⟩
  | 112 => ⟨S8x2048x1, .f32⟩
  | 113 => ⟨S_, .f32⟩
  | 114 => ⟨S8x2048x1, .f32⟩
  | 115 => ⟨S8x2048x1, .f32⟩
  | 116 => ⟨S_, .f32⟩
  | 117 => ⟨S8x2048x1, .f32⟩
  | 118 => ⟨S8x2048x1, .f32⟩
  | 119 => ⟨S8x2048x1, .f32⟩
  | 120 => ⟨S8x2048x1024, .f32⟩
  | 121 => ⟨S8x2048x1024, .f32⟩
  | 122 => ⟨S1x1x1024, .f32⟩
  | 123 => ⟨S8x2048x1024, .f32⟩
  | 124 => ⟨S8x2048x1024, .f32⟩
  | 125 => ⟨S16384x1024, .f32⟩
  | 126 => ⟨S128x4x1024, .f32⟩
  | 127 => ⟨S_, .f32⟩
  | _ => ⟨S8x2048x1024, .f32⟩

abbrev hbmTy0_1 (i : Nat) : BufTy := match i % 128 with
  | 0 => ⟨S128x4, .f32⟩
  | 1 => ⟨S128x4x1, .f32⟩
  | 2 => ⟨S_, .f32⟩
  | 3 => ⟨S128x4x1, .f32⟩
  | 4 => ⟨S128x4x1, .f32⟩
  | 5 => ⟨S_, .f32⟩
  | 6 => ⟨S128x4x1, .f32⟩
  | 7 => ⟨S128x4x1, .f32⟩
  | 8 => ⟨S128x4x1, .f32⟩
  | 9 => ⟨S128x4x1024, .f32⟩
  | 10 => ⟨S128x4x1024, .f32⟩
  | 11 => ⟨S1x1x1024, .f32⟩
  | 12 => ⟨S128x4x1024, .f32⟩
  | 13 => ⟨S128x4x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call0_cst : Ref sig .tc := ⟨.hbm, 77, rfl⟩
abbrev main_call0_v0 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call1_cst : Ref sig .tc := ⟨.hbm, 103, rfl⟩
abbrev main_call1_v0 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_12 : Ref sig .tc := ⟨.hbm, 110, rfl⟩
abbrev main_v82 : Ref sig .tc := ⟨.hbm, 111, rfl⟩
abbrev main_v83 : Ref sig .tc := ⟨.hbm, 112, rfl⟩
abbrev main_cst_13 : Ref sig .tc := ⟨.hbm, 113, rfl⟩
abbrev main_v84 : Ref sig .tc := ⟨.hbm, 114, rfl⟩
abbrev main_v85 : Ref sig .tc := ⟨.hbm, 115, rfl⟩
abbrev main_cst_14 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_15 : Ref sig .tc := ⟨.hbm, 127, rfl⟩
abbrev main_v96 : Ref sig .tc := ⟨.hbm, 128, rfl⟩
abbrev main_v97 : Ref sig .tc := ⟨.hbm, 129, rfl⟩
abbrev main_cst_16 : Ref sig .tc := ⟨.hbm, 130, rfl⟩
abbrev main_v98 : Ref sig .tc := ⟨.hbm, 131, rfl⟩
abbrev main_v99 : Ref sig .tc := ⟨.hbm, 132, rfl⟩
abbrev main_cst_17 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x1024 : Shape := ⟨2, ![1, 1024]⟩
abbrev S1x1024x1024 : Shape := ⟨3, ![1, 1024, 1024]⟩
abbrev S8x256x4x256 : Shape := ⟨4, ![8, 256, 4, 256]⟩
abbrev S1024 : Shape := ⟨1, ![1024]⟩
abbrev S1024x1024 : Shape := ⟨2, ![1024, 1024]⟩
abbrev S8x256x1024 : Shape := ⟨3, ![8, 256, 1024]⟩
abbrev S1x2048x1024 : Shape := ⟨3, ![1, 2048, 1024]⟩
abbrev S1x256x1024 : Shape := ⟨3, ![1, 256, 1024]⟩
abbrev S2048x1024 : Shape := ⟨2, ![2048, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 17
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S8x256x4x256, .f32⟩
  | .hbm, ⟨5, _⟩ => ⟨S8x256x4x256, .f32⟩
  | .hbm, ⟨6, _⟩ => ⟨S1024, .f32⟩
  | .hbm, ⟨7, _⟩ => ⟨S1x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S8x256x1024, .f32⟩
  | .hbm, ⟨13, _⟩ => ⟨S8x256x1024, .bf16⟩
  | .hbm, ⟨14, _⟩ => ⟨S8x256x1024, .f32⟩
  | .hbm, ⟨15, _⟩ => ⟨S8x256x1024, .bf16⟩
  | .hbm, ⟨16, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x2048x1024, .f32⟩
  | .local _ .vmem, ⟨10, _⟩ => ⟨S1x2048x1024, .f32⟩
  | .local _ .vmem, ⟨11, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x2048x1024 : Shape := ⟨3, ![8, 2048, 1024]⟩
abbrev S1x1024 : Shape := ⟨2, ![1, 1024]⟩
abbrev S1x1024x1024 : Shape := ⟨3, ![1, 1024, 1024]⟩
abbrev S8x256x4x256 : Shape := ⟨4, ![8, 256, 4, 256]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x1024 : Shape := ⟨2, ![1024, 1024]⟩
abbrev S8x2048x4x256 : Shape := ⟨4, ![8, 2048, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S8x256x4x256, .f32⟩
  | .hbm, ⟨5, _⟩ => ⟨S8x256x4x256, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x1024, .f32⟩
  | .hbm, ⟨24, _⟩ => ⟨S1024x1024, .f32⟩
  | .hbm, ⟨25, _⟩ => ⟨S8x2048x1024, .f32⟩
  | .hbm, ⟨26, _⟩ => ⟨S8x2048x4x256, .f32⟩
  | .hbm, ⟨27, _⟩ => ⟨S8x4x2048x256, .f32⟩
  | .hbm, ⟨28, _⟩ => ⟨S_, .f32⟩
  | .hbm, ⟨29, _⟩ => ⟨S8x4x2048x256, .f32⟩
  | .hbm, ⟨30, _⟩ => ⟨S8x4x2048x256, .f32⟩
  | .hbm, ⟨31, _⟩ => ⟨S_, .f32⟩
  | .hbm, ⟨32, _⟩ => ⟨S8x4x2048, .f32⟩
  | .hbm, ⟨33, _⟩ => ⟨S_, .f32⟩
  | .hbm, ⟨34, _⟩ => ⟨S8x4x2048, .f32⟩
  | .hbm, ⟨35, _⟩ => ⟨S8x4x2048, .f32⟩
  | .hbm, ⟨36, _⟩ => ⟨S8x4x2048x1, .f32⟩
  | .hbm, ⟨37, _⟩ => ⟨S8x4x2048x256, .f32⟩
  | .hbm, ⟨38, _⟩ => ⟨S8x4x2048x256, .f32⟩
  | .hbm, ⟨39, _⟩ => ⟨S8x4x2048x256, .f32⟩
  | .hbm, ⟨40, _⟩ => ⟨S_, .f32⟩
  | .hbm, ⟨41, _⟩ => ⟨S8x4x2048, .f32⟩
  | .hbm, ⟨42, _⟩ => ⟨S8x4x2048x1, .f32⟩
  | .hbm, ⟨43, _⟩ => ⟨S8x4x2048x256, .f32⟩
  | .hbm, ⟨44, _⟩ => ⟨S8x4x2048x256, .f32⟩
  | .hbm, ⟨45, _⟩ => ⟨S8x4x256x2048, .f32⟩
  | .hbm, ⟨46, _⟩ => ⟨S8x2048x4x256, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Pieces.lean ====
/-
  What the call `memory_kv` moves: blocks of its operands in HBM, slots of the pipeline's rings in VMEM, and the cells that count
  its transfers. Each is named once here, by the slice the kernel itself takes.

  The pipeline has four steps. A step's blocks are rows: 512 rows of the prompt memory (256 rows of the two weights), 4096 rows of
  the two f32 results, 512 rows of the two bf16 results, 256 rows of the two rounded weights. An input has a ring of three slots,
  a result a ring of two.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

noncomputable section

namespace Cert.Proof.Memory

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost state: the launch's rounds and the counters of the kernel's own transfers. -/
abbrev UU (nD : Nat) (τ : Topo) : Type := UR sig nD τ × Counters
local notation "𝕄" => MT nD τ sig Unit (Elt F) ℕ (UU nD τ) ℕ
/-- No loop of the program needs a variant of its own: every trip count is a literal. -/
abbrev 𝒱₀ : Variants := Variants.none

/-! ## Two, three and four of a kind -/

abbrev two (P : Fin 2 → sProp 𝕄) : sProp 𝕄 := iprop(P 0 ∗ P 1)
abbrev three (P : Fin 3 → sProp 𝕄) : sProp 𝕄 := iprop(P 0 ∗ P 1 ∗ P 2)
abbrev four (P : Fin 4 → sProp 𝕄) : sProp 𝕄 := iprop(P 0 ∗ P 1 ∗ P 2 ∗ P 3)

/-! ## Memrefs held, and cells at zero -/

/-- A memref's elements are held in full, at the contents `f`. -/
abbrev whP {sp s e} (c : Dev nD) (M : Memref sig .tc sp s e) (f : Buf (Elt F) (M.view.loc (c : Thread nD τ))) : sProp 𝕄 :=
  M.view.loc (c : Thread nD τ) ↦[M.view.set]{fullShare} f
theorem s3_inb (b : Fin 3) : ∀ a, (![b.val] : Fin 1 → Nat) a + S1.size a ≤ S3.size a := by revert b; decide
/-- Cell `b` of a ring of three; -/
abbrev s3 (A : DmaSems sig S3) (b : Fin 3) : DmaSems sig S_ :=
  (A.slice (Rect.unit (s := S3) ![b.val] S1.size (s3_inb b))).squeeze S_ squeezes_S1_S_
theorem s2_inb (b : Fin 2) : ∀ a, (![b.val] : Fin 1 → Nat) a + S1.size a ≤ S2.size a := by revert b; decide
/-- cell `b` of a ring of two; -/
abbrev s2 (A : DmaSems sig S2) (b : Fin 2) : DmaSems sig S_ :=
  (A.slice (Rect.unit (s := S2) ![b.val] S1.size (s2_inb b))).squeeze S_ squeezes_S1_S_
/-- a cell reads zero. -/
abbrev cP (c : Dev nD) (A : DmaSems sig S_) : sProp 𝕄 := semVal ((c : Thread nD τ), SemLoc.dma A.sem) 0
theorem bA_inb (b : Fin 4) : ∀ i, (![512 * b.val, 0] : Fin 2 → Nat) i + S512x1024.size i ≤ S2048x1024.size i := by revert b; decide
/-- Step `b`'s rows of the prompt memory, -/
abbrev bA (a : Memref sig .tc .hbm S2048x1024 .f32) (b : Fin 4) : Memref sig .tc .hbm S512x1024 .f32 :=
  a.slice (Rect.unit (s := S2048x1024) ![512 * b.val, 0] S512x1024.size (bA_inb b)) (fun _ => rfl)
theorem bW_inb (b : Fin 4) : ∀ i, (![256 * b.val, 0] : Fin 2 → Nat) i + S256x2304.size i ≤ S1024x2304.size i := by revert b; decide
/-- of the in-projection's weight, -/
abbrev bW (a : Memref sig .tc .hbm S1024x2304 .f32) (b : Fin 4) : Memref sig .tc .hbm S256x2304 .f32 :=
  a.slice (Rect.unit (s := S1024x2304) ![256 * b.val, 0] S256x2304.size (bW_inb b)) (fun _ => rfl)
theorem bO_inb (b : Fin 4) : ∀ i, (![256 * b.val, 0] : Fin 2 → Nat) i + S256x1024.size i ≤ S1024x1024.size i := by revert b; decide
/-- of the out-projection's weight, -/
abbrev bO (a : Memref sig .tc .hbm S1024x1024 .f32) (b : Fin 4) : Memref sig .tc .hbm S256x1024 .f32 :=
  a.slice (Rect.unit (s := S1024x1024) ![256 * b.val, 0] S256x1024.size (bO_inb b)) (fun _ => rfl)
theorem bK_inb (b : Fin 4) : ∀ i, (![4096 * b.val, 0] : Fin 2 → Nat) i + S4096x128.size i ≤ S16384x128.size i := by revert b; decide
/-- of an f32 result, -/
abbrev bK (a : Memref sig .tc .hbm S16384x128 .f32) (b : Fin 4) : Memref sig .tc .hbm S4096x128 .f32 :=
  a.slice (Rect.unit (s := S16384x128) ![4096 * b.val, 0] S4096x128.size (bK_inb b)) (fun _ => rfl)
theorem bKb_inb (b : Fin 4) : ∀ i, (![512 * b.val, 0] : Fin 2 → Nat) i + S512x1024.size i ≤ S2048x1024.size i := by revert b; decide
/-- of a bf16 result, -/
abbrev bKb (a : Memref sig .tc .hbm S2048x1024 .bf16) (b : Fin 4) : Memref sig .tc .hbm S512x1024 .bf16 :=
  a.slice (Rect.unit (s := S2048x1024) ![512 * b.val, 0] S512x1024.size (bKb_inb b)) (fun _ => rfl)
theorem bWb_inb (b : Fin 4) : ∀ i, (![256 * b.val, 0] : Fin 2 → Nat) i + S256x2304.size i ≤ S1024x2304.size i := by revert b; decide
/-- of the rounded in-projection's weight, -/
abbrev bWb (a : Memref sig .tc .hbm S1024x2304 .bf16) (b : Fin 4) : Memref sig .tc .hbm S256x2304 .bf16 :=
  a.slice (Rect.unit (s := S1024x2304) ![256 * b.val, 0] S256x2304.size (bWb_inb b)) (fun _ => rfl)
theorem bOb_inb (b : Fin 4) : ∀ i, (![256 * b.val, 0] : Fin 2 → Nat) i + S256x1024.size i ≤ S1024x1024.size i := by revert b; decide
/-- of the rounded out-projection's weight. -/
abbrev bOb (a : Memref sig .tc .hbm S1024x1024 .bf16) (b : Fin 4) : Memref sig .tc .hbm S256x1024 .bf16 :=
  a.slice (Rect.unit (s := S1024x1024) ![256 * b.val, 0] S256x1024.size (bOb_inb b)) (fun _ => rfl)
theorem sA_inb (b : Fin 3) : ∀ i, (![b.val, 0, 0] : Fin 3 → Nat) i + S1x512x1024.size i ≤ S3x512x1024.size i := by revert b; decide
/-- Slot `b` of the ring of each, in the same order. -/
abbrev sA (a : Memref sig .tc .vmem S3x512x1024 .f32) (b : Fin 3) : Memref sig .tc .vmem S512x1024 .f32 :=
  (a.slice (Rect.unit (s := S3x512x1024) ![b.val, 0, 0] S1x512x1024.size (sA_inb b)) (fun _ => rfl)).squeeze S512x1024 squeezes_S1x512x1024_S512x1024
theorem sW_inb (b : Fin 3) : ∀ i, (![b.val, 0, 0] : Fin 3 → Nat) i + S1x256x2304.size i ≤ S3x256x2304.size i := by revert b; decide
abbrev sW (a : Memref sig .tc .vmem S3x256x2304 .f32) (b : Fin 3) : Memref sig .tc .vmem S256x2304 .f32 :=
  (a.slice (Rect.unit (s := S3x256x2304) ![b.val, 0, 0] S1x256x2304.size (sW_inb b)) (fun _ => rfl)).squeeze S256x2304 squeezes_S1x256x2304_S256x2304
theorem sO_inb (b : Fin 3) : ∀ i, (![b.val, 0, 0] : Fin 3 → Nat) i + S1x256x1024.size i ≤ S3x256x1024.size i := by revert b; decide
abbrev sO (a : Memref sig .tc .vmem S3x256x1024 .f32) (b : Fin 3) : Memref sig .tc .vmem S256x1024 .f32 :=
  (a.slice (Rect.unit (s := S3x256x1024) ![b.val, 0, 0] S1x256x1024.size (sO_inb b)) (fun _ => rfl)).squeeze S256x1024 squeezes_S1x256x1024_S256x1024
theorem sK_inb (b : Fin 2) : ∀ i, (![b.val, 0, 0] : Fin 3 → Nat) i + S1x4096x128.size i ≤ S2x4096x128.size i := by revert b; decide
abbrev sK (a : Memref sig .tc .vmem S2x4096x128 .f32) (b : Fin 2) : Memref sig .tc .vmem S4096x128 .f32 :=
  (a.slice (Rect.unit (s := S2x4096x128) ![b.val, 0, 0] S1x4096x128.size (sK_inb b)) (fun _ => rfl)).squeeze S4096x128 squeezes_S1x4096x128_S4096x128
theorem sKb_inb (b : Fin 2) : ∀ i, (![b.val, 0, 0] : Fin 3 → Nat) i + S1x512x1024.size i ≤ S2x512x1024.size i := by revert b; decide
abbrev sKb (a : Memref sig .tc .vmem S2x512x1024 .bf16) (b : Fin 2) : Memref sig .tc .vmem S512x1024 .bf16 :=
  (a.slice (Rect.unit (s := S2x512x1024) ![b.val, 0, 0] S1x512x1024.size (sKb_inb b)) (fun _ => rfl)).squeeze S512x1024 squeezes_S1x512x1024_S512x1024
theorem sWb_inb (b : Fin 2) : ∀ i, (![b.val, 0, 0] : Fin 3 → Nat) i + S1x256x2304.size i ≤ S2x256x2304.size i := by revert b; decide
abbrev sWb (a : Memref sig .tc .vmem S2x256x2304 .bf16) (b : Fin 2) : Memref sig .tc .vmem S256x2304 .bf16 :=
  (a.slice (Rect.unit (s := S2x256x2304) ![b.val, 0, 0] S1x256x2304.size (sWb_inb b)) (fun _ => rfl)).squeeze S256x2304 squeezes_S1x256x2304_S256x2304
theorem sOb_inb (b : Fin 2) : ∀ i, (![b.val, 0, 0] : Fin 3 → Nat) i + S1x256x1024.size i ≤ S2x256x1024.size i := by revert b; decide
abbrev sOb (a : Memref sig .tc .vmem S2x256x1024 .bf16) (b : Fin 2) : Memref sig .tc .vmem S256x1024 .bf16 :=
  (a.slice (Rect.unit (s := S2x256x1024) ![b.val, 0, 0] S1x256x1024.size (sOb_inb b)) (fun _ => rfl)).squeeze S256x1024 squeezes_S1x256x1024_S256x1024

end Cert.Proof.Memory

end
-- ==== Proof.Values.lean ====
/-
  What a step of `memory_kv` computes, and what its loads, stores and transfers hand on.

  A ring's slot is a slice of the ring with the slot axis dropped: a transfer fills the slot, the body loads the slice, and the
  other way round for a result. So a slot read through either is the same values under another shape.
-/
module

public import proofs.«01_k».proof.Proof.Pieces
public import Idealize.ShloMosaic.Lib.Pipeline.Value
public import Idealize.ShloMosaic.Lib.ValueIdxCore
public import Idealize.ShloMosaic.Lib.VecWindow

@[expose] public section

noncomputable section

namespace Cert.Proof.Memory

open Cert.KernelIdeal Cert.KernelIdeal.Gen
open Idealize.ShloMosaic Idealize.ShloMosaic.TcCoe Idealize.ShloMosaic.ValueIdx

variable {F : FTy → Type} [FloatOps F]

/-! ## A slot through its ring -/

section Slot

variable {Val : EltTy → Type} {sp : Space} {S t : Shape} {e : EltTy} (M : Memref sig .tc sp S e)

/-- The newest write of a whole view is what the view reads. -/
theorem read_whole_cons {s : Shape} (v : View sig .tc sp s e) (f : v.ty.Contents Val) (x : s.Idx → Val e) (L : List (View.Piece Val s e)) :
    v.read Val (v.writes Val f (⟨Rect.whole s, x⟩ :: L)) = x := by
  funext y
  have h := View.read_writes_cons_emb v f (Rect.whole s) x L y
  rwa [Rect.emb_whole_apply] at h

/-- The body's load of a slot just filled is what filled it, with the slot axis put back. -/
theorem load_slot (r : Rect S) (h₀ : ∀ a, r.stride a = 1) (hq : r.shape.Squeezes t) (hc : t.ShapeCasts r.shape) (hc' : r.shape.ShapeCasts t)
    (f : (((M.slice r h₀).squeeze t hq).view).ty.Contents Val) (w : t.Idx → Val e) (L : List (View.Piece Val t e)) :
    M.view.readAt Val r.toLoadRect (((M.slice r h₀).squeeze t hq).view.writes Val f (⟨Rect.whole t, w⟩ :: L)) = shapeCast r.shape w hc := by
  have h : shapeCast t (M.view.readAt Val r.toLoadRect (((M.slice r h₀).squeeze t hq).view.writes Val f (⟨Rect.whole t, w⟩ :: L))) hc' = w :=
    read_whole_cons ((M.slice r h₀).squeeze t hq).view f w L
  exact (shapeCast_shapeCast _ hc' hc).symm.trans (congrArg (fun x => shapeCast r.shape x hc) h)

/-- The transfer's read of a slot just stored is what was stored, with the slot axis dropped. -/
theorem read_slot (r : Rect S) (h₀ : ∀ a, r.stride a = 1) (hq : r.shape.Squeezes t) (hc' : r.shape.ShapeCasts t)
    (f : (M.access r).ty.Contents Val) (p : r.shape.Idx → Val e) :
    ((M.slice r h₀).squeeze t hq).view.read Val ((M.access r).write Val f p Finset.univ) = shapeCast t p hc' :=
  congrArg (fun x => shapeCast t x hc') (View.read_write_univ (v := M.view.slice r) f p)

end Slot

/-! ## What a step computes -/

/-- A step's rows of the keys: normalised rows, rounded, by the rounded weight; -/
def kRows (x : Vec F S512x1024 .f32) (g : Vec F S1x1024 .f32) (w : Vec F S1024x1024 .f32) : FVec F S512x1024 .f32 :=
  k0_pay5 (k0_pay3 (shapeCast S1x512x1024 x (by decide)) g) (k0_pay4 w) (constant S512x1024 .f32 0x00000000#32)
/-- of the values: the same by the other weight. -/
def vRows (x : Vec F S512x1024 .f32) (g : Vec F S1x1024 .f32) (w : Vec F S1024x1024 .f32) : FVec F S512x1024 .f32 :=
  k0_pay6 (k0_pay3 (shapeCast S1x512x1024 x (by decide)) g) w

/-- A step's rows as the f32 results lay them out: row `8 i + r` is plane `r` of row `i`, the 128 columns of head `r % 4` from
    128 times `r / 4`. -/
def planes {α : Type} (y : S512x1024.Idx → α) : S4096x128.Idx → α := fun j =>
  y (ix2 (⟨(j 0).val / 8, by have : (j 0).val < 4096 := (j 0).isLt; omega⟩ : Fin 512)
    (⟨((j 0).val % 8 % 4) * 256 + ((j 0).val % 8 / 4) * 128 + (j 1).val, by have : (j 1).val < 128 := (j 1).isLt; omega⟩ : Fin 1024))

/-- Every eighth row from row `r`: where plane `r` is stored. -/
abbrev eighth (r : Nat) (h : ∀ a, S512x128.size a = 0 ∨ (![r, 0] : Fin 2 → Nat) a + (![8, 1] : Fin 2 → Nat) a * (S512x128.size a - 1) < S4096x128.size a) :
    Rect S4096x128 := ⟨⟨![r, 0], S512x128.size, ![8, 1], h⟩, spos_8_1⟩

/-- A plane's store puts 128 of a step's columns where `planes` reads them. -/
theorem plane_piece {α : Type} (y : S512x1024.Idx → α) (r o : Nat) (h) (hs : S512x1024.Slices ![0, o] S512x128) (hr : r < 8)
    (ho : o = (r % 4) * 256 + (r / 4) * 128) (x : S512x128.Idx) :
    extractStridedSlice S512x128 ![0, o] y hs x = planes y ((eighth r h).emb x) := by
  refine congrArg y (funext fun a => Fin.ext ?_)
  have h0 : (((eighth r h).emb x) 0).val = r + 8 * (x 0).val := rfl
  have h1 : (((eighth r h).emb x) 1).val = 0 + 1 * (x 1).val := rfl
  match a with
  | ⟨0, _⟩ =>
    show 0 + (x 0).val = (((eighth r h).emb x) 0).val / 8
    rw [h0]; omega
  | ⟨1, _⟩ =>
    show o + (x 1).val = ((((eighth r h).emb x) 0).val % 8 % 4) * 256 + ((((eighth r h).emb x) 0).val % 8 / 4) * 128 + (((eighth r h).emb x) 1).val
    rw [h0, h1]
    have : (r + 8 * (x 0).val) % 8 = r := by omega
    rw [this]; omega

/-- The eight planes' stores, in the kernel's order, leave `planes` of the rows, whatever was stored before. -/
theorem read_planes {sp : Space} (v : View sig .tc sp S4096x128 .f32) (f : v.ty.Contents (Elt F)) (y : Vec F S512x1024 .f32)
    (L : List (View.Piece (Elt F) S4096x128 .f32)) :
    v.read (Elt F) (v.writes (Elt F) f
      (⟨eighth 7 inb_S4096x128_S512x128_7_0_s_8_1, extractStridedSlice S512x128 ![0, 896] y slices_S512x1024_o0_896_S512x128⟩
        :: ⟨eighth 3 inb_S4096x128_S512x128_3_0_s_8_1, extractStridedSlice S512x128 ![0, 768] y slices_S512x1024_o0_768_S512x128⟩
        :: ⟨eighth 6 inb_S4096x128_S512x128_6_0_s_8_1, extractStridedSlice S512x128 ![0, 640] y slices_S512x1024_o0_640_S512x128⟩
        :: ⟨eighth 2 inb_S4096x128_S512x128_2_0_s_8_1, extractStridedSlice S512x128 ![0, 512] y slices_S512x1024_o0_512_S512x128⟩
        :: ⟨eighth 5 inb_S4096x128_S512x128_5_0_s_8_1, extractStridedSlice S512x128 ![0, 384] y slices_S512x1024_o0_384_S512x128⟩
        :: ⟨eighth 1 inb_S4096x128_S512x128_1_0_s_8_1, extractStridedSlice S512x128 ![0, 256] y slices_S512x1024_o0_256_S512x128⟩
        :: ⟨eighth 4 inb_S4096x128_S512x128_4_0_s_8_1, extractStridedSlice S512x128 ![0, 128] y slices_S512x1024_o0_128_S512x128⟩
        :: ⟨eighth 0 inb_S4096x128_S512x128_0_0_s_8_1, extractStridedSlice S512x128 ![0, 0] y slices_S512x1024_o0_0_S512x128⟩
        :: L)) = planes y := by
  funext j
  refine (congrArg (fun c => v.read (Elt F) c j) (View.writes_append v f [_, _, _, _, _, _, _, _] L)).trans
    (View.read_writes_apply_of_pieces v _ (planes y) _ ?_ j ?_)
  · simp only [List.forall_mem_cons, List.not_mem_nil, false_imp_iff, implies_true, and_true]
    refine ⟨?_, ?_, ?_, ?_, ?_, ?_, ?_, ?_⟩ <;> refine fun x => plane_piece y _ _ _ _ ?_ ?_ x <;> decide
  · have hj : ∀ (r : Nat) (h), (j 0).val % 8 = r → j ∈ (eighth r h).set := fun r h e =>
      (eighth r h).mem_set.mpr fun a => by
        have h0 : (j 0).val < 4096 := (j 0).isLt
        match a with
        | ⟨0, _⟩ => exact ⟨(j 0).val / 8, by show _ < 512; omega, by show (j 0).val = r + 8 * ((j 0).val / 8); omega⟩
        | ⟨1, _⟩ => exact ⟨(j 1).val, (j 1).isLt, by show (j 1).val = 0 + 1 * (j 1).val; omega⟩
    have h8 : (j 0).val % 8 < 8 := Nat.mod_lt _ (by decide)
    simp only [List.exists_mem_cons_iff, List.not_mem_nil, false_and, exists_false, or_false]
    obtain h | h | h | h | h | h | h | h : (j 0).val % 8 = 0 ∨ (j 0).val % 8 = 1 ∨ (j 0).val % 8 = 2 ∨ (j 0).val % 8 = 3
        ∨ (j 0).val % 8 = 4 ∨ (j 0).val % 8 = 5 ∨ (j 0).val % 8 = 6 ∨ (j 0).val % 8 = 7 := by omega
    · exact .inr (.inr (.inr (.inr (.inr (.inr (.inr (hj 0 _ h)))))))
    · exact .inr (.inr (.inr (.inr (.inr (.inl (hj 1 _ h))))))
    · exact .inr (.inr (.inr (.inl (hj 2 _ h))))
    · exact .inr (.inl (hj 3 _ h))
    · exact .inr (.inr (.inr (.inr (.inr (.inr (.inl (hj 4 _ h)))))))
    · exact .inr (.inr (.inr (.inr (.inl (hj 5 _ h)))))
    · exact .inr (.inr (.inl (hj 6 _ h)))
    · exact .inl (hj 7 _ h)

/-! ## What a step's loads read -/

/-- A load of a whole buffer after the transfer that filled it is what the transfer carried. -/
theorem load_whole {sp : Space} {s : Shape} {e : EltTy} (v : View sig .tc sp s e) {off : Fin s.rank → Nat} (inb : ∀ a, off a + s.size a ≤ s.size a)
    (w : s.Idx → Elt F e) (L : List (View.Piece (Elt F) s e)) :
    v.readCov (⟨Rect.whole s, w⟩ :: L) (Rect.unit off s.size inb).toLoadRect = w :=
  View.readCov_full v inb (fun a => Nat.le_of_eq (Nat.zero_add _)) w L

/-- The load of the gain; -/
theorem load_gain (v : View sig .tc .vmem S1x1024 .f32) (inb : ∀ a, (![0, 0] : Fin 2 → Nat) a + S1x1024.size a ≤ S1x1024.size a)
    (w : S1x1024.Idx → Elt F .f32) (L : List (View.Piece (Elt F) S1x1024 .f32)) :
    v.readCov (⟨Rect.whole S1x1024, w⟩ :: L) (Rect.unit (s := S1x1024) ![0, 0] S1x1024.size inb).toLoadRect = w := load_whole v inb w L
/-- the load of a weight of the memory. -/
theorem load_weight (v : View sig .tc .vmem S1024x1024 .f32) (inb : ∀ a, (![0, 0] : Fin 2 → Nat) a + S1024x1024.size a ≤ S1024x1024.size a)
    (w : S1024x1024.Idx → Elt F .f32) (L : List (View.Piece (Elt F) S1024x1024 .f32)) :
    v.readCov (⟨Rect.whole S1024x1024, w⟩ :: L) (Rect.unit (s := S1024x1024) ![0, 0] S1024x1024.size inb).toLoadRect = w := load_whole v inb w L
/-- The body's load of a slot of the prompt memory's ring, -/
theorem load_sA (al : Memref sig .tc .vmem S3x512x1024 .f32) (s : Fin 3) (f : ((sA al s).view).ty.Contents (Elt F)) (w : S512x1024.Idx → Elt F .f32)
    (L : List (View.Piece (Elt F) S512x1024 .f32)) :
    al.view.readAt (Elt F) (Rect.unit (s := S3x512x1024) ![s.val, 0, 0] S1x512x1024.size (sA_inb s)).toLoadRect
      ((sA al s).view.writes (Elt F) f (⟨Rect.whole S512x1024, w⟩ :: L)) = shapeCast S1x512x1024 w shapeCasts_S512x1024_S1x512x1024 :=
  load_slot al (Rect.unit (s := S3x512x1024) ![s.val, 0, 0] S1x512x1024.size (sA_inb s)) _ _ shapeCasts_S512x1024_S1x512x1024 shapeCasts_S1x512x1024_S512x1024 f w L
/-- of the in-projection's weight's, -/
theorem load_sW (al : Memref sig .tc .vmem S3x256x2304 .f32) (s : Fin 3) (f : ((sW al s).view).ty.Contents (Elt F)) (w : S256x2304.Idx → Elt F .f32)
    (L : List (View.Piece (Elt F) S256x2304 .f32)) :
    al.view.readAt (Elt F) (Rect.unit (s := S3x256x2304) ![s.val, 0, 0] S1x256x2304.size (sW_inb s)).toLoadRect
      ((sW al s).view.writes (Elt F) f (⟨Rect.whole S256x2304, w⟩ :: L)) = shapeCast S1x256x2304 w shapeCasts_S256x2304_S1x256x2304 :=
  load_slot al (Rect.unit (s := S3x256x2304) ![s.val, 0, 0] S1x256x2304.size (sW_inb s)) _ _ shapeCasts_S256x2304_S1x256x2304 shapeCasts_S1x256x2304_S256x2304 f w L
/-- of the out-projection's weight's. -/
theorem load_sO (al : Memref sig .tc .vmem S3x256x1024 .f32) (s : Fin 3) (f : ((sO al s).view).ty.Contents (Elt F)) (w : S256x1024.Idx → Elt F .f32)
    (L : List (View.Piece (Elt F) S256x1024 .f32)) :
    al.view.readAt (Elt F) (Rect.unit (s := S3x256x1024) ![s.val, 0, 0] S1x256x1024.size (sO_inb s)).toLoadRect
      ((sO al s).view.writes (Elt F) f (⟨Rect.whole S256x1024, w⟩ :: L)) = shapeCast S1x256x1024 w shapeCasts_S256x1024_S1x256x1024 :=
  load_slot al (Rect.unit (s := S3x256x1024) ![s.val, 0, 0] S1x256x1024.size (sO_inb s)) _ _ shapeCasts_S256x1024_S1x256x1024 shapeCasts_S1x256x1024_S256x1024 f w L

section Step

variable {x : Vec F S512x1024 .f32} {g : Vec F S1x1024 .f32} {w : Vec F S1024x1024 .f32} {x' : Vec F S1x512x1024 .f32} {g' : Vec F S1x1024 .f32}
  {w' : Vec F S1024x1024 .f32}

/-- The keys' rows from what the body loaded; -/
theorem kRows_of (hx : x' = shapeCast S1x512x1024 x (by decide)) (hg : g' = g) (hw : w' = w) :
    k0_pay5 (k0_pay3 x' g') (k0_pay4 w') (constant S512x1024 .f32 0x00000000#32) = kRows x g w := by subst hx hg hw; rfl
/-- the values' rows. -/
theorem vRows_of (hx : x' = shapeCast S1x512x1024 x (by decide)) (hg : g' = g) (hw : w' = w) :
    k0_pay6 (k0_pay3 x' g') w' = vRows x g w := by subst hx hg hw; rfl
/-- The rounded rows as a ring's slot holds them: of the keys, -/
theorem kSlot_of {y Y : FVec F S512x1024 .f32} (h : y = Y) :
    k0_pay23 y = shapeCast S1x512x1024 (truncf .bf16 Y bitsLt_bf16_f32) shapeCasts_S512x1024_S1x512x1024 := by subst h; rfl
/-- of the values, -/
theorem vSlot_of {y Y : FVec F S512x1024 .f32} (h : y = Y) :
    k0_pay24 y = shapeCast S1x512x1024 (truncf .bf16 Y bitsLt_bf16_f32) shapeCasts_S512x1024_S1x512x1024 := by subst h; rfl
/-- of the in-projection's weight, -/
theorem wSlot_of {v : Vec F S1x256x2304 .f32} {u : Vec F S256x2304 .f32} (h : v = shapeCast S1x256x2304 u shapeCasts_S256x2304_S1x256x2304) :
    k0_pay1 v = shapeCast S1x256x2304 (truncf .bf16 u bitsLt_bf16_f32) shapeCasts_S256x2304_S1x256x2304 := by
  subst h
  exact congrArg (fun z => shapeCast S1x256x2304 (truncf .bf16 z bitsLt_bf16_f32) shapeCasts_S256x2304_S1x256x2304) (shapeCast_shapeCast u _ _)
/-- of the out-projection's. -/
theorem oSlot_of {v : Vec F S1x256x1024 .f32} {u : Vec F S256x1024 .f32} (h : v = shapeCast S1x256x1024 u shapeCasts_S256x1024_S1x256x1024) :
    k0_pay2 v = shapeCast S1x256x1024 (truncf .bf16 u bitsLt_bf16_f32) shapeCasts_S256x1024_S1x256x1024 := by
  subst h
  exact congrArg (fun z => shapeCast S1x256x1024 (truncf .bf16 z bitsLt_bf16_f32) shapeCasts_S256x1024_S1x256x1024) (shapeCast_shapeCast u _ _)

end Step

/-! ## What a step's transfers write -/

section Out

local notation "𝕄" => MT nD τ sig Unit (Elt F) ℕ (UU nD τ) ℕ

open Idealize.SL Idealize.SL.RA Idealize.SL.BI Idealize.SL.ProofMode Idealize.SL.Sem
open scoped Idealize.SL.BI
open Idealize.SL.BI.BIBase Idealize.SL.BI.Laws

/-- A block a transfer wrote whole holds what the transfer carried. -/
theorem out_whole {s : Shape} {e : EltTy} (c : Dev nD) (M : Memref sig .tc .hbm s e) (f : Buf (Elt F) (M.view.loc (c : Thread nD τ)))
    {x X : s.Idx → Elt F e} (h : x = X) :
    (whP c M (M.view.writes (Elt F) f [⟨Rect.whole s, x⟩]) : sProp 𝕄) ⊢ whP c M (M.view.rep X) :=
  pointsTo_rep_of_read (c : Thread nD τ) M _ fullShare X ((read_whole_cons M.view f x []).trans h)

/-- What a slot of eight planes hands its transfer. -/
theorem planes_slot (al : Memref sig .tc .vmem S2x4096x128 .f32) (s : Fin 2) (f : (sK al s).view.ty.Contents (Elt F))
    {y Y : Vec F S512x1024 .f32} (h : y = Y) (L : List (View.Piece (Elt F) S4096x128 .f32)) :
    ReadAs.same.apply ((sK al s).view.read (Elt F) ((sK al s).view.writes (Elt F) f
      (⟨eighth 7 inb_S4096x128_S512x128_7_0_s_8_1, extractStridedSlice S512x128 ![0, 896] y slices_S512x1024_o0_896_S512x128⟩
        :: ⟨eighth 3 inb_S4096x128_S512x128_3_0_s_8_1, extractStridedSlice S512x128 ![0, 768] y slices_S512x1024_o0_768_S512x128⟩
        :: ⟨eighth 6 inb_S4096x128_S512x128_6_0_s_8_1, extractStridedSlice S512x128 ![0, 640] y slices_S512x1024_o0_640_S512x128⟩
        :: ⟨eighth 2 inb_S4096x128_S512x128_2_0_s_8_1, extractStridedSlice S512x128 ![0, 512] y slices_S512x1024_o0_512_S512x128⟩
        :: ⟨eighth 5 inb_S4096x128_S512x128_5_0_s_8_1, extractStridedSlice S512x128 ![0, 384] y slices_S512x1024_o0_384_S512x128⟩
        :: ⟨eighth 1 inb_S4096x128_S512x128_1_0_s_8_1, extractStridedSlice S512x128 ![0, 256] y slices_S512x1024_o0_256_S512x128⟩
        :: ⟨eighth 4 inb_S4096x128_S512x128_4_0_s_8_1, extractStridedSlice S512x128 ![0, 128] y slices_S512x1024_o0_128_S512x128⟩
        :: ⟨eighth 0 inb_S4096x128_S512x128_0_0_s_8_1, extractStridedSlice S512x128 ![0, 0] y slices_S512x1024_o0_0_S512x128⟩
        :: L))) = planes Y := by
  subst h; exact read_planes (sK al s).view f y L

/-- What a slot stored whole hands its transfer: the values without the slot axis. -/
theorem cast_slot {S t : Shape} {e : EltTy} (al : Memref sig .tc .vmem S e) (r : Rect S) (h₀ : ∀ a, r.stride a = 1) (hq : r.shape.Squeezes t)
    (hc : t.ShapeCasts r.shape) (hc' : r.shape.ShapeCasts t) (f : (al.access r).ty.Contents (Elt F)) {p : r.shape.Idx → Elt F e} {X : t.Idx → Elt F e} (h : p = shapeCast r.shape X hc) :
    ReadAs.same.apply (((al.slice r h₀).squeeze t hq).view.read (Elt F) ((al.access r).write (Elt F) f p Finset.univ)) = X := by
  subst h
  exact (read_slot al r h₀ hq hc' f _).trans (shapeCast_shapeCast X hc hc')

/-- What a slot of a bf16 result hands its transfer, -/
theorem sKb_out (al : Memref sig .tc .vmem S2x512x1024 .bf16) (s : Fin 2)
    (f : (al.access (Rect.unit (s := S2x512x1024) ![s.val, 0, 0] S1x512x1024.size (sKb_inb s))).ty.Contents (Elt F)) {p : S1x512x1024.Idx → Elt F .bf16}
    {X : S512x1024.Idx → Elt F .bf16} (h : p = shapeCast S1x512x1024 X shapeCasts_S512x1024_S1x512x1024) :
    ReadAs.same.apply ((sKb al s).view.read (Elt F)
      ((al.access (Rect.unit (s := S2x512x1024) ![s.val, 0, 0] S1x512x1024.size (sKb_inb s))).write (Elt F) f p Finset.univ)) = X :=
  cast_slot al _ _ _ shapeCasts_S512x1024_S1x512x1024 shapeCasts_S1x512x1024_S512x1024 f h
/-- of the rounded in-projection's weight, -/
theorem sWb_out (al : Memref sig .tc .vmem S2x256x2304 .bf16) (s : Fin 2)
    (f : (al.access (Rect.unit (s := S2x256x2304) ![s.val, 0, 0] S1x256x2304.size (sWb_inb s))).ty.Contents (Elt F)) {p : S1x256x2304.Idx → Elt F .bf16}
    {X : S256x2304.Idx → Elt F .bf16} (h : p = shapeCast S1x256x2304 X shapeCasts_S256x2304_S1x256x2304) :
    ReadAs.same.apply ((sWb al s).view.read (Elt F)
      ((al.access (Rect.unit (s := S2x256x2304) ![s.val, 0, 0] S1x256x2304.size (sWb_inb s))).write (Elt F) f p Finset.univ)) = X :=
  cast_slot al _ _ _ shapeCasts_S256x2304_S1x256x2304 shapeCasts_S1x256x2304_S256x2304 f h
/-- of the rounded out-projection's weight. -/
theorem sOb_out (al : Memref sig .tc .vmem S2x256x1024 .bf16) (s : Fin 2)
    (f : (al.access (Rect.unit (s := S2x256x1024) ![s.val, 0, 0] S1x256x1024.size (sOb_inb s))).ty.Contents (Elt F)) {p : S1x256x1024.Idx → Elt F .bf16}
    {X : S256x1024.Idx → Elt F .bf16} (h : p = shapeCast S1x256x1024 X shapeCasts_S256x1024_S1x256x1024) :
    ReadAs.same.apply ((sOb al s).view.read (Elt F)
      ((al.access (Rect.unit (s := S2x256x1024) ![s.val, 0, 0] S1x256x1024.size (sOb_inb s))).write (Elt F) f p Finset.univ)) = X :=
  cast_slot al _ _ _ shapeCasts_S256x1024_S1x256x1024 shapeCasts_S1x256x1024_S256x1024 f h

end Out

end Cert.Proof.Memory

end
-- ==== Proof.Body.lean ====
/-
  The run of `memory_kv`'s body: its pipeline's four steps, each transfer started and waited for where the kernel does.

  Held before: every block of the operands, every slot of the rings, every transfer's cell at zero. Held after: the inputs as they
  were, each block of a result at the values its step computes, the slots at something, the cells at zero again.
-/
module

public import proofs.«01_k».proof.Proof.Values

@[expose] public section

noncomputable section

namespace Cert.Proof.Memory

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section
variable (c : Dev nD)
  (arg0 : Memref sig .tc .hbm S2048x1024 .f32) (harg0 : arg0.IsWhole)
  (arg1 : Memref sig .tc .hbm S1x1024 .f32) (harg1 : arg1.IsWhole)
  (arg2 : Memref sig .tc .hbm S1024x1024 .f32) (harg2 : arg2.IsWhole)
  (arg3 : Memref sig .tc .hbm S1024x1024 .f32) (harg3 : arg3.IsWhole)
  (arg4 : Memref sig .tc .hbm S1024x2304 .f32) (harg4 : arg4.IsWhole)
  (arg5 : Memref sig .tc .hbm S1024x1024 .f32) (harg5 : arg5.IsWhole)
  (arg6 : Memref sig .tc .hbm S16384x128 .f32) (harg6 : arg6.IsWhole)
  (arg7 : Memref sig .tc .hbm S16384x128 .f32) (harg7 : arg7.IsWhole)
  (arg8 : Memref sig .tc .hbm S2048x1024 .bf16) (harg8 : arg8.IsWhole)
  (arg9 : Memref sig .tc .hbm S2048x1024 .bf16) (harg9 : arg9.IsWhole)
  (arg10 : Memref sig .tc .hbm S1024x2304 .bf16) (harg10 : arg10.IsWhole)
  (arg11 : Memref sig .tc .hbm S1024x1024 .bf16) (harg11 : arg11.IsWhole)
  (al : Memref sig .tc .vmem S3x512x1024 .f32) (hal : al.IsWhole) (v0 : DmaSems sig S3)
  (al_0 : Memref sig .tc .vmem S1x1024 .f32) (hal_0 : al_0.IsWhole)
  (al_1 : Memref sig .tc .vmem S1024x1024 .f32) (hal_1 : al_1.IsWhole)
  (al_2 : Memref sig .tc .vmem S1024x1024 .f32) (hal_2 : al_2.IsWhole)
  (al_3 : Memref sig .tc .vmem S3x256x2304 .f32) (hal_3 : al_3.IsWhole) (v1 : DmaSems sig S3)
  (al_4 : Memref sig .tc .vmem S3x256x1024 .f32) (hal_4 : al_4.IsWhole) (v2 : DmaSems sig S3)
  (al_5 : Memref sig .tc .vmem S2x4096x128 .f32) (hal_5 : al_5.IsWhole) (v3 : DmaSems sig S2)
  (al_6 : Memref sig .tc .vmem S2x4096x128 .f32) (hal_6 : al_6.IsWhole) (v4 : DmaSems sig S2)
  (al_7 : Memref sig .tc .vmem S2x512x1024 .bf16) (hal_7 : al_7.IsWhole) (v5 : DmaSems sig S2)
  (al_8 : Memref sig .tc .vmem S2x512x1024 .bf16) (hal_8 : al_8.IsWhole) (v6 : DmaSems sig S2)
  (al_9 : Memref sig .tc .vmem S2x256x2304 .bf16) (hal_9 : al_9.IsWhole) (v7 : DmaSems sig S2)
  (al_10 : Memref sig .tc .vmem S2x256x1024 .bf16) (hal_10 : al_10.IsWhole) (v8 : DmaSems sig S2)
  (w1 w2 w3 : DmaSems sig S_)
variable (fa0 : Buf (Elt F) (arg0.view.loc (c : Thread nD τ)))
  (fa1 : Buf (Elt F) (arg1.view.loc (c : Thread nD τ)))
  (fa2 : Buf (Elt F) (arg2.view.loc (c : Thread nD τ)))
  (fa3 : Buf (Elt F) (arg3.view.loc (c : Thread nD τ)))
  (fa4 : Buf (Elt F) (arg4.view.loc (c : Thread nD τ)))
  (fa5 : Buf (Elt F) (arg5.view.loc (c : Thread nD τ)))
  (fa6 : Buf (Elt F) (arg6.view.loc (c : Thread nD τ)))
  (fa7 : Buf (Elt F) (arg7.view.loc (c : Thread nD τ)))
  (fa8 : Buf (Elt F) (arg8.view.loc (c : Thread nD τ)))
  (fa9 : Buf (Elt F) (arg9.view.loc (c : Thread nD τ)))
  (fa10 : Buf (Elt F) (arg10.view.loc (c : Thread nD τ)))
  (fa11 : Buf (Elt F) (arg11.view.loc (c : Thread nD τ)))
  (fl : Buf (Elt F) (al.view.loc (c : Thread nD τ)))
  (fl_0 : Buf (Elt F) (al_0.view.loc (c : Thread nD τ)))
  (fl_1 : Buf (Elt F) (al_1.view.loc (c : Thread nD τ)))
  (fl_2 : Buf (Elt F) (al_2.view.loc (c : Thread nD τ)))
  (fl_3 : Buf (Elt F) (al_3.view.loc (c : Thread nD τ)))
  (fl_4 : Buf (Elt F) (al_4.view.loc (c : Thread nD τ)))
  (fl_5 : Buf (Elt F) (al_5.view.loc (c : Thread nD τ)))
  (fl_6 : Buf (Elt F) (al_6.view.loc (c : Thread nD τ)))
  (fl_7 : Buf (Elt F) (al_7.view.loc (c : Thread nD τ)))
  (fl_8 : Buf (Elt F) (al_8.view.loc (c : Thread nD τ)))
  (fl_9 : Buf (Elt F) (al_9.view.loc (c : Thread nD τ)))
  (fl_10 : Buf (Elt F) (al_10.view.loc (c : Thread nD τ)))
  (W : Finset (SemLoc sig × Unit))

/-- What the body starts from. -/
abbrev Pre : sProp 𝕄 := iprop(
  whP c arg1 fa1
  ∗ whP c arg2 fa2
  ∗ whP c arg3 fa3
  ∗ four (fun b => whP c (bA arg0 b) fa0)
  ∗ four (fun b => whP c (bW arg4 b) fa4)
  ∗ four (fun b => whP c (bO arg5 b) fa5)
  ∗ four (fun b => whP c (bK arg6 b) fa6)
  ∗ four (fun b => whP c (bK arg7 b) fa7)
  ∗ four (fun b => whP c (bKb arg8 b) fa8)
  ∗ four (fun b => whP c (bKb arg9 b) fa9)
  ∗ four (fun b => whP c (bWb arg10 b) fa10)
  ∗ four (fun b => whP c (bOb arg11 b) fa11)
  ∗ whP c al_0 fl_0
  ∗ whP c al_1 fl_1
  ∗ whP c al_2 fl_2
  ∗ three (fun s => whP c (sA al s) fl)
  ∗ three (fun s => whP c (sW al_3 s) fl_3)
  ∗ three (fun s => whP c (sO al_4 s) fl_4)
  ∗ two (fun s => whP c (sK al_5 s) fl_5)
  ∗ two (fun s => whP c (sK al_6 s) fl_6)
  ∗ two (fun s => whP c (sKb al_7 s) fl_7)
  ∗ two (fun s => whP c (sKb al_8 s) fl_8)
  ∗ two (fun s => whP c (sWb al_9 s) fl_9)
  ∗ two (fun s => whP c (sOb al_10 s) fl_10)
  ∗ three (fun s => cP c (s3 v0 s))
  ∗ three (fun s => cP c (s3 v1 s))
  ∗ three (fun s => cP c (s3 v2 s))
  ∗ two (fun s => cP c (s2 v3 s))
  ∗ two (fun s => cP c (s2 v4 s))
  ∗ two (fun s => cP c (s2 v5 s))
  ∗ two (fun s => cP c (s2 v6 s))
  ∗ two (fun s => cP c (s2 v7 s))
  ∗ two (fun s => cP c (s2 v8 s))
  ∗ cP c w1
  ∗ cP c w2
  ∗ cP c w3
  ∗ owes (c : Thread nD τ) 0 W)

/-- What it leaves. -/
abbrev Post : sProp 𝕄 := iprop(
  whP c arg1 fa1
  ∗ whP c arg2 fa2
  ∗ whP c arg3 fa3
  ∗ four (fun b => whP c (bA arg0 b) fa0)
  ∗ four (fun b => whP c (bW arg4 b) fa4)
  ∗ four (fun b => whP c (bO arg5 b) fa5)
  ∗ four (fun b => whP c (bK arg6 b) ((bK arg6 b).view.rep (planes (kRows ((bA arg0 b).view.read (Elt F) fa0) (arg1.view.read (Elt F) fa1) (arg2.view.read (Elt F) fa2)))))
  ∗ four (fun b => whP c (bK arg7 b) ((bK arg7 b).view.rep (planes (vRows ((bA arg0 b).view.read (Elt F) fa0) (arg1.view.read (Elt F) fa1) (arg3.view.read (Elt F) fa3)))))
  ∗ four (fun b => whP c (bKb arg8 b) ((bKb arg8 b).view.rep (truncf .bf16 (kRows ((bA arg0 b).view.read (Elt F) fa0) (arg1.view.read (Elt F) fa1) (arg2.view.read (Elt F) fa2)) bitsLt_bf16_f32)))
  ∗ four (fun b => whP c (bKb arg9 b) ((bKb arg9 b).view.rep (truncf .bf16 (vRows ((bA arg0 b).view.read (Elt F) fa0) (arg1.view.read (Elt F) fa1) (arg3.view.read (Elt F) fa3)) bitsLt_bf16_f32)))
  ∗ four (fun b => whP c (bWb arg10 b) ((bWb arg10 b).view.rep (truncf .bf16 ((bW arg4 b).view.read (Elt F) fa4) bitsLt_bf16_f32)))
  ∗ four (fun b => whP c (bOb arg11 b) ((bOb arg11 b).view.rep (truncf .bf16 ((bO arg5 b).view.read (Elt F) fa5) bitsLt_bf16_f32)))
  ∗ iprop(∃ f, whP c al_0 f)
  ∗ iprop(∃ f, whP c al_1 f)
  ∗ iprop(∃ f, whP c al_2 f)
  ∗ three (fun s => iprop(∃ f, whP c (sA al s) f))
  ∗ three (fun s => iprop(∃ f, whP c (sW al_3 s) f))
  ∗ three (fun s => iprop(∃ f, whP c (sO al_4 s) f))
  ∗ two (fun s => iprop(∃ f, whP c (sK al_5 s) f))
  ∗ two (fun s => iprop(∃ f, whP c (sK al_6 s) f))
  ∗ two (fun s => iprop(∃ f, whP c (sKb al_7 s) f))
  ∗ two (fun s => iprop(∃ f, whP c (sKb al_8 s) f))
  ∗ two (fun s => iprop(∃ f, whP c (sWb al_9 s) f))
  ∗ two (fun s => iprop(∃ f, whP c (sOb al_10 s) f))
  ∗ three (fun s => cP c (s3 v0 s))
  ∗ three (fun s => cP c (s3 v1 s))
  ∗ three (fun s => cP c (s3 v2 s))
  ∗ two (fun s => cP c (s2 v3 s))
  ∗ two (fun s => cP c (s2 v4 s))
  ∗ two (fun s => cP c (s2 v5 s))
  ∗ two (fun s => cP c (s2 v6 s))
  ∗ two (fun s => cP c (s2 v7 s))
  ∗ two (fun s => cP c (s2 v8 s))
  ∗ cP c w1
  ∗ cP c w2
  ∗ cP c w3
  ∗ iprop(∃ W, owes (c : Thread nD τ) 0 W))

set_option maxHeartbeats 0 in
/-- The body's run. -/
theorem run_memory (Q : PUnit → sProp 𝕄) :
    iprop(Pre c arg0 arg1 arg2 arg3 arg4 arg5 arg6 arg7 arg8 arg9 arg10 arg11 al v0 al_0 al_1 al_2 al_3 v1 al_4 v2 al_5 v3 al_6 v4 al_7 v5 al_8 v6 al_9 v7 al_10 v8 w1 w2 w3 fa0 fa1 fa2 fa3 fa4 fa5 fa6 fa7 fa8 fa9 fa10 fa11 fl fl_0 fl_1 fl_2 fl_3 fl_4 fl_5 fl_6 fl_7 fl_8 fl_9 fl_10 W ∗ (Post c arg0 arg1 arg2 arg3 arg4 arg5 arg6 arg7 arg8 arg9 arg10 arg11 al v0 al_0 al_1 al_2 al_3 v1 al_4 v2 al_5 v3 al_6 v4 al_7 v5 al_8 v6 al_9 v7 al_10 v8 w1 w2 w3 fa0 fa1 fa2 fa3 fa4 fa5 -∗ Q ⟨⟩))
      ⊢ wp frame (wpE (defs₀ (F := F)) 𝒱₀ (c : Thread nD τ) none) Set.univ
        (cc0_memory_kv (F := F) arg0 harg0 arg1 harg1 arg2 harg2 arg3 harg3 arg4 harg4 arg5 harg5 arg6 harg6 arg7 harg7 arg8 harg8 arg9 harg9 arg10 harg10 arg11 harg11 al hal v0 al_0 hal_0 al_1 hal_1 al_2 hal_2 al_3 hal_3 v1 al_4 hal_4 v2 al_5 hal_5 v3 al_6 hal_6 v4 al_7 hal_7 v5 al_8 hal_8 v6 al_9 hal_9 v7 al_10 hal_10 v8 w1 w2 w3) Q := by
  simp only [Pre, Post, two, three, four]
  sl_unfold [cc0_memory_kv]
  iintro ⟨⟨Ha1, Ha2, Ha3, ⟨Ha0_0, Ha0_1, Ha0_2, Ha0_3⟩, ⟨Ha4_0, Ha4_1, Ha4_2, Ha4_3⟩, ⟨Ha5_0, Ha5_1, Ha5_2, Ha5_3⟩, ⟨Ha6_0, Ha6_1, Ha6_2, Ha6_3⟩, ⟨Ha7_0, Ha7_1,
    Ha7_2, Ha7_3⟩, ⟨Ha8_0, Ha8_1, Ha8_2, Ha8_3⟩, ⟨Ha9_0, Ha9_1, Ha9_2, Ha9_3⟩, ⟨Ha10_0, Ha10_1, Ha10_2, Ha10_3⟩, ⟨Ha11_0, Ha11_1, Ha11_2, Ha11_3⟩, Hr_0,
    Hr_1, Hr_2, ⟨Hl_0, Hl_1, Hl_2⟩, ⟨Hl_3_0, Hl_3_1, Hl_3_2⟩, ⟨Hl_4_0, Hl_4_1, Hl_4_2⟩, ⟨Hl_5_0, Hl_5_1⟩, ⟨Hl_6_0, Hl_6_1⟩, ⟨Hl_7_0, Hl_7_1⟩, ⟨Hl_8_0,
    Hl_8_1⟩, ⟨Hl_9_0, Hl_9_1⟩, ⟨Hl_10_0, Hl_10_1⟩, ⟨Hcv0_0, Hcv0_1, Hcv0_2⟩, ⟨Hcv1_0, Hcv1_1, Hcv1_2⟩, ⟨Hcv2_0, Hcv2_1, Hcv2_2⟩, ⟨Hcv3_0, Hcv3_1⟩,
    ⟨Hcv4_0, Hcv4_1⟩, ⟨Hcv5_0, Hcv5_1⟩, ⟨Hcv6_0, Hcv6_1⟩, ⟨Hcv7_0, Hcv7_1⟩, ⟨Hcv8_0, Hcv8_1⟩, Hcw1, Hcw2, Hcw3, HW⟩, HPOST⟩
  set_option sl_exec.unrollTrips 4 in sl_exec (disch := decide)
  sl_step
  iapply HPOST
  isplitl [Ha1]; · iexact Ha1
  isplitl [Ha2]; · iexact Ha2
  isplitl [Ha3]; · iexact Ha3
  isplitl [Ha0_0 Ha0_1 Ha0_2 Ha0_3]
  · isplitl [Ha0_0]; · iexact Ha0_0
    isplitl [Ha0_1]; · iexact Ha0_1
    isplitl [Ha0_2]; · iexact Ha0_2
    iexact Ha0_3
  isplitl [Ha4_0 Ha4_1 Ha4_2 Ha4_3]
  · isplitl [Ha4_0]; · iexact Ha4_0
    isplitl [Ha4_1]; · iexact Ha4_1
    isplitl [Ha4_2]; · iexact Ha4_2
    iexact Ha4_3
  isplitl [Ha5_0 Ha5_1 Ha5_2 Ha5_3]
  · isplitl [Ha5_0]; · iexact Ha5_0
    isplitl [Ha5_1]; · iexact Ha5_1
    isplitl [Ha5_2]; · iexact Ha5_2
    iexact Ha5_3
  isplitl [Ha6_0 Ha6_1 Ha6_2 Ha6_3]
  · isplitl [Ha6_0]; · iapply (out_whole c (bK arg6 0) fa6 (planes_slot al_5 0 _ (kRows_of (load_sA al 0 _ _ _) (load_gain al_0.view _ _ _) (load_weight al_1.view _ _ _)) _)); iexact Ha6_0
    isplitl [Ha6_1]; · iapply (out_whole c (bK arg6 1) fa6 (planes_slot al_5 1 _ (kRows_of (load_sA al 1 _ _ _) (load_gain al_0.view _ _ _) (load_weight al_1.view _ _ _)) _)); iexact Ha6_1
    isplitl [Ha6_2]; · iapply (out_whole c (bK arg6 2) fa6 (planes_slot al_5 0 _ (kRows_of (load_sA al 2 _ _ _) (load_gain al_0.view _ _ _) (load_weight al_1.view _ _ _)) _)); iexact Ha6_2
    iapply (out_whole c (bK arg6 3) fa6 (planes_slot al_5 1 _ (kRows_of (load_sA al 0 _ _ _) (load_gain al_0.view _ _ _) (load_weight al_1.view _ _ _)) _)); iexact Ha6_3
  isplitl [Ha7_0 Ha7_1 Ha7_2 Ha7_3]
  · isplitl [Ha7_0]; · iapply (out_whole c (bK arg7 0) fa7 (planes_slot al_6 0 _ (vRows_of (load_sA al 0 _ _ _) (load_gain al_0.view _ _ _) (load_weight al_2.view _ _ _)) _)); iexact Ha7_0
    isplitl [Ha7_1]; · iapply (out_whole c (bK arg7 1) fa7 (planes_slot al_6 1 _ (vRows_of (load_sA al 1 _ _ _) (load_gain al_0.view _ _ _) (load_weight al_2.view _ _ _)) _)); iexact Ha7_1
    isplitl [Ha7_2]; · iapply (out_whole c (bK arg7 2) fa7 (planes_slot al_6 0 _ (vRows_of (load_sA al 2 _ _ _) (load_gain al_0.view _ _ _) (load_weight al_2.view _ _ _)) _)); iexact Ha7_2
    iapply (out_whole c (bK arg7 3) fa7 (planes_slot al_6 1 _ (vRows_of (load_sA al 0 _ _ _) (load_gain al_0.view _ _ _) (load_weight al_2.view _ _ _)) _)); iexact Ha7_3
  isplitl [Ha8_0 Ha8_1 Ha8_2 Ha8_3]
  · isplitl [Ha8_0]; · iapply (out_whole c (bKb arg8 0) fa8 (sKb_out al_7 0 _ (kSlot_of (kRows_of (load_sA al 0 _ _ _) (load_gain al_0.view _ _ _) (load_weight al_1.view _ _ _))))); iexact Ha8_0
    isplitl [Ha8_1]; · iapply (out_whole c (bKb arg8 1) fa8 (sKb_out al_7 1 _ (kSlot_of (kRows_of (load_sA al 1 _ _ _) (load_gain al_0.view _ _ _) (load_weight al_1.view _ _ _))))); iexact Ha8_1
    isplitl [Ha8_2]; · iapply (out_whole c (bKb arg8 2) fa8 (sKb_out al_7 0 _ (kSlot_of (kRows_of (load_sA al 2 _ _ _) (load_gain al_0.view _ _ _) (load_weight al_1.view _ _ _))))); iexact Ha8_2
    iapply (out_whole c (bKb arg8 3) fa8 (sKb_out al_7 1 _ (kSlot_of (kRows_of (load_sA al 0 _ _ _) (load_gain al_0.view _ _ _) (load_weight al_1.view _ _ _))))); iexact Ha8_3
  isplitl [Ha9_0 Ha9_1 Ha9_2 Ha9_3]
  · isplitl [Ha9_0]; · iapply (out_whole c (bKb arg9 0) fa9 (sKb_out al_8 0 _ (vSlot_of (vRows_of (load_sA al 0 _ _ _) (load_gain al_0.view _ _ _) (load_weight al_2.view _ _ _))))); iexact Ha9_0
    isplitl [Ha9_1]; · iapply (out_whole c (bKb arg9 1) fa9 (sKb_out al_8 1 _ (vSlot_of (vRows_of (load_sA al 1 _ _ _) (load_gain al_0.view _ _ _) (load_weight al_2.view _ _ _))))); iexact Ha9_1
    isplitl [Ha9_2]; · iapply (out_whole c (bKb arg9 2) fa9 (sKb_out al_8 0 _ (vSlot_of (vRows_of (load_sA al 2 _ _ _) (load_gain al_0.view _ _ _) (load_weight al_2.view _ _ _))))); iexact Ha9_2
    iapply (out_whole c (bKb arg9 3) fa9 (sKb_out al_8 1 _ (vSlot_of (vRows_of (load_sA al 0 _ _ _) (load_gain al_0.view _ _ _) (load_weight al_2.view _ _ _))))); iexact Ha9_3
  isplitl [Ha10_0 Ha10_1 Ha10_2 Ha10_3]
  · isplitl [Ha10_0]; · iapply (out_whole c (bWb arg10 0) fa10 (sWb_out al_9 0 _ (wSlot_of (load_sW al_3 0 _ _ _)))); iexact Ha10_0
    isplitl [Ha10_1]; · iapply (out_whole c (bWb arg10 1) fa10 (sWb_out al_9 1 _ (wSlot_of (load_sW al_3 1 _ _ _)))); iexact Ha10_1
    isplitl [Ha10_2]; · iapply (out_whole c (bWb arg10 2) fa10 (sWb_out al_9 0 _ (wSlot_of (load_sW al_3 2 _ _ _)))); iexact Ha10_2
    iapply (out_whole c (bWb arg10 3) fa10 (sWb_out al_9 1 _ (wSlot_of (load_sW al_3 0 _ _ _)))); iexact Ha10_3
  isplitl [Ha11_0 Ha11_1 Ha11_2 Ha11_3]
  · isplitl [Ha11_0]; · iapply (out_whole c (bOb arg11 0) fa11 (sOb_out al_10 0 _ (oSlot_of (load_sO al_4 0 _ _ _)))); iexact Ha11_0
    isplitl [Ha11_1]; · iapply (out_whole c (bOb arg11 1) fa11 (sOb_out al_10 1 _ (oSlot_of (load_sO al_4 1 _ _ _)))); iexact Ha11_1
    isplitl [Ha11_2]; · iapply (out_whole c (bOb arg11 2) fa11 (sOb_out al_10 0 _ (oSlot_of (load_sO al_4 2 _ _ _)))); iexact Ha11_2
    iapply (out_whole c (bOb arg11 3) fa11 (sOb_out al_10 1 _ (oSlot_of (load_sO al_4 0 _ _ _)))); iexact Ha11_3
  isplitl [Hr_0]; · iexists _; iexact Hr_0
  isplitl [Hr_1]; · iexists _; iexact Hr_1
  isplitl [Hr_2]; · iexists _; iexact Hr_2
  isplitl [Hl_0 Hl_1 Hl_2]
  · isplitl [Hl_0]; · iexists _; iexact Hl_0
    isplitl [Hl_1]; · iexists _; iexact Hl_1
    iexists _; iexact Hl_2
  isplitl [Hl_3_0 Hl_3_1 Hl_3_2]
  · isplitl [Hl_3_0]; · iexists _; iexact Hl_3_0
    isplitl [Hl_3_1]; · iexists _; iexact Hl_3_1
    iexists _; iexact Hl_3_2
  isplitl [Hl_4_0 Hl_4_1 Hl_4_2]
  · isplitl [Hl_4_0]; · iexists _; iexact Hl_4_0
    isplitl [Hl_4_1]; · iexists _; iexact Hl_4_1
    iexists _; iexact Hl_4_2
  isplitl [Hl_5_0 Hl_5_1]
  · isplitl [Hl_5_0]; · iexists _; iexact Hl_5_0
    iexists _; iexact Hl_5_1
  isplitl [Hl_6_0 Hl_6_1]
  · isplitl [Hl_6_0]; · iexists _; iexact Hl_6_0
    iexists _; iexact Hl_6_1
  isplitl [Hl_7_0 Hl_7_1]
  · isplitl [Hl_7_0]; · iexists _; iexact Hl_7_0
    iexists _; iexact Hl_7_1
  isplitl [Hl_8_0 Hl_8_1]
  · isplitl [Hl_8_0]; · iexists _; iexact Hl_8_0
    iexists _; iexact Hl_8_1
  isplitl [Hl_9_0 Hl_9_1]
  · isplitl [Hl_9_0]; · iexists _; iexact Hl_9_0
    iexists _; iexact Hl_9_1
  isplitl [Hl_10_0 Hl_10_1]
  · isplitl [Hl_10_0]; · iexists _; iexact Hl_10_0
    iexists _; iexact Hl_10_1
  isplitl [Hcv0_0 Hcv0_1 Hcv0_2]
  · isplitl [Hcv0_0]; · iexact Hcv0_0
    isplitl [Hcv0_1]; · iexact Hcv0_1
    iexact Hcv0_2
  isplitl [Hcv1_0 Hcv1_1 Hcv1_2]
  · isplitl [Hcv1_0]; · iexact Hcv1_0
    isplitl [Hcv1_1]; · iexact Hcv1_1
    iexact Hcv1_2
  isplitl [Hcv2_0 Hcv2_1 Hcv2_2]
  · isplitl [Hcv2_0]; · iexact Hcv2_0
    isplitl [Hcv2_1]; · iexact Hcv2_1
    iexact Hcv2_2
  isplitl [Hcv3_0 Hcv3_1]
  · isplitl [Hcv3_0]; · iexact Hcv3_0
    iexact Hcv3_1
  isplitl [Hcv4_0 Hcv4_1]
  · isplitl [Hcv4_0]; · iexact Hcv4_0
    iexact Hcv4_1
  isplitl [Hcv5_0 Hcv5_1]
  · isplitl [Hcv5_0]; · iexact Hcv5_0
    iexact Hcv5_1
  isplitl [Hcv6_0 Hcv6_1]
  · isplitl [Hcv6_0]; · iexact Hcv6_0
    iexact Hcv6_1
  isplitl [Hcv7_0 Hcv7_1]
  · isplitl [Hcv7_0]; · iexact Hcv7_0
    iexact Hcv7_1
  isplitl [Hcv8_0 Hcv8_1]
  · isplitl [Hcv8_0]; · iexact Hcv8_0
    iexact Hcv8_1
  isplitl [Hcw1]; · iexact Hcw1
  isplitl [Hcw2]; · iexact Hcw2
  isplitl [Hcw3]; · iexact Hcw3
  iexists _; iexact HW

end

end Cert.Proof.Memory

end
-- ==== Proof.Blocks.lean ====
/-
  A buffer whole and cut: an array into its four blocks of rows, a ring into its slots, and back.
-/
module

public import proofs.«01_k».proof.Proof.Values
public import Idealize.ShloMosaic.Lib.Ring

@[expose] public section

noncomputable section

namespace Cert.Proof.Memory

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## Which block, which slot -/

/-- A row is in the block its number divided by the block's height names; -/
theorem mem_rows {R C r : Nat} (hr : 0 < r) (b : Nat) (h : ∀ a, (![r * b, 0] : Fin 2 → Nat) a + (![r, C] : Fin 2 → Nat) a ≤ (⟨2, ![R, C]⟩ : Shape).size a)
    (y : (⟨2, ![R, C]⟩ : Shape).Idx) : y ∈ (Rect.unit (s := ⟨2, ![R, C]⟩) ![r * b, 0] ![r, C] h).set ↔ (y 0).val / r = b := by
  rw [Rect.mem_set_unit]
  have h1 : (y 1).val < C := (y 1).isLt
  constructor
  · intro H
    have a0 : r * b ≤ (y 0).val ∧ (y 0).val < r * b + r := H 0
    exact Nat.div_eq_of_lt_le (by rw [Nat.mul_comm]; exact a0.1) (by rw [Nat.mul_comm, Nat.mul_succ]; exact a0.2)
  · intro H a
    match a with
    | ⟨0, _⟩ =>
      show r * b ≤ (y 0).val ∧ (y 0).val < r * b + r
      subst H
      exact ⟨Nat.mul_div_le _ _, by have := Nat.lt_mul_div_succ (y 0).val hr; rwa [Nat.mul_succ] at this⟩
    | ⟨1, _⟩ => show 0 ≤ (y 1).val ∧ (y 1).val < 0 + C; omega

/-- an element of a ring is in the slot its first coordinate names. -/
theorem mem_slot {n A B : Nat} (b : Nat) (h : ∀ a, (![b, 0, 0] : Fin 3 → Nat) a + (![1, A, B] : Fin 3 → Nat) a ≤ (⟨3, ![n, A, B]⟩ : Shape).size a)
    (y : (⟨3, ![n, A, B]⟩ : Shape).Idx) : y ∈ (Rect.unit (s := ⟨3, ![n, A, B]⟩) ![b, 0, 0] ![1, A, B] h).set ↔ (y 0).val = b := by
  rw [Rect.mem_set_unit]
  have h1 : (y 1).val < A := (y 1).isLt
  have h2 : (y 2).val < B := (y 2).isLt
  constructor
  · intro H; have a0 : b ≤ (y 0).val ∧ (y 0).val < b + 1 := H 0; omega
  · intro H a
    match a with
    | ⟨0, _⟩ => show b ≤ (y 0).val ∧ (y 0).val < b + 1; omega
    | ⟨1, _⟩ => show 0 ≤ (y 1).val ∧ (y 1).val < 0 + A; omega
    | ⟨2, _⟩ => show 0 ≤ (y 2).val ∧ (y 2).val < 0 + B; omega

/-! ## Cut and joined -/

section Cut

variable (r : Ref sig .tc) {n : Nat} (I : Fin n → Finset r.ty.Idx) (key : r.ty.Idx → Nat) (hk : ∀ b y, y ∈ I b ↔ key y = b.val)
  (hn : ∀ y, key y < n)

include hk in
theorem parts_disjoint : ∀ b b' : Fin n, b ≠ b' → Disjoint (I b) (I b') := fun b b' hne =>
  Finset.disjoint_left.mpr fun y hy hy' => hne (Fin.ext (((hk b y).mp hy).symm.trans ((hk b' y).mp hy')))
include hk hn in
theorem parts_cover : (Finset.univ : Finset (Fin n)).biUnion I = Finset.univ :=
  Finset.eq_univ_of_forall fun y => Finset.mem_biUnion.mpr ⟨⟨key y, hn y⟩, Finset.mem_univ _, (hk _ y).mpr rfl⟩

include hk hn in
/-- A buffer whole is its parts, -/
theorem whole_parts (c : Dev nD) (f : Buf (Elt F) ((c : Thread nD τ).loc r)) :
    (((c : Thread nD τ).loc r) ↦{fullShare} f : sProp 𝕄) = bigSep Finset.univ fun b => ((c : Thread nD τ).loc r) ↦[I b]{fullShare} f :=
  Ring.pointsTo_blocks (ℓ := (c : Thread nD τ).loc r) I (parts_disjoint r I key hk) (parts_cover r I key hk hn) f
include hk hn in
/-- and its parts, each at something, are the buffer at something. -/
theorem parts_whole (c : Dev nD) :
    bigSep Finset.univ (fun b => iprop(∃ f, ((c : Thread nD τ).loc r) ↦[I b]{fullShare} f))
      ⊢ (iprop(∃ f : Buf (Elt F) ((c : Thread nD τ).loc r), ((c : Thread nD τ).loc r) ↦{fullShare} f) : sProp 𝕄) :=
  Ring.pointsTo_blocks_join_exists (ℓ := (c : Thread nD τ).loc r) I (parts_disjoint r I key hk) (parts_cover r I key hk hn)
    (fun _ => Classical.ofNonempty)

end Cut

/-- Two, three and four of a kind as the parts are counted. -/
theorem two_eq (P : Fin 2 → sProp 𝕄) : bigSep Finset.univ P = two P :=
  bigSep_univ_eq_bigSepL [(0 : Fin 2), 1] (by decide) (by decide) P
theorem three_eq (P : Fin 3 → sProp 𝕄) : bigSep Finset.univ P = three P :=
  bigSep_univ_eq_bigSepL [(0 : Fin 3), 1, 2] (by decide) (by decide) P
theorem four_eq (P : Fin 4 → sProp 𝕄) : bigSep Finset.univ P = four P :=
  bigSep_univ_eq_bigSepL [(0 : Fin 4), 1, 2, 3] (by decide) (by decide) P

section Rows

variable (r : Ref sig .tc) {n : Nat} (R : Fin n → Rect r.ty.shape) (h : ∀ b a, (R b).stride a = 1) (key : r.ty.Idx → Nat)
  (hk : ∀ b y, y ∈ (R b).set ↔ key y = b.val) (hn : ∀ y, key y < n)

include hk hn in
/-- An array whole is its blocks. -/
theorem whole_blocks (c : Dev nD) (f : Buf (Elt F) ((c : Thread nD τ).loc r)) :
    (((c : Thread nD τ).loc r) ↦{fullShare} f : sProp 𝕄) = bigSep Finset.univ fun b => whP c ((Memref.whole r).slice (R b) (h b)) f :=
  (whole_parts r (fun b => (R b).set) key hk hn c f).trans (bigSep_congr fun b _ =>
    congrArg (fun S => (((c : Thread nD τ).loc r) ↦[S]{fullShare} f : sProp 𝕄)) (View.set_slice_whole r (R b)).symm)

include hk hn in
/-- Blocks that hold what an array reads there are the array. -/
theorem blocks_whole (c : Dev nD) (f : Buf (Elt F) ((c : Thread nD τ).loc r)) (X : (b : Fin n) → (R b).shape.Idx → Elt F r.ty.elt)
    (hX : ∀ b x, f ((R b).emb x) = X b x) :
    (bigSep Finset.univ fun b => whP c ((Memref.whole r).slice (R b) (h b)) (((Memref.whole r).slice (R b) (h b)).view.rep (X b)) : sProp 𝕄)
      = ((c : Thread nD τ).loc r) ↦{fullShare} f :=
  ((whole_blocks r R h key hk hn c f).trans (bigSep_congr fun b _ =>
    (pointsTo_rep (c : Thread nD τ) ((Memref.whole r).slice (R b) (h b)) f fullShare).trans
      (congrArg (fun x => whP c ((Memref.whole r).slice (R b) (h b)) (((Memref.whole r).slice (R b) (h b)).view.rep x)) (funext fun x => hX b x)))).symm

end Rows

section Slots

variable (r : Ref sig .tc) {n : Nat} {t : Shape} (R : Fin n → Rect r.ty.shape) (h : ∀ b a, (R b).stride a = 1)
  (hq : ∀ b, (R b).shape.Squeezes t) (key : r.ty.Idx → Nat) (hk : ∀ b y, y ∈ (R b).set ↔ key y = b.val) (hn : ∀ y, key y < n)

/-- What a slot's memref touches. -/
theorem slot_set (b : Fin n) : (((Memref.whole r).slice (R b) (h b)).squeeze t (hq b)).view.set = (R b).set :=
  (View.set_reshape _ _).trans (View.set_slice_whole r (R b))

include hk hn in
/-- A ring whole is its slots; -/
theorem whole_slots (c : Dev nD) (f : Buf (Elt F) ((c : Thread nD τ).loc r)) :
    (((c : Thread nD τ).loc r) ↦{fullShare} f : sProp 𝕄)
      = bigSep Finset.univ fun b => whP c (((Memref.whole r).slice (R b) (h b)).squeeze t (hq b)) f :=
  (whole_parts r (fun b => (R b).set) key hk hn c f).trans (bigSep_congr fun b _ =>
    congrArg (fun S => (((c : Thread nD τ).loc r) ↦[S]{fullShare} f : sProp 𝕄)) (slot_set r R h hq b).symm)
include hk hn in
/-- its slots, each at something, are the ring at something. -/
theorem slots_whole (c : Dev nD) :
    bigSep Finset.univ (fun b => iprop(∃ f, whP c (((Memref.whole r).slice (R b) (h b)).squeeze t (hq b)) f))
      ⊢ (iprop(∃ f : Buf (Elt F) ((c : Thread nD τ).loc r), ((c : Thread nD τ).loc r) ↦{fullShare} f) : sProp 𝕄) :=
  (Entails.of_eq (bigSep_congr fun b _ =>
    congrArg (fun S => (iprop(∃ f, ((c : Thread nD τ).loc r) ↦[S]{fullShare} f) : sProp 𝕄)) (slot_set r R h hq b))).trans
    (parts_whole r (fun b => (R b).set) key hk hn c)

end Slots

/-! ## An array from its blocks -/

/-- The array whose block `b` of `r` rows is `X b`. -/
def glue {α : Type} {R C r : Nat} (hR : R = 4 * r) (X : Fin 4 → (⟨2, ![r, C]⟩ : Shape).Idx → α) : (⟨2, ![R, C]⟩ : Shape).Idx → α := fun j =>
  X ⟨(j 0).val / r, Nat.div_lt_of_lt_mul (by rw [Nat.mul_comm, ← hR]; exact (j 0).isLt)⟩
    (ix2 (⟨(j 0).val % r, Nat.mod_lt _ (by have : (j 0).val < R := (j 0).isLt; omega)⟩ : Fin r) (⟨(j 1).val, (j 1).isLt⟩ : Fin C))

/-- It reads back. -/
theorem glue_emb {α : Type} {R C r : Nat} (hR : R = 4 * r) (X : Fin 4 → (⟨2, ![r, C]⟩ : Shape).Idx → α) (b : Fin 4)
    (h : ∀ a, (![r * b.val, 0] : Fin 2 → Nat) a + (![r, C] : Fin 2 → Nat) a ≤ (⟨2, ![R, C]⟩ : Shape).size a)
    (x : (⟨2, ![r, C]⟩ : Shape).Idx) : glue hR X ((Rect.unit (s := ⟨2, ![R, C]⟩) ![r * b.val, 0] ![r, C] h).emb x) = X b x := by
  have h0 : (((Rect.unit (s := ⟨2, ![R, C]⟩) ![r * b.val, 0] ![r, C] h).emb x) 0).val = r * b.val + 1 * (x 0).val := rfl
  have h1 : (((Rect.unit (s := ⟨2, ![R, C]⟩) ![r * b.val, 0] ![r, C] h).emb x) 1).val = 0 + 1 * (x 1).val := rfl
  have hx : (x 0).val < r := (x 0).isLt
  unfold glue
  congr 1
  · refine Fin.ext ?_
    show _ / r = b.val
    rw [h0, Nat.one_mul, Nat.mul_add_div (by omega), Nat.div_eq_of_lt hx, Nat.add_zero]
  · funext a
    match a with
    | ⟨0, _⟩ =>
      refine Fin.ext ?_
      show _ % r = (x 0).val
      rw [h0, Nat.one_mul, Nat.mul_add_mod, Nat.mod_eq_of_lt hx]
    | ⟨1, _⟩ =>
      refine Fin.ext ?_
      show (((Rect.unit (s := ⟨2, ![R, C]⟩) ![r * b.val, 0] ![r, C] h).emb x) 1).val = (x 1).val
      rw [h1]; omega

end Cert.Proof.Memory

end
-- ==== Proof.Cut.lean ====
/-
  The operands and the rings of `memory_kv` as its launch holds them — whole — and as its body does: by blocks and by slots.
-/
module

public import proofs.«01_k».proof.Proof.Blocks

@[expose] public section

noncomputable section

namespace Cert.Proof.Memory

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- A TensorCore buffer whole, at the contents `f`. -/
abbrev bufP (c : Dev nD) (r : Ref sig .tc) (f : Buf (Elt F) ((c : Thread nD τ).loc r)) : sProp 𝕄 := ((c : Thread nD τ).loc r) ↦{fullShare} f
/-- A TensorCore buffer whole, at something. -/
abbrev someP (c : Dev nD) (r : Ref sig .tc) : sProp 𝕄 := iprop(∃ f, bufP c r f)

/-- The number of an element's block is below four. -/
theorem div_lt {R C : Nat} (r : Nat) (hR : R = 4 * r) (y : (⟨2, ![R, C]⟩ : Shape).Idx) : (y 0).val / r < 4 :=
  Nat.div_lt_of_lt_mul (by rw [Nat.mul_comm, ← hR]; exact (y 0).isLt)

/-! ## The inputs by blocks -/

theorem split0 (c : Dev nD) (f) : (bufP c main_v0 f : sProp 𝕄) = four (fun b => whP c (bA (Memref.whole main_v0) b) f) :=
  (whole_blocks main_v0 (fun b : Fin 4 => Rect.unit (s := S2048x1024) ![512 * b.val, 0] S512x1024.size (bA_inb b)) (fun _ _ => rfl)
    (fun y : S2048x1024.Idx => (y 0).val / 512) (fun b y => mem_rows (by decide) b.val (bA_inb b) y) (div_lt 512 rfl) c f).trans (four_eq _)
theorem split4 (c : Dev nD) (f) : (bufP c main_v5 f : sProp 𝕄) = four (fun b => whP c (bW (Memref.whole main_v5) b) f) :=
  (whole_blocks main_v5 (fun b : Fin 4 => Rect.unit (s := S1024x2304) ![256 * b.val, 0] S256x2304.size (bW_inb b)) (fun _ _ => rfl)
    (fun y : S1024x2304.Idx => (y 0).val / 256) (fun b y => mem_rows (by decide) b.val (bW_inb b) y) (div_lt 256 rfl) c f).trans (four_eq _)
theorem split5 (c : Dev nD) (f) : (bufP c main_v6 f : sProp 𝕄) = four (fun b => whP c (bO (Memref.whole main_v6) b) f) :=
  (whole_blocks main_v6 (fun b : Fin 4 => Rect.unit (s := S1024x1024) ![256 * b.val, 0] S256x1024.size (bO_inb b)) (fun _ _ => rfl)
    (fun y : S1024x1024.Idx => (y 0).val / 256) (fun b y => mem_rows (by decide) b.val (bO_inb b) y) (div_lt 256 rfl) c f).trans (four_eq _)

/-! ## The results by blocks -/

theorem split6 (c : Dev nD) (f) : (bufP c main_v7_0 f : sProp 𝕄) = four (fun b => whP c (bK (Memref.whole main_v7_0) b) f) :=
  (whole_blocks main_v7_0 (fun b : Fin 4 => Rect.unit (s := S16384x128) ![4096 * b.val, 0] S4096x128.size (bK_inb b)) (fun _ _ => rfl)
    (fun y : S16384x128.Idx => (y 0).val / 4096) (fun b y => mem_rows (by decide) b.val (bK_inb b) y) (div_lt 4096 rfl) c f).trans (four_eq _)
theorem join6 (c : Dev nD) (X : Fin 4 → S4096x128.Idx → Elt F .f32) :
    four (fun b => whP c (bK (Memref.whole main_v7_0) b) ((bK (Memref.whole main_v7_0) b).view.rep (X b)))
      = (bufP c main_v7_0 (glue (R := 4 * 4096) rfl X) : sProp 𝕄) :=
  (four_eq _).symm.trans (blocks_whole main_v7_0 (fun b : Fin 4 => Rect.unit (s := S16384x128) ![4096 * b.val, 0] S4096x128.size (bK_inb b))
    (fun _ _ => rfl) (fun y : S16384x128.Idx => (y 0).val / 4096) (fun b y => mem_rows (by decide) b.val (bK_inb b) y) (div_lt 4096 rfl) c
    (glue (R := 4 * 4096) rfl X) X (fun b x => glue_emb rfl X b (bK_inb b) x))
theorem split7 (c : Dev nD) (f) : (bufP c main_v7_1 f : sProp 𝕄) = four (fun b => whP c (bK (Memref.whole main_v7_1) b) f) :=
  (whole_blocks main_v7_1 (fun b : Fin 4 => Rect.unit (s := S16384x128) ![4096 * b.val, 0] S4096x128.size (bK_inb b)) (fun _ _ => rfl)
    (fun y : S16384x128.Idx => (y 0).val / 4096) (fun b y => mem_rows (by decide) b.val (bK_inb b) y) (div_lt 4096 rfl) c f).trans (four_eq _)
theorem join7 (c : Dev nD) (X : Fin 4 → S4096x128.Idx → Elt F .f32) :
    four (fun b => whP c (bK (Memref.whole main_v7_1) b) ((bK (Memref.whole main_v7_1) b).view.rep (X b)))
      = (bufP c main_v7_1 (glue (R := 4 * 4096) rfl X) : sProp 𝕄) :=
  (four_eq _).symm.trans (blocks_whole main_v7_1 (fun b : Fin 4 => Rect.unit (s := S16384x128) ![4096 * b.val, 0] S4096x128.size (bK_inb b))
    (fun _ _ => rfl) (fun y : S16384x128.Idx => (y 0).val / 4096) (fun b y => mem_rows (by decide) b.val (bK_inb b) y) (div_lt 4096 rfl) c
    (glue (R := 4 * 4096) rfl X) X (fun b x => glue_emb rfl X b (bK_inb b) x))
theorem split8 (c : Dev nD) (f) : (bufP c main_v7_2 f : sProp 𝕄) = four (fun b => whP c (bKb (Memref.whole main_v7_2) b) f) :=
  (whole_blocks main_v7_2 (fun b : Fin 4 => Rect.unit (s := S2048x1024) ![512 * b.val, 0] S512x1024.size (bKb_inb b)) (fun _ _ => rfl)
    (fun y : S2048x1024.Idx => (y 0).val / 512) (fun b y => mem_rows (by decide) b.val (bKb_inb b) y) (div_lt 512 rfl) c f).trans (four_eq _)
theorem join8 (c : Dev nD) (X : Fin 4 → S512x1024.Idx → Elt F .bf16) :
    four (fun b => whP c (bKb (Memref.whole main_v7_2) b) ((bKb (Memref.whole main_v7_2) b).view.rep (X b)))
      = (bufP c main_v7_2 (glue (R := 4 * 512) rfl X) : sProp 𝕄) :=
  (four_eq _).symm.trans (blocks_whole main_v7_2 (fun b : Fin 4 => Rect.unit (s := S2048x1024) ![512 * b.val, 0] S512x1024.size (bKb_inb b))
    (fun _ _ => rfl) (fun y : S2048x1024.Idx => (y 0).val / 512) (fun b y => mem_rows (by decide) b.val (bKb_inb b) y) (div_lt 512 rfl) c
    (glue (R := 4 * 512) rfl X) X (fun b x => glue_emb rfl X b (bKb_inb b) x))
theorem split9 (c : Dev nD) (f) : (bufP c main_v7_3 f : sProp 𝕄) = four (fun b => whP c (bKb (Memref.whole main_v7_3) b) f) :=
  (whole_blocks main_v7_3 (fun b : Fin 4 => Rect.unit (s := S2048x1024) ![512 * b.val, 0] S512x1024.size (bKb_inb b)) (fun _ _ => rfl)
    (fun y : S2048x1024.Idx => (y 0).val / 512) (fun b y => mem_rows (by decide) b.val (bKb_inb b) y) (div_lt 512 rfl) c f).trans (four_eq _)
theorem join9 (c : Dev nD) (X : Fin 4 → S512x1024.Idx → Elt F .bf16) :
    four (fun b => whP c (bKb (Memref.whole main_v7_3) b) ((bKb (Memref.whole main_v7_3) b).view.rep (X b)))
      = (bufP c main_v7_3 (glue (R := 4 * 512) rfl X) : sProp 𝕄) :=
  (four_eq _).symm.trans (blocks_whole main_v7_3 (fun b : Fin 4 => Rect.unit (s := S2048x1024) ![512 * b.val, 0] S512x1024.size (bKb_inb b))
    (fun _ _ => rfl) (fun y : S2048x1024.Idx => (y 0).val / 512) (fun b y => mem_rows (by decide) b.val (bKb_inb b) y) (div_lt 512 rfl) c
    (glue (R := 4 * 512) rfl X) X (fun b x => glue_emb rfl X b (bKb_inb b) x))
theorem split10 (c : Dev nD) (f) : (bufP c main_v7_4 f : sProp 𝕄) = four (fun b => whP c (bWb (Memref.whole main_v7_4) b) f) :=
  (whole_blocks main_v7_4 (fun b : Fin 4 => Rect.unit (s := S1024x2304) ![256 * b.val, 0] S256x2304.size (bWb_inb b)) (fun _ _ => rfl)
    (fun y : S1024x2304.Idx => (y 0).val / 256) (fun b y => mem_rows (by decide) b.val (bWb_inb b) y) (div_lt 256 rfl) c f).trans (four_eq _)
theorem join10 (c : Dev nD) (X : Fin 4 → S256x2304.Idx → Elt F .bf16) :
    four (fun b => whP c (bWb (Memref.whole main_v7_4) b) ((bWb (Memref.whole main_v7_4) b).view.rep (X b)))
      = (bufP c main_v7_4 (glue (R := 4 * 256) rfl X) : sProp 𝕄) :=
  (four_eq _).symm.trans (blocks_whole main_v7_4 (fun b : Fin 4 => Rect.unit (s := S1024x2304) ![256 * b.val, 0] S256x2304.size (bWb_inb b))
    (fun _ _ => rfl) (fun y : S1024x2304.Idx => (y 0).val / 256) (fun b y => mem_rows (by decide) b.val (bWb_inb b) y) (div_lt 256 rfl) c
    (glue (R := 4 * 256) rfl X) X (fun b x => glue_emb rfl X b (bWb_inb b) x))
theorem split11 (c : Dev nD) (f) : (bufP c main_v7_5 f : sProp 𝕄) = four (fun b => whP c (bOb (Memref.whole main_v7_5) b) f) :=
  (whole_blocks main_v7_5 (fun b : Fin 4 => Rect.unit (s := S1024x1024) ![256 * b.val, 0] S256x1024.size (bOb_inb b)) (fun _ _ => rfl)
    (fun y : S1024x1024.Idx => (y 0).val / 256) (fun b y => mem_rows (by decide) b.val (bOb_inb b) y) (div_lt 256 rfl) c f).trans (four_eq _)
theorem join11 (c : Dev nD) (X : Fin 4 → S256x1024.Idx → Elt F .bf16) :
    four (fun b => whP c (bOb (Memref.whole main_v7_5) b) ((bOb (Memref.whole main_v7_5) b).view.rep (X b)))
      = (bufP c main_v7_5 (glue (R := 4 * 256) rfl X) : sProp 𝕄) :=
  (four_eq _).symm.trans (blocks_whole main_v7_5 (fun b : Fin 4 => Rect.unit (s := S1024x1024) ![256 * b.val, 0] S256x1024.size (bOb_inb b))
    (fun _ _ => rfl) (fun y : S1024x1024.Idx => (y 0).val / 256) (fun b y => mem_rows (by decide) b.val (bOb_inb b) y) (div_lt 256 rfl) c
    (glue (R := 4 * 256) rfl X) X (fun b x => glue_emb rfl X b (bOb_inb b) x))

/-! ## The rings by slots -/

theorem cut (c : Dev nD) (f) : (bufP c cc0_scoped0 f : sProp 𝕄) = three (fun s => whP c (sA (Memref.whole cc0_scoped0) s) f) :=
  (whole_slots cc0_scoped0 (fun b : Fin 3 => Rect.unit (s := S3x512x1024) ![b.val, 0, 0] S1x512x1024.size (sA_inb b)) (fun _ _ => rfl)
    (fun _ => squeezes_S1x512x1024_S512x1024) (fun y : S3x512x1024.Idx => (y 0).val) (fun b y => mem_slot b.val (sA_inb b) y) (fun y => (y 0).isLt) c f).trans (three_eq _)
theorem mend (c : Dev nD) : three (fun s => iprop(∃ f, whP c (sA (Memref.whole cc0_scoped0) s) f)) ⊢ (someP c cc0_scoped0 : sProp 𝕄) :=
  (Entails.of_eq (three_eq _).symm).trans (slots_whole cc0_scoped0 (fun b : Fin 3 => Rect.unit (s := S3x512x1024) ![b.val, 0, 0] S1x512x1024.size (sA_inb b)) (fun _ _ => rfl)
    (fun _ => squeezes_S1x512x1024_S512x1024) (fun y : S3x512x1024.Idx => (y 0).val) (fun b y => mem_slot b.val (sA_inb b) y) (fun y => (y 0).isLt) c)
theorem cut_3 (c : Dev nD) (f) : (bufP c cc0_scoped5 f : sProp 𝕄) = three (fun s => whP c (sW (Memref.whole cc0_scoped5) s) f) :=
  (whole_slots cc0_scoped5 (fun b : Fin 3 => Rect.unit (s := S3x256x2304) ![b.val, 0, 0] S1x256x2304.size (sW_inb b)) (fun _ _ => rfl)
    (fun _ => squeezes_S1x256x2304_S256x2304) (fun y : S3x256x2304.Idx => (y 0).val) (fun b y => mem_slot b.val (sW_inb b) y) (fun y => (y 0).isLt) c f).trans (three_eq _)
theorem mend_3 (c : Dev nD) : three (fun s => iprop(∃ f, whP c (sW (Memref.whole cc0_scoped5) s) f)) ⊢ (someP c cc0_scoped5 : sProp 𝕄) :=
  (Entails.of_eq (three_eq _).symm).trans (slots_whole cc0_scoped5 (fun b : Fin 3 => Rect.unit (s := S3x256x2304) ![b.val, 0, 0] S1x256x2304.size (sW_inb b)) (fun _ _ => rfl)
    (fun _ => squeezes_S1x256x2304_S256x2304) (fun y : S3x256x2304.Idx => (y 0).val) (fun b y => mem_slot b.val (sW_inb b) y) (fun y => (y 0).isLt) c)
theorem cut_4 (c : Dev nD) (f) : (bufP c cc0_scoped7 f : sProp 𝕄) = three (fun s => whP c (sO (Memref.whole cc0_scoped7) s) f) :=
  (whole_slots cc0_scoped7 (fun b : Fin 3 => Rect.unit (s := S3x256x1024) ![b.val, 0, 0] S1x256x1024.size (sO_inb b)) (fun _ _ => rfl)
    (fun _ => squeezes_S1x256x1024_S256x1024) (fun y : S3x256x1024.Idx => (y 0).val) (fun b y => mem_slot b.val (sO_inb b) y) (fun y => (y 0).isLt) c f).trans (three_eq _)
theorem mend_4 (c : Dev nD) : three (fun s => iprop(∃ f, whP c (sO (Memref.whole cc0_scoped7) s) f)) ⊢ (someP c cc0_scoped7 : sProp 𝕄) :=
  (Entails.of_eq (three_eq _).symm).trans (slots_whole cc0_scoped7 (fun b : Fin 3 => Rect.unit (s := S3x256x1024) ![b.val, 0, 0] S1x256x1024.size (sO_inb b)) (fun _ _ => rfl)
    (fun _ => squeezes_S1x256x1024_S256x1024) (fun y : S3x256x1024.Idx => (y 0).val) (fun b y => mem_slot b.val (sO_inb b) y) (fun y => (y 0).isLt) c)
theorem cut_5 (c : Dev nD) (f) : (bufP c cc0_scoped9 f : sProp 𝕄) = two (fun s => whP c (sK (Memref.whole cc0_scoped9) s) f) :=
  (whole_slots cc0_scoped9 (fun b : Fin 2 => Rect.unit (s := S2x4096x128) ![b.val, 0, 0] S1x4096x128.size (sK_inb b)) (fun _ _ => rfl)
    (fun _ => squeezes_S1x4096x128_S4096x128) (fun y : S2x4096x128.Idx => (y 0).val) (fun b y => mem_slot b.val (sK_inb b) y) (fun y => (y 0).isLt) c f).trans (two_eq _)
theorem mend_5 (c : Dev nD) : two (fun s => iprop(∃ f, whP c (sK (Memref.whole cc0_scoped9) s) f)) ⊢ (someP c cc0_scoped9 : sProp 𝕄) :=
  (Entails.of_eq (two_eq _).symm).trans (slots_whole cc0_scoped9 (fun b : Fin 2 => Rect.unit (s := S2x4096x128) ![b.val, 0, 0] S1x4096x128.size (sK_inb b)) (fun _ _ => rfl)
    (fun _ => squeezes_S1x4096x128_S4096x128) (fun y : S2x4096x128.Idx => (y 0).val) (fun b y => mem_slot b.val (sK_inb b) y) (fun y => (y 0).isLt) c)
theorem cut_6 (c : Dev nD) (f) : (bufP c cc0_scoped11 f : sProp 𝕄) = two (fun s => whP c (sK (Memref.whole cc0_scoped11) s) f) :=
  (whole_slots cc0_scoped11 (fun b : Fin 2 => Rect.unit (s := S2x4096x128) ![b.val, 0, 0] S1x4096x128.size (sK_inb b)) (fun _ _ => rfl)
    (fun _ => squeezes_S1x4096x128_S4096x128) (fun y : S2x4096x128.Idx => (y 0).val) (fun b y => mem_slot b.val (sK_inb b) y) (fun y => (y 0).isLt) c f).trans (two_eq _)
theorem mend_6 (c : Dev nD) : two (fun s => iprop(∃ f, whP c (sK (Memref.whole cc0_scoped11) s) f)) ⊢ (someP c cc0_scoped11 : sProp 𝕄) :=
  (Entails.of_eq (two_eq _).symm).trans (slots_whole cc0_scoped11 (fun b : Fin 2 => Rect.unit (s := S2x4096x128) ![b.val, 0, 0] S1x4096x128.size (sK_inb b)) (fun _ _ => rfl)
    (fun _ => squeezes_S1x4096x128_S4096x128) (fun y : S2x4096x128.Idx => (y 0).val) (fun b y => mem_slot b.val (sK_inb b) y) (fun y => (y 0).isLt) c)
theorem cut_7 (c : Dev nD) (f) : (bufP c cc0_scoped13 f : sProp 𝕄) = two (fun s => whP c (sKb (Memref.whole cc0_scoped13) s) f) :=
  (whole_slots cc0_scoped13 (fun b : Fin 2 => Rect.unit (s := S2x512x1024) ![b.val, 0, 0] S1x512x1024.size (sKb_inb b)) (fun _ _ => rfl)
    (fun _ => squeezes_S1x512x1024_S512x1024) (fun y : S2x512x1024.Idx => (y 0).val) (fun b y => mem_slot b.val (sKb_inb b) y) (fun y => (y 0).isLt) c f).trans (two_eq _)
theorem mend_7 (c : Dev nD) : two (fun s => iprop(∃ f, whP c (sKb (Memref.whole cc0_scoped13) s) f)) ⊢ (someP c cc0_scoped13 : sProp 𝕄) :=
  (Entails.of_eq (two_eq _).symm).trans (slots_whole cc0_scoped13 (fun b : Fin 2 => Rect.unit (s := S2x512x1024) ![b.val, 0, 0] S1x512x1024.size (sKb_inb b)) (fun _ _ => rfl)
    (fun _ => squeezes_S1x512x1024_S512x1024) (fun y : S2x512x1024.Idx => (y 0).val) (fun b y => mem_slot b.val (sKb_inb b) y) (fun y => (y 0).isLt) c)
theorem cut_8 (c : Dev nD) (f) : (bufP c cc0_scoped15 f : sProp 𝕄) = two (fun s => whP c (sKb (Memref.whole cc0_scoped15) s) f) :=
  (whole_slots cc0_scoped15 (fun b : Fin 2 => Rect.unit (s := S2x512x1024) ![b.val, 0, 0] S1x512x1024.size (sKb_inb b)) (fun _ _ => rfl)
    (fun _ => squeezes_S1x512x1024_S512x1024) (fun y : S2x512x1024.Idx => (y 0).val) (fun b y => mem_slot b.val (sKb_inb b) y) (fun y => (y 0).isLt) c f).trans (two_eq _)
theorem mend_8 (c : Dev nD) : two (fun s => iprop(∃ f, whP c (sKb (Memref.whole cc0_scoped15) s) f)) ⊢ (someP c cc0_scoped15 : sProp 𝕄) :=
  (Entails.of_eq (two_eq _).symm).trans (slots_whole cc0_scoped15 (fun b : Fin 2 => Rect.unit (s := S2x512x1024) ![b.val, 0, 0] S1x512x1024.size (sKb_inb b)) (fun _ _ => rfl)
    (fun _ => squeezes_S1x512x1024_S512x1024) (fun y : S2x512x1024.Idx => (y 0).val) (fun b y => mem_slot b.val (sKb_inb b) y) (fun y => (y 0).isLt) c)
theorem cut_9 (c : Dev nD) (f) : (bufP c cc0_scoped17 f : sProp 𝕄) = two (fun s => whP c (sWb (Memref.whole cc0_scoped17) s) f) :=
  (whole_slots cc0_scoped17 (fun b : Fin 2 => Rect.unit (s := S2x256x2304) ![b.val, 0, 0] S1x256x2304.size (sWb_inb b)) (fun _ _ => rfl)
    (fun _ => squeezes_S1x256x2304_S256x2304) (fun y : S2x256x2304.Idx => (y 0).val) (fun b y => mem_slot b.val (sWb_inb b) y) (fun y => (y 0).isLt) c f).trans (two_eq _)
theorem mend_9 (c : Dev nD) : two (fun s => iprop(∃ f, whP c (sWb (Memref.whole cc0_scoped17) s) f)) ⊢ (someP c cc0_scoped17 : sProp 𝕄) :=
  (Entails.of_eq (two_eq _).symm).trans (slots_whole cc0_scoped17 (fun b : Fin 2 => Rect.unit (s := S2x256x2304) ![b.val, 0, 0] S1x256x2304.size (sWb_inb b)) (fun _ _ => rfl)
    (fun _ => squeezes_S1x256x2304_S256x2304) (fun y : S2x256x2304.Idx => (y 0).val) (fun b y => mem_slot b.val (sWb_inb b) y) (fun y => (y 0).isLt) c)
theorem cut_10 (c : Dev nD) (f) : (bufP c cc0_scoped19 f : sProp 𝕄) = two (fun s => whP c (sOb (Memref.whole cc0_scoped19) s) f) :=
  (whole_slots cc0_scoped19 (fun b : Fin 2 => Rect.unit (s := S2x256x1024) ![b.val, 0, 0] S1x256x1024.size (sOb_inb b)) (fun _ _ => rfl)
    (fun _ => squeezes_S1x256x1024_S256x1024) (fun y : S2x256x1024.Idx => (y 0).val) (fun b y => mem_slot b.val (sOb_inb b) y) (fun y => (y 0).isLt) c f).trans (two_eq _)
theorem mend_10 (c : Dev nD) : two (fun s => iprop(∃ f, whP c (sOb (Memref.whole cc0_scoped19) s) f)) ⊢ (someP c cc0_scoped19 : sProp 𝕄) :=
  (Entails.of_eq (two_eq _).symm).trans (slots_whole cc0_scoped19 (fun b : Fin 2 => Rect.unit (s := S2x256x1024) ![b.val, 0, 0] S1x256x1024.size (sOb_inb b)) (fun _ _ => rfl)
    (fun _ => squeezes_S1x256x1024_S256x1024) (fun y : S2x256x1024.Idx => (y 0).val) (fun b y => mem_slot b.val (sOb_inb b) y) (fun y => (y 0).isLt) c)

end Cert.Proof.Memory

end
-- ==== Proof.Launch.lean ====
/-
  The launch of `memory_kv`: the host lines before it, the region, the host lines after it.

  From any memory with zero counters every run terminates, every counter ends at zero, and every buffer of @main ends at what the
  host lines leave over the region's exit: the six results at the values the four steps computed, everything else as it was.
-/
module

public import proofs.«01_k».proof.Proof.Body
public import proofs.«01_k».proof.Proof.Cut
public import Idealize.ShloMosaic.Lib.Pipeline.FrameSuffixV

@[expose] public section

noncomputable section

namespace Cert.Proof.Memory

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

/-! ## What the region leaves -/

section
/- The core, and what the region finds in its buffers. -/
variable (c : Dev nD) (A : (b : Ref sig .tc) → Buf (Elt F) ((c : Thread nD τ).loc b))

/-- Step `b`'s rows of the prompt memory. -/
abbrev memBlk (b : Fin 4) : Vec F S512x1024 .f32 := (bA (Memref.whole main_v0) b).view.read (Elt F) (A main_v0)
/-- Step `b`'s keys, -/
abbrev kBlk (b : Fin 4) : FVec F S512x1024 .f32 := kRows (memBlk c A b) (A main_v2) (A main_v3)
/-- values, -/
abbrev vBlk (b : Fin 4) : FVec F S512x1024 .f32 := vRows (memBlk c A b) (A main_v2) (A main_v4)
/-- rounded rows of the in-projection's weight -/
abbrev wBlk (b : Fin 4) : FVec F S256x2304 .bf16 :=
  truncf .bf16 ((bW (Memref.whole main_v5) b).view.read (Elt F) (A main_v5)) bitsLt_bf16_f32
/-- and of the out-projection's. -/
abbrev oBlk (b : Fin 4) : FVec F S256x1024 .bf16 :=
  truncf .bf16 ((bO (Memref.whole main_v6) b).view.read (Elt F) (A main_v6)) bitsLt_bf16_f32

/-- The keys by planes, -/
abbrev outK : S16384x128.Idx → Elt F .f32 := glue (R := 4 * 4096) (r := 4096) rfl (fun b : Fin 4 => planes (kBlk c A b))
/-- the values by planes, -/
abbrev outV : S16384x128.Idx → Elt F .f32 := glue (R := 4 * 4096) (r := 4096) rfl (fun b : Fin 4 => planes (vBlk c A b))
/-- the keys rounded, -/
abbrev outKb : S2048x1024.Idx → Elt F .bf16 := glue (R := 4 * 512) (r := 512) rfl (fun b : Fin 4 => truncf .bf16 (kBlk c A b) bitsLt_bf16_f32)
/-- the values rounded, -/
abbrev outVb : S2048x1024.Idx → Elt F .bf16 := glue (R := 4 * 512) (r := 512) rfl (fun b : Fin 4 => truncf .bf16 (vBlk c A b) bitsLt_bf16_f32)
/-- the in-projection's weight rounded, -/
abbrev outW : S1024x2304.Idx → Elt F .bf16 := glue (R := 4 * 256) (r := 256) rfl (fun b : Fin 4 => wBlk c A b)
/-- the out-projection's. -/
abbrev outO : S1024x1024.Idx → Elt F .bf16 := glue (R := 4 * 256) (r := 256) rfl (fun b : Fin 4 => oBlk c A b)

/-- The buffers the kernel writes at what it leaves there, the others as the region found them. -/
def exitV : (b : Ref sig .tc) → Buf (Elt F) ((c : Thread nD τ).loc b) :=
  Function.update (Function.update (Function.update (Function.update (Function.update (Function.update (A) main_v7_5 (outO c A)) main_v7_4 (outW c A)) main_v7_3 (outVb c A)) main_v7_2 (outKb c A)) main_v7_1 (outV c A)) main_v7_0 (outK c A)
theorem exitV_v7_0 : exitV c A main_v7_0 = outK c A := by unfold exitV; rw [Function.update_self]
theorem exitV_v7_1 : exitV c A main_v7_1 = outV c A := by unfold exitV; rw [Function.update_of_ne (by decide), Function.update_self]
theorem exitV_v7_2 : exitV c A main_v7_2 = outKb c A := by unfold exitV; rw [Function.update_of_ne (by decide), Function.update_of_ne (by decide), Function.update_self]
theorem exitV_v7_3 : exitV c A main_v7_3 = outVb c A := by unfold exitV; rw [Function.update_of_ne (by decide), Function.update_of_ne (by decide), Function.update_of_ne (by decide), Function.update_self]
theorem exitV_v7_4 : exitV c A main_v7_4 = outW c A := by unfold exitV; rw [Function.update_of_ne (by decide), Function.update_of_ne (by decide), Function.update_of_ne (by decide), Function.update_of_ne (by decide), Function.update_self]
theorem exitV_v7_5 : exitV c A main_v7_5 = outO c A := by unfold exitV; rw [Function.update_of_ne (by decide), Function.update_of_ne (by decide), Function.update_of_ne (by decide), Function.update_of_ne (by decide), Function.update_of_ne (by decide), Function.update_self]

end

/-! ## What the region's invariant holds -/

/-- The kernel's own cells: 24 of them. -/
abbrev osem : Fin 24 → SemLoc sig := fun j => SemLoc.dma j
/-- The operands the transfers read, -/
def H : Finset (Ref sig .tc) := {main_v0, main_v2, main_v3, main_v4, main_v5, main_v6}
/-- those they write. -/
def R : Finset (Ref sig .tc) := {main_v7_0, main_v7_1, main_v7_2, main_v7_3, main_v7_4, main_v7_5}
theorem H_sub : H ⊆ Pipeline.restRefs sig spec0 := by decide
theorem R_sub : R ⊆ Pipeline.restRefs sig spec0 \ H := by decide

/-- The kernel's own cells at zero, as the body counts them. -/
abbrev cells (c : Dev nD) : sProp 𝕄 := iprop(
  three (fun s => cP c (s3 cc0_scoped1 s))
  ∗ three (fun s => cP c (s3 cc0_scoped6 s))
  ∗ three (fun s => cP c (s3 cc0_scoped8 s))
  ∗ two (fun s => cP c (s2 cc0_scoped10 s))
  ∗ two (fun s => cP c (s2 cc0_scoped12 s))
  ∗ two (fun s => cP c (s2 cc0_scoped14 s))
  ∗ two (fun s => cP c (s2 cc0_scoped16 s))
  ∗ two (fun s => cP c (s2 cc0_scoped18 s))
  ∗ two (fun s => cP c (s2 cc0_scoped20 s))
  ∗ cP c cc0_scoped21
  ∗ cP c cc0_scoped22
  ∗ cP c cc0_scoped23)
theorem cells_eq (c : Dev nD) :
    (Pipeline.ownSems0 (Ix := Unit) (Name := ℕ) (U := UU nD τ) (Lvl := ℕ) (Val := Elt F) (τ := τ) osem c : sProp 𝕄)
      = iprop(cP c (s3 cc0_scoped1 0) ∗ cP c (s3 cc0_scoped1 1) ∗ cP c (s3 cc0_scoped1 2) ∗ cP c (s3 cc0_scoped6 0) ∗ cP c (s3 cc0_scoped6 1) ∗ cP c (s3 cc0_scoped6 2) ∗ cP c (s3 cc0_scoped8 0) ∗ cP c (s3 cc0_scoped8 1) ∗ cP c (s3 cc0_scoped8 2) ∗ cP c (s2 cc0_scoped10 0) ∗ cP c (s2 cc0_scoped10 1) ∗ cP c (s2 cc0_scoped12 0) ∗ cP c (s2 cc0_scoped12 1) ∗ cP c (s2 cc0_scoped14 0) ∗ cP c (s2 cc0_scoped14 1) ∗ cP c (s2 cc0_scoped16 0) ∗ cP c (s2 cc0_scoped16 1) ∗ cP c (s2 cc0_scoped18 0) ∗ cP c (s2 cc0_scoped18 1) ∗ cP c (s2 cc0_scoped20 0) ∗ cP c (s2 cc0_scoped20 1) ∗ cP c cc0_scoped21 ∗ cP c cc0_scoped22 ∗ cP c cc0_scoped23) := by
  rw [Pipeline.ownSems0_eq_of_list c osem [0, 1, 2, 3, 4, 5, 6, 7, 8, 9, 10, 11, 12, 13, 14, 15, 16, 17, 18, 19, 20, 21, 22, 23] (by decide) (by decide)]; rfl
theorem cells_in (c : Dev nD) :
    (Pipeline.ownSems0 (Ix := Unit) (Name := ℕ) (U := UU nD τ) (Lvl := ℕ) (Val := Elt F) (τ := τ) osem c : sProp 𝕄) ⊢ cells c := by
  rw [cells_eq]
  unfold cells; simp only [two, three]
  iintro ⟨Hcv0_0, Hcv0_1, Hcv0_2, Hcv1_0, Hcv1_1, Hcv1_2, Hcv2_0, Hcv2_1, Hcv2_2, Hcv3_0, Hcv3_1, Hcv4_0, Hcv4_1, Hcv5_0, Hcv5_1, Hcv6_0, Hcv6_1, Hcv7_0, Hcv7_1, Hcv8_0, Hcv8_1, Hcw1, Hcw2, Hcw3⟩
  isplitl [Hcv0_0 Hcv0_1 Hcv0_2]
  · isplitl [Hcv0_0]; · iexact Hcv0_0
    isplitl [Hcv0_1]; · iexact Hcv0_1
    iexact Hcv0_2
  isplitl [Hcv1_0 Hcv1_1 Hcv1_2]
  · isplitl [Hcv1_0]; · iexact Hcv1_0
    isplitl [Hcv1_1]; · iexact Hcv1_1
    iexact Hcv1_2
  isplitl [Hcv2_0 Hcv2_1 Hcv2_2]
  · isplitl [Hcv2_0]; · iexact Hcv2_0
    isplitl [Hcv2_1]; · iexact Hcv2_1
    iexact Hcv2_2
  isplitl [Hcv3_0 Hcv3_1]
  · isplitl [Hcv3_0]; · iexact Hcv3_0
    iexact Hcv3_1
  isplitl [Hcv4_0 Hcv4_1]
  · isplitl [Hcv4_0]; · iexact Hcv4_0
    iexact Hcv4_1
  isplitl [Hcv5_0 Hcv5_1]
  · isplitl [Hcv5_0]; · iexact Hcv5_0
    iexact Hcv5_1
  isplitl [Hcv6_0 Hcv6_1]
  · isplitl [Hcv6_0]; · iexact Hcv6_0
    iexact Hcv6_1
  isplitl [Hcv7_0 Hcv7_1]
  · isplitl [Hcv7_0]; · iexact Hcv7_0
    iexact Hcv7_1
  isplitl [Hcv8_0 Hcv8_1]
  · isplitl [Hcv8_0]; · iexact Hcv8_0
    iexact Hcv8_1
  isplitl [Hcw1]; · iexact Hcw1
  isplitl [Hcw2]; · iexact Hcw2
  iexact Hcw3
theorem cells_out (c : Dev nD) :
    cells c ⊢ (Pipeline.ownSems0 (Ix := Unit) (Name := ℕ) (U := UU nD τ) (Lvl := ℕ) (Val := Elt F) (τ := τ) osem c : sProp 𝕄) := by
  rw [cells_eq]
  unfold cells; simp only [two, three]
  iintro ⟨⟨Hcv0_0, Hcv0_1, Hcv0_2⟩, ⟨Hcv1_0, Hcv1_1, Hcv1_2⟩, ⟨Hcv2_0, Hcv2_1, Hcv2_2⟩, ⟨Hcv3_0, Hcv3_1⟩, ⟨Hcv4_0, Hcv4_1⟩, ⟨Hcv5_0, Hcv5_1⟩, ⟨Hcv6_0, Hcv6_1⟩, ⟨Hcv7_0, Hcv7_1⟩, ⟨Hcv8_0, Hcv8_1⟩, Hcw1, Hcw2, Hcw3⟩
  isplitl [Hcv0_0]; · iexact Hcv0_0
  isplitl [Hcv0_1]; · iexact Hcv0_1
  isplitl [Hcv0_2]; · iexact Hcv0_2
  isplitl [Hcv1_0]; · iexact Hcv1_0
  isplitl [Hcv1_1]; · iexact Hcv1_1
  isplitl [Hcv1_2]; · iexact Hcv1_2
  isplitl [Hcv2_0]; · iexact Hcv2_0
  isplitl [Hcv2_1]; · iexact Hcv2_1
  isplitl [Hcv2_2]; · iexact Hcv2_2
  isplitl [Hcv3_0]; · iexact Hcv3_0
  isplitl [Hcv3_1]; · iexact Hcv3_1
  isplitl [Hcv4_0]; · iexact Hcv4_0
  isplitl [Hcv4_1]; · iexact Hcv4_1
  isplitl [Hcv5_0]; · iexact Hcv5_0
  isplitl [Hcv5_1]; · iexact Hcv5_1
  isplitl [Hcv6_0]; · iexact Hcv6_0
  isplitl [Hcv6_1]; · iexact Hcv6_1
  isplitl [Hcv7_0]; · iexact Hcv7_0
  isplitl [Hcv7_1]; · iexact Hcv7_1
  isplitl [Hcv8_0]; · iexact Hcv8_0
  isplitl [Hcv8_1]; · iexact Hcv8_1
  isplitl [Hcw1]; · iexact Hcw1
  isplitl [Hcw2]; · iexact Hcw2
  iexact Hcw3

/-- A buffer whole is its whole memref. -/
theorem whole_at (c : Dev nD) (r : Ref sig .tc) (f : Buf (Elt F) ((c : Thread nD τ).loc r)) :
    (bufP c r f : sProp 𝕄) = whP c (Memref.whole r) f :=
  congrArg (fun S => (((c : Thread nD τ).loc r) ↦[S]{fullShare} f : sProp 𝕄)) (View.set_whole r).symm
theorem some_at (c : Dev nD) (r : Ref sig .tc) : (iprop(∃ f, whP c (Memref.whole r) f) : sProp 𝕄) ⊢ someP c r := by
  iintro ⟨%f, H⟩; iexists f; iapply (Entails.of_eq (whole_at c r f).symm); iexact H

theorem H_eq (c : Dev nD) (f : (b : Ref sig .tc) → Buf (Elt F) ((c : Thread nD τ).loc b)) :
    (bigSep H fun b => bufP c b (f b) : sProp 𝕄)
      = iprop(bufP c main_v0 (f main_v0) ∗ bufP c main_v2 (f main_v2) ∗ bufP c main_v3 (f main_v3) ∗ bufP c main_v4 (f main_v4) ∗ bufP c main_v5 (f main_v5) ∗ bufP c main_v6 (f main_v6)) :=
  BI.bigSep_eq_bigSepL_of_eq [main_v0, main_v2, main_v3, main_v4, main_v5, main_v6] (by decide) (by decide) _
theorem R_eq (c : Dev nD) (f : (b : Ref sig .tc) → Buf (Elt F) ((c : Thread nD τ).loc b)) :
    (bigSep R fun b => bufP c b (f b) : sProp 𝕄)
      = iprop(bufP c main_v7_0 (f main_v7_0) ∗ bufP c main_v7_1 (f main_v7_1) ∗ bufP c main_v7_2 (f main_v7_2) ∗ bufP c main_v7_3 (f main_v7_3) ∗ bufP c main_v7_4 (f main_v7_4) ∗ bufP c main_v7_5 (f main_v7_5)) :=
  BI.bigSep_eq_bigSepL_of_eq [main_v7_0, main_v7_1, main_v7_2, main_v7_3, main_v7_4, main_v7_5] (by decide) (by decide) _

/-- Before the body: the rings at something, the cells at zero, the operands whole as the region found them. -/
abbrev before (c : Dev nD) (A : (b : Ref sig .tc) → Buf (Elt F) ((c : Thread nD τ).loc b)) : sProp 𝕄 :=
  iprop(Pipeline.scopedRest spec0 c ∗ Pipeline.ownSems0 osem c ∗ (bigSep H fun b => bufP c b (A b)) ∗ bigSep R fun b => bufP c b (A b))
/-- After it: the results at what the steps computed. -/
abbrev after (c : Dev nD) (A : (b : Ref sig .tc) → Buf (Elt F) ((c : Thread nD τ).loc b)) : sProp 𝕄 :=
  iprop(Pipeline.scopedRest spec0 c ∗ Pipeline.ownSems0 osem c ∗ (bigSep H fun b => bufP c b (A b)) ∗ bigSep R fun b => bufP c b (exitV c A b))

set_option maxHeartbeats 4000000 in
set_option backward.isDefEq.respectTransparency.types false in
/-- From the operands whole to the body's start; -/
theorem enter (c : Dev nD) (A : (b : Ref sig .tc) → Buf (Elt F) ((c : Thread nD τ).loc b)) (W : Finset (SemLoc sig × Unit)) :
    iprop(before c A ∗ owes (c : Thread nD τ) 0 W) ⊢ (iprop(∃ fl fl_0 fl_1 fl_2 fl_3 fl_4 fl_5 fl_6 fl_7 fl_8 fl_9 fl_10, Pre c (Memref.whole main_v0) (Memref.whole main_v2) (Memref.whole main_v3) (Memref.whole main_v4) (Memref.whole main_v5) (Memref.whole main_v6) (Memref.whole main_v7_0) (Memref.whole main_v7_1) (Memref.whole main_v7_2) (Memref.whole main_v7_3) (Memref.whole main_v7_4) (Memref.whole main_v7_5) (Memref.whole cc0_scoped0) cc0_scoped1 (Memref.whole cc0_scoped2) (Memref.whole cc0_scoped3) (Memref.whole cc0_scoped4) (Memref.whole cc0_scoped5) cc0_scoped6 (Memref.whole cc0_scoped7) cc0_scoped8 (Memref.whole cc0_scoped9) cc0_scoped10 (Memref.whole cc0_scoped11) cc0_scoped12 (Memref.whole cc0_scoped13) cc0_scoped14 (Memref.whole cc0_scoped15) cc0_scoped16 (Memref.whole cc0_scoped17) cc0_scoped18 (Memref.whole cc0_scoped19) cc0_scoped20 cc0_scoped21 cc0_scoped22 cc0_scoped23 (A main_v0) (A main_v2) (A main_v3) (A main_v4) (A main_v5) (A main_v6) (A main_v7_0) (A main_v7_1) (A main_v7_2) (A main_v7_3) (A main_v7_4) (A main_v7_5) fl fl_0 fl_1 fl_2 fl_3 fl_4 fl_5 fl_6 fl_7 fl_8 fl_9 fl_10 W) : sProp 𝕄) := by
  unfold before
  rw [show (Pipeline.scopedRest spec0 c : sProp 𝕄) = _ from scopedRest0_eq c, H_eq c A, R_eq c A]
  iintro ⟨⟨⟨⟨%fl, Hl⟩, ⟨%fl_0, Hl_0⟩, ⟨%fl_1, Hl_1⟩, ⟨%fl_2, Hl_2⟩, ⟨%fl_3, Hl_3⟩, ⟨%fl_4, Hl_4⟩, ⟨%fl_5, Hl_5⟩, ⟨%fl_6, Hl_6⟩, ⟨%fl_7, Hl_7⟩, ⟨%fl_8, Hl_8⟩, ⟨%fl_9, Hl_9⟩, ⟨%fl_10, Hl_10⟩⟩, Hc, ⟨H0, H1, H2, H3, H4, H5⟩, ⟨H6, H7, H8, H9, H10, H11⟩⟩, HW⟩
  ihave Hc := (cells_in c) $$ Hc
  icases Hc with ⟨Hcv0, Hcv1, Hcv2, Hcv3, Hcv4, Hcv5, Hcv6, Hcv7, Hcv8, Hcw1, Hcw2, Hcw3⟩
  iexists fl
  iexists fl_0
  iexists fl_1
  iexists fl_2
  iexists fl_3
  iexists fl_4
  iexists fl_5
  iexists fl_6
  iexists fl_7
  iexists fl_8
  iexists fl_9
  iexists fl_10
  isplitl [H1]; · iapply (Entails.of_eq (whole_at c main_v2 _)); iexact H1
  isplitl [H2]; · iapply (Entails.of_eq (whole_at c main_v3 _)); iexact H2
  isplitl [H3]; · iapply (Entails.of_eq (whole_at c main_v4 _)); iexact H3
  isplitl [H0]; · iapply (Entails.of_eq (split0 c _)); iexact H0
  isplitl [H4]; · iapply (Entails.of_eq (split4 c _)); iexact H4
  isplitl [H5]; · iapply (Entails.of_eq (split5 c _)); iexact H5
  isplitl [H6]; · iapply (Entails.of_eq (split6 c _)); iexact H6
  isplitl [H7]; · iapply (Entails.of_eq (split7 c _)); iexact H7
  isplitl [H8]; · iapply (Entails.of_eq (split8 c _)); iexact H8
  isplitl [H9]; · iapply (Entails.of_eq (split9 c _)); iexact H9
  isplitl [H10]; · iapply (Entails.of_eq (split10 c _)); iexact H10
  isplitl [H11]; · iapply (Entails.of_eq (split11 c _)); iexact H11
  isplitl [Hl_0]; · iapply (Entails.of_eq (whole_at c cc0_scoped2 _)); iexact Hl_0
  isplitl [Hl_1]; · iapply (Entails.of_eq (whole_at c cc0_scoped3 _)); iexact Hl_1
  isplitl [Hl_2]; · iapply (Entails.of_eq (whole_at c cc0_scoped4 _)); iexact Hl_2
  isplitl [Hl]; · iapply (Entails.of_eq (cut c _)); iexact Hl
  isplitl [Hl_3]; · iapply (Entails.of_eq (cut_3 c _)); iexact Hl_3
  isplitl [Hl_4]; · iapply (Entails.of_eq (cut_4 c _)); iexact Hl_4
  isplitl [Hl_5]; · iapply (Entails.of_eq (cut_5 c _)); iexact Hl_5
  isplitl [Hl_6]; · iapply (Entails.of_eq (cut_6 c _)); iexact Hl_6
  isplitl [Hl_7]; · iapply (Entails.of_eq (cut_7 c _)); iexact Hl_7
  isplitl [Hl_8]; · iapply (Entails.of_eq (cut_8 c _)); iexact Hl_8
  isplitl [Hl_9]; · iapply (Entails.of_eq (cut_9 c _)); iexact Hl_9
  isplitl [Hl_10]; · iapply (Entails.of_eq (cut_10 c _)); iexact Hl_10
  isplitl [Hcv0]; · iexact Hcv0
  isplitl [Hcv1]; · iexact Hcv1
  isplitl [Hcv2]; · iexact Hcv2
  isplitl [Hcv3]; · iexact Hcv3
  isplitl [Hcv4]; · iexact Hcv4
  isplitl [Hcv5]; · iexact Hcv5
  isplitl [Hcv6]; · iexact Hcv6
  isplitl [Hcv7]; · iexact Hcv7
  isplitl [Hcv8]; · iexact Hcv8
  isplitl [Hcw1]; · iexact Hcw1
  isplitl [Hcw2]; · iexact Hcw2
  isplitl [Hcw3]; · iexact Hcw3
  iexact HW

set_option maxHeartbeats 4000000 in
set_option backward.isDefEq.respectTransparency.types false in
/-- and from its end back. -/
theorem leave (c : Dev nD) (A : (b : Ref sig .tc) → Buf (Elt F) ((c : Thread nD τ).loc b)) :
    Post c (Memref.whole main_v0) (Memref.whole main_v2) (Memref.whole main_v3) (Memref.whole main_v4) (Memref.whole main_v5) (Memref.whole main_v6) (Memref.whole main_v7_0) (Memref.whole main_v7_1) (Memref.whole main_v7_2) (Memref.whole main_v7_3) (Memref.whole main_v7_4) (Memref.whole main_v7_5) (Memref.whole cc0_scoped0) cc0_scoped1 (Memref.whole cc0_scoped2) (Memref.whole cc0_scoped3) (Memref.whole cc0_scoped4) (Memref.whole cc0_scoped5) cc0_scoped6 (Memref.whole cc0_scoped7) cc0_scoped8 (Memref.whole cc0_scoped9) cc0_scoped10 (Memref.whole cc0_scoped11) cc0_scoped12 (Memref.whole cc0_scoped13) cc0_scoped14 (Memref.whole cc0_scoped15) cc0_scoped16 (Memref.whole cc0_scoped17) cc0_scoped18 (Memref.whole cc0_scoped19) cc0_scoped20 cc0_scoped21 cc0_scoped22 cc0_scoped23 (A main_v0) (A main_v2) (A main_v3) (A main_v4) (A main_v5) (A main_v6) ⊢ (iprop(after c A ∗ ∃ W, owes (c : Thread nD τ) 0 W) : sProp 𝕄) := by
  unfold after
  rw [show (Pipeline.scopedRest spec0 c : sProp 𝕄) = _ from scopedRest0_eq c, H_eq c A, R_eq c (exitV c A)]
  rw [exitV_v7_0, exitV_v7_1, exitV_v7_2, exitV_v7_3, exitV_v7_4, exitV_v7_5]
  iintro ⟨H1, H2, H3, H0, H4, H5, H6, H7, H8, H9, H10, H11, Hl_0, Hl_1, Hl_2, Hl, Hl_3, Hl_4, Hl_5, Hl_6, Hl_7, Hl_8, Hl_9, Hl_10, Hcv0, Hcv1, Hcv2, Hcv3, Hcv4, Hcv5, Hcv6, Hcv7, Hcv8, Hcw1, Hcw2, Hcw3, HW⟩
  isplitr [HW]
  · isplitl [Hl Hl_0 Hl_1 Hl_2 Hl_3 Hl_4 Hl_5 Hl_6 Hl_7 Hl_8 Hl_9 Hl_10]
    · isplitl [Hl]; · iapply (mend c); iexact Hl
      isplitl [Hl_0]; · iapply (some_at c cc0_scoped2); iexact Hl_0
      isplitl [Hl_1]; · iapply (some_at c cc0_scoped3); iexact Hl_1
      isplitl [Hl_2]; · iapply (some_at c cc0_scoped4); iexact Hl_2
      isplitl [Hl_3]; · iapply (mend_3 c); iexact Hl_3
      isplitl [Hl_4]; · iapply (mend_4 c); iexact Hl_4
      isplitl [Hl_5]; · iapply (mend_5 c); iexact Hl_5
      isplitl [Hl_6]; · iapply (mend_6 c); iexact Hl_6
      isplitl [Hl_7]; · iapply (mend_7 c); iexact Hl_7
      isplitl [Hl_8]; · iapply (mend_8 c); iexact Hl_8
      isplitl [Hl_9]; · iapply (mend_9 c); iexact Hl_9
      iapply (mend_10 c); iexact Hl_10
    isplitl [Hcv0 Hcv1 Hcv2 Hcv3 Hcv4 Hcv5 Hcv6 Hcv7 Hcv8 Hcw1 Hcw2 Hcw3]
    · iapply (cells_out c)
      isplitl [Hcv0]; · iexact Hcv0
      isplitl [Hcv1]; · iexact Hcv1
      isplitl [Hcv2]; · iexact Hcv2
      isplitl [Hcv3]; · iexact Hcv3
      isplitl [Hcv4]; · iexact Hcv4
      isplitl [Hcv5]; · iexact Hcv5
      isplitl [Hcv6]; · iexact Hcv6
      isplitl [Hcv7]; · iexact Hcv7
      isplitl [Hcv8]; · iexact Hcv8
      isplitl [Hcw1]; · iexact Hcw1
      isplitl [Hcw2]; · iexact Hcw2
      iexact Hcw3
    isplitl [H0 H1 H2 H3 H4 H5]
    · isplitl [H0]; · iapply (Entails.of_eq (split0 c _).symm); iexact H0
      isplitl [H1]; · iapply (Entails.of_eq (whole_at c main_v2 _).symm); iexact H1
      isplitl [H2]; · iapply (Entails.of_eq (whole_at c main_v3 _).symm); iexact H2
      isplitl [H3]; · iapply (Entails.of_eq (whole_at c main_v4 _).symm); iexact H3
      isplitl [H4]; · iapply (Entails.of_eq (split4 c _).symm); iexact H4
      iapply (Entails.of_eq (split5 c _).symm); iexact H5
    isplitl [H6]; · iapply (Entails.of_eq (join6 c _)); iexact H6
    isplitl [H7]; · iapply (Entails.of_eq (join7 c _)); iexact H7
    isplitl [H8]; · iapply (Entails.of_eq (join8 c _)); iexact H8
    isplitl [H9]; · iapply (Entails.of_eq (join9 c _)); iexact H9
    isplitl [H10]; · iapply (Entails.of_eq (join10 c _)); iexact H10
    iapply (Entails.of_eq (join11 c _)); iexact H11
  iexact HW

/-! ## The pipeline's proof data -/

variable (m : (ℓ : Loc nD τ sig) → Buf (Elt F) ℓ) (ρ : Dev nD → PrngReg)

/-- At the region's entry the operands are as found, at its exit the results are there. -/
def dats (_ : Fin 1) (c : Dev nD) : Dat τ (Elt F) Unit ℕ (UU nD τ) ℕ cfg0 c where
  A w := w.elim0
  after w _ := w.elim0
  Φ t := if t.val = 0 then before c (V m c) else after c (V m c)
  q _ := fullShare
  owed _ := 0

/-- The kernel on its operands. -/
abbrev body : Prog (TpuEff nD τ sig (Elt F) Λ₀ .tc) PUnit :=
  cc0_memory_kv (F := F) (Memref.whole main_v0) (Memref.isWhole_whole _) (Memref.whole main_v2) (Memref.isWhole_whole _) (Memref.whole main_v3) (Memref.isWhole_whole _) (Memref.whole main_v4) (Memref.isWhole_whole _) (Memref.whole main_v5) (Memref.isWhole_whole _) (Memref.whole main_v6) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole main_v7_5) (Memref.isWhole_whole _) (Memref.whole cc0_scoped0) (Memref.isWhole_whole _) cc0_scoped1 (Memref.whole cc0_scoped2) (Memref.isWhole_whole _) (Memref.whole cc0_scoped3) (Memref.isWhole_whole _) (Memref.whole cc0_scoped4) (Memref.isWhole_whole _) (Memref.whole cc0_scoped5) (Memref.isWhole_whole _) cc0_scoped6 (Memref.whole cc0_scoped7) (Memref.isWhole_whole _) cc0_scoped8 (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) cc0_scoped16 (Memref.whole cc0_scoped17) (Memref.isWhole_whole _) cc0_scoped18 (Memref.whole cc0_scoped19) (Memref.isWhole_whole _) cc0_scoped20 cc0_scoped21 cc0_scoped22 cc0_scoped23
theorem defs_tc : (defs₀ (F := F)) .tc cfg0.body = fun _ => body := rfl
theorem prog_eq (t : Fin cfg0.N) : (defs₀ (F := F)) .tc cfg0.body (cfg0.bodyArgs t (cfg0.slots t)) = body := (congrFun defs_tc _).trans rfl

theorem Phi_first (c : Dev nD) : (dats (F := F) m 0 c).Φ t0_0.castSucc = before c (V m c) := rfl
theorem Phi_last (c : Dev nD) : (dats (F := F) m 0 c).Φ t0_0.succ = after c (V m c) := rfl

set_option backward.isDefEq.respectTransparency.types false in
/-- The body takes the one to the other. -/
theorem body_obligation (c : Dev nD) : BodyObligation (dats (F := F) m 0 c) (defs₀ (F := F)) 𝒱₀ () Set.univ := fun t => by
  obtain rfl := fin_N0 t
  rw [Phi_first, Phi_last]
  unfold Dat.owesAt Pipeline.owesWithin
  rw [show (dats m 0 c).owed t0_0.castSucc = 0 from rfl, show (dats m 0 c).owed t0_0.succ = 0 from rfl]
  iintro ⟨HΦ, ⟨%W, -, HW⟩, -⟩
  ihave HP := (enter c (V m c) W) $$ [HΦ HW]
  · isplitl [HΦ]; · iexact HΦ
    iexact HW
  icases HP with ⟨%fl, %fl_0, %fl_1, %fl_2, %fl_3, %fl_4, %fl_5, %fl_6, %fl_7, %fl_8, %fl_9, %fl_10, HP⟩
  sl_rw [prog_eq t0_0]
  iapply (run_memory c (Memref.whole main_v0) (Memref.isWhole_whole _) (Memref.whole main_v2) (Memref.isWhole_whole _) (Memref.whole main_v3) (Memref.isWhole_whole _) (Memref.whole main_v4) (Memref.isWhole_whole _) (Memref.whole main_v5) (Memref.isWhole_whole _) (Memref.whole main_v6) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole main_v7_5) (Memref.isWhole_whole _) (Memref.whole cc0_scoped0) (Memref.isWhole_whole _) cc0_scoped1 (Memref.whole cc0_scoped2) (Memref.isWhole_whole _) (Memref.whole cc0_scoped3) (Memref.isWhole_whole _) (Memref.whole cc0_scoped4) (Memref.isWhole_whole _) (Memref.whole cc0_scoped5) (Memref.isWhole_whole _) cc0_scoped6 (Memref.whole cc0_scoped7) (Memref.isWhole_whole _) cc0_scoped8 (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) cc0_scoped16 (Memref.whole cc0_scoped17) (Memref.isWhole_whole _) cc0_scoped18 (Memref.whole cc0_scoped19) (Memref.isWhole_whole _) cc0_scoped20 cc0_scoped21 cc0_scoped22 cc0_scoped23 (V m c main_v0) (V m c main_v2) (V m c main_v3) (V m c main_v4) (V m c main_v5) (V m c main_v6) (V m c main_v7_0) (V m c main_v7_1) (V m c main_v7_2) (V m c main_v7_3) (V m c main_v7_4) (V m c main_v7_5) fl fl_0 fl_1 fl_2 fl_3 fl_4 fl_5 fl_6 fl_7 fl_8 fl_9 fl_10 W)
  isplitl [HP]; · iexact HP
  iintro HQ
  ihave HQ := (leave c (V m c)) $$ HQ
  icases HQ with ⟨HΦ, ⟨%W', HW⟩⟩
  isplitl [HΦ]; · iexact HΦ
  isplitl [HW]
  · iexists W'; isplitr; · ipureintro; exact fun _ _ => Or.inl trivial
    iexact HW
  iapply (show (BI.emp : sProp 𝕄) ⊢ bigSep (Finset.univ : Finset (Fin 0)) _ from by rw [Finset.univ_eq_empty, BI.bigSep_empty])
  iempintro

end Cert.Proof.Memory

end
-- ==== Proof.Run.lean ====
/-
  The program's run, and what its results hold.
-/
module

public import proofs.«01_k».proof.Proof.Launch
public import Idealize.ShloMosaic.Lib.StableHlo.Run

@[expose] public section

noncomputable section

namespace Cert.Proof.Memory

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ) (ρ : Dev nD → PrngReg)

/-- The buffers as the region leaves them. -/
abbrev exitM (c : Dev nD) : Valuation τ sig (Elt F) :=
  Pipeline.withArrays (cfgs 0).spec c (Pipeline.withR (V0 m c) R c (exitV c (V m c))) fun w => (dats m 0 c).arrAt w (cfgs 0).N

/-- @main is the host lines, the region, the host lines. -/
theorem hmain : Pipeline.HMainK (Ix := Unit) (Name := ℕ) (U := UU nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option maxHeartbeats 1000000 in
set_option backward.isDefEq.respectTransparency.types false in
/-- Every run ends, every counter at zero, every buffer at what the lines after the region leave. -/
theorem run_main : θ_run (defs (F := F)) (onTc (τ := τ) (main (F := F))) ⟨m, fun _ => 0, ρ⟩ (fun r =>
    (∀ c : Dev nD, ∀ b ∈ Pipeline.restRefs sig (cfgs 0).spec,
      r.2.mem ((c : Thread nD τ).loc b) = StableHlo.after [hostOps1].flatten (exitM m c) (Proc.devRef .tc b)) ∧ r.2.sem = fun _ => 0) :=
  Pipeline.θ_run_frame_dmaR_aroundV (Q' := _) cfgs (dats m) (0 : Fin 1) launch0 osem defs₀ 𝒱₀ (by decide) H R H_sub R_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := fun c => exitV c (V m c)) (hmain := hmain m) (hA := fun _ w => w.elim0)
    (hin := fun _ => .rfl) (hout := fun _ => .rfl) (hQ' := fun r h => ⟨fun c => (h.1 c).2, h.2⟩)

/-! ## The buffers after the region -/

theorem exitM_R (c : Dev nD) (b : Ref sig .tc) (hb : b ∈ R) : exitM m c (Proc.devRef .tc b) = exitV c (V m c) b :=
  (Pipeline.withArrays_of_ne _ c _ _ b (fun w => w.elim0)).trans (Pipeline.withR_of_mem (V0 m c) R c (exitV c (V m c)) b hb)
theorem exitM_of_not_mem (c : Dev nD) (b : Ref sig .tc) (hb : b ∉ R) : exitM m c (Proc.devRef .tc b) = V m c b :=
  (Pipeline.withArrays_of_ne _ c _ _ b (fun w => w.elim0)).trans (Pipeline.withR_of_not_mem (V0 m c) R c (exitV c (V m c)) b hb)

/-! ## The lines before the region -/

theorem V_v0 (c : Dev nD) : V m c main_v0 = shapeCast S2048x1024 (m ((c : Thread nD τ).loc main_arg0)) shapeCasts_S8x256x1024_S2048x1024 := by
  show StableHlo.after (List.flatten [hostOps0]) _ _ = _
  simp only [hostOps0, List.flatten_cons, List.flatten_nil, List.append_nil]
  after_results_simp <;> rfl
theorem V_v3 (c : Dev nD) : V m c main_v3 = shapeCast S1024x1024 (m ((c : Thread nD τ).loc main_arg2)) shapeCasts_S1x1024x1024_S1024x1024 := by
  show StableHlo.after (List.flatten [hostOps0]) _ _ = _
  simp only [hostOps0, List.flatten_cons, List.flatten_nil, List.append_nil]
  after_results_simp <;> rfl
theorem V_v4 (c : Dev nD) : V m c main_v4 = shapeCast S1024x1024 (m ((c : Thread nD τ).loc main_arg3)) shapeCasts_S1x1024x1024_S1024x1024 := by
  show StableHlo.after (List.flatten [hostOps0]) _ _ = _
  simp only [hostOps0, List.flatten_cons, List.flatten_nil, List.append_nil]
  after_results_simp <;> rfl
theorem V_v5 (c : Dev nD) : V m c main_v5 = shapeCast S1024x2304 (m ((c : Thread nD τ).loc main_arg4)) shapeCasts_S1x1024x2304_S1024x2304 := by
  show StableHlo.after (List.flatten [hostOps0]) _ _ = _
  simp only [hostOps0, List.flatten_cons, List.flatten_nil, List.append_nil]
  after_results_simp <;> rfl
theorem V_v6 (c : Dev nD) : V m c main_v6 = shapeCast S1024x1024 (m ((c : Thread nD τ).loc main_arg5)) shapeCasts_S1x1024x1024_S1024x1024 := by
  show StableHlo.after (List.flatten [hostOps0]) _ _ = _
  simp only [hostOps0, List.flatten_cons, List.flatten_nil, List.append_nil]
  after_results_simp <;> rfl
theorem V_v2 (c : Dev nD) : V m c main_v2
    = shapeCast S1x1024 (shapeCast S1024 (m ((c : Thread nD τ).loc main_arg1)) shapeCasts_S1x1024_S1024) shapeCasts_S1024_S1x1024 := by
  show StableHlo.after (List.flatten [hostOps0]) _ _ = _
  simp only [hostOps0, List.flatten_cons, List.flatten_nil, List.append_nil]
  after_results_simp <;> rfl

/-! ## The lines after it -/

/-- A result's planes back in heads. -/
abbrev heads (x : Vec F S16384x128 .f32) : Vec F S1x8x256x4x256 .f32 :=
  shapeCast S1x8x256x4x256 (transpose S8x256x4x2x128 [0, 1, 3, 2, 4] (shapeCast S8x256x2x4x128 x shapeCasts_S16384x128_S8x256x2x4x128)
    transposes_S8x256x2x4x128_S8x256x4x2x128_0_1_3_2_4) shapeCasts_S8x256x4x2x128_S1x8x256x4x256

theorem after_v10 (X : Valuation τ sig (Elt F)) : StableHlo.after [hostOps1].flatten X (Proc.devRef .tc main_v10) = heads (X (Proc.devRef .tc main_v7_0)) := by
  simp only [hostOps1, List.flatten_cons, List.flatten_nil, List.append_nil]
  after_results_simp <;> rfl
theorem after_v13 (X : Valuation τ sig (Elt F)) : StableHlo.after [hostOps1].flatten X (Proc.devRef .tc main_v13) = heads (X (Proc.devRef .tc main_v7_1)) := by
  simp only [hostOps1, List.flatten_cons, List.flatten_nil, List.append_nil]
  after_results_simp <;> rfl
/-- They write no buffer but their six. -/
theorem after_other (X : Valuation τ sig (Elt F)) (b : Ref sig .tc)
    (hb : b ∉ ({main_v8, main_v9, main_v10, main_v11, main_v12, main_v13} : Finset (Ref sig .tc))) :
    StableHlo.after [hostOps1].flatten X (Proc.devRef .tc b) = X (Proc.devRef .tc b) := by
  simp only [Finset.mem_insert, Finset.mem_singleton, not_or] at hb
  obtain ⟨h8, h9, h10, h11, h12, h13⟩ := hb
  refine StableHlo.after_of_forall_not_mem (b := Proc.devRef .tc b) _ _ (List.forall_iff_forall_mem.mp ?_)
  simp only [hostOps1, List.flatten_cons, List.flatten_nil, List.append_nil, List.cons_append, List.nil_append, List.Forall,
    StableHlo.unary_writes, StableHlo.reshape_writes, Finset.mem_singleton]
  exact ⟨StableHlo.devRef_ne_of_ne h8, StableHlo.devRef_ne_of_ne h9, StableHlo.devRef_ne_of_ne h10, StableHlo.devRef_ne_of_ne h11,
    StableHlo.devRef_ne_of_ne h12, StableHlo.devRef_ne_of_ne h13⟩

/-- What an argument or an unread result holds at the end. -/
theorem end_R (c : Dev nD) (b : Ref sig .tc) (hR : b ∈ R)
    (hb : b ∉ ({main_v8, main_v9, main_v10, main_v11, main_v12, main_v13} : Finset (Ref sig .tc))) :
    StableHlo.after [hostOps1].flatten (exitM m c) (Proc.devRef .tc b) = exitV c (V m c) b :=
  (after_other _ b hb).trans (exitM_R m c b hR)
theorem end_arg (c : Dev nD) (b : Ref sig .tc) (hR : b ∉ R)
    (hb : b ∉ ({main_v8, main_v9, main_v10, main_v11, main_v12, main_v13} : Finset (Ref sig .tc)))
    (hV : V m c b = m ((c : Thread nD τ).loc b)) :
    StableHlo.after [hostOps1].flatten (exitM m c) (Proc.devRef .tc b) = m ((c : Thread nD τ).loc b) :=
  ((after_other _ b hb).trans (exitM_of_not_mem m c b hR)).trans hV

/-! ## The run's results -/

/-- Every run ends with the results at what the four steps computed, the arguments unchanged and every counter at zero. -/
theorem run_results : θ_run (defs (F := F)) (onTc (τ := τ) (main (F := F))) ⟨m, fun _ => 0, ρ⟩ (fun r => (∀ c : Dev nD,
      (r.2.mem ((c : Thread nD τ).loc main_v10) = heads (outK c (V m c))
      ∧ r.2.mem ((c : Thread nD τ).loc main_v13) = heads (outV c (V m c))
      ∧ r.2.mem ((c : Thread nD τ).loc main_v7_2) = outKb c (V m c)
      ∧ r.2.mem ((c : Thread nD τ).loc main_v7_3) = outVb c (V m c)
      ∧ r.2.mem ((c : Thread nD τ).loc main_v7_4) = outW c (V m c)
      ∧ r.2.mem ((c : Thread nD τ).loc main_v7_5) = outO c (V m c))
      ∧ (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)))
    ∧ r.2.sem = fun _ => 0) :=
  (θ_run defs _ _).mono (fun r h => ⟨fun c => ⟨⟨
    (h.1 c main_v10 (Pipeline.mem_restRefs_of _ (by decide) (by decide))).trans
      ((after_v10 _).trans (congrArg heads ((exitM_R m c main_v7_0 (by decide)).trans (exitV_v7_0 c (V m c))))),
    (h.1 c main_v13 (Pipeline.mem_restRefs_of _ (by decide) (by decide))).trans
      ((after_v13 _).trans (congrArg heads ((exitM_R m c main_v7_1 (by decide)).trans (exitV_v7_1 c (V m c))))),
    (h.1 c main_v7_2 (Pipeline.mem_restRefs_of _ (by decide) (by decide))).trans ((end_R m c main_v7_2 (by decide) (by decide)).trans (exitV_v7_2 c (V m c))),
    (h.1 c main_v7_3 (Pipeline.mem_restRefs_of _ (by decide) (by decide))).trans ((end_R m c main_v7_3 (by decide) (by decide)).trans (exitV_v7_3 c (V m c))),
    (h.1 c main_v7_4 (Pipeline.mem_restRefs_of _ (by decide) (by decide))).trans ((end_R m c main_v7_4 (by decide) (by decide)).trans (exitV_v7_4 c (V m c))),
    (h.1 c main_v7_5 (Pipeline.mem_restRefs_of _ (by decide) (by decide))).trans ((end_R m c main_v7_5 (by decide) (by decide)).trans (exitV_v7_5 c (V m c)))⟩,
    (h.1 c main_arg0 (Pipeline.mem_restRefs_of _ (by decide) (by decide))).trans (end_arg m c main_arg0 (by decide) (by decide) (V_main_arg0 m c)),
    (h.1 c main_arg1 (Pipeline.mem_restRefs_of _ (by decide) (by decide))).trans (end_arg m c main_arg1 (by decide) (by decide) (V_main_arg1 m c)),
    (h.1 c main_arg2 (Pipeline.mem_restRefs_of _ (by decide) (by decide))).trans (end_arg m c main_arg2 (by decide) (by decide) (V_main_arg2 m c)),
    (h.1 c main_arg3 (Pipeline.mem_restRefs_of _ (by decide) (by decide))).trans (end_arg m c main_arg3 (by decide) (by decide) (V_main_arg3 m c)),
    (h.1 c main_arg4 (Pipeline.mem_restRefs_of _ (by decide) (by decide))).trans (end_arg m c main_arg4 (by decide) (by decide) (V_main_arg4 m c)),
    (h.1 c main_arg5 (Pipeline.mem_restRefs_of _ (by decide) (by decide))).trans (end_arg m c main_arg5 (by decide) (by decide) (V_main_arg5 m c))⟩, h.2⟩)
    (run_main m ρ)

end Cert.Proof.Memory

end
-- ==== Proof.Outputs.lean ====
/-
  The results of `memory_kv` at the ideal instance, element by element.

  A step's row `i` of a result is row `512 b + i` of the prompt memory, normalised, times the gain, times a column of the weight: the
  sum over the 1024 features written out in `proj`. The plane order of the f32 results and the host lines after the region undo each
  other, and the four steps' blocks tile the rows, so each result holds `proj` at its own index.
-/
module

public import proofs.«01_k».proof.Proof.Run
public import Idealize.ShloMosaic.Lib.Pointwise

@[expose] public section

noncomputable section

namespace Cert.Proof.Memory

open Cert.KernelIdeal Cert.KernelIdeal.Gen
open Idealize.ShloMosaic Idealize.ShloMosaic.TcCoe

/-- Row `(b, t)` of `x`, normalised, times the gain `g`, times column `n` of `w`. -/
def proj (x : Vec Ideal S8x256x1024 .f32) (g : Vec Ideal S1x1024 .f32) (w : Vec Ideal S1x1024x1024 .f32) (b : Fin 8) (t : Fin 256) (n : Fin 1024) :
    Ideal .f32 :=
  ∑ k : Fin 1024, x (ix3 b t k)
      * Ideal.rsqrt (Ideal.div (∑ l : Fin 1024, x (ix3 b t l) * x (ix3 b t l)) (Ideal.ofBits .f32 0x44800000#32) + Ideal.ofBits .f32 0x358637BD#32)
      * g (ix2 0 k) * w (ix3 0 k n)

/-- The keys' rows of a step at an element, -/
theorem kRows_at (x : Vec Ideal S512x1024 .f32) (g : Vec Ideal S1x1024 .f32) (w : Vec Ideal S1024x1024 .f32) (i : S512x1024.Idx) :
    kRows x g w i = ∑ k : Fin 1024, x (ix2 (i 0) k)
      * Ideal.rsqrt (Ideal.div (∑ l : Fin 1024, x (ix2 (i 0) l) * x (ix2 (i 0) l)) (Ideal.ofBits .f32 0x44800000#32) + Ideal.ofBits .f32 0x358637BD#32)
      * g (ix2 0 k) * w (ix2 k (i 1)) := by
  unfold kRows k0_pay5 k0_pay3 k0_pay4
  pointwise
/-- and the values', which differ by the weight. -/
theorem vRows_at (x : Vec Ideal S512x1024 .f32) (g : Vec Ideal S1x1024 .f32) (w : Vec Ideal S1024x1024 .f32) (i : S512x1024.Idx) :
    vRows x g w i = kRows x g w i := rfl

/-- A step's rows are the projection's where its operands are the arrays' rows. -/
theorem rows_proj {X : Vec Ideal S512x1024 .f32} {G : Vec Ideal S1x1024 .f32} {W : Vec Ideal S1024x1024 .f32} {x : Vec Ideal S8x256x1024 .f32}
    {g : Vec Ideal S1x1024 .f32} {w : Vec Ideal S1x1024x1024 .f32} {b : Fin 8} {t : Fin 256} (i : S512x1024.Idx)
    (hx : ∀ k, X (ix2 (i 0) k) = x (ix3 b t k)) (hg : ∀ k, G (ix2 0 k) = g (ix2 0 k)) (hw : ∀ k, W (ix2 k (i 1)) = w (ix3 0 k (i 1))) :
    kRows X G W i = proj x g w b t (i 1) := by
  rw [kRows_at]
  unfold proj
  simp only [hx, hg, hw]

/-! ## The host lines before the region, at an element -/

theorem rows_cast (x : Vec Ideal S8x256x1024 .f32) (b : Fin 4) (i : Fin 512) (k : Fin 1024) :
    shapeCast S2048x1024 x shapeCasts_S8x256x1024_S2048x1024 (ix2 (⟨512 * b.val + i.val, by omega⟩ : Fin 2048) k)
      = x (ix3 (⟨(512 * b.val + i.val) / 256, by omega⟩ : Fin 8) (⟨(512 * b.val + i.val) % 256, by omega⟩ : Fin 256) k) := by
  pointwise
theorem gain_cast (g : Vec Ideal S1x1024 .f32) (k : Fin 1024) :
    shapeCast S1x1024 (shapeCast S1024 g shapeCasts_S1x1024_S1024) shapeCasts_S1024_S1x1024 (ix2 0 k) = g (ix2 0 k) := by
  pointwise
theorem weight_cast (w : Vec Ideal S1x1024x1024 .f32) (k n : Fin 1024) :
    shapeCast S1024x1024 w shapeCasts_S1x1024x1024_S1024x1024 (ix2 k n) = w (ix3 0 k n) := by
  pointwise
theorem win_cast (w : Vec Ideal S1x1024x2304 .f32) (k : Fin 1024) (n : Fin 2304) :
    shapeCast S1024x2304 w shapeCasts_S1x1024x2304_S1024x2304 (ix2 k n) = w (ix3 0 k n) := by
  pointwise

variable (m : (ℓ : Loc nD τ sig) → Buf (Elt Ideal) ℓ) (c : Dev nD)

/-- The batch of row `i` of step `b`, -/
abbrev batchOf (b : Fin 4) (i : Fin 512) : Fin 8 := ⟨(512 * b.val + i.val) / 256, by omega⟩
/-- and its token. -/
abbrev tokenOf (b : Fin 4) (i : Fin 512) : Fin 256 := ⟨(512 * b.val + i.val) % 256, by omega⟩

theorem memBlk_at (b : Fin 4) (i : Fin 512) (k : Fin 1024) :
    memBlk c (V m c) b (ix2 i k) = m ((c : Thread nD τ).loc main_arg0) (ix3 (batchOf b i) (tokenOf b i) k) := by
  have h : memBlk c (V m c) b (ix2 i k)
      = V m c main_v0 ((Rect.unit (s := S2048x1024) ![512 * b.val, 0] S512x1024.size (bA_inb b)).emb (ix2 i k)) := rfl
  have e : (Rect.unit (s := S2048x1024) ![512 * b.val, 0] S512x1024.size (bA_inb b)).emb (ix2 i k)
      = ix2 (⟨512 * b.val + i.val, by omega⟩ : Fin 2048) k := by
    funext a
    match a with
    | ⟨0, _⟩ => exact Fin.ext (show 512 * b.val + 1 * i.val = 512 * b.val + i.val by omega)
    | ⟨1, _⟩ => exact Fin.ext (show 0 + 1 * k.val = k.val by omega)
  rw [h, e, V_v0]
  exact rows_cast _ b i k
theorem gain_at (k : Fin 1024) : V m c main_v2 (ix2 0 k) = m ((c : Thread nD τ).loc main_arg1) (ix2 0 k) := by
  rw [V_v2]
  exact gain_cast _ k
theorem wk_at (k n : Fin 1024) : V m c main_v3 (ix2 k n) = m ((c : Thread nD τ).loc main_arg2) (ix3 0 k n) := by
  rw [V_v3]
  exact weight_cast _ k n
theorem wv_at (k n : Fin 1024) : V m c main_v4 (ix2 k n) = m ((c : Thread nD τ).loc main_arg3) (ix3 0 k n) := by
  rw [V_v4]
  exact weight_cast _ k n

/-- A step's keys are the projection of its rows; -/
theorem kBlk_at (b : Fin 4) (i : S512x1024.Idx) : kBlk c (V m c) b i
    = proj (m ((c : Thread nD τ).loc main_arg0)) (m ((c : Thread nD τ).loc main_arg1)) (m ((c : Thread nD τ).loc main_arg2))
      (batchOf b (i 0)) (tokenOf b (i 0)) (i 1) :=
  (rows_proj i (memBlk_at m c b (i 0)) (gain_at m c) (fun k => wk_at m c k (i 1)))
/-- its values, by the other weight. -/
theorem vBlk_at (b : Fin 4) (i : S512x1024.Idx) : vBlk c (V m c) b i
    = proj (m ((c : Thread nD τ).loc main_arg0)) (m ((c : Thread nD τ).loc main_arg1)) (m ((c : Thread nD τ).loc main_arg3))
      (batchOf b (i 0)) (tokenOf b (i 0)) (i 1) :=
  (vRows_at _ _ _ i).trans (rows_proj i (memBlk_at m c b (i 0)) (gain_at m c) (fun k => wv_at m c k (i 1)))

/-! ## From the steps' blocks to the results -/

/-- Four blocks of planes in heads: head `h`, lane `l` of token `t` of batch `b` is column `256 h + l` of row `256 b + t`. -/
theorem heads_planes (Y : Fin 4 → S512x1024.Idx → Ideal .f32) (f : Fin 8 → Fin 256 → Fin 1024 → Ideal .f32)
    (hY : ∀ b i, Y b i = f (batchOf b (i 0)) (tokenOf b (i 0)) (i 1)) (j : S1x8x256x4x256.Idx) :
    heads (F := Ideal) (glue (R := 4 * 4096) (r := 4096) rfl fun b => planes (Y b)) j
      = f (j 1) (j 2) ⟨(j 3).val * 256 + (j 4).val, by have : (j 3).val < 4 := (j 3).isLt; have : (j 4).val < 256 := (j 4).isLt; omega⟩ := by
  have h1 : (j 1).val < 8 := (j 1).isLt
  have h2 : (j 2).val < 256 := (j 2).isLt
  have h3 : (j 3).val < 4 := (j 3).isLt
  have h4 : (j 4).val < 256 := (j 4).isLt
  have e (x : Vec Ideal S16384x128 .f32) : heads x j
      = x (ix2 (⟨(j 1).val * 2048 + (j 2).val * 8 + (j 4).val / 128 * 4 + (j 3).val, by omega⟩ : Fin 16384) (⟨(j 4).val % 128, by omega⟩ : Fin 128)) := by
    unfold heads
    pointwise
  rw [e]
  refine (hY _ _).trans ?_
  congr 1
  · exact Fin.ext (show (512 * (((j 1).val * 2048 + (j 2).val * 8 + (j 4).val / 128 * 4 + (j 3).val) / 4096)
      + ((j 1).val * 2048 + (j 2).val * 8 + (j 4).val / 128 * 4 + (j 3).val) % 4096 / 8) / 256 = (j 1).val by omega)
  · exact Fin.ext (show (512 * (((j 1).val * 2048 + (j 2).val * 8 + (j 4).val / 128 * 4 + (j 3).val) / 4096)
      + ((j 1).val * 2048 + (j 2).val * 8 + (j 4).val / 128 * 4 + (j 3).val) % 4096 / 8) % 256 = (j 2).val by omega)
  · exact Fin.ext (show ((j 1).val * 2048 + (j 2).val * 8 + (j 4).val / 128 * 4 + (j 3).val) % 4096 % 8 % 4 * 256
      + ((j 1).val * 2048 + (j 2).val * 8 + (j 4).val / 128 * 4 + (j 3).val) % 4096 % 8 / 4 * 128 + (j 4).val % 128
        = (j 3).val * 256 + (j 4).val by omega)

/-- The rounded rows glued: row `y` is token `y % 256` of batch `y / 256`. -/
theorem rows_glue (Y : Fin 4 → S512x1024.Idx → Ideal .f32) (f : Fin 8 → Fin 256 → Fin 1024 → Ideal .f32)
    (hY : ∀ b i, Y b i = f (batchOf b (i 0)) (tokenOf b (i 0)) (i 1)) (j : S2048x1024.Idx) :
    glue (R := 4 * 512) (r := 512) rfl Y j
      = f ⟨(j 0).val / 256, by have : (j 0).val < 2048 := (j 0).isLt; omega⟩ ⟨(j 0).val % 256, Nat.mod_lt _ (by decide)⟩ (j 1) := by
  refine (hY _ _).trans ?_
  congr 1
  · exact Fin.ext (show (512 * ((j 0).val / 512) + (j 0).val % 512) / 256 = (j 0).val / 256 by omega)
  · exact Fin.ext (show (512 * ((j 0).val / 512) + (j 0).val % 512) % 256 = (j 0).val % 256 by omega)

/-- Rounding is the identity at the ideal instance. -/
theorem truncf_ideal {s : Shape} (x : FVec Ideal s .f32) (i : s.Idx) : truncf .bf16 x bitsLt_bf16_f32 i = x i := rfl

theorem out0_at (j : S1x8x256x4x256.Idx) : heads (F := Ideal) (outK c (V m c)) j
    = proj (m ((c : Thread nD τ).loc main_arg0)) (m ((c : Thread nD τ).loc main_arg1)) (m ((c : Thread nD τ).loc main_arg2)) (j 1) (j 2)
      ⟨(j 3).val * 256 + (j 4).val, by have : (j 3).val < 4 := (j 3).isLt; have : (j 4).val < 256 := (j 4).isLt; omega⟩ :=
  heads_planes _ (proj _ _ _) (kBlk_at m c) j
theorem out1_at (j : S1x8x256x4x256.Idx) : heads (F := Ideal) (outV c (V m c)) j
    = proj (m ((c : Thread nD τ).loc main_arg0)) (m ((c : Thread nD τ).loc main_arg1)) (m ((c : Thread nD τ).loc main_arg3)) (j 1) (j 2)
      ⟨(j 3).val * 256 + (j 4).val, by have : (j 3).val < 4 := (j 3).isLt; have : (j 4).val < 256 := (j 4).isLt; omega⟩ :=
  heads_planes _ (proj _ _ _) (vBlk_at m c) j
theorem out2_at (j : S2048x1024.Idx) : outKb c (V m c) j
    = proj (m ((c : Thread nD τ).loc main_arg0)) (m ((c : Thread nD τ).loc main_arg1)) (m ((c : Thread nD τ).loc main_arg2))
      ⟨(j 0).val / 256, by have : (j 0).val < 2048 := (j 0).isLt; omega⟩ ⟨(j 0).val % 256, Nat.mod_lt _ (by decide)⟩ (j 1) :=
  rows_glue (kBlk c (V m c)) (proj _ _ _) (kBlk_at m c) j
theorem out3_at (j : S2048x1024.Idx) : outVb c (V m c) j
    = proj (m ((c : Thread nD τ).loc main_arg0)) (m ((c : Thread nD τ).loc main_arg1)) (m ((c : Thread nD τ).loc main_arg3))
      ⟨(j 0).val / 256, by have : (j 0).val < 2048 := (j 0).isLt; omega⟩ ⟨(j 0).val % 256, Nat.mod_lt _ (by decide)⟩ (j 1) :=
  rows_glue (vBlk c (V m c)) (proj _ _ _) (vBlk_at m c) j

/-- The weights' blocks glued are the weights. -/
theorem out4_at (j : S1024x2304.Idx) : outW c (V m c) j = m ((c : Thread nD τ).loc main_arg4) (ix3 0 (j 0) (j 1)) := by
  have h0 : (j 0).val < 1024 := (j 0).isLt
  have h : outW c (V m c) j = V m c main_v5 (ix2 (j 0) (j 1)) := congrArg (V m c main_v5) (funext fun a => by
    match a with
    | ⟨0, _⟩ => exact Fin.ext (show 256 * ((j 0).val / 256) + 1 * ((j 0).val % 256) = (j 0).val by omega)
    | ⟨1, _⟩ => exact Fin.ext (show 0 + 1 * (j 1).val = (j 1).val by omega))
  rw [h, V_v5]
  exact win_cast _ _ _
theorem out5_at (j : S1024x1024.Idx) : outO c (V m c) j = m ((c : Thread nD τ).loc main_arg5) (ix3 0 (j 0) (j 1)) := by
  have h0 : (j 0).val < 1024 := (j 0).isLt
  have h : outO c (V m c) j = V m c main_v6 (ix2 (j 0) (j 1)) := congrArg (V m c main_v6) (funext fun a => by
    match a with
    | ⟨0, _⟩ => exact Fin.ext (show 256 * ((j 0).val / 256) + 1 * ((j 0).val % 256) = (j 0).val by omega)
    | ⟨1, _⟩ => exact Fin.ext (show 0 + 1 * (j 1).val = (j 1).val by omega))
  rw [h, V_v6]
  exact weight_cast _ _ _

end Cert.Proof.Memory

end
-- ==== Proof.RefOutputs.lean ====
/-
  The reference's results at the ideal instance, element by element: the same sums as `Outputs` finds for `memory_kv`.
-/
module

public import proofs.«01_k».proof.Proof.Outputs
public import proofs.«01_k».proof.Proof.Gen.ReferenceIdeal.Run

@[expose] public section

noncomputable section

namespace Cert.Proof.MemoryRef

open Cert.ReferenceIdeal Cert.ReferenceIdeal.Gen
open Idealize.ShloMosaic Idealize.ShloMosaic.TcCoe
open Cert.Proof.Memory (proj)

/-- The prompt memory normalised and gained, as the reference writes it. -/
abbrev normed (x : FVec Ideal S8x256x1024 .f32) (g : FVec Ideal S1x1024 .f32) : FVec Ideal S8x256x1024 .f32 :=
  mulf (mulf x (broadcastInDim S8x256x1024 ![0, 1, 2] bcast_S8x256x1_S8x256x1024_0_1_2 (Host.rsqrt (addf (Host.divf
    (broadcastInDim S8x256x1 ![0, 1] bcast_S8x256_S8x256x1_0_1
      (Host.reduceAdd (mulf x x) (constant S_ .f32 0x00000000#32) reducesTo_S8x256x1024_S8x256_d2 h_S_))
    (broadcastInDim S8x256x1 ![] bcast_S_S8x256x1 (constant S_ .f32 0x44800000#32)))
    (broadcastInDim S8x256x1 ![] bcast_S_S8x256x1 (constant S_ .f32 0x358637BD#32))))))
    (broadcastInDim S8x256x1024 ![0, 1, 2] bcast_S1x1x1024_S8x256x1024_0_1_2
      (broadcastInDim S1x1x1024 ![2] bcast_S1024_S1x1x1024_2 (shapeCast S1024 g shapeCasts_S1x1024_S1024)))
/-- Its product with a weight. -/
abbrev product (x : FVec Ideal S8x256x1024 .f32) (g : FVec Ideal S1x1024 .f32) (w : FVec Ideal S1x1024x1024 .f32) : FVec Ideal S8x256x1024 .f32 :=
  Host.dotGeneral dot_S8x256x1024_S1024x1024_S8x256x1024_2_0_01_1_n_n none (normed x g) (shapeCast S1024x1024 w shapeCasts_S1x1024x1024_S1024x1024)

theorem product_at (x : FVec Ideal S8x256x1024 .f32) (g : FVec Ideal S1x1024 .f32) (w : FVec Ideal S1x1024x1024 .f32)
    (b : Fin 8) (t : Fin 256) (n : Fin 1024) : product x g w (ix3 b t n) = proj x g w b t n := by
  unfold product normed proj
  pointwise

/-- In heads, with the leading one: -/
theorem heads_at (y : FVec Ideal S8x256x1024 .f32) (j : S1x8x256x4x256.Idx) :
    broadcastInDim S1x8x256x4x256 ![1, 2, 3, 4] bcast_S8x256x4x256_S1x8x256x4x256_1_2_3_4
        (shapeCast S8x256x4x256 y shapeCasts_S8x256x1024_S8x256x4x256) j
      = y (ix3 (j 1) (j 2)
          ⟨(j 3).val * 256 + (j 4).val, by have : (j 3).val < 4 := (j 3).isLt; have : (j 4).val < 256 := (j 4).isLt; omega⟩) := by
  pointwise
/-- and flat again. -/
theorem flat_at (y : FVec Ideal S8x256x1024 .f32) (j : S2048x1024.Idx) :
    truncf .bf16 (shapeCast S2048x1024 (shapeCast S8x256x4x256 y shapeCasts_S8x256x1024_S8x256x4x256) shapeCasts_S8x256x4x256_S2048x1024)
        bitsLt_bf16_f32 j
      = y (ix3 (⟨(j 0).val / 256, by have : (j 0).val < 2048 := (j 0).isLt; omega⟩ : Fin 8)
          (⟨(j 0).val % 256, Nat.mod_lt _ (by decide)⟩ : Fin 256) (j 1)) := by
  pointwise
theorem win_at (w : FVec Ideal S1x1024x2304 .f32) (j : S1024x2304.Idx) :
    truncf .bf16 (shapeCast S1024x2304 w shapeCasts_S1x1024x2304_S1024x2304) bitsLt_bf16_f32 j = w (ix3 0 (j 0) (j 1)) := by
  pointwise
theorem wout_at (w : FVec Ideal S1x1024x1024 .f32) (j : S1024x1024.Idx) :
    truncf .bf16 (shapeCast S1024x1024 w shapeCasts_S1x1024x1024_S1024x1024) bitsLt_bf16_f32 j = w (ix3 0 (j 0) (j 1)) := by
  pointwise

/-! ## The products' results, of arrays that agree with the kernel's -/

section Of
variable {x x' : FVec Ideal S8x256x1024 .f32} {g g' : FVec Ideal S1x1024 .f32} {w w' : FVec Ideal S1x1024x1024 .f32}

theorem heads_of (hx : x' = x) (hg : g' = g) (hw : w' = w) (j : S1x8x256x4x256.Idx) :
    broadcastInDim S1x8x256x4x256 ![1, 2, 3, 4] bcast_S8x256x4x256_S1x8x256x4x256_1_2_3_4
        (shapeCast S8x256x4x256 (product x' g' w') shapeCasts_S8x256x1024_S8x256x4x256) j
      = proj x g w (j 1) (j 2)
          ⟨(j 3).val * 256 + (j 4).val, by have : (j 3).val < 4 := (j 3).isLt; have : (j 4).val < 256 := (j 4).isLt; omega⟩ := by
  subst hx hg hw
  exact (heads_at _ j).trans (product_at _ _ _ _ _ _)
theorem flat_of (hx : x' = x) (hg : g' = g) (hw : w' = w) (j : S2048x1024.Idx) :
    truncf .bf16 (shapeCast S2048x1024 (shapeCast S8x256x4x256 (product x' g' w') shapeCasts_S8x256x1024_S8x256x4x256)
        shapeCasts_S8x256x4x256_S2048x1024) bitsLt_bf16_f32 j
      = proj x g w ⟨(j 0).val / 256, by have : (j 0).val < 2048 := (j 0).isLt; omega⟩ ⟨(j 0).val % 256, Nat.mod_lt _ (by decide)⟩ (j 1) := by
  subst hx hg hw
  exact (flat_at _ j).trans (product_at _ _ _ _ _ _)
end Of

end Cert.Proof.MemoryRef

end
-- ==== Proof.MlpPieces.lean ====
/-
  What one step of `mlp_xattn` computes, as functions of the blocks it reads.

  `layer` is the feed-forward layer over 512 rows: the hidden features in four chunks of 1024, each chunk in four pieces of 256,
  and the residual sum after each chunk.  `attn` is the attention of a tile of eight rows against one batch's memory, with four
  heads; `pair` joins the rows of two batches that share a tile.  `stepFrom` is what a step leaves in the sample's block.
-/
module

public import proofs.«01_k».proof.Proof.Gen.Kernel2Ideal.Frame
public import Idealize.ShloMosaic.Lib.Tactic
public import Idealize.ShloMosaic.Lib.WritesUnit

@[expose] public section

noncomputable section

namespace Cert.Proof.Mlp

open Cert.Kernel2Ideal Cert.Kernel2Ideal.Gen
open Idealize.ShloMosaic Idealize.ShloMosaic.TcCoe

variable {F : FTy → Type} [FloatOps F]

/-- No program variants. -/
abbrev 𝒱₀ : Variants := Variants.none

/-! ## Reading a part of a block -/

/-- What a load at the coordinates `r` reads of a block. -/
def sub {s : Shape} {e : EltTy} (x : Vec F s e) (r : LoadRect s) : Vec F r.shape e := fun j => x (r.idx j)

/-- The piece `k` of the up projection's columns: 256 of the 4096. -/
abbrev upRect (k : Fin 16) : LoadRect S1024x4096 :=
  (Rect.unit (s := S1024x4096) ![0, 256 * k.val] S1024x256.size (by
    have := k.isLt; intro a; fin_cases a
    · exact Nat.le_refl 1024
    · show 256 * k.val + 256 ≤ 4096; omega)).toLoadRect

/-- The rows of chunk `c` of the down projection, and the piece `k` of its columns. -/
abbrev downRect (c k : Fin 4) : LoadRect S4096x1024 :=
  (Rect.unit (s := S4096x1024) ![1024 * c.val, 256 * k.val] S1024x256.size (by
    have := k.isLt; have := c.isLt; intro a; fin_cases a
    · show 1024 * c.val + 1024 ≤ 4096; omega
    · show 256 * k.val + 256 ≤ 1024; omega)).toLoadRect

/-- Every eighth row from row `r` of batch `b`'s memory. -/
abbrev memRect (b : Fin 4) (r : Fin 8) : LoadRect S4x2048x128 :=
  ⟨![b.val, r.val, 0], S1x256x128.size, ![1, 8, 1], by
    have := b.isLt; have := r.isLt; intro a; right; fin_cases a
    · show b.val + 1 * (1 - 1) < 4; omega
    · show r.val + 8 * (256 - 1) < 2048; omega
    · show 0 + 1 * (128 - 1) < 128; omega⟩

/-- The two batches of the sample's block that tile `r` of step `i` holds. -/
abbrev tileRect (i : grid0.Coords) (h : k0_cond2 i = 1#1) (r : Fin 2) : Rect S128x4x1024 :=
  Rect.unit (s := S128x4x1024) (k0_off1 i (BitVec.ofNat 32 (2 * r.val))) S2x4x1024.size (k0_off1_inb i h r)

/-! ## The layer -/

/-- The root-mean-square norm of each row, times the weight. -/
def rms (x : FVec F S512x1024 .f32) (g : FVec F S1x1024 .f32) : FVec F S512x1024 .f32 :=
  mulf (mulf x (broadcastTo S512x1024 (rsqrt (addf
      (divf (shapeCast S512x1 (multiReduction .add [1] S512 (mulf x x) 0x00000000#32 reduces_S512x1024_S512 (.inl rfl) rfl) shapeCasts_S512_S512x1)
        (broadcast S512x1 (Scalar.ofBits .f32 0x44800000#32)))
      (broadcast S512x1 (Scalar.ofBits .f32 0x358637BD#32)))) broadcasts_S512x1_S512x1024))
    (broadcastTo S512x1024 g broadcasts_S1x1024_S512x1024)

/-- One piece of the hidden features: the square of the positive part of a product. -/
def up (xn : FVec F S512x1024 .bf16) (w : FVec F S1024x256 .bf16) : FVec F S512x256 .bf16 :=
  truncf .bf16 (mulf
    (maximumf (matmul dot_S512x1024_S1024x256_S512x256_1_0_0_1_n_n none xn (shapeCast S1024x256 w shapeCasts_S1024x256_S1024x256) (constant S512x256 .f32 0x00000000#32))
      (broadcast S512x256 (Scalar.ofBits .f32 0x00000000#32)))
    (maximumf (matmul dot_S512x1024_S1024x256_S512x256_1_0_0_1_n_n none xn (shapeCast S1024x256 w shapeCasts_S1024x256_S1024x256) (constant S512x256 .f32 0x00000000#32))
      (broadcast S512x256 (Scalar.ofBits .f32 0x00000000#32)))) bitsLt_bf16_f32

/-- One chunk of the hidden features, from its four pieces. -/
def chunk (xn : FVec F S512x1024 .bf16) (wu : Vec F S1024x4096 .bf16) (k0 k1 k2 k3 : Fin 16) : FVec F S512x1024 .bf16 :=
  concatenate S512x1024 1 [⟨S512x256, up xn (sub wu (upRect k0))⟩, ⟨S512x256, up xn (sub wu (upRect k1))⟩,
    ⟨S512x256, up xn (sub wu (upRect k2))⟩, ⟨S512x256, up xn (sub wu (upRect k3))⟩] concatenates_S512x256_S512x256_S512x256_S512x256_S512x1024_d1

/-- One piece of a chunk's product with the down projection. -/
def down (hid : FVec F S512x1024 .bf16) (w : FVec F S1024x256 .bf16) : FVec F S512x256 .f32 :=
  matmul dot_S512x1024_S1024x256_S512x256_1_0_0_1_n_n none hid (shapeCast S1024x256 w shapeCasts_S1024x256_S1024x256) (constant S512x256 .f32 0x00000000#32)

/-- A chunk's product with the rows of the down projection that belong to it. -/
def downs (hid : FVec F S512x1024 .bf16) (wd : Vec F S4096x1024 .bf16) (c : Fin 4) : FVec F S512x1024 .f32 :=
  concatenate S512x1024 1 [⟨S512x256, down hid (sub wd (downRect c 0))⟩, ⟨S512x256, down hid (sub wd (downRect c 1))⟩,
    ⟨S512x256, down hid (sub wd (downRect c 2))⟩, ⟨S512x256, down hid (sub wd (downRect c 3))⟩] concatenates_S512x256_S512x256_S512x256_S512x256_S512x1024_d1

/-- The rows with the four chunks' products added, one after the other. -/
def mix (h : FVec F S512x1024 .f32) (xn : FVec F S512x1024 .bf16) (wu : Vec F S1024x4096 .bf16) (wd : Vec F S4096x1024 .bf16) :
    FVec F S512x1024 .f32 :=
  addf (addf (addf (addf h (downs (chunk xn wu 0 1 2 3) wd 0)) (downs (chunk xn wu 4 5 6 7) wd 1)) (downs (chunk xn wu 8 9 10 11) wd 2))
    (downs (chunk xn wu 12 13 14 15) wd 3)

/-- The feed-forward layer over 512 rows, and the last norm. -/
def layer (h : FVec F S512x1024 .f32) (g : Vec F S1x1024 .f32) (wu : Vec F S1024x4096 .bf16) (wd : Vec F S4096x1024 .bf16)
    (gf : Vec F S1x1024 .f32) : FVec F S512x1024 .f32 :=
  rms (mix h (truncf .bf16 (rms h (shapeCast S1x1024 g shapeCasts_S1x1024_S1x1024)) bitsLt_bf16_f32) wu wd)
    (shapeCast S1x1024 gf shapeCasts_S1x1024_S1x1024)

/-- What a step leaves in the prompt's block. -/
def promptOut (x : Vec F S512x1024 .f32) (g : Vec F S1x1024 .f32) (wu : Vec F S1024x4096 .bf16) (wd : Vec F S4096x1024 .bf16)
    (gf : Vec F S1x1024 .f32) : Vec F S512x1024 .f32 :=
  layer (shapeCast S512x1024 x shapeCasts_S512x1024_S512x1024) g wu wd gf

/-! ## The attention -/

/-- The queries of all batches, scaled. -/
def queries (x : Vec F S512x1024 .f32) (g : Vec F S1x1024 .f32) (w : Vec F S1024x1024 .bf16) : Vec F S128x4x1024 .f32 :=
  shapeCast S128x4x1024 (mulf
    (matmul dot_S512x1024_S1024x1024_S512x1024_1_0_0_1_n_n none
      (truncf .bf16 (rms (shapeCast S512x1024 x shapeCasts_S512x1024_S512x1024) (shapeCast S1x1024 g shapeCasts_S1x1024_S1x1024)) bitsLt_bf16_f32)
      (shapeCast S1024x1024 w shapeCasts_S1024x1024_S1024x1024) (constant S512x1024 .f32 0x00000000#32))
    (broadcast S512x1024 (Scalar.ofBits .f32 0x3D800000#32))) shapeCasts_S512x1024_S128x4x1024

/-- The eight rows of a tile. -/
def rows (q : Vec F S2x4x1024 .f32) : FVec F S8x1024 .bf16 :=
  truncf .bf16 (shapeCast S8x1024 (shapeCast S2x4x1024 q shapeCasts_S2x4x1024_S2x4x1024) shapeCasts_S2x4x1024_S8x1024) bitsLt_bf16_f32

/-- One head of a batch's memory: two halves of 128 lanes, side by side. -/
def slab (x : Vec F S4x2048x128 .f32) (b : Fin 4) (lo hi : Fin 8) : FVec F S256x256 .bf16 :=
  truncf .bf16 (concatenate S256x256 1
    [⟨S256x128, shapeCast S256x128 (sub x (memRect b lo)) shapeCasts_S1x256x128_S256x128⟩,
     ⟨S256x128, shapeCast S256x128 (sub x (memRect b hi)) shapeCasts_S1x256x128_S256x128⟩] concatenates_S256x128_S256x128_S256x256_d1) bitsLt_bf16_f32

/-- The scores of one head of the rows against a memory. -/
def dotNt (q : FVec F S8x256 .bf16) (k : FVec F S256x256 .bf16) : FVec F S8x256 .f32 :=
  matmul dot_S8x256_S256x256_S8x256_1_1_0_0_n_n none q k (constant S8x256 .f32 0x00000000#32)

/-- The scores of the four heads, one below the other. -/
def scores (q : FVec F S8x1024 .bf16) (xk : Vec F S4x2048x128 .f32) (b : Fin 4) : FVec F S32x256 .f32 :=
  concatenate S32x256 0
    [⟨S8x256, dotNt (extractStridedSlice S8x256 ![0, 0] q slices_S8x1024_o0_0_S8x256) (slab xk b 0 4)⟩,
     ⟨S8x256, dotNt (extractStridedSlice S8x256 ![0, 256] q slices_S8x1024_o0_256_S8x256) (slab xk b 1 5)⟩,
     ⟨S8x256, dotNt (extractStridedSlice S8x256 ![0, 512] q slices_S8x1024_o0_512_S8x256) (slab xk b 2 6)⟩,
     ⟨S8x256, dotNt (extractStridedSlice S8x256 ![0, 768] q slices_S8x1024_o0_768_S8x256) (slab xk b 3 7)⟩]
    concatenates_S8x256_S8x256_S8x256_S8x256_S32x256_d0

/-- The exponentials of the scores less each row's maximum. -/
def expo (s : FVec F S32x256 .f32) : FVec F S32x256 .f32 :=
  exp (subf s (broadcastTo S32x256 (shapeCast S32x1 (multiReduction .maximumf [1] S32 s 0xFF800000#32 reduces_S32x256_S32 (.inl rfl) rfl)
    shapeCasts_S32_S32x1) broadcasts_S32x1_S32x256))

/-- The weights: the exponentials times the reciprocal of each row's sum. -/
def soft (s : FVec F S32x256 .f32) : FVec F S32x256 .f32 :=
  mulf (expo s) (broadcastTo S32x256 (divf (broadcast S32x1 (Scalar.ofBits .f32 0x3F800000#32))
    (shapeCast S32x1 (multiReduction .add [1] S32 (expo s) 0x00000000#32 reduces_S32x256_S32 (.inl rfl) rfl) shapeCasts_S32_S32x1))
    broadcasts_S32x1_S32x256)

/-- One head's weighted sum of the values. -/
def dotNn (p : FVec F S8x256 .f32) (v : FVec F S256x256 .bf16) : FVec F S8x256 .f32 :=
  matmul dot_S8x256_S256x256_S8x256_1_0_0_1_n_n none (truncf .bf16 p bitsLt_bf16_f32) v (constant S8x256 .f32 0x00000000#32)

/-- The four heads' weighted sums, side by side. -/
def heads (p : FVec F S32x256 .f32) (xv : Vec F S4x2048x128 .f32) (b : Fin 4) : FVec F S8x1024 .f32 :=
  concatenate S8x1024 1
    [⟨S8x256, dotNn (extractStridedSlice S8x256 ![0, 0] p slices_S32x256_o0_0_S8x256) (slab xv b 0 4)⟩,
     ⟨S8x256, dotNn (extractStridedSlice S8x256 ![8, 0] p slices_S32x256_o8_0_S8x256) (slab xv b 1 5)⟩,
     ⟨S8x256, dotNn (extractStridedSlice S8x256 ![16, 0] p slices_S32x256_o16_0_S8x256) (slab xv b 2 6)⟩,
     ⟨S8x256, dotNn (extractStridedSlice S8x256 ![24, 0] p slices_S32x256_o24_0_S8x256) (slab xv b 3 7)⟩]
    concatenates_S8x256_S8x256_S8x256_S8x256_S8x1024_d1

/-- The attention of a tile's rows against batch `b`'s memory. -/
def attn (q : Vec F S2x4x1024 .f32) (xk xv : Vec F S4x2048x128 .f32) (b : Fin 4) : FVec F S8x1024 .f32 :=
  heads (soft (scores (rows q) xk b)) xv b

/-- Which rows of a tile belong to its first batch: the first four. -/
def own0 : IVec S8x1 1 := cmpi .slt (iota .tc S8x1 32 [0] iota_S8x1_d0_w32) (broadcast S8x1 4#32)

/-- A tile from the rows of its two batches. -/
def pair (a b : FVec F S8x1024 .f32) : Vec F S2x4x1024 .f32 :=
  shapeCast S2x4x1024 (select (broadcastTo S8x1024 (shapeCast S8x1 own0 shapeCasts_S8x1_S8x1) broadcasts_S8x1_S8x1024) a b)
    shapeCasts_S8x1024_S2x4x1024

/-- The tile `r` after a step, from its queries. -/
def tileOut (q : Vec F S2x4x1024 .f32) (xk xv : Vec F S4x2048x128 .f32) (a b : Fin 4) : Vec F S2x4x1024 .f32 :=
  pair (attn q xk xv a) (attn q xk xv b)

/-- What step `i` leaves in the sample's block where it found `y`. -/
def stepFrom (i : grid0.Coords) (h : k0_cond2 i = 1#1) (y : Vec F S128x4x1024 .f32) (xk xv : Vec F S4x2048x128 .f32) : Vec F S128x4x1024 .f32 :=
  (tileRect i h 1).overlay ((tileRect i h 0).overlay y (tileOut (sub y (tileRect i h 0).toLoadRect) xk xv 0 1))
    (tileOut (sub y (tileRect i h 1).toLoadRect) xk xv 2 3)

/-- What the last step leaves in the sample's block where it found `y`. -/
def lastFrom (y : Vec F S128x4x1024 .f32) (x : Vec F S512x1024 .f32) (wo : Vec F S1024x1024 .bf16) (g : Vec F S1x1024 .f32)
    (wu : Vec F S1024x4096 .bf16) (wd : Vec F S4096x1024 .bf16) (gf : Vec F S1x1024 .f32) : Vec F S128x4x1024 .f32 :=
  shapeCast S128x4x1024 (layer (addf (shapeCast S512x1024 x shapeCasts_S512x1024_S512x1024)
    (matmul dot_S512x1024_S1024x1024_S512x1024_1_0_0_1_n_n none
      (truncf .bf16 (shapeCast S512x1024 (shapeCast S128x4x1024 y shapeCasts_S128x4x1024_S128x4x1024) shapeCasts_S128x4x1024_S512x1024) bitsLt_bf16_f32)
      (shapeCast S1024x1024 wo shapeCasts_S1024x1024_S1024x1024) (constant S512x1024 .f32 0x00000000#32))) g wu wd gf)
    shapeCasts_S512x1024_S128x4x1024

/-! ## Reads of written blocks -/

/-- A load of a whole buffer that holds `x` reads a part of `x`. -/
theorem readAt_unread {sp : Space} {s : Shape} {e : EltTy} {M : Memref sig .tc sp s e} (w : M.IsWhole) (x : Vec F s e) (r : LoadRect s) :
    M.view.readAt (Elt F) r (w.unread x) = sub x r := by
  funext j
  show M.view.read (Elt F) (w.unread x) (r.idx j) = x (r.idx j)
  rw [w.read_unread]

/-- A load of everything. -/
theorem sub_full {s : Shape} {e : EltTy} (x : Vec F s e) (off : Fin s.rank → ℕ) (inb) (h0 : ∀ a, off a = 0) :
    sub x (Rect.unit (s := s) off s.size inb).toLoadRect = x := by
  funext j
  show x _ = x j
  congr 1
  funext a
  apply Fin.ext
  show off a + 1 * (j a).val = (j a).val
  rw [h0 a, Nat.zero_add, Nat.one_mul]

/-- A write through a rectangle lays its payload over what was there. -/
theorem read_cons {sp : Space} {s : Shape} {e : EltTy} (v : View sig .tc sp s e) (f : v.ty.Contents (Elt F)) (r : Rect s) (x : r.shape.Idx → Elt F e)
    (L : List (View.Piece (Elt F) s e)) :
    v.read (Elt F) (v.writes (Elt F) f (⟨r, x⟩ :: L)) = r.overlay (v.read (Elt F) (v.writes (Elt F) f L)) x := by
  funext j
  by_cases hj : j ∈ r.set
  · obtain ⟨k, -, rfl⟩ := Finset.mem_map.1 (by rw [← Rect.map_emb_univ] at hj; exact hj)
    rw [Rect.overlay_emb, View.read_writes_cons_emb]
  · rw [Rect.overlay_of_not_mem _ _ _ hj]
    exact View.read_writes_cons_miss _ _ ⟨r, x⟩ L j hj

/-- Tile `r` of step `i` starts at batch `4 i + 2 r`. -/
theorem off1_eq (i : grid0.Coords) (r : Fin 2) : k0_off1 i (BitVec.ofNat 32 (2 * r.val)) = ![4 * (i 0).val + 2 * r.val, 0, 0] := by
  have hi : (i 0).val < 33 := (i 0).isLt
  have hr := r.isLt
  unfold k0_off1
  simp only [Scalar.muli, Scalar.addi, Scalar.indexCast, IntOp.muli, IntOp.addi]
  congr 1
  simp
  omega

/-- A read beyond a rectangle along one axis sees nothing of what was laid over the rectangle. -/
theorem sub_overlay_of_le {s : Shape} {e : EltTy} {off off' size size' : Fin s.rank → ℕ} (inb : ∀ a, off a + size a ≤ s.size a)
    (inb' : ∀ a, off' a + size' a ≤ s.size a) (a : Fin s.rank) (ha : off a + size a ≤ off' a) (y : Vec F s e)
    (P : (Rect.unit (s := s) off size inb).shape.Idx → Elt F e) :
    sub (e := e) ((Rect.unit (s := s) off size inb).overlay y P) (Rect.unit (s := s) off' size' inb').toLoadRect
      = sub (e := e) y (Rect.unit (s := s) off' size' inb').toLoadRect := by
  funext j
  refine Rect.overlay_of_not_mem _ _ _ fun hm => ?_
  obtain ⟨k, -, hk⟩ := Finset.mem_map.1 (by rw [← Rect.map_emb_univ] at hm; exact hm)
  have h0 : off a + 1 * (k a).val = off' a + 1 * (j a).val := congrArg (fun v : s.Idx => (v a).val) hk
  have hk0 : (k a).val < size a := (k a).isLt
  omega

/-- The second tile reads the same before and after a write to the first. -/
theorem sub_overlay (i : grid0.Coords) (h : k0_cond2 i = 1#1) (y : Vec F S128x4x1024 .f32) (P : Vec F S2x4x1024 .f32) :
    sub (e := .f32) ((tileRect i h 0).overlay y P) (tileRect i h 1).toLoadRect = sub (e := .f32) y (tileRect i h 1).toLoadRect := by
  refine sub_overlay_of_le _ _ 0 ?_ y P
  rw [off1_eq, off1_eq]
  show 4 * (i 0).val + 2 * 0 + 2 ≤ 4 * (i 0).val + 2 * 1
  omega

end Cert.Proof.Mlp
-- ==== Proof.MlpRunFirst.lean ====
/-
  The body of `mlp_xattn` run through one of its three cases: what it leaves in the two output blocks, found by running it.
-/
module

public import proofs.«01_k».proof.Proof.MlpPieces
public import proofs.«01_k».proof.Proof.Gen.Kernel2Ideal.Skeleton
public import Idealize.ShloMosaic.Lib.Tactic

@[expose] public section

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra. -/
local notation "𝕄" => MT nD τ sig Unit (Elt F) ℕ (UR sig nD τ) ℕ

set_option maxHeartbeats 4000000 in
/-- The first step: the queries of all batches, then a tile of the prompt and four batches of the sample. -/
noncomputable def runFirst (c : Dev nD) (i : grid0.Coords) (h1 : k0_cond1 i = 1#1) (h2 : k0_cond2 i = 1#1) (h3 : ¬ k0_cond3 i = 1#1)
    (M1 : Memref sig .tc .vmem S512x1024 .f32) (w1 : M1.IsWhole)
    (M2 : Memref sig .tc .vmem S512x1024 .f32) (w2 : M2.IsWhole)
    (M3 : Memref sig .tc .vmem S1x1024 .f32) (w3 : M3.IsWhole)
    (M4 : Memref sig .tc .vmem S1024x1024 .bf16) (w4 : M4.IsWhole)
    (M5 : Memref sig .tc .vmem S1024x1024 .bf16) (w5 : M5.IsWhole)
    (M6 : Memref sig .tc .vmem S4x2048x128 .f32) (w6 : M6.IsWhole)
    (M7 : Memref sig .tc .vmem S4x2048x128 .f32) (w7 : M7.IsWhole)
    (M8 : Memref sig .tc .vmem S1x1024 .f32) (w8 : M8.IsWhole)
    (M9 : Memref sig .tc .vmem S1024x4096 .bf16) (w9 : M9.IsWhole)
    (M10 : Memref sig .tc .vmem S4096x1024 .bf16) (w10 : M10.IsWhole)
    (M11 : Memref sig .tc .vmem S1x1024 .f32) (w11 : M11.IsWhole)
    (M12 : Memref sig .tc .vmem S512x1024 .f32) (w12 : M12.IsWhole)
    (M13 : Memref sig .tc .vmem S128x4x1024 .f32) (w13 : M13.IsWhole)
    (x1 : Vec F S512x1024 .f32) (x2 : Vec F S512x1024 .f32) (x3 : Vec F S1x1024 .f32) (x4 : Vec F S1024x1024 .bf16) (x5 : Vec F S1024x1024 .bf16) (x6 : Vec F S4x2048x128 .f32) (x7 : Vec F S4x2048x128 .f32) (x8 : Vec F S1x1024 .f32) (x9 : Vec F S1024x4096 .bf16) (x10 : Vec F S4096x1024 .bf16) (x11 : Vec F S1x1024 .f32) :
    (Yp : Vec F S512x1024 .f32) ×' (Ys : Vec F S128x4x1024 .f32) ×'
      (∀ (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
            ∗ (∃ d, owns (c : Thread nD τ) M12 fullShare d) ∗ (∃ d, owns (c : Thread nD τ) M13 fullShare d)
            ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
                ∗ owns (c : Thread nD τ) M12 fullShare Yp ∗ owns (c : Thread nD τ) M13 fullShare Ys) -∗ K ⟨⟩))
          ⊢ wp frame (wpE (defs₀ (F := F)) 𝒱₀ c none) E (cc0_mlp_xattn i M1 w1 M2 w2 M3 w3 M4 w4 M5 w5 M6 w6 M7 w7 M8 w8 M9 w9 M10 w10 M11 w11 M12 w12 M13 w13) K) := by
  refine ⟨?_, ?_, fun E K => ?run⟩
  case run =>
    unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, ⟨%d13, %f13, -, H13⟩, Hk⟩
    obtain rfl := w1.eq_unread e1
    obtain rfl := w2.eq_unread e2
    obtain rfl := w3.eq_unread e3
    obtain rfl := w4.eq_unread e4
    obtain rfl := w5.eq_unread e5
    obtain rfl := w6.eq_unread e6
    obtain rfl := w7.eq_unread e7
    obtain rfl := w8.eq_unread e8
    obtain rfl := w9.eq_unread e9
    obtain rfl := w10.eq_unread e10
    obtain rfl := w11.eq_unread e11
    sl_unfold [cc0_mlp_xattn]
    sl_exec!
    sl_step
    iapply Hk
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    isplitl [H10]
    · iexists _; isplitr; · ipureintro; exact w10.read_unread _
      iexact H10
    isplitl [H11]
    · iexists _; isplitr; · ipureintro; exact w11.read_unread _
      iexact H11
    isplitl [H12]
    · iexists _; isplitr; swap; · iexact H12
      ipureintro; rfl
    iexists _; isplitr; swap; · iexact H13
    ipureintro; rfl

end Cert.Proof.Mlp
-- ==== Proof.MlpRunMid.lean ====
/-
  The body of `mlp_xattn` run through one of its three cases: what it leaves in the two output blocks, found by running it.
-/
module

public import proofs.«01_k».proof.Proof.MlpPieces
public import proofs.«01_k».proof.Proof.Gen.Kernel2Ideal.Skeleton
public import Idealize.ShloMosaic.Lib.Tactic

@[expose] public section

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra. -/
local notation "𝕄" => MT nD τ sig Unit (Elt F) ℕ (UR sig nD τ) ℕ

set_option maxHeartbeats 4000000 in
/-- A step between the first and the last: one tile of the prompt and four batches of the sample. -/
noncomputable def runMid (c : Dev nD) (i : grid0.Coords) (h1 : ¬ k0_cond1 i = 1#1) (h2 : k0_cond2 i = 1#1) (h3 : ¬ k0_cond3 i = 1#1)
    (M1 : Memref sig .tc .vmem S512x1024 .f32) (w1 : M1.IsWhole)
    (M2 : Memref sig .tc .vmem S512x1024 .f32) (w2 : M2.IsWhole)
    (M3 : Memref sig .tc .vmem S1x1024 .f32) (w3 : M3.IsWhole)
    (M4 : Memref sig .tc .vmem S1024x1024 .bf16) (w4 : M4.IsWhole)
    (M5 : Memref sig .tc .vmem S1024x1024 .bf16) (w5 : M5.IsWhole)
    (M6 : Memref sig .tc .vmem S4x2048x128 .f32) (w6 : M6.IsWhole)
    (M7 : Memref sig .tc .vmem S4x2048x128 .f32) (w7 : M7.IsWhole)
    (M8 : Memref sig .tc .vmem S1x1024 .f32) (w8 : M8.IsWhole)
    (M9 : Memref sig .tc .vmem S1024x4096 .bf16) (w9 : M9.IsWhole)
    (M10 : Memref sig .tc .vmem S4096x1024 .bf16) (w10 : M10.IsWhole)
    (M11 : Memref sig .tc .vmem S1x1024 .f32) (w11 : M11.IsWhole)
    (M12 : Memref sig .tc .vmem S512x1024 .f32) (w12 : M12.IsWhole)
    (M13 : Memref sig .tc .vmem S128x4x1024 .f32) (w13 : M13.IsWhole)
    (x1 : Vec F S512x1024 .f32) (x2 : Vec F S512x1024 .f32) (x3 : Vec F S1x1024 .f32) (x4 : Vec F S1024x1024 .bf16) (x5 : Vec F S1024x1024 .bf16) (x6 : Vec F S4x2048x128 .f32) (x7 : Vec F S4x2048x128 .f32) (x8 : Vec F S1x1024 .f32) (x9 : Vec F S1024x4096 .bf16) (x10 : Vec F S4096x1024 .bf16) (x11 : Vec F S1x1024 .f32) (y : Vec F S128x4x1024 .f32) :
    (Yp : Vec F S512x1024 .f32) ×' (Ys : Vec F S128x4x1024 .f32) ×'
      (∀ (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
            ∗ (∃ d, owns (c : Thread nD τ) M12 fullShare d) ∗ owns (c : Thread nD τ) M13 fullShare y
            ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
                ∗ owns (c : Thread nD τ) M12 fullShare Yp ∗ owns (c : Thread nD τ) M13 fullShare Ys) -∗ K ⟨⟩))
          ⊢ wp frame (wpE (defs₀ (F := F)) 𝒱₀ c none) E (cc0_mlp_xattn i M1 w1 M2 w2 M3 w3 M4 w4 M5 w5 M6 w6 M7 w7 M8 w8 M9 w9 M10 w10 M11 w11 M12 w12 M13 w13) K) := by
  refine ⟨?_, ?_, fun E K => ?run⟩
  case run =>
    unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, ⟨%f13, %e13, H13⟩, Hk⟩
    obtain rfl := w1.eq_unread e1
    obtain rfl := w2.eq_unread e2
    obtain rfl := w3.eq_unread e3
    obtain rfl := w4.eq_unread e4
    obtain rfl := w5.eq_unread e5
    obtain rfl := w6.eq_unread e6
    obtain rfl := w7.eq_unread e7
    obtain rfl := w8.eq_unread e8
    obtain rfl := w9.eq_unread e9
    obtain rfl := w10.eq_unread e10
    obtain rfl := w11.eq_unread e11
    obtain rfl := w13.eq_unread e13
    sl_unfold [cc0_mlp_xattn]
    sl_exec!
    sl_step
    iapply Hk
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    isplitl [H10]
    · iexists _; isplitr; · ipureintro; exact w10.read_unread _
      iexact H10
    isplitl [H11]
    · iexists _; isplitr; · ipureintro; exact w11.read_unread _
      iexact H11
    isplitl [H12]
    · iexists _; isplitr; swap; · iexact H12
      ipureintro; rfl
    iexists _; isplitr; swap; · iexact H13
    ipureintro; rfl

end Cert.Proof.Mlp
-- ==== Proof.MlpRunLast.lean ====
/-
  The body of `mlp_xattn` run through one of its three cases: what it leaves in the two output blocks, found by running it.
-/
module

public import proofs.«01_k».proof.Proof.MlpPieces
public import proofs.«01_k».proof.Proof.Gen.Kernel2Ideal.Skeleton
public import Idealize.ShloMosaic.Lib.Tactic

@[expose] public section

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra. -/
local notation "𝕄" => MT nD τ sig Unit (Elt F) ℕ (UR sig nD τ) ℕ

set_option maxHeartbeats 4000000 in
/-- The last step: the output projection and the layer over all the sample rows. -/
noncomputable def runLast (c : Dev nD) (i : grid0.Coords) (h1 : ¬ k0_cond1 i = 1#1) (h2 : ¬ k0_cond2 i = 1#1) (h3 : k0_cond3 i = 1#1)
    (M1 : Memref sig .tc .vmem S512x1024 .f32) (w1 : M1.IsWhole)
    (M2 : Memref sig .tc .vmem S512x1024 .f32) (w2 : M2.IsWhole)
    (M3 : Memref sig .tc .vmem S1x1024 .f32) (w3 : M3.IsWhole)
    (M4 : Memref sig .tc .vmem S1024x1024 .bf16) (w4 : M4.IsWhole)
    (M5 : Memref sig .tc .vmem S1024x1024 .bf16) (w5 : M5.IsWhole)
    (M6 : Memref sig .tc .vmem S4x2048x128 .f32) (w6 : M6.IsWhole)
    (M7 : Memref sig .tc .vmem S4x2048x128 .f32) (w7 : M7.IsWhole)
    (M8 : Memref sig .tc .vmem S1x1024 .f32) (w8 : M8.IsWhole)
    (M9 : Memref sig .tc .vmem S1024x4096 .bf16) (w9 : M9.IsWhole)
    (M10 : Memref sig .tc .vmem S4096x1024 .bf16) (w10 : M10.IsWhole)
    (M11 : Memref sig .tc .vmem S1x1024 .f32) (w11 : M11.IsWhole)
    (M12 : Memref sig .tc .vmem S512x1024 .f32) (w12 : M12.IsWhole)
    (M13 : Memref sig .tc .vmem S128x4x1024 .f32) (w13 : M13.IsWhole)
    (x1 : Vec F S512x1024 .f32) (x2 : Vec F S512x1024 .f32) (x3 : Vec F S1x1024 .f32) (x4 : Vec F S1024x1024 .bf16) (x5 : Vec F S1024x1024 .bf16) (x6 : Vec F S4x2048x128 .f32) (x7 : Vec F S4x2048x128 .f32) (x8 : Vec F S1x1024 .f32) (x9 : Vec F S1024x4096 .bf16) (x10 : Vec F S4096x1024 .bf16) (x11 : Vec F S1x1024 .f32) (y : Vec F S128x4x1024 .f32) :
    { Y : Vec F S128x4x1024 .f32 //
      ∀ (z : Vec F S512x1024 .f32) (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
            ∗ owns (c : Thread nD τ) M12 fullShare z ∗ owns (c : Thread nD τ) M13 fullShare y
            ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
                ∗ owns (c : Thread nD τ) M12 fullShare z ∗ owns (c : Thread nD τ) M13 fullShare Y) -∗ K ⟨⟩))
          ⊢ wp frame (wpE (defs₀ (F := F)) 𝒱₀ c none) E (cc0_mlp_xattn i M1 w1 M2 w2 M3 w3 M4 w4 M5 w5 M6 w6 M7 w7 M8 w8 M9 w9 M10 w10 M11 w11 M12 w12 M13 w13) K } := by
  refine ⟨?_, fun z E K => ?run⟩
  case run =>
    unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, Hk⟩
    obtain rfl := w1.eq_unread e1
    obtain rfl := w2.eq_unread e2
    obtain rfl := w3.eq_unread e3
    obtain rfl := w4.eq_unread e4
    obtain rfl := w5.eq_unread e5
    obtain rfl := w6.eq_unread e6
    obtain rfl := w7.eq_unread e7
    obtain rfl := w8.eq_unread e8
    obtain rfl := w9.eq_unread e9
    obtain rfl := w10.eq_unread e10
    obtain rfl := w11.eq_unread e11
    obtain rfl := w12.eq_unread e12
    obtain rfl := w13.eq_unread e13
    sl_unfold [cc0_mlp_xattn]
    sl_exec!
    sl_step
    iapply Hk
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    isplitl [H10]
    · iexists _; isplitr; · ipureintro; exact w10.read_unread _
      iexact H10
    isplitl [H11]
    · iexists _; isplitr; · ipureintro; exact w11.read_unread _
      iexact H11
    isplitl [H12]
    · iexists _; isplitr; · ipureintro; exact w12.read_unread _
      iexact H12
    iexists _; isplitr; swap; · iexact H13
    ipureintro; rfl

end Cert.Proof.Mlp
-- ==== Proof.MlpFound.lean ====
/-
  What the three runs found, as the step's functions of the blocks.
-/
module

public import proofs.«01_k».proof.Proof.MlpRunFirst
public import proofs.«01_k».proof.Proof.MlpRunMid
public import proofs.«01_k».proof.Proof.MlpRunLast
public import Idealize.ShloMosaic.Lib.VecWindow

@[expose] public section

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra. -/
local notation "𝕄" => MT nD τ sig Unit (Elt F) ℕ (UR sig nD τ) ℕ

/-- A payload laid over everything. -/
theorem overlay_full {s : Shape} {e : EltTy} (x : Vec F s e) (off : Fin s.rank → ℕ) (inb) (h0 : ∀ a, off a = 0) (y : Vec F s e) :
    (Rect.unit (s := s) off s.size inb).overlay x y = y := by
  funext j
  have hj : (Rect.unit (s := s) off s.size inb).emb j = j := by
    funext a
    apply Fin.ext
    show off a + 1 * (j a).val = (j a).val
    rw [h0 a, Nat.zero_add, Nat.one_mul]
  have := Rect.overlay_emb (Rect.unit (s := s) off s.size inb) x y j
  rwa [hj] at this

/-- A load of a whole block of this shape. -/
theorem full_rows (x : Vec F S512x1024 .f32) : sub x (Rect.unit (s := S512x1024) ![0, 0] ![512, 1024] inb_S512x1024_S512x1024_0_0).toLoadRect = x :=
  sub_full x _ _ fun a => by fin_cases a <;> rfl

/-- A load of a whole block of this shape. -/
theorem full_weight (x : Vec F S1x1024 .f32) : sub x (Rect.unit (s := S1x1024) ![0, 0] ![1, 1024] inb_S1x1024_S1x1024_0_0).toLoadRect = x :=
  sub_full x _ _ fun a => by fin_cases a <;> rfl

/-- A load of a whole block of this shape. -/
theorem full_proj (x : Vec F S1024x1024 .bf16) : sub x (Rect.unit (s := S1024x1024) ![0, 0] ![1024, 1024] inb_S1024x1024_S1024x1024_0_0).toLoadRect = x :=
  sub_full x _ _ fun a => by fin_cases a <;> rfl

/-- A load of a whole block of this shape. -/
theorem full_sample (x : Vec F S128x4x1024 .f32) : sub x (Rect.unit (s := S128x4x1024) ![0, 0, 0] ![128, 4, 1024] inb_S128x4x1024_S128x4x1024_0_0_0).toLoadRect = x :=
  sub_full x _ _ fun a => by fin_cases a <;> rfl

/-- A load reads a part of what the buffer holds. -/
theorem readAt_sub {sp : Space} {s : Shape} {e : EltTy} (v : View sig .tc sp s e) (f : v.ty.Contents (Elt F)) (r : LoadRect s) :
    v.readAt (Elt F) r f = sub (v.read (Elt F) f) r := rfl

/-- A buffer written whole reads as what was written. -/
theorem read_whole {sp : Space} (v : View sig .tc sp S128x4x1024 .f32) (f : v.ty.Contents (Elt F)) (x : Vec F S128x4x1024 .f32) :
    v.read (Elt F) (v.writes (Elt F) f [⟨Rect.unit (s := S128x4x1024) ![0, 0, 0] ![128, 4, 1024] inb_S128x4x1024_S128x4x1024_0_0_0, x⟩]) = x :=
  View.read_writes_full v f _ x []

/-- The second tile reads the same before and after a write to the first, with the two starts as the program spells them. -/
theorem sub_printed (i : grid0.Coords) (h : k0_cond2 i = 1#1) (y : Vec F S128x4x1024 .f32) (P : Vec F S2x4x1024 .f32) :
    sub (e := .f32) ((Rect.unit (s := S128x4x1024) (k0_off1 i 0#32) ![2, 4, 1024] (k0_off1_inb i h 0)).overlay y P)
        (Rect.unit (s := S128x4x1024) (k0_off1 i 2#32) ![2, 4, 1024] (k0_off1_inb i h 1)).toLoadRect
      = sub (e := .f32) y (Rect.unit (s := S128x4x1024) (k0_off1 i 2#32) ![2, 4, 1024] (k0_off1_inb i h 1)).toLoadRect :=
  sub_overlay i h y P

set_option maxHeartbeats 4000000 in
set_option maxRecDepth 65536 in
/-- A middle step leaves the layer in the prompt's block. -/
theorem mid_prompt (c i h1 h2 h3 M1 w1 M2 w2 M3 w3 M4 w4 M5 w5 M6 w6 M7 w7 M8 w8 M9 w9 M10 w10 M11 w11 M12 w12 M13 w13 x1 x2 x3 x4 x5 x6 x7 x8 x9 x10 x11 y) :
    (runMid (F := F) c i h1 h2 h3 M1 w1 M2 w2 M3 w3 M4 w4 M5 w5 M6 w6 M7 w7 M8 w8 M9 w9 M10 w10 M11 w11 M12 w12 M13 w13 x1 x2 x3 x4 x5 x6 x7 x8 x9 x10 x11 y).1 = promptOut x1 x8 x9 x10 x11 := by
  unfold runMid
  dsimp only
  simp only [runMid.sl.r, runMid.sl.r_1, runMid.sl.r_2, runMid.sl.r_3, runMid.sl.r_4, runMid.sl.r_5, runMid.sl.r_6, runMid.sl.r_7, runMid.sl.r_8, runMid.sl.r_9, runMid.sl.r_10, runMid.sl.r_11, runMid.sl.r_12, runMid.sl.r_13, runMid.sl.r_14, runMid.sl.r_15, runMid.sl.r_16, runMid.sl.r_17, runMid.sl.r_18, runMid.sl.r_19, runMid.sl.r_20, runMid.sl.r_21, runMid.sl.r_22, runMid.sl.r_23, runMid.sl.r_24, runMid.sl.r_25, runMid.sl.r_26, runMid.sl.r_27, runMid.sl.r_28, runMid.sl.r_29, runMid.sl.r_30, runMid.sl.r_31, runMid.sl.r_32, runMid.sl.r_33, runMid.sl.r_34, runMid.sl.r_35, runMid.sl.r_36, runMid.sl.r_37, runMid.sl.r_38, runMid.sl.r_39, runMid.sl.r_40, runMid.sl.r_41, runMid.sl.r_42, runMid.sl.r_43, runMid.sl.r_44, runMid.sl.r_45, runMid.sl.r_46, runMid.sl.r_47, runMid.sl.r_48, runMid.sl.r_49, runMid.sl.r_50, runMid.sl.r_51, runMid.sl.r_52, runMid.sl.r_53, runMid.sl.r_54, runMid.sl.r_55, runMid.sl.r_56, runMid.sl.r_57, runMid.sl.r_58, runMid.sl.r_59, runMid.sl.r_60, runMid.sl.r_61, runMid.sl.r_62, runMid.sl.r_63, runMid.sl.r_64, runMid.sl.r_65, runMid.sl.r_66, runMid.sl.r_67, runMid.sl.r_68, runMid.sl.r_69, runMid.sl.r_70, runMid.sl.r_71, runMid.sl.r_72, runMid.sl.r_73, runMid.sl.r_74, runMid.sl.r_75, runMid.sl.r_76, runMid.sl.r_77, runMid.sl.r_78, runMid.sl.r_79, runMid.sl.r_80, runMid.sl.r_81, runMid.sl.r_82, runMid.sl.H12_1, runMid.sl.v14, runMid.sl.v15, runMid.sl.v17, runMid.sl.v387, readAt_unread, full_rows, full_weight, full_proj, full_sample]
  rw [read_cons, overlay_full _ _ _ (fun a => by fin_cases a <;> rfl)]
  skip
  rfl

set_option maxHeartbeats 4000000 in
set_option maxRecDepth 65536 in
/-- The first step leaves the layer in the prompt's block. -/
theorem first_prompt (c i h1 h2 h3 M1 w1 M2 w2 M3 w3 M4 w4 M5 w5 M6 w6 M7 w7 M8 w8 M9 w9 M10 w10 M11 w11 M12 w12 M13 w13 x1 x2 x3 x4 x5 x6 x7 x8 x9 x10 x11) :
    (runFirst (F := F) c i h1 h2 h3 M1 w1 M2 w2 M3 w3 M4 w4 M5 w5 M6 w6 M7 w7 M8 w8 M9 w9 M10 w10 M11 w11 M12 w12 M13 w13 x1 x2 x3 x4 x5 x6 x7 x8 x9 x10 x11).1 = promptOut x1 x8 x9 x10 x11 := by
  unfold runFirst
  dsimp only
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.r_42, runFirst.sl.r_43, runFirst.sl.r_44, runFirst.sl.r_45, runFirst.sl.r_46, runFirst.sl.r_47, runFirst.sl.r_48, runFirst.sl.r_49, runFirst.sl.r_50, runFirst.sl.r_51, runFirst.sl.r_52, runFirst.sl.r_53, runFirst.sl.r_54, runFirst.sl.r_55, runFirst.sl.r_56, runFirst.sl.r_57, runFirst.sl.r_58, runFirst.sl.r_59, runFirst.sl.r_60, runFirst.sl.r_61, runFirst.sl.r_62, runFirst.sl.r_63, runFirst.sl.r_64, runFirst.sl.r_65, runFirst.sl.r_66, runFirst.sl.r_67, runFirst.sl.r_68, runFirst.sl.r_69, runFirst.sl.r_70, runFirst.sl.r_71, runFirst.sl.r_72, runFirst.sl.r_73, runFirst.sl.r_74, runFirst.sl.r_75, runFirst.sl.r_76, runFirst.sl.r_77, runFirst.sl.r_78, runFirst.sl.r_79, runFirst.sl.r_80, runFirst.sl.r_81, runFirst.sl.r_82, runFirst.sl.H12_1, runFirst.sl.v14, runFirst.sl.v15, runFirst.sl.v17, runFirst.sl.v45, runFirst.sl.v252, runFirst.sl.v387, readAt_unread, full_rows, full_weight, full_proj, full_sample]
  rw [read_cons, overlay_full _ _ _ (fun a => by fin_cases a <;> rfl)]
  skip
  rfl

set_option maxHeartbeats 4000000 in
set_option maxRecDepth 65536 in
/-- The last step leaves the layer in the sample's block. -/
theorem last_sample (c i h1 h2 h3 M1 w1 M2 w2 M3 w3 M4 w4 M5 w5 M6 w6 M7 w7 M8 w8 M9 w9 M10 w10 M11 w11 M12 w12 M13 w13 x1 x2 x3 x4 x5 x6 x7 x8 x9 x10 x11 y) :
    (runLast (F := F) c i h1 h2 h3 M1 w1 M2 w2 M3 w3 M4 w4 M5 w5 M6 w6 M7 w7 M8 w8 M9 w9 M10 w10 M11 w11 M12 w12 M13 w13 x1 x2 x3 x4 x5 x6 x7 x8 x9 x10 x11 y).1 = lastFrom y x2 x5 x8 x9 x10 x11 := by
  unfold runLast
  dsimp only
  simp only [runLast.sl.r, runLast.sl.r_1, runLast.sl.r_2, runLast.sl.r_3, runLast.sl.r_4, runLast.sl.r_5, runLast.sl.r_6, runLast.sl.r_7, runLast.sl.r_8, runLast.sl.r_9, runLast.sl.r_10, runLast.sl.r_11, runLast.sl.r_12, runLast.sl.r_13, runLast.sl.r_14, runLast.sl.r_15, runLast.sl.r_16, runLast.sl.r_17, runLast.sl.r_18, runLast.sl.r_19, runLast.sl.r_20, runLast.sl.H13_1, readAt_unread, full_rows, full_weight, full_proj, full_sample]
  rw [read_cons, overlay_full _ _ _ (fun a => by fin_cases a <;> rfl)]
  skip
  rfl

set_option maxHeartbeats 4000000 in
set_option maxRecDepth 65536 in
/-- A middle step lays two tiles over the sample's block. -/
theorem mid_sample (c i h1 h2 h3 M1 w1 M2 w2 M3 w3 M4 w4 M5 w5 M6 w6 M7 w7 M8 w8 M9 w9 M10 w10 M11 w11 M12 w12 M13 w13 x1 x2 x3 x4 x5 x6 x7 x8 x9 x10 x11 y) :
    (runMid (F := F) c i h1 h2 h3 M1 w1 M2 w2 M3 w3 M4 w4 M5 w5 M6 w6 M7 w7 M8 w8 M9 w9 M10 w10 M11 w11 M12 w12 M13 w13 x1 x2 x3 x4 x5 x6 x7 x8 x9 x10 x11 y).2.1 = stepFrom i h2 y x6 x7 := by
  unfold runMid
  dsimp only
  simp only [runMid.sl.r, runMid.sl.r_1, runMid.sl.r_2, runMid.sl.r_3, runMid.sl.r_4, runMid.sl.r_5, runMid.sl.r_6, runMid.sl.r_7, runMid.sl.r_8, runMid.sl.r_9, runMid.sl.r_10, runMid.sl.r_11, runMid.sl.r_12, runMid.sl.r_13, runMid.sl.r_14, runMid.sl.r_15, runMid.sl.r_16, runMid.sl.r_17, runMid.sl.r_18, runMid.sl.r_19, runMid.sl.r_20, runMid.sl.r_21, runMid.sl.r_22, runMid.sl.r_23, runMid.sl.r_24, runMid.sl.r_25, runMid.sl.r_26, runMid.sl.r_27, runMid.sl.r_28, runMid.sl.r_29, runMid.sl.r_30, runMid.sl.r_31, runMid.sl.r_32, runMid.sl.r_33, runMid.sl.r_34, runMid.sl.r_35, runMid.sl.r_36, runMid.sl.r_37, runMid.sl.r_38, runMid.sl.r_39, runMid.sl.r_40, runMid.sl.r_41, runMid.sl.r_42, runMid.sl.r_43, runMid.sl.r_44, runMid.sl.r_45, runMid.sl.r_46, runMid.sl.r_47, runMid.sl.r_48, runMid.sl.r_49, runMid.sl.r_50, runMid.sl.r_51, runMid.sl.r_52, runMid.sl.r_53, runMid.sl.r_54, runMid.sl.r_55, runMid.sl.r_56, runMid.sl.r_57, runMid.sl.r_58, runMid.sl.r_59, runMid.sl.r_60, runMid.sl.r_61, runMid.sl.r_62, runMid.sl.r_63, runMid.sl.r_64, runMid.sl.r_65, runMid.sl.r_66, runMid.sl.r_67, runMid.sl.r_68, runMid.sl.r_69, runMid.sl.r_70, runMid.sl.r_71, runMid.sl.r_72, runMid.sl.r_73, runMid.sl.r_74, runMid.sl.r_75, runMid.sl.r_76, runMid.sl.r_77, runMid.sl.r_78, runMid.sl.r_79, runMid.sl.r_80, runMid.sl.r_81, runMid.sl.r_82, runMid.sl.H12_1, runMid.sl.v14, runMid.sl.v15, runMid.sl.v17, runMid.sl.v387, readAt_unread, full_rows, full_weight, full_proj, full_sample]
  rw [read_cons, read_cons, View.writes_nil, w13.read_unread]
  skip
  rfl

set_option maxHeartbeats 4000000 in
set_option maxRecDepth 65536 in
/-- The first step lays two tiles over the queries. -/
theorem first_sample (c i h1 h2 h3 M1 w1 M2 w2 M3 w3 M4 w4 M5 w5 M6 w6 M7 w7 M8 w8 M9 w9 M10 w10 M11 w11 M12 w12 M13 w13 x1 x2 x3 x4 x5 x6 x7 x8 x9 x10 x11) :
    (runFirst (F := F) c i h1 h2 h3 M1 w1 M2 w2 M3 w3 M4 w4 M5 w5 M6 w6 M7 w7 M8 w8 M9 w9 M10 w10 M11 w11 M12 w12 M13 w13 x1 x2 x3 x4 x5 x6 x7 x8 x9 x10 x11).2.1 = stepFrom i h2 (queries x2 x3 x4) x6 x7 := by
  unfold runFirst
  dsimp only
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.r_42, runFirst.sl.r_43, runFirst.sl.r_44, runFirst.sl.r_45, runFirst.sl.r_46, runFirst.sl.r_47, runFirst.sl.r_48, runFirst.sl.r_49, runFirst.sl.r_50, runFirst.sl.r_51, runFirst.sl.r_52, runFirst.sl.r_53, runFirst.sl.r_54, runFirst.sl.r_55, runFirst.sl.r_56, runFirst.sl.r_57, runFirst.sl.r_58, runFirst.sl.r_59, runFirst.sl.r_60, runFirst.sl.r_61, runFirst.sl.r_62, runFirst.sl.r_63, runFirst.sl.r_64, runFirst.sl.r_65, runFirst.sl.r_66, runFirst.sl.r_67, runFirst.sl.r_68, runFirst.sl.r_69, runFirst.sl.r_70, runFirst.sl.r_71, runFirst.sl.r_72, runFirst.sl.r_73, runFirst.sl.r_74, runFirst.sl.r_75, runFirst.sl.r_76, runFirst.sl.r_77, runFirst.sl.r_78, runFirst.sl.r_79, runFirst.sl.r_80, runFirst.sl.r_81, runFirst.sl.r_82, runFirst.sl.H12_1, runFirst.sl.H13_1, runFirst.sl.H13_2, runFirst.sl.v14, runFirst.sl.v15, runFirst.sl.v17, runFirst.sl.v45, runFirst.sl.v252, runFirst.sl.v387, readAt_sub, read_whole, w2.read_unread, w3.read_unread, w4.read_unread, w6.read_unread, w7.read_unread, full_rows, full_weight, full_proj, full_sample]
  rw [read_cons, read_cons, read_whole]
  skip
  rw [sub_printed i h2 (k0_pay1 x2 x3 x4) _]
  rfl

set_option maxHeartbeats 1000000 in
/-- A middle step: the prompt's tile through the layer, two tiles of the sample through the attention. -/
theorem mid_wp (c : Dev nD) (i : grid0.Coords) (h1 : ¬ k0_cond1 i = 1#1) (h2 : k0_cond2 i = 1#1) (h3 : ¬ k0_cond3 i = 1#1)
    (M1 : Memref sig .tc .vmem S512x1024 .f32) (w1 : M1.IsWhole)
    (M2 : Memref sig .tc .vmem S512x1024 .f32) (w2 : M2.IsWhole)
    (M3 : Memref sig .tc .vmem S1x1024 .f32) (w3 : M3.IsWhole)
    (M4 : Memref sig .tc .vmem S1024x1024 .bf16) (w4 : M4.IsWhole)
    (M5 : Memref sig .tc .vmem S1024x1024 .bf16) (w5 : M5.IsWhole)
    (M6 : Memref sig .tc .vmem S4x2048x128 .f32) (w6 : M6.IsWhole)
    (M7 : Memref sig .tc .vmem S4x2048x128 .f32) (w7 : M7.IsWhole)
    (M8 : Memref sig .tc .vmem S1x1024 .f32) (w8 : M8.IsWhole)
    (M9 : Memref sig .tc .vmem S1024x4096 .bf16) (w9 : M9.IsWhole)
    (M10 : Memref sig .tc .vmem S4096x1024 .bf16) (w10 : M10.IsWhole)
    (M11 : Memref sig .tc .vmem S1x1024 .f32) (w11 : M11.IsWhole)
    (M12 : Memref sig .tc .vmem S512x1024 .f32) (w12 : M12.IsWhole)
    (M13 : Memref sig .tc .vmem S128x4x1024 .f32) (w13 : M13.IsWhole)
    (x1 : Vec F S512x1024 .f32) (x2 : Vec F S512x1024 .f32) (x3 : Vec F S1x1024 .f32) (x4 : Vec F S1024x1024 .bf16) (x5 : Vec F S1024x1024 .bf16) (x6 : Vec F S4x2048x128 .f32) (x7 : Vec F S4x2048x128 .f32) (x8 : Vec F S1x1024 .f32) (x9 : Vec F S1024x4096 .bf16) (x10 : Vec F S4096x1024 .bf16) (x11 : Vec F S1x1024 .f32) (y : Vec F S128x4x1024 .f32) (E : Set ℕ) (K : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
        ∗ (∃ d, owns (c : Thread nD τ) M12 fullShare d) ∗ owns (c : Thread nD τ) M13 fullShare y
        ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
            ∗ owns (c : Thread nD τ) M12 fullShare (promptOut x1 x8 x9 x10 x11) ∗ owns (c : Thread nD τ) M13 fullShare (stepFrom i h2 y x6 x7)) -∗ K ⟨⟩))
      ⊢ wp frame (wpE (defs₀ (F := F)) 𝒱₀ c none) E (cc0_mlp_xattn i M1 w1 M2 w2 M3 w3 M4 w4 M5 w5 M6 w6 M7 w7 M8 w8 M9 w9 M10 w10 M11 w11 M12 w12 M13 w13) K := by
  have h := (runMid (F := F) c i h1 h2 h3 M1 w1 M2 w2 M3 w3 M4 w4 M5 w5 M6 w6 M7 w7 M8 w8 M9 w9 M10 w10 M11 w11 M12 w12 M13 w13 x1 x2 x3 x4 x5 x6 x7 x8 x9 x10 x11 y).2.2 E K
  rw [mid_sample, mid_prompt] at h
  exact h

set_option maxHeartbeats 1000000 in
/-- The first step: as a middle one, over the queries. -/
theorem first_wp (c : Dev nD) (i : grid0.Coords) (h1 : k0_cond1 i = 1#1) (h2 : k0_cond2 i = 1#1) (h3 : ¬ k0_cond3 i = 1#1)
    (M1 : Memref sig .tc .vmem S512x1024 .f32) (w1 : M1.IsWhole)
    (M2 : Memref sig .tc .vmem S512x1024 .f32) (w2 : M2.IsWhole)
    (M3 : Memref sig .tc .vmem S1x1024 .f32) (w3 : M3.IsWhole)
    (M4 : Memref sig .tc .vmem S1024x1024 .bf16) (w4 : M4.IsWhole)
    (M5 : Memref sig .tc .vmem S1024x1024 .bf16) (w5 : M5.IsWhole)
    (M6 : Memref sig .tc .vmem S4x2048x128 .f32) (w6 : M6.IsWhole)
    (M7 : Memref sig .tc .vmem S4x2048x128 .f32) (w7 : M7.IsWhole)
    (M8 : Memref sig .tc .vmem S1x1024 .f32) (w8 : M8.IsWhole)
    (M9 : Memref sig .tc .vmem S1024x4096 .bf16) (w9 : M9.IsWhole)
    (M10 : Memref sig .tc .vmem S4096x1024 .bf16) (w10 : M10.IsWhole)
    (M11 : Memref sig .tc .vmem S1x1024 .f32) (w11 : M11.IsWhole)
    (M12 : Memref sig .tc .vmem S512x1024 .f32) (w12 : M12.IsWhole)
    (M13 : Memref sig .tc .vmem S128x4x1024 .f32) (w13 : M13.IsWhole)
    (x1 : Vec F S512x1024 .f32) (x2 : Vec F S512x1024 .f32) (x3 : Vec F S1x1024 .f32) (x4 : Vec F S1024x1024 .bf16) (x5 : Vec F S1024x1024 .bf16) (x6 : Vec F S4x2048x128 .f32) (x7 : Vec F S4x2048x128 .f32) (x8 : Vec F S1x1024 .f32) (x9 : Vec F S1024x4096 .bf16) (x10 : Vec F S4096x1024 .bf16) (x11 : Vec F S1x1024 .f32) (E : Set ℕ) (K : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
        ∗ (∃ d, owns (c : Thread nD τ) M12 fullShare d) ∗ (∃ d, owns (c : Thread nD τ) M13 fullShare d)
        ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
            ∗ owns (c : Thread nD τ) M12 fullShare (promptOut x1 x8 x9 x10 x11) ∗ owns (c : Thread nD τ) M13 fullShare (stepFrom i h2 (queries x2 x3 x4) x6 x7)) -∗ K ⟨⟩))
      ⊢ wp frame (wpE (defs₀ (F := F)) 𝒱₀ c none) E (cc0_mlp_xattn i M1 w1 M2 w2 M3 w3 M4 w4 M5 w5 M6 w6 M7 w7 M8 w8 M9 w9 M10 w10 M11 w11 M12 w12 M13 w13) K := by
  have h := (runFirst (F := F) c i h1 h2 h3 M1 w1 M2 w2 M3 w3 M4 w4 M5 w5 M6 w6 M7 w7 M8 w8 M9 w9 M10 w10 M11 w11 M12 w12 M13 w13 x1 x2 x3 x4 x5 x6 x7 x8 x9 x10 x11).2.2 E K
  rw [first_sample, first_prompt] at h
  exact h

set_option maxHeartbeats 1000000 in
/-- The last step: the prompt's block stays, the sample's goes through the output projection and the layer. -/
theorem last_wp (c : Dev nD) (i : grid0.Coords) (h1 : ¬ k0_cond1 i = 1#1) (h2 : ¬ k0_cond2 i = 1#1) (h3 : k0_cond3 i = 1#1)
    (M1 : Memref sig .tc .vmem S512x1024 .f32) (w1 : M1.IsWhole)
    (M2 : Memref sig .tc .vmem S512x1024 .f32) (w2 : M2.IsWhole)
    (M3 : Memref sig .tc .vmem S1x1024 .f32) (w3 : M3.IsWhole)
    (M4 : Memref sig .tc .vmem S1024x1024 .bf16) (w4 : M4.IsWhole)
    (M5 : Memref sig .tc .vmem S1024x1024 .bf16) (w5 : M5.IsWhole)
    (M6 : Memref sig .tc .vmem S4x2048x128 .f32) (w6 : M6.IsWhole)
    (M7 : Memref sig .tc .vmem S4x2048x128 .f32) (w7 : M7.IsWhole)
    (M8 : Memref sig .tc .vmem S1x1024 .f32) (w8 : M8.IsWhole)
    (M9 : Memref sig .tc .vmem S1024x4096 .bf16) (w9 : M9.IsWhole)
    (M10 : Memref sig .tc .vmem S4096x1024 .bf16) (w10 : M10.IsWhole)
    (M11 : Memref sig .tc .vmem S1x1024 .f32) (w11 : M11.IsWhole)
    (M12 : Memref sig .tc .vmem S512x1024 .f32) (w12 : M12.IsWhole)
    (M13 : Memref sig .tc .vmem S128x4x1024 .f32) (w13 : M13.IsWhole)
    (x1 : Vec F S512x1024 .f32) (x2 : Vec F S512x1024 .f32) (x3 : Vec F S1x1024 .f32) (x4 : Vec F S1024x1024 .bf16) (x5 : Vec F S1024x1024 .bf16) (x6 : Vec F S4x2048x128 .f32) (x7 : Vec F S4x2048x128 .f32) (x8 : Vec F S1x1024 .f32) (x9 : Vec F S1024x4096 .bf16) (x10 : Vec F S4096x1024 .bf16) (x11 : Vec F S1x1024 .f32) (y : Vec F S128x4x1024 .f32) (z : Vec F S512x1024 .f32) (E : Set ℕ) (K : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
        ∗ owns (c : Thread nD τ) M12 fullShare z ∗ owns (c : Thread nD τ) M13 fullShare y
        ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
            ∗ owns (c : Thread nD τ) M12 fullShare z ∗ owns (c : Thread nD τ) M13 fullShare (lastFrom y x2 x5 x8 x9 x10 x11)) -∗ K ⟨⟩))
      ⊢ wp frame (wpE (defs₀ (F := F)) 𝒱₀ c none) E (cc0_mlp_xattn i M1 w1 M2 w2 M3 w3 M4 w4 M5 w5 M6 w6 M7 w7 M8 w8 M9 w9 M10 w10 M11 w11 M12 w12 M13 w13) K := by
  have h := (runLast (F := F) c i h1 h2 h3 M1 w1 M2 w2 M3 w3 M4 w4 M5 w5 M6 w6 M7 w7 M8 w8 M9 w9 M10 w10 M11 w11 M12 w12 M13 w13 x1 x2 x3 x4 x5 x6 x7 x8 x9 x10 x11 y).2 z E K
  rw [last_sample] at h
  exact h

end Cert.Proof.Mlp
-- ==== Proof.MlpRun.lean ====
/-
  The run of `mlp_xattn`: from any memory with zero counters it terminates, its arrays end at what the steps leave in the two
  output blocks, and every counter ends at zero.
-/
module

public import proofs.«01_k».proof.Proof.MlpFound
public import Idealize.ShloMosaic.Adequacy
public import Idealize.ShloMosaic.Init

@[expose] public section

noncomputable section

namespace Cert.Proof.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra. -/
local notation "𝕄" => MT nD τ sig Unit (Elt F) ℕ (UR sig nD τ) ℕ

variable (m : (ℓ : Loc nD τ sig) → Buf (Elt F) ℓ) (ρ : Dev nD → PrngReg)

/-! ## Which steps do what -/

theorem cond1_iff : ∀ t : Fin cfg0.N, k0_cond1 (cfg0.grid.coords t) = 1#1 ↔ t.val = 0 := by decide
theorem cond2_iff : ∀ t : Fin cfg0.N, k0_cond2 (cfg0.grid.coords t) = 1#1 ↔ t.val < 32 := by decide
theorem cond3_iff : ∀ t : Fin cfg0.N, k0_cond3 (cfg0.grid.coords t) = 1#1 ↔ t.val = 32 := by decide

/-- The sample's block is never left alone. -/
theorem idle12 : ∀ t : Fin cfg0.N, cfg0.idle 12 (cfg0.grid.coords t) = false := by decide
/-- The prompt's block is written by every step but the last. -/
theorem idle11 : ∀ t : Fin cfg0.N, t.val < 32 → cfg0.idle 11 (cfg0.grid.coords t) = false := by decide
theorem idle11_last : ∀ t : Fin cfg0.N, t.val = 32 → cfg0.idle 11 (cfg0.grid.coords t) = true := by decide
/-- The prompt's last block is written back after the last step, not after the one before. -/
theorem flush11 : ∀ t : Fin cfg0.N, (cfg0.win 11).flush t = true ↔ t.val ≠ 31 := by decide

/-! ## The blocks after each step -/

/-- What step `t` leaves in the prompt's block. -/
def promptAt (c : Dev nD) (t : Fin cfg0.N) : Vec F S512x1024 .f32 :=
  promptOut (iblk m c 0 t) (iblk m c 7 t) (iblk m c 8 t) (iblk m c 9 t) (iblk m c 10 t)

/-- What step `n` leaves in the sample's block. -/
def sampleAt (c : Dev nD) : (n : ℕ) → n < cfg0.N → Vec F S128x4x1024 .f32
  | 0, h => if hc : k0_cond2 (cfg0.grid.coords ⟨0, h⟩) = 1#1 then
      stepFrom (cfg0.grid.coords ⟨0, h⟩) hc (queries (iblk m c 1 ⟨0, h⟩) (iblk m c 2 ⟨0, h⟩) (iblk m c 3 ⟨0, h⟩)) (iblk m c 5 ⟨0, h⟩) (iblk m c 6 ⟨0, h⟩)
      else queries (iblk m c 1 ⟨0, h⟩) (iblk m c 2 ⟨0, h⟩) (iblk m c 3 ⟨0, h⟩)
  | n + 1, h => if hc : k0_cond2 (cfg0.grid.coords ⟨n + 1, h⟩) = 1#1 then
      stepFrom (cfg0.grid.coords ⟨n + 1, h⟩) hc (sampleAt c n (Nat.lt_of_succ_lt h)) (iblk m c 5 ⟨n + 1, h⟩) (iblk m c 6 ⟨n + 1, h⟩)
      else lastFrom (sampleAt c n (Nat.lt_of_succ_lt h)) (iblk m c 1 ⟨n + 1, h⟩) (iblk m c 4 ⟨n + 1, h⟩) (iblk m c 7 ⟨n + 1, h⟩)
        (iblk m c 8 ⟨n + 1, h⟩) (iblk m c 9 ⟨n + 1, h⟩) (iblk m c 10 ⟨n + 1, h⟩)

/-- The step whose prompt tile the prompt's block holds after step `t`: the last step leaves the one before's. -/
def upto (t : Fin cfg0.N) : Fin cfg0.N := ⟨min t.val 31, Nat.lt_of_le_of_lt (Nat.min_le_left _ _) t.isLt⟩

/-- The arrays as the region finds them; after a step the inputs at their blocks, the outputs at what the step leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => promptAt m c (upto t)
    | ⟨12, _⟩ => sampleAt m c t.val t.isLt
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = promptAt m c (upto t) := by dsimp only [dats]
theorem after0_12 (c : Dev nD) (t : Fin cfg0.N) : (dats m 0 c).after 12 t = sampleAt m c t.val t.isLt := by dsimp only [dats]

/-! ## What each step finds -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- After the first step the sample's block holds what the step before left. -/
theorem before0_12 (c : Dev nD) (n : ℕ) (h : n + 1 < cfg0.N) (d) :
    (dats m 0 c).before 12 ⟨n + 1, h⟩ d = sampleAt m c n (Nat.lt_of_succ_lt h) := by
  have hN : cfg0.N = 33 := rfl
  rw [(dats m 0 c).before_of_pos 12 ⟨n + 1, h⟩ (Nat.succ_ne_zero n) ((cfg0.win 12).fetch_out rfl _)]
  have hfl : (cfg0.win 12).flush ⟨n, Nat.lt_of_succ_lt h⟩ = false := by
    rw [← Bool.not_eq_true, flush0_12]
    show ¬ n % 33 = 32
    omega
  show (if (cfg0.win 12).flush ⟨n, _⟩ = true then d else (dats m 0 c).left 12 ⟨n, _⟩ d) = _
  rw [hfl, if_neg Bool.false_ne_true]
  unfold Dat.left
  rw [idle12 ⟨n, Nat.lt_of_succ_lt h⟩]
  dsimp only
  unfold Dat.kept
  rw [Pipeline.fill_of_clip_none (cfg := cfg0) 12 _ (fun _ => rfl) d ((dats m 0 c).after 12 ⟨n, Nat.lt_of_succ_lt h⟩), Window.fill_cut, after0_12]

/-- The last step finds the prompt's last tile in the prompt's block. -/
theorem before0_11 (c : Dev nD) (n : ℕ) (h : n + 1 < cfg0.N) (hn : n = 31) (d) :
    (dats m 0 c).before 11 ⟨n + 1, h⟩ d = promptAt m c (upto ⟨n + 1, h⟩) := by
  rw [(dats m 0 c).before_of_pos 11 ⟨n + 1, h⟩ (Nat.succ_ne_zero n) ((cfg0.win 11).fetch_out rfl _)]
  have hfl : (cfg0.win 11).flush ⟨n, Nat.lt_of_succ_lt h⟩ = false := by
    rw [← Bool.not_eq_true, flush11]
    exact fun h => h hn
  show (if (cfg0.win 11).flush ⟨n, _⟩ = true then d else (dats m 0 c).left 11 ⟨n, _⟩ d) = _
  rw [hfl, if_neg Bool.false_ne_true]
  unfold Dat.left
  rw [idle11 ⟨n, Nat.lt_of_succ_lt h⟩ (by show n < 32; omega)]
  dsimp only
  unfold Dat.kept
  rw [Pipeline.fill_of_clip_none (cfg := cfg0) 11 _ (fun _ => rfl) d ((dats m 0 c).after 11 ⟨n, Nat.lt_of_succ_lt h⟩), Window.fill_cut, after0_11]
  exact congrArg (promptAt m c) (Fin.ext (by show min n 31 = min (n + 1) 31; omega))

/-! ## The body obligation -/

set_option maxHeartbeats 4000000 in
/-- Every step keeps its promise: the first, the middle ones and the last, each by its run. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9, before0_10, show ∀ t : Fin cfg0.N, idle0 12 (grid0.coords t) = false from idle12]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9, after0_10, after0_12]
  obtain ⟨n, hn⟩ := t
  have hN : n < 33 := hn
  rcases Nat.lt_or_ge n 32 with h32 | h32
  · have e2 : k0_cond2 (cfg0.grid.coords ⟨n, hn⟩) = 1#1 := (cond2_iff _).2 h32
    have e3 : ¬ k0_cond3 (cfg0.grid.coords ⟨n, hn⟩) = 1#1 := fun h => by have := (cond3_iff _).1 h; simp at this; omega
    have eu : upto ⟨n, hn⟩ = ⟨n, hn⟩ := Fin.ext (Nat.min_eq_left (by show n ≤ 31; omega))
    have ei : idle0 11 (grid0.coords ⟨n, hn⟩) = false := idle11 _ h32
    simp only [ei]
    rw [after0_11, eu]
    rcases n with _ | n
    · have e1 : k0_cond1 (cfg0.grid.coords ⟨0, hn⟩) = 1#1 := (cond1_iff _).2 rfl
      rw [show sampleAt m c (⟨0, hn⟩ : Fin cfg0.N).val hn = _ from dif_pos e2]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (first_wp c _ e1 e2 e3 _ _ _ _ _ _ _ _ _ _ _ _ _ _ _ _ _ _ _ _ _ _ _ _ _ _ (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · have e1 : ¬ k0_cond1 (cfg0.grid.coords ⟨n + 1, hn⟩) = 1#1 := fun h => by have := (cond1_iff _).1 h; simp at this
      simp only [before0_12 m c n hn]
      rw [show sampleAt m c (⟨n + 1, hn⟩ : Fin cfg0.N).val hn = _ from dif_pos e2]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (mid_wp c _ e1 e2 e3 _ _ _ _ _ _ _ _ _ _ _ _ _ _ _ _ _ _ _ _ _ _ _ _ _ _ (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (sampleAt m c n (Nat.lt_of_succ_lt hn)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
  · obtain ⟨n, rfl⟩ : ∃ k, n = k + 1 := ⟨n - 1, by omega⟩
    have e32 : (⟨n + 1, hn⟩ : Fin cfg0.N).val = 32 := by show n + 1 = 32; omega
    have e1 : ¬ k0_cond1 (cfg0.grid.coords ⟨n + 1, hn⟩) = 1#1 := fun h => by have := (cond1_iff _).1 h; omega
    have e2 : ¬ k0_cond2 (cfg0.grid.coords ⟨n + 1, hn⟩) = 1#1 := fun h => by have := (cond2_iff _).1 h; omega
    have e3 : k0_cond3 (cfg0.grid.coords ⟨n + 1, hn⟩) = 1#1 := (cond3_iff _).2 e32
    have ef : (win0 11).flush ⟨n + 1, hn⟩ = true := (flush11 _).2 (by omega)
    have ei : idle0 11 (grid0.coords ⟨n + 1, hn⟩) = true := idle11_last _ e32
    simp only [ei, ef, before0_12 m c n hn, before0_11 m c n hn (by omega)]
    rw [after0_11, show sampleAt m c (⟨n + 1, hn⟩ : Fin cfg0.N).val hn = _ from dif_neg e2]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (last_wp c _ e1 e2 e3 _ _ _ _ _ _ _ _ _ _ _ _ _ _ _ _ _ _ _ _ _ _ _ _ _ _ (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (sampleAt m c n (Nat.lt_of_succ_lt hn)) (promptAt m c (upto ⟨n + 1, hn⟩)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-! ## The run -/

-- The frame theorem's implicit arguments are found by unifying its conclusion with this one, which takes unfolding plain
-- definitions in a metavariable's type.
set_option backward.isDefEq.respectTransparency.types false in
/-- Every run terminates; the arrays end at what the library computes from the proof data, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.Mlp
-- ==== Proof.MlpValues.lean ====
/-
  The layer of `mlp_xattn` at the ideal instance, row by row.

  A row goes through the norm, the 4096 hidden features, the down projection, and the last norm. The step computes the hidden
  features in four chunks of four pieces; at the ideal instance the chunks' sums are the whole sum.
-/
module

public import proofs.«01_k».proof.Proof.MlpPieces
public import Idealize.ShloMosaic.Lib.Pointwise

@[expose] public section

noncomputable section

namespace Cert.Proof.Mlp

open Cert.Kernel2Ideal Cert.Kernel2Ideal.Gen
open Idealize.ShloMosaic Idealize.ShloMosaic.TcCoe

/-! ## The mathematics of a row -/

/-- A row over its root mean square, times the gain. -/
def normRow (x g : Fin 1024 → EReal) (k : Fin 1024) : EReal :=
  x k * Ideal.rsqrt (Ideal.div (∑ l : Fin 1024, x l * x l) (Ideal.ofBits .f32 0x44800000#32) + Ideal.ofBits .f32 0x358637BD#32) * g k

/-- One hidden feature of a normalised row. -/
def feature (x : Fin 1024 → EReal) (w : Fin 1024 → Fin 4096 → EReal) (n : Fin 4096) : EReal :=
  max (∑ k : Fin 1024, x k * w k n) 0 * max (∑ k : Fin 1024, x k * w k n) 0

/-- A row plus the feed-forward layer of its norm, under the last norm. -/
def mlpRow (h g : Fin 1024 → EReal) (wu : Fin 1024 → Fin 4096 → EReal) (wd : Fin 4096 → Fin 1024 → EReal) (gf : Fin 1024 → EReal) :
    Fin 1024 → EReal :=
  normRow (fun j => h j + ∑ n : Fin 4096, feature (normRow h g) wu n * wd n j) gf

/-- A sum over 4096 in four chunks of 1024. -/
theorem sum_chunks (f : Fin 4096 → EReal) : ∑ n : Fin 4096, f n
    = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) := by
  rw [Fin.sum_univ_add (a := 3072) (b := 1024) f, Fin.sum_univ_add (a := 2048) (b := 1024), Fin.sum_univ_add (a := 1024) (b := 1024)]
  rfl

/-! ## A step's operations at an element -/

theorem rms_at (x : FVec Ideal S512x1024 .f32) (g : FVec Ideal S1x1024 .f32) (r : Fin 512) (n : Fin 1024) :
    rms (F := Ideal) x g (ix2 r n) = normRow (fun k => x (ix2 r k)) (fun k => g (ix2 0 k)) n := by
  unfold rms normRow
  pointwise

theorem up_at (x : FVec Ideal S512x1024 .bf16) (w : FVec Ideal S1024x256 .bf16) (r : Fin 512) (n : Fin 256) : up (F := Ideal) x w (ix2 r n)
    = max (∑ k : Fin 1024, x (ix2 r k) * w (ix2 k n)) 0 * max (∑ k : Fin 1024, x (ix2 r k) * w (ix2 k n)) 0 := by
  unfold up
  pointwise

theorem down_at (x : FVec Ideal S512x1024 .bf16) (w : FVec Ideal S1024x256 .bf16) (r : Fin 512) (n : Fin 256) :
    down (F := Ideal) x w (ix2 r n) = ∑ k : Fin 1024, x (ix2 r k) * w (ix2 k n) := by
  unfold down
  pointwise

/-- A piece of the up projection's columns at an element; -/
theorem upRect_at (w : Vec Ideal S1024x4096 .bf16) (p : Fin 16) (k : Fin 1024) (n : Fin 256) (t : Fin 4096) (ht : 256 * p.val + n.val = t.val) :
    sub (F := Ideal) (e := .bf16) w (upRect p) (ix2 k n) = w (ix2 k t) := by
  unfold sub
  refine congrArg w (funext fun a => ?_)
  match a with
  | ⟨0, _⟩ => exact Fin.ext (show 0 + 1 * k.val = k.val by omega)
  | ⟨1, _⟩ => exact Fin.ext (show 256 * p.val + 1 * n.val = t.val by omega)
/-- and of the down projection's. -/
theorem downRect_at (w : Vec Ideal S4096x1024 .bf16) (c p : Fin 4) (k : Fin 1024) (n : Fin 256) (t : Fin 4096) (j : Fin 1024)
    (ht : 1024 * c.val + k.val = t.val) (hj : 256 * p.val + n.val = j.val) :
    sub (F := Ideal) (e := .bf16) w (downRect c p) (ix2 k n) = w (ix2 t j) := by
  unfold sub
  refine congrArg w (funext fun a => ?_)
  match a with
  | ⟨0, _⟩ => exact Fin.ext (show 1024 * c.val + 1 * k.val = t.val by omega)
  | ⟨1, _⟩ => exact Fin.ext (show 256 * p.val + 1 * n.val = j.val by omega)

/-- A piece of the hidden features at an element. -/
theorem piece_at (xn : FVec Ideal S512x1024 .bf16) (wu : Vec Ideal S1024x4096 .bf16) (p : Fin 16) (r : Fin 512) (n : Fin 256) (t : Fin 4096)
    (ht : 256 * p.val + n.val = t.val) :
    up (F := Ideal) xn (sub (e := .bf16) wu (upRect p)) (ix2 r n) = feature (fun k => xn (ix2 r k)) (fun k t => wu (ix2 k t)) t := by
  refine (up_at xn (sub (F := Ideal) (e := .bf16) wu (upRect p)) r n).trans ?_
  unfold feature
  simp only [fun k => upRect_at wu p k n t ht]

/-- Chunk `c` of the hidden features at an element. -/
theorem chunk_at (xn : FVec Ideal S512x1024 .bf16) (wu : Vec Ideal S1024x4096 .bf16) (k0 k1 k2 k3 : Fin 16) (c : ℕ)
    (e0 : k0.val = 4 * c) (e1 : k1.val = 4 * c + 1) (e2 : k2.val = 4 * c + 2) (e3 : k3.val = 4 * c + 3)
    (r : Fin 512) (n : Fin 1024) (t : Fin 4096) (ht : 1024 * c + n.val = t.val) :
    chunk (F := Ideal) xn wu k0 k1 k2 k3 (ix2 r n) = feature (fun k => xn (ix2 r k)) (fun k t => wu (ix2 k t)) t := by
  unfold chunk
  pointwise
  split_ifs
  all_goals exact piece_at xn wu _ r _ t (by simp only [e0, e1, e2, e3]; omega)

/-- Four pieces of a row side by side are the row. -/
theorem beside (a0 a1 a2 a3 : FVec Ideal S512x256 .f32) (f : Fin 1024 → EReal) (r : Fin 512)
    (h0 : ∀ (n : Fin 256) (j : Fin 1024), 256 * 0 + n.val = j.val → a0 (ix2 r n) = f j)
    (h1 : ∀ (n : Fin 256) (j : Fin 1024), 256 * 1 + n.val = j.val → a1 (ix2 r n) = f j)
    (h2 : ∀ (n : Fin 256) (j : Fin 1024), 256 * 2 + n.val = j.val → a2 (ix2 r n) = f j)
    (h3 : ∀ (n : Fin 256) (j : Fin 1024), 256 * 3 + n.val = j.val → a3 (ix2 r n) = f j) (j : Fin 1024) :
    concatenate S512x1024 1 [⟨S512x256, a0⟩, ⟨S512x256, a1⟩, ⟨S512x256, a2⟩, ⟨S512x256, a3⟩]
      concatenates_S512x256_S512x256_S512x256_S512x256_S512x1024_d1 (ix2 r j) = f j := by
  have hj := j.isLt
  pointwise
  by_cases c0 : j.val < 256
  · rw [dif_pos c0]; exact h0 _ _ (by show 256 * 0 + j.val = j.val; omega)
  rw [dif_neg c0]
  by_cases c1 : j.val - 256 < 256
  · rw [dif_pos c1]; exact h1 _ _ (by show 256 * 1 + (j.val - 256) = j.val; omega)
  rw [dif_neg c1]
  by_cases c2 : j.val - 256 - 256 < 256
  · rw [dif_pos c2]; exact h2 _ _ (by show 256 * 2 + (j.val - 256 - 256) = j.val; omega)
  rw [dif_neg c2]
  exact h3 _ _ (by show 256 * 3 + (j.val - 256 - 256 - 256) = j.val; omega)

/-- A chunk's product with its rows of the down projection at an element. -/
theorem downs_at (hid : FVec Ideal S512x1024 .bf16) (wd : Vec Ideal S4096x1024 .bf16) (c : Fin 4) (r : Fin 512) (j : Fin 1024)
    (t : Fin 1024 → Fin 4096) (ht : ∀ k, 1024 * c.val + k.val = (t k).val) :
    downs (F := Ideal) hid wd c (ix2 r j) = ∑ k : Fin 1024, hid (ix2 r k) * wd (ix2 (t k) j) := by
  have key (p : Fin 4) (n : Fin 256) (j : Fin 1024) (hj : 256 * p.val + n.val = j.val) :
      down (F := Ideal) hid (sub (e := .bf16) wd (downRect c p)) (ix2 r n) = ∑ k : Fin 1024, hid (ix2 r k) * wd (ix2 (t k) j) := by
    refine (down_at hid (sub (F := Ideal) (e := .bf16) wd (downRect c p)) r n).trans ?_
    simp only [fun k => downRect_at wd c p k n (t k) j (ht k) hj]
  unfold downs
  exact beside _ _ _ _ (fun j => ∑ k : Fin 1024, hid (ix2 r k) * wd (ix2 (t k) j)) r (key 0) (key 1) (key 2) (key 3) j

/-- A row with the four chunks added is the row plus the whole sum. -/
theorem mix_at (h : FVec Ideal S512x1024 .f32) (xn : FVec Ideal S512x1024 .bf16) (wu : Vec Ideal S1024x4096 .bf16) (wd : Vec Ideal S4096x1024 .bf16)
    (r : Fin 512) (j : Fin 1024) : mix (F := Ideal) h xn wu wd (ix2 r j)
      = h (ix2 r j) + ∑ n : Fin 4096, feature (fun k => xn (ix2 r k)) (fun k t => wu (ix2 k t)) n * wd (ix2 n j) := by
  have d (k0 k1 k2 k3 : Fin 16) (c : Fin 4) (e0 : k0.val = 4 * c.val) (e1 : k1.val = 4 * c.val + 1) (e2 : k2.val = 4 * c.val + 2)
      (e3 : k3.val = 4 * c.val + 3) (t : Fin 1024 → Fin 4096) (ht : ∀ k, 1024 * c.val + k.val = (t k).val) :
      downs (F := Ideal) (chunk xn wu k0 k1 k2 k3) wd c (ix2 r j)
        = ∑ k : Fin 1024, feature (fun k => xn (ix2 r k)) (fun k t => wu (ix2 k t)) (t k) * wd (ix2 (t k) j) := by
    rw [downs_at _ wd c r j t ht]
    exact Finset.sum_congr rfl fun k _ => congrArg (· * wd (ix2 (t k) j)) (chunk_at xn wu k0 k1 k2 k3 c.val e0 e1 e2 e3 r k (t k) (ht k))
  have e : mix (F := Ideal) h xn wu wd (ix2 r j) = h (ix2 r j) + downs (F := Ideal) (chunk xn wu 0 1 2 3) wd 0 (ix2 r j)
      + downs (F := Ideal) (chunk xn wu 4 5 6 7) wd 1 (ix2 r j) + downs (F := Ideal) (chunk xn wu 8 9 10 11) wd 2 (ix2 r j)
      + downs (F := Ideal) (chunk xn wu 12 13 14 15) wd 3 (ix2 r j) := rfl
  rw [e, sum_chunks, d 0 1 2 3 0 rfl rfl rfl rfl (fun k => ⟨k.val, by omega⟩) (fun k => Nat.zero_add _),
    d 4 5 6 7 1 rfl rfl rfl rfl (fun k => ⟨1024 + k.val, by omega⟩) (fun k => rfl),
    d 8 9 10 11 2 rfl rfl rfl rfl (fun k => ⟨2048 + k.val, by omega⟩) (fun k => rfl),
    d 12 13 14 15 3 rfl rfl rfl rfl (fun k => ⟨3072 + k.val, by omega⟩) (fun k => rfl)]
  simp only [add_assoc]

/-- A row of the layer. -/
theorem layer_at (h : FVec Ideal S512x1024 .f32) (g : Vec Ideal S1x1024 .f32) (wu : Vec Ideal S1024x4096 .bf16) (wd : Vec Ideal S4096x1024 .bf16)
    (gf : Vec Ideal S1x1024 .f32) (r : Fin 512) (n : Fin 1024) : layer (F := Ideal) h g wu wd gf (ix2 r n)
      = mlpRow (fun k => h (ix2 r k)) (fun k => g (ix2 0 k)) (fun k t => wu (ix2 k t)) (fun t j => wd (ix2 t j)) (fun k => gf (ix2 0 k)) n := by
  have hx (k : Fin 1024) : truncf .bf16 (rms (F := Ideal) h (shapeCast S1x1024 g shapeCasts_S1x1024_S1x1024)) bitsLt_bf16_f32 (ix2 r k)
      = normRow (fun k => h (ix2 r k)) (fun k => g (ix2 0 k)) k := by
    rw [shapeCast_self]
    exact rms_at h g r k
  unfold layer mlpRow
  rw [rms_at, shapeCast_self gf]
  simp only [mix_at, hx]

/-- A row of what a step leaves in the prompt's block. -/
theorem promptOut_at (x : Vec Ideal S512x1024 .f32) (g : Vec Ideal S1x1024 .f32) (wu : Vec Ideal S1024x4096 .bf16)
    (wd : Vec Ideal S4096x1024 .bf16) (gf : Vec Ideal S1x1024 .f32) (r : Fin 512) (n : Fin 1024) : promptOut (F := Ideal) x g wu wd gf (ix2 r n)
      = mlpRow (fun k => x (ix2 r k)) (fun k => g (ix2 0 k)) (fun k t => wu (ix2 k t)) (fun t j => wd (ix2 t j)) (fun k => gf (ix2 0 k)) n := by
  unfold promptOut
  rw [shapeCast_self]
  exact layer_at x g wu wd gf r n

end Cert.Proof.Mlp
-- ==== Proof.MlpArrays.lean ====
/-
  The blocks that the steps of `mlp_xattn` find, at an element, and the prompt's result from the steps' blocks.
-/
module

public import proofs.«01_k».proof.Proof.MlpRun
public import proofs.«01_k».proof.Proof.MlpValues
public import Idealize.ShloMosaic.Lib.StableHlo.Run
public import Idealize.ShloMosaic.Lib.Pipeline.ValueKit

@[expose] public section

noncomputable section

namespace Cert.Proof.Mlp

open Cert.Kernel2Ideal Cert.Kernel2Ideal.Gen
open Idealize.ShloMosaic Idealize.ShloMosaic.TcCoe
open Idealize.ShloMosaic.Pipeline (Dat Cfg Window)

/-! ## The host lines before the region -/

section Host
variable {F : FTy → Type} [FloatOps F] (m : (ℓ : Loc nD τ sig) → Buf (Elt F) ℓ) (c : Dev nD)

/-- The memory's rows as the steps read them: plane `4 h + n` of a token is half `h` of head `n`. -/
abbrev planes (x : Vec F S1x128x256x4x256 .f32) : Vec F S128x2048x128 .f32 :=
  shapeCast S128x2048x128 (transpose S128x256x2x4x128 [0, 1, 3, 2, 4]
    (shapeCast S128x256x4x2x128 (shapeCast S128x256x4x256 x shapeCasts_S1x128x256x4x256_S128x256x4x256) shapeCasts_S128x256x4x256_S128x256x4x2x128)
    transposes_S128x256x4x2x128_S128x256x2x4x128_0_1_3_2_4) shapeCasts_S128x256x2x4x128_S128x2048x128

theorem V_v0 : V m c main_v0 = shapeCast S16384x1024 (m ((c : Thread nD τ).loc main_arg0)) shapeCasts_S8x2048x1024_S16384x1024 := by
  show StableHlo.after (List.flatten [hostOps0]) _ _ = _
  simp only [hostOps0, List.flatten_cons, List.flatten_nil, List.append_nil]
  after_results_simp <;> rfl
theorem V_v1 : V m c main_v1 = shapeCast S512x1024 (m ((c : Thread nD τ).loc main_arg1)) shapeCasts_S128x4x1024_S512x1024 := by
  show StableHlo.after (List.flatten [hostOps0]) _ _ = _
  simp only [hostOps0, List.flatten_cons, List.flatten_nil, List.append_nil]
  after_results_simp <;> rfl
theorem V_v3 : V m c main_v3 = shapeCast S1x1024 (shapeCast S1024 (m ((c : Thread nD τ).loc main_arg2)) shapeCasts_S1x1024_S1024) shapeCasts_S1024_S1x1024 := by
  show StableHlo.after (List.flatten [hostOps0]) _ _ = _
  simp only [hostOps0, List.flatten_cons, List.flatten_nil, List.append_nil]
  after_results_simp <;> rfl
theorem V_v5 : V m c main_v5 = truncf .bf16 (shapeCast S1024x1024 (m ((c : Thread nD τ).loc main_arg3)) shapeCasts_S1x1024x1024_S1024x1024) bitsLt_bf16_f32 := by
  show StableHlo.after (List.flatten [hostOps0]) _ _ = _
  simp only [hostOps0, List.flatten_cons, List.flatten_nil, List.append_nil]
  after_results_simp <;> rfl
theorem V_v7 : V m c main_v7 = truncf .bf16 (shapeCast S1024x1024 (m ((c : Thread nD τ).loc main_arg4)) shapeCasts_S1x1024x1024_S1024x1024) bitsLt_bf16_f32 := by
  show StableHlo.after (List.flatten [hostOps0]) _ _ = _
  simp only [hostOps0, List.flatten_cons, List.flatten_nil, List.append_nil]
  after_results_simp <;> rfl
theorem V_v11 : V m c main_v11 = planes (m ((c : Thread nD τ).loc main_arg5)) := by
  show StableHlo.after (List.flatten [hostOps0]) _ _ = _
  simp only [hostOps0, List.flatten_cons, List.flatten_nil, List.append_nil]
  after_results_simp <;> rfl
theorem V_v15 : V m c main_v15 = planes (m ((c : Thread nD τ).loc main_arg6)) := by
  show StableHlo.after (List.flatten [hostOps0]) _ _ = _
  simp only [hostOps0, List.flatten_cons, List.flatten_nil, List.append_nil]
  after_results_simp <;> rfl
theorem V_v17 : V m c main_v17 = shapeCast S1x1024 (shapeCast S1024 (m ((c : Thread nD τ).loc main_arg7)) shapeCasts_S1x1024_S1024) shapeCasts_S1024_S1x1024 := by
  show StableHlo.after (List.flatten [hostOps0]) _ _ = _
  simp only [hostOps0, List.flatten_cons, List.flatten_nil, List.append_nil]
  after_results_simp <;> rfl
theorem V_v19 : V m c main_v19 = truncf .bf16 (shapeCast S1024x4096 (m ((c : Thread nD τ).loc main_arg8)) shapeCasts_S1x1024x4096_S1024x4096) bitsLt_bf16_f32 := by
  show StableHlo.after (List.flatten [hostOps0]) _ _ = _
  simp only [hostOps0, List.flatten_cons, List.flatten_nil, List.append_nil]
  after_results_simp <;> rfl
theorem V_v21 : V m c main_v21 = truncf .bf16 (shapeCast S4096x1024 (m ((c : Thread nD τ).loc main_arg9)) shapeCasts_S1x4096x1024_S4096x1024) bitsLt_bf16_f32 := by
  show StableHlo.after (List.flatten [hostOps0]) _ _ = _
  simp only [hostOps0, List.flatten_cons, List.flatten_nil, List.append_nil]
  after_results_simp <;> rfl
theorem V_v22 : V m c main_v22 = shapeCast S1x1024 (m ((c : Thread nD τ).loc main_arg10)) shapeCasts_S1024_S1x1024 := by
  show StableHlo.after (List.flatten [hostOps0]) _ _ = _
  simp only [hostOps0, List.flatten_cons, List.flatten_nil, List.append_nil]
  after_results_simp <;> rfl
end Host

/-! ## They, at an element -/

theorem prompt_cast (x : Vec Ideal S8x2048x1024 .f32) (r : Fin 16384) (k : Fin 1024) :
    shapeCast S16384x1024 x shapeCasts_S8x2048x1024_S16384x1024 (ix2 r k) = x (ix3 (⟨r.val / 2048, by omega⟩ : Fin 8) (⟨r.val % 2048, by omega⟩ : Fin 2048) k) := by
  pointwise
theorem sample_cast (x : Vec Ideal S128x4x1024 .f32) (r : Fin 512) (k : Fin 1024) :
    shapeCast S512x1024 x shapeCasts_S128x4x1024_S512x1024 (ix2 r k) = x (ix3 (⟨r.val / 4, by omega⟩ : Fin 128) (⟨r.val % 4, by omega⟩ : Fin 4) k) := by
  pointwise
theorem gain_cast (x : Vec Ideal S1x1024 .f32) (k : Fin 1024) :
    shapeCast S1x1024 (shapeCast S1024 x shapeCasts_S1x1024_S1024) shapeCasts_S1024_S1x1024 (ix2 0 k) = x (ix2 0 k) := by
  pointwise
theorem last_cast (x : Vec Ideal S1024 .f32) (k : Fin 1024) : shapeCast S1x1024 x shapeCasts_S1024_S1x1024 (ix2 0 k) = x (ix1 k) := by
  pointwise
theorem weight_cast (x : Vec Ideal S1x1024x1024 .f32) (k n : Fin 1024) :
    truncf (F := Ideal) .bf16 (shapeCast S1024x1024 x shapeCasts_S1x1024x1024_S1024x1024) bitsLt_bf16_f32 (ix2 k n) = x (ix3 0 k n) := by
  pointwise
theorem up_cast (x : Vec Ideal S1x1024x4096 .f32) (k : Fin 1024) (n : Fin 4096) :
    truncf (F := Ideal) .bf16 (shapeCast S1024x4096 x shapeCasts_S1x1024x4096_S1024x4096) bitsLt_bf16_f32 (ix2 k n) = x (ix3 0 k n) := by
  pointwise
theorem down_cast (x : Vec Ideal S1x4096x1024 .f32) (k : Fin 4096) (n : Fin 1024) :
    truncf (F := Ideal) .bf16 (shapeCast S4096x1024 x shapeCasts_S1x4096x1024_S4096x1024) bitsLt_bf16_f32 (ix2 k n) = x (ix3 0 k n) := by
  pointwise

/-! ## The steps' blocks, at an element -/

theorem index0 : ∀ t : Fin cfg0.N, win0_0.index t = ![min t.val 31, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![min t.val 31, 0, 0] := (by decide +kernel : ∀ t : Fin grid0.N, _)
theorem index6 : ∀ t : Fin cfg0.N, win0_6.index t = ![min t.val 31, 0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![min t.val 31, 0] := (by decide +kernel : ∀ t : Fin grid0.N, _)
theorem index12 : ∀ t : Fin cfg0.N, win0_12.index t = ![0, 0, 0] := (by decide +kernel : ∀ t : Fin grid0.N, _)

variable (m : (ℓ : Loc nD τ sig) → Buf (Elt Ideal) ℓ) (c : Dev nD)

theorem blk0_at (t : Fin cfg0.N) (r : Fin 512) (k : Fin 1024) (n : Fin 16384) (hn : n.val = 512 * min t.val 31 + r.val) :
    iblk m c 0 t (ix2 r k) = m ((c : Thread nD τ).loc main_arg0) (ix3 (⟨n.val / 2048, by omega⟩ : Fin 8) (⟨n.val % 2048, by omega⟩ : Fin 2048) k) := by
  have e : ((cfg0.win 0).blk t).view.emb (ix2 r k) = ix2 n k := by
    blk_ext [index0]
  have h : iblk m c 0 t (ix2 r k) = V m c main_v0 (((cfg0.win 0).blk t).view.emb (ix2 r k)) := rfl
  rw [h, e, V_v0]
  exact prompt_cast _ n k
theorem blk1_at (t : Fin cfg0.N) (r : Fin 512) (k : Fin 1024) : iblk m c 1 t (ix2 r k) = m ((c : Thread nD τ).loc main_arg1) (ix3 (⟨r.val / 4, by omega⟩ : Fin 128) (⟨r.val % 4, by omega⟩ : Fin 4) k) := by
  have e : ((cfg0.win 1).blk t).view.emb (ix2 r k) = ix2 r k := by
    blk_ext [index1]
  have h : iblk m c 1 t (ix2 r k) = V m c main_v1 (((cfg0.win 1).blk t).view.emb (ix2 r k)) := rfl
  rw [h, e, V_v1]
  exact sample_cast _ r k
theorem blk2_at (t : Fin cfg0.N) (k : Fin 1024) : iblk m c 2 t (ix2 0 k) = m ((c : Thread nD τ).loc main_arg2) (ix2 0 k) := by
  have e : ((cfg0.win 2).blk t).view.emb (ix2 0 k) = ix2 0 k := by
    blk_ext [index2]
  have h : iblk m c 2 t (ix2 0 k) = V m c main_v3 (((cfg0.win 2).blk t).view.emb (ix2 0 k)) := rfl
  rw [h, e, V_v3]
  exact gain_cast _ k
theorem blk3_at (t : Fin cfg0.N) (k n : Fin 1024) : iblk m c 3 t (ix2 k n) = m ((c : Thread nD τ).loc main_arg3) (ix3 0 k n) := by
  have e : ((cfg0.win 3).blk t).view.emb (ix2 k n) = ix2 k n := by
    blk_ext [index3]
  have h : iblk m c 3 t (ix2 k n) = V m c main_v5 (((cfg0.win 3).blk t).view.emb (ix2 k n)) := rfl
  rw [h, e, V_v5]
  exact weight_cast _ k n
theorem blk4_at (t : Fin cfg0.N) (k n : Fin 1024) : iblk m c 4 t (ix2 k n) = m ((c : Thread nD τ).loc main_arg4) (ix3 0 k n) := by
  have e : ((cfg0.win 4).blk t).view.emb (ix2 k n) = ix2 k n := by
    blk_ext [index4]
  have h : iblk m c 4 t (ix2 k n) = V m c main_v7 (((cfg0.win 4).blk t).view.emb (ix2 k n)) := rfl
  rw [h, e, V_v7]
  exact weight_cast _ k n
theorem blk7_at (t : Fin cfg0.N) (k : Fin 1024) : iblk m c 7 t (ix2 0 k) = m ((c : Thread nD τ).loc main_arg7) (ix2 0 k) := by
  have e : ((cfg0.win 7).blk t).view.emb (ix2 0 k) = ix2 0 k := by
    blk_ext [index7]
  have h : iblk m c 7 t (ix2 0 k) = V m c main_v17 (((cfg0.win 7).blk t).view.emb (ix2 0 k)) := rfl
  rw [h, e, V_v17]
  exact gain_cast _ k
theorem blk8_at (t : Fin cfg0.N) (k : Fin 1024) (n : Fin 4096) : iblk m c 8 t (ix2 k n) = m ((c : Thread nD τ).loc main_arg8) (ix3 0 k n) := by
  have e : ((cfg0.win 8).blk t).view.emb (ix2 k n) = ix2 k n := by
    blk_ext [index8]
  have h : iblk m c 8 t (ix2 k n) = V m c main_v19 (((cfg0.win 8).blk t).view.emb (ix2 k n)) := rfl
  rw [h, e, V_v19]
  exact up_cast _ k n
theorem blk9_at (t : Fin cfg0.N) (k : Fin 4096) (n : Fin 1024) : iblk m c 9 t (ix2 k n) = m ((c : Thread nD τ).loc main_arg9) (ix3 0 k n) := by
  have e : ((cfg0.win 9).blk t).view.emb (ix2 k n) = ix2 k n := by
    blk_ext [index9]
  have h : iblk m c 9 t (ix2 k n) = V m c main_v21 (((cfg0.win 9).blk t).view.emb (ix2 k n)) := rfl
  rw [h, e, V_v21]
  exact down_cast _ k n
theorem blk10_at (t : Fin cfg0.N) (k : Fin 1024) : iblk m c 10 t (ix2 0 k) = m ((c : Thread nD τ).loc main_arg10) (ix1 k) := by
  have e : ((cfg0.win 10).blk t).view.emb (ix2 0 k) = ix2 0 k := by
    blk_ext [index10]
  have h : iblk m c 10 t (ix2 0 k) = V m c main_v22 (((cfg0.win 10).blk t).view.emb (ix2 0 k)) := rfl
  rw [h, e, V_v22]
  exact last_cast _ k

/-! ## The prompt's result -/

/-- The prompt's result: each row through the layer. -/
def promptRes (x : Vec Ideal S8x2048x1024 .f32) (g : Vec Ideal S1x1024 .f32) (wu : Vec Ideal S1x1024x4096 .f32) (wd : Vec Ideal S1x4096x1024 .f32)
    (gf : Vec Ideal S1024 .f32) : Vec Ideal S16384x1024 .f32 := fun j =>
  mlpRow (fun k => x (ix3 (⟨(j 0).val / 2048, by have : (j 0).val < 16384 := (j 0).isLt; omega⟩ : Fin 8) (⟨(j 0).val % 2048, by omega⟩ : Fin 2048) k))
    (fun k => g (ix2 0 k)) (fun k t => wu (ix3 0 k t)) (fun t j => wd (ix3 0 t j)) (fun k => gf (ix1 k)) (j 1)

/-- What a step leaves in the prompt's block is its rows' result. -/
theorem promptAt_at (t : Fin cfg0.N) (r : Fin 512) (k : Fin 1024) (n : Fin 16384) (hn : n.val = 512 * min t.val 31 + r.val) :
    promptAt m c t (ix2 r k) = promptRes (m ((c : Thread nD τ).loc main_arg0)) (m ((c : Thread nD τ).loc main_arg7))
      (m ((c : Thread nD τ).loc main_arg8)) (m ((c : Thread nD τ).loc main_arg9)) (m ((c : Thread nD τ).loc main_arg10)) (ix2 n k) := by
  unfold promptAt
  refine (promptOut_at (iblk m c 0 t) (iblk m c 7 t) (iblk m c 8 t) (iblk m c 9 t) (iblk m c 10 t) r k).trans ?_
  unfold promptRes
  simp only [fun k => blk0_at m c t r k n hn, blk7_at, blk8_at, blk9_at, blk10_at]
  rfl

/-- The steps' blocks tile the prompt's rows. -/
theorem prompt_end : (dats m 0 c).arrAt 11 cfg0.N = promptRes (m ((c : Thread nD τ).loc main_arg0)) (m ((c : Thread nD τ).loc main_arg7))
      (m ((c : Thread nD τ).loc main_arg8)) (m ((c : Thread nD τ).loc main_arg9)) (m ((c : Thread nD τ).loc main_arg10)) := by
  refine (dats m 0 c).arrAt_eq_of_covers 11 _ (by decide +kernel) fun t hf y => ?_
  have h0 : (y 0).val < 512 := (y 0).isLt
  have ht : t.val < 33 := t.isLt
  have e : ((cfg0.win 11).blk t).view.emb y = ix2 (⟨512 * min t.val 31 + (y 0).val, by omega⟩ : Fin 16384) (y 1) := by
    blk_ext [index11]
  rw [e, after0_11]
  have ey : y = ix2 (y 0) (y 1) := by
    funext a
    match a with
    | ⟨0, _⟩ => rfl
    | ⟨1, _⟩ => rfl
  refine Eq.trans ?_ (promptAt_at m c (upto t) (y 0) (y 1) _ ?_)
  · exact congrArg (promptAt m c (upto t)) ey
  · show 512 * min t.val 31 + (y 0).val = 512 * min (min t.val 31) 31 + (y 0).val
    omega

end Cert.Proof.Mlp
-- ==== Proof.MlpRef.lean ====
/-
  The reference's results at the ideal instance, element by element, over `mlp_xattn`'s arrays.
-/
module

public import proofs.«01_k».proof.Proof.MlpArrays
public import proofs.«01_k».proof.Proof.Gen.Reference2Ideal.Run

@[expose] public section

noncomputable section

namespace Cert.Proof.MlpRef

open Cert.Reference2Ideal Cert.Reference2Ideal.Gen
open Idealize.ShloMosaic Idealize.ShloMosaic.TcCoe
open Cert.Proof.Mlp (normRow feature mlpRow promptRes)

/-! ## The prompt -/

/-- The norm of each row, as the reference writes it. -/
abbrev normPrompt (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf
    (broadcastInDim S8x2048x1 ![0, 1] bcast_S8x2048_S8x2048x1_0_1
      (Host.reduceAdd (mulf x x) (constant S_ .f32 0x00000000#32) reducesTo_S8x2048x1024_S8x2048_d2 h_S_))
    (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))
/-- The positive part of the up projection. -/
abbrev upPrompt (x : FVec Ideal S8x2048x1024 .f32) (w : FVec Ideal S1x1024x4096 .f32) : FVec Ideal S8x2048x4096 .f32 :=
  maximumf (Host.dotGeneral dot_S8x2048x1024_S1024x4096_S8x2048x4096_2_0_01_1_n_n none x (shapeCast S1024x4096 w shapeCasts_S1x1024x4096_S1024x4096))
    (broadcastInDim S8x2048x4096 ![] bcast_S_S8x2048x4096 (constant S_ .f32 0x00000000#32))
/-- The rows plus the down projection of the squares. -/
abbrev downPrompt (x : FVec Ideal S8x2048x1024 .f32) (u : FVec Ideal S8x2048x4096 .f32) (w : FVec Ideal S1x4096x1024 .f32) : FVec Ideal S8x2048x1024 .f32 :=
  addf x (Host.dotGeneral dot_S8x2048x4096_S4096x1024_S8x2048x1024_2_0_01_1_n_n none (mulf u u) (shapeCast S4096x1024 w shapeCasts_S1x4096x1024_S4096x1024))
/-- The layer and the last norm. -/
abbrev layerPrompt (x : FVec Ideal S8x2048x1024 .f32) (g : FVec Ideal S1x1024 .f32) (wu : FVec Ideal S1x1024x4096 .f32)
    (wd : FVec Ideal S1x4096x1024 .f32) (gf : FVec Ideal S1024 .f32) : FVec Ideal S8x2048x1024 .f32 :=
  normPrompt (downPrompt x (upPrompt (normPrompt x (shapeCast S1024 g shapeCasts_S1x1024_S1024)) wu) wd) gf

theorem normPrompt_at (x : FVec Ideal S8x2048x1024 .f32) (g : FVec Ideal S1024 .f32) (b : Fin 8) (t : Fin 2048) (n : Fin 1024) :
    normPrompt x g (ix3 b t n) = normRow (fun k => x (ix3 b t k)) (fun k => g (ix1 k)) n := by
  unfold normPrompt normRow
  pointwise
theorem upPrompt_at (x : FVec Ideal S8x2048x1024 .f32) (w : FVec Ideal S1x1024x4096 .f32) (b : Fin 8) (t : Fin 2048) (n : Fin 4096) :
    upPrompt x w (ix3 b t n) = max (∑ k : Fin 1024, x (ix3 b t k) * w (ix3 0 k n)) 0 := by
  unfold upPrompt
  pointwise
theorem downPrompt_at (x : FVec Ideal S8x2048x1024 .f32) (u : FVec Ideal S8x2048x4096 .f32) (w : FVec Ideal S1x4096x1024 .f32) (b : Fin 8) (t : Fin 2048)
    (n : Fin 1024) : downPrompt x u w (ix3 b t n) = x (ix3 b t n) + ∑ k : Fin 4096, u (ix3 b t k) * u (ix3 b t k) * w (ix3 0 k n) := by
  unfold downPrompt
  pointwise
theorem layerPrompt_at (x : FVec Ideal S8x2048x1024 .f32) (g : FVec Ideal S1x1024 .f32) (wu : FVec Ideal S1x1024x4096 .f32)
    (wd : FVec Ideal S1x4096x1024 .f32) (gf : FVec Ideal S1024 .f32) (b : Fin 8) (t : Fin 2048) (n : Fin 1024) :
    layerPrompt x g wu wd gf (ix3 b t n) = mlpRow (fun k => x (ix3 b t k)) (fun k => g (ix2 0 k)) (fun k t => wu (ix3 0 k t))
      (fun t j => wd (ix3 0 t j)) (fun k => gf (ix1 k)) n := by
  have hg (k : Fin 1024) : shapeCast S1024 g shapeCasts_S1x1024_S1024 (ix1 k) = g (ix2 0 k) := by pointwise
  refine (normPrompt_at _ gf b t n).trans ?_
  unfold mlpRow
  congr 1
  funext j
  refine (downPrompt_at x _ wd b t j).trans ?_
  congr 1
  refine Finset.sum_congr rfl fun k _ => ?_
  have hu : upPrompt (normPrompt x (shapeCast S1024 g shapeCasts_S1x1024_S1024)) wu (ix3 b t k)
      = max (∑ l : Fin 1024, normRow (fun k => x (ix3 b t k)) (fun k => g (ix2 0 k)) l * wu (ix3 0 l k)) 0 := by
    refine (upPrompt_at _ wu b t k).trans ?_
    simp only [normPrompt_at, hg]
  rw [hu]
  rfl

/-! ## The sample -/

/-- The norm of each row, as the reference writes it. -/
abbrev normSample (x : FVec Ideal S128x4x1024 .f32) (g : FVec Ideal S1024 .f32) : FVec Ideal S128x4x1024 .f32 :=
  mulf (mulf x (broadcastInDim S128x4x1024 ![0, 1, 2] bcast_S128x4x1_S128x4x1024_0_1_2 (Host.rsqrt (addf (Host.divf
    (broadcastInDim S128x4x1 ![0, 1] bcast_S128x4_S128x4x1_0_1
      (Host.reduceAdd (mulf x x) (constant S_ .f32 0x00000000#32) reducesTo_S128x4x1024_S128x4_d2 h_S_))
    (broadcastInDim S128x4x1 ![] bcast_S_S128x4x1 (constant S_ .f32 0x44800000#32)))
    (broadcastInDim S128x4x1 ![] bcast_S_S128x4x1 (constant S_ .f32 0x358637BD#32))))))
    (broadcastInDim S128x4x1024 ![0, 1, 2] bcast_S1x1x1024_S128x4x1024_0_1_2 (broadcastInDim S1x1x1024 ![2] bcast_S1024_S1x1x1024_2 g))
/-- The positive part of the up projection. -/
abbrev upSample (x : FVec Ideal S128x4x1024 .f32) (w : FVec Ideal S1x1024x4096 .f32) : FVec Ideal S128x4x4096 .f32 :=
  maximumf (Host.dotGeneral dot_S128x4x1024_S1024x4096_S128x4x4096_2_0_01_1_n_n none x (shapeCast S1024x4096 w shapeCasts_S1x1024x4096_S1024x4096))
    (broadcastInDim S128x4x4096 ![] bcast_S_S128x4x4096 (constant S_ .f32 0x00000000#32))
/-- The rows plus the down projection of the squares. -/
abbrev downSample (x : FVec Ideal S128x4x1024 .f32) (u : FVec Ideal S128x4x4096 .f32) (w : FVec Ideal S1x4096x1024 .f32) : FVec Ideal S128x4x1024 .f32 :=
  addf x (Host.dotGeneral dot_S128x4x4096_S4096x1024_S128x4x1024_2_0_01_1_n_n none (mulf u u) (shapeCast S4096x1024 w shapeCasts_S1x4096x1024_S4096x1024))
/-- The layer and the last norm. -/
abbrev layerSample (x : FVec Ideal S128x4x1024 .f32) (g : FVec Ideal S1x1024 .f32) (wu : FVec Ideal S1x1024x4096 .f32)
    (wd : FVec Ideal S1x4096x1024 .f32) (gf : FVec Ideal S1024 .f32) : FVec Ideal S128x4x1024 .f32 :=
  normSample (downSample x (upSample (normSample x (shapeCast S1024 g shapeCasts_S1x1024_S1024)) wu) wd) gf

theorem normSample_at (x : FVec Ideal S128x4x1024 .f32) (g : FVec Ideal S1024 .f32) (b : Fin 128) (t : Fin 4) (n : Fin 1024) :
    normSample x g (ix3 b t n) = normRow (fun k => x (ix3 b t k)) (fun k => g (ix1 k)) n := by
  unfold normSample normRow
  pointwise
theorem upSample_at (x : FVec Ideal S128x4x1024 .f32) (w : FVec Ideal S1x1024x4096 .f32) (b : Fin 128) (t : Fin 4) (n : Fin 4096) :
    upSample x w (ix3 b t n) = max (∑ k : Fin 1024, x (ix3 b t k) * w (ix3 0 k n)) 0 := by
  unfold upSample
  pointwise
theorem downSample_at (x : FVec Ideal S128x4x1024 .f32) (u : FVec Ideal S128x4x4096 .f32) (w : FVec Ideal S1x4096x1024 .f32) (b : Fin 128) (t : Fin 4)
    (n : Fin 1024) : downSample x u w (ix3 b t n) = x (ix3 b t n) + ∑ k : Fin 4096, u (ix3 b t k) * u (ix3 b t k) * w (ix3 0 k n) := by
  unfold downSample
  pointwise
theorem layerSample_at (x : FVec Ideal S128x4x1024 .f32) (g : FVec Ideal S1x1024 .f32) (wu : FVec Ideal S1x1024x4096 .f32)
    (wd : FVec Ideal S1x4096x1024 .f32) (gf : FVec Ideal S1024 .f32) (b : Fin 128) (t : Fin 4) (n : Fin 1024) :
    layerSample x g wu wd gf (ix3 b t n) = mlpRow (fun k => x (ix3 b t k)) (fun k => g (ix2 0 k)) (fun k t => wu (ix3 0 k t))
      (fun t j => wd (ix3 0 t j)) (fun k => gf (ix1 k)) n := by
  have hg (k : Fin 1024) : shapeCast S1024 g shapeCasts_S1x1024_S1024 (ix1 k) = g (ix2 0 k) := by pointwise
  refine (normSample_at _ gf b t n).trans ?_
  unfold mlpRow
  congr 1
  funext j
  refine (downSample_at x _ wd b t j).trans ?_
  congr 1
  refine Finset.sum_congr rfl fun k _ => ?_
  have hu : upSample (normSample x (shapeCast S1024 g shapeCasts_S1x1024_S1024)) wu (ix3 b t k)
      = max (∑ l : Fin 1024, normRow (fun k => x (ix3 b t k)) (fun k => g (ix2 0 k)) l * wu (ix3 0 l k)) 0 := by
    refine (upSample_at _ wu b t k).trans ?_
    simp only [normSample_at, hg]
  rw [hu]
  rfl

/-- The prompt's rows flat. -/
theorem promptFlat (y : FVec Ideal S8x2048x1024 .f32) (j : S16384x1024.Idx) : shapeCast S16384x1024 y shapeCasts_S8x2048x1024_S16384x1024 j
    = y (ix3 (⟨(j 0).val / 2048, by have : (j 0).val < 16384 := (j 0).isLt; omega⟩ : Fin 8) (⟨(j 0).val % 2048, by omega⟩ : Fin 2048) (j 1)) := by
  pointwise

section Of
variable {x x' : FVec Ideal S8x2048x1024 .f32} {g g' : FVec Ideal S1x1024 .f32} {wu wu' : FVec Ideal S1x1024x4096 .f32}
  {wd wd' : FVec Ideal S1x4096x1024 .f32} {gf gf' : FVec Ideal S1024 .f32}

/-- The reference's prompt is the steps', of arrays that agree. -/
theorem prompt_of (hx : x' = x) (hg : g' = g) (hu : wu' = wu) (hd : wd' = wd) (hf : gf' = gf) (j : S16384x1024.Idx) :
    shapeCast S16384x1024 (layerPrompt x' g' wu' wd' gf') shapeCasts_S8x2048x1024_S16384x1024 j = promptRes x g wu wd gf j := by
  subst hx hg hu hd hf
  exact (promptFlat _ j).trans (layerPrompt_at _ _ _ _ _ _ _ _)
end Of

end Cert.Proof.MlpRef
-- ==== Proof.MlpAttn.lean ====
/-
  The sample's attention at the ideal instance, row by row.

  A query row scores the 256 tokens of its batch's memory head by head; the weights are the exponentials of the scores less their
  maximum, times the reciprocal of their sum; a head's output is the weighted sum of the values. A batch's memory is kept as
  2048 rows of 128 lanes: token `k`, half `dh` of head `hd` is the row `8 k + 4 dh + hd`.
-/
module

public import proofs.«01_k».proof.Proof.MlpValues

@[expose] public section

noncomputable section

namespace Cert.Proof.Mlp

open Cert.Kernel2Ideal Cert.Kernel2Ideal.Gen
open Idealize.ShloMosaic Idealize.ShloMosaic.TcCoe

/-! ## The mathematics of a row -/

/-- The greatest score. -/
def top (s : Fin 256 → EReal) : EReal := Finset.fold max (Ideal.ofBits .f32 0xFF800000#32) s Finset.univ

/-- The exponential of a score less the greatest. -/
def ex (s : Fin 256 → EReal) (k : Fin 256) : EReal := Ideal.exp (s k - top s)

/-- The kernel's weight of a token. -/
def wgt (s : Fin 256 → EReal) (k : Fin 256) : EReal := ex s k * Ideal.div 1 (∑ l : Fin 256, ex s l)

/-- The column `d` of head `j`'s 256. -/
def col (j : Fin 4) (d : Fin 256) : Fin 1024 := ⟨256 * j.val + d.val, by omega⟩

/-- The scores of a query row against a memory's head. -/
def score (q : Fin 1024 → EReal) (K : Fin 256 → Fin 1024 → EReal) (h : Fin 4) (k : Fin 256) : EReal :=
  ∑ d : Fin 256, q (col h d) * K k (col h d)

/-- The attention's output row. -/
def attRow (q : Fin 1024 → EReal) (K V : Fin 256 → Fin 1024 → EReal) (j : Fin 1024) : EReal :=
  ∑ k : Fin 256, wgt (score q K ⟨j.val / 256, by omega⟩) k * V k j

/-- A batch's memory as a token's row of 1024. -/
def memRow (x : Vec Ideal S4x2048x128 .f32) (b : Fin 4) (k : Fin 256) (j : Fin 1024) : EReal :=
  x (ix3 b ⟨8 * k.val + 4 * (j.val / 128 % 2) + j.val / 256, by omega⟩ ⟨j.val % 128, by omega⟩)

/-! ## A step's operations at an element -/

theorem dotNt_at (q : FVec Ideal S8x256 .bf16) (k : FVec Ideal S256x256 .bf16) (r : Fin 8) (n : Fin 256) :
    dotNt (F := Ideal) q k (ix2 r n) = ∑ d : Fin 256, q (ix2 r d) * k (ix2 n d) := by
  unfold dotNt
  pointwise

theorem dotNn_at (p : FVec Ideal S8x256 .f32) (v : FVec Ideal S256x256 .bf16) (r : Fin 8) (n : Fin 256) :
    dotNn (F := Ideal) p v (ix2 r n) = ∑ k : Fin 256, p (ix2 r k) * v (ix2 k n) := by
  unfold dotNn
  pointwise

theorem expo_at (s : FVec Ideal S32x256 .f32) (r : Fin 32) (n : Fin 256) : expo (F := Ideal) s (ix2 r n) = ex (fun k => s (ix2 r k)) n := by
  unfold expo ex top
  pointwise

theorem soft_at (s : FVec Ideal S32x256 .f32) (r : Fin 32) (n : Fin 256) : soft (F := Ideal) s (ix2 r n) = wgt (fun k => s (ix2 r k)) n := by
  have e : soft (F := Ideal) s (ix2 r n) = expo s (ix2 r n) * Ideal.div 1 (∑ l : Fin 256, expo s (ix2 r l)) := by
    unfold soft
    pointwise
  rw [e]
  simp only [expo_at]
  rfl

/-- The first step's queries: the scaled projection of the norm. -/
theorem queries_at (x : Vec Ideal S512x1024 .f32) (g : Vec Ideal S1x1024 .f32) (w : Vec Ideal S1024x1024 .bf16) (b : Fin 128) (i : Fin 4) (n : Fin 1024)
    (r : Fin 512) (hr : b.val * 4 + i.val = r.val) : queries (F := Ideal) x g w (ix3 b i n)
      = (∑ k : Fin 1024, normRow (fun l => x (ix2 r l)) (fun l => g (ix2 0 l)) k * w (ix2 k n)) * Ideal.ofBits .f32 0x3D800000#32 := by
  have e (y : FVec Ideal S512x1024 .f32) : shapeCast S128x4x1024 (mulf
      (matmul (φ₂ := .bf16) dot_S512x1024_S1024x1024_S512x1024_1_0_0_1_n_n none (truncf .bf16 y bitsLt_bf16_f32) w (constant S512x1024 .f32 0x00000000#32))
      (broadcast S512x1024 (Scalar.ofBits (F := Ideal) .f32 0x3D800000#32))) shapeCasts_S512x1024_S128x4x1024 (ix3 b i n)
      = (∑ k : Fin 1024, y (ix2 r k) * w (ix2 k n)) * Ideal.ofBits .f32 0x3D800000#32 := by
    pointwise
    simp only [hr]
  unfold queries
  rw [shapeCast_self, shapeCast_self, shapeCast_self, e]
  simp only [rms_at]

theorem rows_at (q : Vec Ideal S2x4x1024 .f32) (r : Fin 8) (n : Fin 1024) :
    rows (F := Ideal) q (ix2 r n) = q (ix3 (⟨r.val / 4, by omega⟩ : Fin 2) (⟨r.val % 4, by omega⟩ : Fin 4) n) := by
  unfold rows
  rw [shapeCast_self]
  pointwise

/-- A tile's rows are its first batch's below four, its second's from there. -/
theorem pair_at (a b : FVec Ideal S8x1024 .f32) (t : Fin 2) (i : Fin 4) (n : Fin 1024) (r : Fin 8) (hr : t.val * 4 + i.val = r.val) :
    pair (F := Ideal) a b (ix3 t i n) = if t = 0 then a (ix2 r n) else b (ix2 r n) := by
  have e : pair (F := Ideal) a b (ix3 t i n) = Scalar.select (IntOp.cmpi .slt (BitVec.ofNat 32 r.val) 4#32) (a (ix2 r n)) (b (ix2 r n)) := by
    unfold pair own0
    pointwise
    simp only [hr]
  have h (t : Fin 2) (i : Fin 4) : IntOp.cmpi .slt (BitVec.ofNat 32 (t.val * 4 + i.val)) 4#32 = if t = 0 then 1#1 else 0#1 := by
    revert t i
    decide +kernel
  rw [e, ← hr, h]
  by_cases ht : t = 0
  · rw [if_pos ht, if_pos ht]; rfl
  · rw [if_neg ht, if_neg ht]; rfl

/-- Two halves of a head side by side. -/
theorem halves (a b : Vec Ideal S1x256x128 .f32) (f : Fin 256 → EReal) (k : Fin 256)
    (h0 : ∀ (l : Fin 128) (d : Fin 256), l.val = d.val → a (ix3 0 k l) = f d)
    (h1 : ∀ (l : Fin 128) (d : Fin 256), 128 + l.val = d.val → b (ix3 0 k l) = f d) (d : Fin 256) :
    truncf (F := Ideal) (φ := .f32) .bf16 (concatenate S256x256 1 [⟨S256x128, shapeCast S256x128 a shapeCasts_S1x256x128_S256x128⟩,
      ⟨S256x128, shapeCast S256x128 b shapeCasts_S1x256x128_S256x128⟩] concatenates_S256x128_S256x128_S256x256_d1) bitsLt_bf16_f32 (ix2 k d) = f d := by
  have hd := d.isLt
  pointwise
  by_cases c0 : d.val < 128
  · rw [dif_pos c0]; exact h0 _ _ rfl
  rw [dif_neg c0]
  exact h1 _ _ (by show 128 + (d.val - 128) = d.val; omega)

/-- A head of a batch's memory at an element. -/
theorem slab_at (x : Vec Ideal S4x2048x128 .f32) (b : Fin 4) (lo hi : Fin 8) (h : Fin 4) (hlo : lo.val = h.val) (hhi : hi.val = 4 + h.val)
    (k d : Fin 256) : slab (F := Ideal) x b lo hi (ix2 k d) = memRow x b k (col h d) := by
  have key (r : Fin 8) (l : Fin 128) (j : Fin 1024) (h0 : 4 * (j.val / 128 % 2) + j.val / 256 = r.val) (h1 : j.val % 128 = l.val) :
      sub (F := Ideal) (e := .f32) x (memRect b r) (ix3 0 k l) = memRow x b k j := by
    unfold sub memRow
    refine congrArg x (funext fun a => ?_)
    match a with
    | ⟨0, _⟩ => exact Fin.ext (show b.val + 1 * 0 = b.val by omega)
    | ⟨1, _⟩ => exact Fin.ext (show r.val + 8 * k.val = 8 * k.val + 4 * (j.val / 128 % 2) + j.val / 256 by omega)
    | ⟨2, _⟩ => exact Fin.ext (show 0 + 1 * l.val = j.val % 128 by omega)
  have hh := h.isLt
  unfold slab
  refine halves _ _ (fun d => memRow x b k (col h d)) k (fun l d e => ?_) (fun l d e => ?_) d
  · refine key lo l (col h d) ?_ ?_
    · show 4 * ((256 * h.val + d.val) / 128 % 2) + (256 * h.val + d.val) / 256 = lo.val
      omega
    · show (256 * h.val + d.val) % 128 = l.val
      omega
  · refine key hi l (col h d) ?_ ?_
    · show 4 * ((256 * h.val + d.val) / 128 % 2) + (256 * h.val + d.val) / 256 = hi.val
      omega
    · show (256 * h.val + d.val) % 128 = l.val
      omega

/-- Four heads' scores one below the other: row `8 h + r` is head `h`'s row `r`. -/
theorem below (a0 a1 a2 a3 : FVec Ideal S8x256 .f32) (f : Fin 4 → EReal) (r : Fin 8) (n : Fin 256)
    (h0 : a0 (ix2 r n) = f 0) (h1 : a1 (ix2 r n) = f 1) (h2 : a2 (ix2 r n) = f 2) (h3 : a3 (ix2 r n) = f 3)
    (h : Fin 4) (i : Fin 32) (hi : i.val = 8 * h.val + r.val) :
    concatenate S32x256 0 [⟨S8x256, a0⟩, ⟨S8x256, a1⟩, ⟨S8x256, a2⟩, ⟨S8x256, a3⟩]
      concatenates_S8x256_S8x256_S8x256_S8x256_S32x256_d0 (ix2 i n) = f h := by
  have hr := r.isLt
  have hh := h.isLt
  pointwise
  by_cases c0 : i.val < 8
  · rw [dif_pos c0, show h = 0 from Fin.ext (by show h.val = 0; omega), ← h0]
    exact congrArg a0 (congrArg (fun z => ix2 z n) (Fin.ext (by show i.val = r.val; omega)))
  rw [dif_neg c0]
  by_cases c1 : i.val - 8 < 8
  · rw [dif_pos c1, show h = 1 from Fin.ext (by show h.val = 1; omega), ← h1]
    exact congrArg a1 (congrArg (fun z => ix2 z n) (Fin.ext (by show i.val - 8 = r.val; omega)))
  rw [dif_neg c1]
  by_cases c2 : i.val - 8 - 8 < 8
  · rw [dif_pos c2, show h = 2 from Fin.ext (by show h.val = 2; omega), ← h2]
    exact congrArg a2 (congrArg (fun z => ix2 z n) (Fin.ext (by show i.val - 8 - 8 = r.val; omega)))
  rw [dif_neg c2, show h = 3 from Fin.ext (by show h.val = 3; omega), ← h3]
  exact congrArg a3 (congrArg (fun z => ix2 z n) (Fin.ext (by show i.val - 8 - 8 - 8 = r.val; omega)))

/-- A head's columns of the query rows. -/
theorem qcols (q : FVec Ideal S8x1024 .bf16) (o : ℕ) (sl : S8x1024.Slices ![0, o] S8x256) (h : Fin 4) (ho : o = 256 * h.val) (r : Fin 8) (d : Fin 256) :
    extractStridedSlice S8x256 ![0, o] q sl (ix2 r d) = q (ix2 r (col h d)) := by
  subst ho
  refine congrArg q (funext fun a => ?_)
  match a with
  | ⟨0, _⟩ => exact Fin.ext (show 0 + r.val = r.val by omega)
  | ⟨1, _⟩ => rfl

/-- A head's rows of the weights. -/
theorem prows (p : FVec Ideal S32x256 .f32) (o : ℕ) (sl : S32x256.Slices ![o, 0] S8x256) (h : Fin 4) (ho : o = 8 * h.val) (r : Fin 8) (k : Fin 256)
    (i : Fin 32) (hi : i.val = 8 * h.val + r.val) : extractStridedSlice S8x256 ![o, 0] p sl (ix2 r k) = p (ix2 i k) := by
  subst ho
  refine congrArg p (funext fun a => ?_)
  match a with
  | ⟨0, _⟩ => exact Fin.ext hi.symm
  | ⟨1, _⟩ => exact Fin.ext (show 0 + k.val = k.val by omega)

/-- The scores at an element. -/
theorem scores_at (q : FVec Ideal S8x1024 .bf16) (xk : Vec Ideal S4x2048x128 .f32) (b : Fin 4) (r : Fin 8) (n : Fin 256) (h : Fin 4) (i : Fin 32)
    (hi : i.val = 8 * h.val + r.val) : scores (F := Ideal) q xk b (ix2 i n) = score (fun j => q (ix2 r j)) (memRow xk b) h n := by
  have key (o : ℕ) (sl : S8x1024.Slices ![0, o] S8x256) (h : Fin 4) (ho : o = 256 * h.val) (lo hi : Fin 8) (hlo : lo.val = h.val)
      (hhi : hi.val = 4 + h.val) : dotNt (F := Ideal) (extractStridedSlice S8x256 ![0, o] q sl) (slab xk b lo hi) (ix2 r n)
        = score (fun j => q (ix2 r j)) (memRow xk b) h n := by
    rw [dotNt_at]
    simp only [qcols q o sl h ho, slab_at xk b lo hi h hlo hhi]
    rfl
  unfold scores
  exact below _ _ _ _ (fun h => score (fun j => q (ix2 r j)) (memRow xk b) h n) r n (key 0 _ 0 rfl 0 4 rfl rfl) (key 256 _ 1 rfl 1 5 rfl rfl)
    (key 512 _ 2 rfl 2 6 rfl rfl) (key 768 _ 3 rfl 3 7 rfl rfl) h i hi

/-- Four heads' rows side by side. -/
theorem besides (a0 a1 a2 a3 : FVec Ideal S8x256 .f32) (f : Fin 1024 → EReal) (r : Fin 8)
    (h0 : ∀ n : Fin 256, a0 (ix2 r n) = f (col 0 n)) (h1 : ∀ n : Fin 256, a1 (ix2 r n) = f (col 1 n))
    (h2 : ∀ n : Fin 256, a2 (ix2 r n) = f (col 2 n)) (h3 : ∀ n : Fin 256, a3 (ix2 r n) = f (col 3 n)) (j : Fin 1024) :
    concatenate S8x1024 1 [⟨S8x256, a0⟩, ⟨S8x256, a1⟩, ⟨S8x256, a2⟩, ⟨S8x256, a3⟩]
      concatenates_S8x256_S8x256_S8x256_S8x256_S8x1024_d1 (ix2 r j) = f j := by
  have hj := j.isLt
  pointwise
  by_cases c0 : j.val < 256
  · rw [dif_pos c0]
    exact (h0 _).trans (congrArg f (Fin.ext (by show 256 * 0 + j.val = j.val; omega)))
  rw [dif_neg c0]
  by_cases c1 : j.val - 256 < 256
  · rw [dif_pos c1]
    exact (h1 _).trans (congrArg f (Fin.ext (by show 256 * 1 + (j.val - 256) = j.val; omega)))
  rw [dif_neg c1]
  by_cases c2 : j.val - 256 - 256 < 256
  · rw [dif_pos c2]
    exact (h2 _).trans (congrArg f (Fin.ext (by show 256 * 2 + (j.val - 256 - 256) = j.val; omega)))
  rw [dif_neg c2]
  exact (h3 _).trans (congrArg f (Fin.ext (by show 256 * 3 + (j.val - 256 - 256 - 256) = j.val; omega)))

/-- A tile's rows through the attention against batch `b`'s memory. -/
theorem attn_at (q : Vec Ideal S2x4x1024 .f32) (xk xv : Vec Ideal S4x2048x128 .f32) (b : Fin 4) (t : Fin 2) (i : Fin 4) (r : Fin 8)
    (hr : t.val * 4 + i.val = r.val) (j : Fin 1024) :
    attn (F := Ideal) q xk xv b (ix2 r j) = attRow (fun n => q (ix3 t i n)) (memRow xk b) (memRow xv b) j := by
  have hi := i.isLt
  have hq (n : Fin 1024) : rows (F := Ideal) q (ix2 r n) = q (ix3 t i n) := by
    rw [rows_at]
    refine congrArg q ?_
    have e0 : (⟨r.val / 4, by omega⟩ : Fin 2) = t := Fin.ext (by show r.val / 4 = t.val; omega)
    have e1 : (⟨r.val % 4, by omega⟩ : Fin 4) = i := Fin.ext (by show r.val % 4 = i.val; omega)
    rw [e0, e1]
  have key (o : ℕ) (sl : S32x256.Slices ![o, 0] S8x256) (h : Fin 4) (ho : o = 8 * h.val) (lo hi : Fin 8) (hlo : lo.val = h.val)
      (hhi : hi.val = 4 + h.val) (n : Fin 256) :
      dotNn (F := Ideal) (extractStridedSlice S8x256 ![o, 0] (soft (scores (rows q) xk b)) sl) (slab xv b lo hi) (ix2 r n)
        = attRow (fun n => q (ix3 t i n)) (memRow xk b) (memRow xv b) (col h n) := by
    have hh := h.isLt
    have er : (⟨(col h n).val / 256, by omega⟩ : Fin 4) = h := Fin.ext (by show (256 * h.val + n.val) / 256 = h.val; omega)
    rw [dotNn_at]
    unfold attRow
    rw [er]
    refine Finset.sum_congr rfl fun k _ => ?_
    rw [prows _ o sl h ho r k ⟨8 * h.val + r.val, by omega⟩ rfl, soft_at, slab_at xv b lo hi h hlo hhi]
    simp only [fun n => scores_at (rows q) xk b r n h ⟨8 * h.val + r.val, by omega⟩ rfl, hq]
  unfold attn heads
  exact besides _ _ _ _ _ r (key 0 _ 0 rfl 0 4 rfl rfl) (key 8 _ 1 rfl 1 5 rfl rfl) (key 16 _ 2 rfl 2 6 rfl rfl) (key 24 _ 3 rfl 3 7 rfl rfl) j

/-- A tile after a step: each batch's rows through the attention against its own memory. -/
theorem tileOut_at (q : Vec Ideal S2x4x1024 .f32) (xk xv : Vec Ideal S4x2048x128 .f32) (a b : Fin 4) (t : Fin 2) (i : Fin 4) (j : Fin 1024) :
    tileOut (F := Ideal) q xk xv a b (ix3 t i j)
      = attRow (fun n => q (ix3 t i n)) (memRow xk (if t = 0 then a else b)) (memRow xv (if t = 0 then a else b)) j := by
  have hi := i.isLt
  have ht := t.isLt
  unfold tileOut
  rw [pair_at _ _ t i j ⟨t.val * 4 + i.val, by omega⟩ rfl, attn_at q xk xv a t i _ rfl, attn_at q xk xv b t i _ rfl]
  by_cases h : t = 0
  · simp only [if_pos h]
  · simp only [if_neg h]

end Cert.Proof.Mlp
-- ==== Proof.MlpSample.lean ====
/-
  The sample's block over the steps, and the sample's result.

  Step `t` below 32 replaces the queries of batches `4 t` to `4 t + 3` by their attention's output; the last step sends all rows
  through the output projection and the layer.
-/
module

public import proofs.«01_k».proof.Proof.MlpAttn
public import proofs.«01_k».proof.Proof.MlpArrays

@[expose] public section

noncomputable section

namespace Cert.Proof.Mlp

open Cert.Kernel2Ideal Cert.Kernel2Ideal.Gen
open Idealize.ShloMosaic Idealize.ShloMosaic.TcCoe Idealize.ShloMosaic.Pipeline

/-! ## A step on the sample's block -/

/-- Tile `r` of a step laid over a block, at an element. -/
theorem overlay_at (i : grid0.Coords) (h : k0_cond2 i = 1#1) (r : Fin 2) (y : Vec Ideal S128x4x1024 .f32) (P : Vec Ideal S2x4x1024 .f32)
    (f : EReal) (b : Fin 128) (s : Fin 4) (j : Fin 1024)
    (hin : ∀ t : Fin 2, 4 * (i 0).val + 2 * r.val + t.val = b.val → P (ix3 t s j) = f)
    (hout : (b.val < 4 * (i 0).val + 2 * r.val ∨ 4 * (i 0).val + 2 * r.val + 2 ≤ b.val) → y (ix3 b s j) = f) :
    (tileRect i h r).overlay (α := EReal) y P (ix3 b s j) = f := by
  have e0 : k0_off1 i (BitVec.ofNat 32 (2 * r.val)) 0 = 4 * (i 0).val + 2 * r.val := congrFun (off1_eq i r) 0
  have e1 : k0_off1 i (BitVec.ofNat 32 (2 * r.val)) 1 = 0 := congrFun (off1_eq i r) 1
  have e2 : k0_off1 i (BitVec.ofNat 32 (2 * r.val)) 2 = 0 := congrFun (off1_eq i r) 2
  by_cases hb : b.val < 4 * (i 0).val + 2 * r.val ∨ 4 * (i 0).val + 2 * r.val + 2 ≤ b.val
  · refine (Rect.overlay_of_not_mem _ _ _ fun hm => ?_).trans (hout hb)
    obtain ⟨k, -, hk⟩ := Finset.mem_map.1 (by rw [← Rect.map_emb_univ] at hm; exact hm)
    have h0 : k0_off1 i (BitVec.ofNat 32 (2 * r.val)) 0 + 1 * (k 0).val = b.val := congrArg (fun v : S128x4x1024.Idx => (v 0).val) hk
    have hk0 : (k 0).val < 2 := (k 0).isLt
    omega
  · have ht : b.val - (4 * (i 0).val + 2 * r.val) < 2 := by omega
    have ei : ix3 b s j = (tileRect i h r).emb (ix3 (⟨b.val - (4 * (i 0).val + 2 * r.val), ht⟩ : Fin 2) s j) := by
      funext a
      match a with
      | ⟨0, _⟩ => exact Fin.ext (show b.val = k0_off1 i (BitVec.ofNat 32 (2 * r.val)) 0 + 1 * (b.val - (4 * (i 0).val + 2 * r.val)) by omega)
      | ⟨1, _⟩ => exact Fin.ext (show s.val = k0_off1 i (BitVec.ofNat 32 (2 * r.val)) 1 + 1 * s.val by omega)
      | ⟨2, _⟩ => exact Fin.ext (show j.val = k0_off1 i (BitVec.ofNat 32 (2 * r.val)) 2 + 1 * j.val by omega)
    rw [ei, Rect.overlay_emb]
    exact hin _ (by show 4 * (i 0).val + 2 * r.val + (b.val - (4 * (i 0).val + 2 * r.val)) = b.val; omega)

/-- Tile `r` of a step read off a block, at an element. -/
theorem tile_at (i : grid0.Coords) (h : k0_cond2 i = 1#1) (r : Fin 2) (y : Vec Ideal S128x4x1024 .f32) (t : Fin 2) (s : Fin 4) (j : Fin 1024)
    (b : Fin 128) (hb : 4 * (i 0).val + 2 * r.val + t.val = b.val) :
    sub (F := Ideal) (e := .f32) y (tileRect i h r).toLoadRect (ix3 t s j) = y (ix3 b s j) := by
  have e0 : k0_off1 i (BitVec.ofNat 32 (2 * r.val)) 0 = 4 * (i 0).val + 2 * r.val := congrFun (off1_eq i r) 0
  have e1 : k0_off1 i (BitVec.ofNat 32 (2 * r.val)) 1 = 0 := congrFun (off1_eq i r) 1
  have e2 : k0_off1 i (BitVec.ofNat 32 (2 * r.val)) 2 = 0 := congrFun (off1_eq i r) 2
  unfold sub
  refine congrArg y (funext fun a => ?_)
  match a with
  | ⟨0, _⟩ => exact Fin.ext (show k0_off1 i (BitVec.ofNat 32 (2 * r.val)) 0 + 1 * t.val = b.val by omega)
  | ⟨1, _⟩ => exact Fin.ext (show k0_off1 i (BitVec.ofNat 32 (2 * r.val)) 1 + 1 * s.val = s.val by omega)
  | ⟨2, _⟩ => exact Fin.ext (show k0_off1 i (BitVec.ofNat 32 (2 * r.val)) 2 + 1 * j.val = j.val by omega)

/-- A tile after a step at an element: the attention of the block's row there. -/
theorem tileOut_sub (i : grid0.Coords) (h : k0_cond2 i = 1#1) (r : Fin 2) (y : Vec Ideal S128x4x1024 .f32) (xk xv : Vec Ideal S4x2048x128 .f32)
    (a₀ a₁ : Fin 4) (h₀ : a₀.val = 2 * r.val) (h₁ : a₁.val = 2 * r.val + 1) (t : Fin 2) (s : Fin 4) (j : Fin 1024)
    (b : Fin 128) (hb : 4 * (i 0).val + 2 * r.val + t.val = b.val) (a : Fin 4) (ha : 4 * (i 0).val + a.val = b.val) :
    tileOut (F := Ideal) (sub (e := .f32) y (tileRect i h r).toLoadRect) xk xv a₀ a₁ (ix3 t s j)
      = attRow (fun n => y (ix3 b s n)) (memRow xk a) (memRow xv a) j := by
  have ht := t.isLt
  have ea : (if t = 0 then a₀ else a₁) = a := by
    by_cases h0 : t = 0
    · rw [if_pos h0]; subst h0; exact Fin.ext (by have : ((0 : Fin 2) : ℕ) = 0 := rfl; omega)
    · rw [if_neg h0]
      have : t.val ≠ 0 := fun e => h0 (Fin.ext e)
      exact Fin.ext (by omega)
  refine (tileOut_at (sub (F := Ideal) (e := .f32) y (tileRect i h r).toLoadRect) xk xv a₀ a₁ t s j).trans ?_
  rw [ea]
  simp only [fun n => tile_at i h r y t s n b hb]

/-- What a step leaves at an element: its four batches' rows through the attention, the others as they were. -/
theorem stepFrom_at (i : grid0.Coords) (h : k0_cond2 i = 1#1) (y : Vec Ideal S128x4x1024 .f32) (xk xv : Vec Ideal S4x2048x128 .f32)
    (f : EReal) (b : Fin 128) (s : Fin 4) (j : Fin 1024)
    (hin : ∀ a : Fin 4, 4 * (i 0).val + a.val = b.val → attRow (fun n => y (ix3 b s n)) (memRow xk a) (memRow xv a) j = f)
    (hout : (b.val < 4 * (i 0).val ∨ 4 * (i 0).val + 4 ≤ b.val) → y (ix3 b s j) = f) : stepFrom (F := Ideal) i h y xk xv (ix3 b s j) = f := by
  unfold stepFrom
  refine overlay_at i h 1 _ _ f b s j (fun t ht => ?_) fun h1 => overlay_at i h 0 _ _ f b s j (fun t ht => ?_) fun h0 => hout ?_
  · have ht2 := t.isLt
    have e : ((1 : Fin 2) : ℕ) = 1 := rfl
    exact (tileOut_sub i h 1 y xk xv 2 3 rfl rfl t s j b ht ⟨2 + t.val, by omega⟩ (by show 4 * (i 0).val + (2 + t.val) = b.val; omega)).trans (hin _ (by show 4 * (i 0).val + (2 + t.val) = b.val; omega))
  · have ht2 := t.isLt
    have e : ((0 : Fin 2) : ℕ) = 0 := rfl
    exact (tileOut_sub i h 0 y xk xv 0 1 rfl rfl t s j b ht ⟨t.val, by omega⟩ (by show 4 * (i 0).val + t.val = b.val; omega)).trans (hin _ (by show 4 * (i 0).val + t.val = b.val; omega))
  · have e : ((1 : Fin 2) : ℕ) = 1 := rfl
    have e : ((0 : Fin 2) : ℕ) = 0 := rfl
    omega

/-- What the last step leaves at an element. -/
theorem lastFrom_at (y : Vec Ideal S128x4x1024 .f32) (x : Vec Ideal S512x1024 .f32) (wo : Vec Ideal S1024x1024 .bf16) (g : Vec Ideal S1x1024 .f32)
    (wu : Vec Ideal S1024x4096 .bf16) (wd : Vec Ideal S4096x1024 .bf16) (gf : Vec Ideal S1x1024 .f32) (b : Fin 128) (s : Fin 4) (j : Fin 1024)
    (r : Fin 512) (hr : b.val * 4 + s.val = r.val) : lastFrom (F := Ideal) y x wo g wu wd gf (ix3 b s j)
      = mlpRow (fun n => x (ix2 r n) + ∑ k : Fin 1024, y (ix3 b s k) * wo (ix2 k n)) (fun k => g (ix2 0 k)) (fun k t => wu (ix2 k t))
          (fun t j => wd (ix2 t j)) (fun k => gf (ix2 0 k)) j := by
  have hs := s.isLt
  have e (z : FVec Ideal S512x1024 .f32) : shapeCast S128x4x1024 z shapeCasts_S512x1024_S128x4x1024 (ix3 b s j) = z (ix2 r j) := by
    pointwise
    simp only [hr]
  have eh (n : Fin 1024) : addf (F := Ideal) (φ := .f32) x (matmul (φ₂ := .bf16) dot_S512x1024_S1024x1024_S512x1024_1_0_0_1_n_n none
      (truncf .bf16 (shapeCast S512x1024 y shapeCasts_S128x4x1024_S512x1024) bitsLt_bf16_f32) wo (constant S512x1024 .f32 0x00000000#32)) (ix2 r n)
      = x (ix2 r n) + ∑ k : Fin 1024, y (ix3 b s k) * wo (ix2 k n) := by
    have e0 : (⟨r.val / 4, by omega⟩ : Fin 128) = b := Fin.ext (by show r.val / 4 = b.val; omega)
    have e1 : (⟨r.val % 4, by omega⟩ : Fin 4) = s := Fin.ext (by show r.val % 4 = s.val; omega)
    pointwise
    simp only [e0, e1]
  unfold lastFrom
  rw [shapeCast_self, shapeCast_self, shapeCast_self, e]
  refine (layer_at _ g wu wd gf r j).trans ?_
  simp only [eh]

/-! ## The memories' blocks -/

/-- The host's layout of a memory at an element. -/
theorem planes_at (x : Vec Ideal S1x128x256x4x256 .f32) (b : Fin 128) (k : Fin 256) (h : Fin 4) (p : Fin 2) (l : Fin 128) (r : Fin 2048) (d : Fin 256)
    (hr : 8 * k.val + 4 * p.val + h.val = r.val) (hd : 128 * p.val + l.val = d.val) : planes (F := Ideal) x (ix3 b r l) = x (ix5 0 b k h d) := by
  have hp := p.isLt
  have hh := h.isLt
  have hl := l.isLt
  have e0 : (⟨r.val / 8, by omega⟩ : Fin 256) = k := Fin.ext (by show r.val / 8 = k.val; omega)
  have e1 : (⟨r.val % 4, by omega⟩ : Fin 4) = h := Fin.ext (by show r.val % 4 = h.val; omega)
  have e2 : (⟨r.val / 4 % 2 * 128 + l.val, by omega⟩ : Fin 256) = d := Fin.ext (by show r.val / 4 % 2 * 128 + l.val = d.val; omega)
  unfold planes
  pointwise
  simp only [e0, e1, e2]

/-- A memory's token as a row of 1024: the four heads side by side. -/
def cacheRow (x : Vec Ideal S1x128x256x4x256 .f32) (b : Fin 128) (k : Fin 256) (j : Fin 1024) : EReal :=
  x (ix5 0 b k ⟨j.val / 256, by omega⟩ ⟨j.val % 256, by omega⟩)

variable (m : (ℓ : Loc nD τ sig) → Buf (Elt Ideal) ℓ) (c : Dev nD)

/-- The keys a step sees at an element; -/
theorem blk5_at (t : Fin cfg0.N) (a : Fin 4) (b : Fin 128) (hb : 4 * min t.val 31 + a.val = b.val) :
    memRow (iblk m c 5 t) a = cacheRow (m ((c : Thread nD τ).loc main_arg5)) b := by
  funext k j
  have hj := j.isLt
  have e : ((cfg0.win 5).blk t).view.emb (ix3 a (⟨8 * k.val + 4 * (j.val / 128 % 2) + j.val / 256, by omega⟩ : Fin 2048) (⟨j.val % 128, by omega⟩ : Fin 128))
      = ix3 b (⟨8 * k.val + 4 * (j.val / 128 % 2) + j.val / 256, by omega⟩ : Fin 2048) (⟨j.val % 128, by omega⟩ : Fin 128) := by
    blk_ext [index5]
  have h : memRow (iblk m c 5 t) a k j = V m c main_v11 (((cfg0.win 5).blk t).view.emb
    (ix3 a (⟨8 * k.val + 4 * (j.val / 128 % 2) + j.val / 256, by omega⟩ : Fin 2048) (⟨j.val % 128, by omega⟩ : Fin 128))) := rfl
  rw [h, e, V_v11]
  exact planes_at _ b k _ ⟨j.val / 128 % 2, by omega⟩ _ _ _ (by show 8 * k.val + 4 * (j.val / 128 % 2) + j.val / 256 = _; rfl)
    (by show 128 * (j.val / 128 % 2) + j.val % 128 = j.val % 256; omega)
/-- and the values. -/
theorem blk6_at (t : Fin cfg0.N) (a : Fin 4) (b : Fin 128) (hb : 4 * min t.val 31 + a.val = b.val) :
    memRow (iblk m c 6 t) a = cacheRow (m ((c : Thread nD τ).loc main_arg6)) b := by
  funext k j
  have hj := j.isLt
  have e : ((cfg0.win 6).blk t).view.emb (ix3 a (⟨8 * k.val + 4 * (j.val / 128 % 2) + j.val / 256, by omega⟩ : Fin 2048) (⟨j.val % 128, by omega⟩ : Fin 128))
      = ix3 b (⟨8 * k.val + 4 * (j.val / 128 % 2) + j.val / 256, by omega⟩ : Fin 2048) (⟨j.val % 128, by omega⟩ : Fin 128) := by
    blk_ext [index6]
  have h : memRow (iblk m c 6 t) a k j = V m c main_v15 (((cfg0.win 6).blk t).view.emb
    (ix3 a (⟨8 * k.val + 4 * (j.val / 128 % 2) + j.val / 256, by omega⟩ : Fin 2048) (⟨j.val % 128, by omega⟩ : Fin 128))) := rfl
  rw [h, e, V_v15]
  exact planes_at _ b k _ ⟨j.val / 128 % 2, by omega⟩ _ _ _ (by show 8 * k.val + 4 * (j.val / 128 % 2) + j.val / 256 = _; rfl)
    (by show 128 * (j.val / 128 % 2) + j.val % 128 = j.val % 256; omega)

/-! ## The steps -/

/-- A query row: the scaled projection of the norm. -/
def queryRow (x : Vec Ideal S128x4x1024 .f32) (g : Vec Ideal S1x1024 .f32) (w : Vec Ideal S1x1024x1024 .f32) (b : Fin 128) (s : Fin 4)
    (n : Fin 1024) : EReal :=
  (∑ k : Fin 1024, normRow (fun l => x (ix3 b s l)) (fun l => g (ix2 0 l)) k * w (ix3 0 k n)) * Ideal.ofBits .f32 0x3D800000#32

/-- The first step's queries are the rows'. -/
theorem queries_blk (t : Fin cfg0.N) (b : Fin 128) (s : Fin 4) (n : Fin 1024) :
    queries (F := Ideal) (iblk m c 1 t) (iblk m c 2 t) (iblk m c 3 t) (ix3 b s n)
      = queryRow (m ((c : Thread nD τ).loc main_arg1)) (m ((c : Thread nD τ).loc main_arg2)) (m ((c : Thread nD τ).loc main_arg3)) b s n := by
  have hs := s.isLt
  have hb := b.isLt
  have e0 : (⟨(b.val * 4 + s.val) / 4, by omega⟩ : Fin 128) = b := Fin.ext (by show (b.val * 4 + s.val) / 4 = b.val; omega)
  have e1 : (⟨(b.val * 4 + s.val) % 4, by omega⟩ : Fin 4) = s := Fin.ext (by show (b.val * 4 + s.val) % 4 = s.val; omega)
  refine (queries_at (iblk m c 1 t) (iblk m c 2 t) (iblk m c 3 t) b s n ⟨b.val * 4 + s.val, by omega⟩ rfl).trans ?_
  unfold queryRow
  simp only [blk1_at, blk2_at, blk3_at, e0, e1]

/-- The attention's output of a batch's row. -/
def heard (b : Fin 128) (s : Fin 4) (j : Fin 1024) : EReal :=
  attRow (queryRow (m ((c : Thread nD τ).loc main_arg1)) (m ((c : Thread nD τ).loc main_arg2)) (m ((c : Thread nD τ).loc main_arg3)) b s)
    (cacheRow (m ((c : Thread nD τ).loc main_arg5)) b) (cacheRow (m ((c : Thread nD τ).loc main_arg6)) b) j

theorem coord : ∀ t : Fin cfg0.N, (cfg0.grid.coords t 0).val = t.val := (by decide +kernel : ∀ t : Fin grid0.N, _)

/-- A step over a block whose own batches still hold their queries. -/
theorem step_blk (n : ℕ) (hn : n < cfg0.N) (hl : n < 32) (hc : k0_cond2 (cfg0.grid.coords ⟨n, hn⟩) = 1#1) (y : Vec Ideal S128x4x1024 .f32)
    (hy : ∀ (b : Fin 128) (s : Fin 4) (j : Fin 1024), y (ix3 b s j) = if b.val < 4 * n then heard m c b s j else
      queryRow (m ((c : Thread nD τ).loc main_arg1)) (m ((c : Thread nD τ).loc main_arg2)) (m ((c : Thread nD τ).loc main_arg3)) b s j)
    (b : Fin 128) (s : Fin 4) (j : Fin 1024) :
    stepFrom (F := Ideal) (cfg0.grid.coords ⟨n, hn⟩) hc y (iblk m c 5 ⟨n, hn⟩) (iblk m c 6 ⟨n, hn⟩) (ix3 b s j)
      = if b.val < 4 * (n + 1) then heard m c b s j else
        queryRow (m ((c : Thread nD τ).loc main_arg1)) (m ((c : Thread nD τ).loc main_arg2)) (m ((c : Thread nD τ).loc main_arg3)) b s j := by
  have hi : (cfg0.grid.coords ⟨n, hn⟩ 0).val = n := coord ⟨n, hn⟩
  refine stepFrom_at _ hc y (iblk m c 5 ⟨n, hn⟩) (iblk m c 6 ⟨n, hn⟩) _ b s j (fun a ha => ?_) fun hout => ?_
  · rw [hi] at ha
    have ha4 := a.isLt
    have hm : 4 * min (⟨n, hn⟩ : Fin cfg0.N).val 31 + a.val = b.val := by
      show 4 * min n 31 + a.val = b.val
      omega
    rw [if_pos (by omega), blk5_at m c ⟨n, hn⟩ a b hm, blk6_at m c ⟨n, hn⟩ a b hm]
    unfold heard
    congr 1
    funext k
    rw [hy, if_neg (by omega)]
  · rw [hi] at hout
    rw [hy]
    by_cases h : b.val < 4 * n
    · rw [if_pos h, if_pos (by omega)]
    · rw [if_neg h, if_neg (by omega)]

/-- After step `n` below 32 the batches up to `4 n + 3` hold their attention's output, the others their queries. -/
theorem sampleAt_at : ∀ (n : ℕ) (hn : n < cfg0.N) (_ : n < 32) (b : Fin 128) (s : Fin 4) (j : Fin 1024),
    sampleAt (F := Ideal) m c n hn (ix3 b s j) = if b.val < 4 * (n + 1) then heard m c b s j else
      queryRow (m ((c : Thread nD τ).loc main_arg1)) (m ((c : Thread nD τ).loc main_arg2)) (m ((c : Thread nD τ).loc main_arg3)) b s j
  | 0, hn, hl, b, s, j => by
    have hc : k0_cond2 (cfg0.grid.coords ⟨0, hn⟩) = 1#1 := (cond2_iff _).2 hl
    rw [show sampleAt m c 0 hn = _ from dif_pos hc]
    exact step_blk m c 0 hn hl hc _ (fun b s j => by rw [if_neg (by omega)]; exact queries_blk m c ⟨0, hn⟩ b s j) b s j
  | n + 1, hn, hl, b, s, j => by
    have hc : k0_cond2 (cfg0.grid.coords ⟨n + 1, hn⟩) = 1#1 := (cond2_iff _).2 hl
    rw [show sampleAt m c (n + 1) hn = _ from dif_pos hc]
    exact step_blk m c (n + 1) hn hl hc _ (sampleAt_at n (Nat.lt_of_succ_lt hn) (by omega)) b s j

/-! ## The sample's result -/

/-- The sample's result: each row plus the projection of what it heard, through the layer. -/
def sampleRes (x : Vec Ideal S128x4x1024 .f32) (gx : Vec Ideal S1x1024 .f32) (wq wo : Vec Ideal S1x1024x1024 .f32)
    (ck cv : Vec Ideal S1x128x256x4x256 .f32) (g : Vec Ideal S1x1024 .f32) (wu : Vec Ideal S1x1024x4096 .f32) (wd : Vec Ideal S1x4096x1024 .f32)
    (gf : Vec Ideal S1024 .f32) (b : Fin 128) (s : Fin 4) (j : Fin 1024) : EReal :=
  mlpRow (fun n => x (ix3 b s n) + ∑ k : Fin 1024, attRow (queryRow x gx wq b s) (cacheRow ck b) (cacheRow cv b) k * wo (ix3 0 k n))
    (fun k => g (ix2 0 k)) (fun k t => wu (ix3 0 k t)) (fun t j => wd (ix3 0 t j)) (fun k => gf (ix1 k)) j

/-- What the last step leaves in the sample's block. -/
theorem last_at (n : ℕ) (hn : n + 1 < cfg0.N) (h31 : n = 31) (b : Fin 128) (s : Fin 4) (j : Fin 1024) :
    sampleAt (F := Ideal) m c (n + 1) hn (ix3 b s j) = sampleRes (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) b s j := by
  have hs := s.isLt
  have hb := b.isLt
  have hc : ¬ k0_cond2 (cfg0.grid.coords ⟨n + 1, hn⟩) = 1#1 := fun h => by
    have h2 : n + 1 < 32 := (cond2_iff _).1 h
    omega
  have e0 : (⟨(b.val * 4 + s.val) / 4, by omega⟩ : Fin 128) = b := Fin.ext (by show (b.val * 4 + s.val) / 4 = b.val; omega)
  have e1 : (⟨(b.val * 4 + s.val) % 4, by omega⟩ : Fin 4) = s := Fin.ext (by show (b.val * 4 + s.val) % 4 = s.val; omega)
  have ho (k : Fin 1024) : sampleAt (F := Ideal) m c n (Nat.lt_of_succ_lt hn) (ix3 b s k) = heard m c b s k := by
    rw [sampleAt_at m c n _ (by omega) b s k, if_pos (by omega)]
  rw [show sampleAt m c (n + 1) hn = _ from dif_neg hc]
  refine (lastFrom_at _ (iblk m c 1 ⟨n + 1, hn⟩) (iblk m c 4 ⟨n + 1, hn⟩) (iblk m c 7 ⟨n + 1, hn⟩) (iblk m c 8 ⟨n + 1, hn⟩)
    (iblk m c 9 ⟨n + 1, hn⟩) (iblk m c 10 ⟨n + 1, hn⟩) b s j ⟨b.val * 4 + s.val, by omega⟩ rfl).trans ?_
  unfold sampleRes
  simp only [ho, blk1_at, blk4_at, blk7_at, blk8_at, blk9_at, blk10_at, e0, e1]
  rfl

/-- The last step writes the sample's block back whole. -/
theorem sample_end : (dats m 0 c).arrAt 12 cfg0.N = (fun y : S128x4x1024.Idx => sampleRes (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (y 0) (y 1) (y 2)) := by
  refine (dats m 0 c).arrAt_eq_of_covers 12 _ (by decide +kernel) fun t hf y => ?_
  have e : ((cfg0.win 12).blk t).view.emb y = ix3 (y 0) (y 1) (y 2) := by
    blk_ext [index12]
  have ey : y = ix3 (y 0) (y 1) (y 2) := by
    funext a
    match a with
    | ⟨0, _⟩ => rfl
    | ⟨1, _⟩ => rfl
    | ⟨2, _⟩ => rfl
  rw [e, after0_12]
  obtain ⟨n, hn⟩ := t
  have hn33 : n < 33 := hn
  have h32 : n % 33 = 32 := (flush0_12 ⟨n, hn⟩).1 hf
  obtain _ | n := n
  · omega
  · exact (congrArg (sampleAt (F := Ideal) m c (n + 1) hn) ey).trans (last_at m c n hn (by omega) (y 0) (y 1) (y 2))

end Cert.Proof.Mlp
-- ==== Proof.MlpSoft.lean ====
/-
  Where the scores are real, the kernel's weights are the exponentials over their sum.

  A row of real scores has a greatest one, whose exponential is one, so the sum is not zero and the product with its reciprocal is
  the quotient. The scores are real where the gain, the query projection and the keys are: the norm of a row with an infinite
  entry is zero.
-/
module

public import proofs.«01_k».proof.Proof.MlpSample
public import Idealize.ShloMosaic.Lib.IdealHost

@[expose] public section

noncomputable section

namespace Cert.Proof.Mlp

open Idealize.ShloMosaic

/-! ## Real values -/

/-- A value that is a real number. -/
def Re (x : EReal) : Prop := ∃ r : ℝ, x = r

theorem Re.mul {x y : EReal} : Re x → Re y → Re (x * y)
  | ⟨a, ha⟩, ⟨b, hb⟩ => ⟨a * b, by rw [ha, hb, EReal.coe_mul]⟩
theorem Re.add {x y : EReal} : Re x → Re y → Re (x + y)
  | ⟨a, ha⟩, ⟨b, hb⟩ => ⟨a + b, by rw [ha, hb, EReal.coe_add]⟩
theorem Re.sum {ι : Type} (s : Finset ι) (f : ι → EReal) (h : ∀ i, Re (f i)) : Re (∑ i ∈ s, f i) :=
  Finset.sum_induction f Re (fun _ _ => Re.add) ⟨0, rfl⟩ fun i _ => h i
theorem sq_nonneg (x : EReal) : 0 ≤ x * x := by
  induction x using EReal.rec with
  | bot => simp
  | coe r =>
    rw [← EReal.coe_mul]
    exact EReal.coe_nonneg.2 (mul_self_nonneg r)
  | top => simp
theorem re_or_sq_top (x : EReal) : Re x ∨ x * x = ⊤ := by
  induction x using EReal.rec with
  | bot => exact .inr (by simp)
  | coe r => exact .inl ⟨r, rfl⟩
  | top => exact .inr (by simp)

/-- A value whose magnitude is below infinity is real. -/
theorem re_of_abs {x : EReal} (h : max x (-x) < ⊤) : Re x := by
  induction x using EReal.rec with
  | bot => exact absurd h (by simp)
  | coe r => exact ⟨r, rfl⟩
  | top => exact absurd h (by simp)

theorem width_eq : Ideal.ofBits .f32 0x44800000#32 = ((1024 : ℝ) : EReal) := by
  simp [Ideal.ofBits, Ideal.ieee, -EReal.coe_mul]; norm_num
theorem eps_pos : ∃ e : ℝ, 0 < e ∧ Ideal.ofBits .f32 0x358637BD#32 = (e : EReal) :=
  ⟨8796093 * (2 : ℝ) ^ (-43 : ℤ), by positivity, by simp [Ideal.ofBits, Ideal.ieee, -EReal.coe_mul]⟩
theorem scale_nonneg : ∃ e : ℝ, 0 ≤ e ∧ Ideal.ofBits .f32 0x3D800000#32 = (e : EReal) :=
  ⟨1 / 16, by norm_num, by simp [Ideal.ofBits, Ideal.ieee, -EReal.coe_mul]; norm_num⟩

theorem Re.rsqrt {x : EReal} (h : Re x) (h0 : 0 < x) : Re (Ideal.rsqrt x) := by
  obtain ⟨r, rfl⟩ := h
  have hr : 0 < r := EReal.coe_pos.1 h0
  refine ⟨(Real.sqrt r)⁻¹, ?_⟩
  show (if r < 0 then ⊥ else if r = 0 then ⊤ else (((Real.sqrt r)⁻¹ : ℝ) : EReal)) = _
  rw [if_neg (not_lt.2 hr.le), if_neg hr.ne']

/-- The norm of a row is real: an infinite entry makes the mean of the squares infinite, and the reciprocal of its root zero. -/
theorem normRow_re (x g : Fin 1024 → EReal) (hg : ∀ k, Re (g k)) (k : Fin 1024) : Re (normRow x g k) := by
  obtain ⟨e, he, hee⟩ := eps_pos
  by_cases hx : ∀ l, Re (x l)
  · obtain ⟨r, hr⟩ := Re.sum Finset.univ (fun l => x l * x l) fun l => (hx l).mul (hx l)
    have h0 : 0 ≤ r := by
      have : (0 : EReal) ≤ (r : EReal) := hr ▸ Finset.sum_nonneg fun l _ => sq_nonneg (x l)
      exact EReal.coe_nonneg.1 this
    have hd : Ideal.div (∑ l : Fin 1024, x l * x l) (Ideal.ofBits .f32 0x44800000#32) + Ideal.ofBits .f32 0x358637BD#32
        = ((r * (1 / 1024) + e : ℝ) : EReal) := by
      rw [hr, width_eq, Ideal.div_coe (by norm_num), hee, ← EReal.coe_mul, ← EReal.coe_add]
    have hp : (0 : ℝ) < r * (1 / 1024) + e := by positivity
    unfold normRow
    rw [hd]
    exact ((hx k).mul (Re.rsqrt ⟨_, rfl⟩ (EReal.coe_pos.2 hp))).mul (hg k)
  · obtain ⟨l, hl⟩ := not_forall.1 hx
    have hs : ∑ l : Fin 1024, x l * x l = ⊤ := top_le_iff.1 (((re_or_sq_top (x l)).resolve_left hl).symm.le.trans
      (Finset.single_le_sum (f := fun l => x l * x l) (fun i _ => sq_nonneg (x i)) (Finset.mem_univ l)))
    have hd : Ideal.div (⊤ : EReal) ((1024 : ℝ) : EReal) = ⊤ := by
      rw [Ideal.div_coe (by norm_num)]
      exact EReal.top_mul_coe_of_pos (by norm_num)
    unfold normRow
    rw [hs, width_eq, hd, hee, EReal.top_add_coe, Ideal.rsqrt_top, mul_zero, zero_mul]
    exact ⟨0, rfl⟩

/-! ## The weights -/

/-- Real scores have a greatest one, and its exponential is one. -/
theorem ex_sum_ne_zero (s : Fin 256 → EReal) (hs : ∀ k, Re (s k)) : ∑ l : Fin 256, ex s l ≠ 0 := by
  have hle (k : Fin 256) : s k ≤ top s := (Finset.le_fold_max _).2 (.inr ⟨k, Finset.mem_univ _, le_rfl⟩)
  have hinf : Ideal.ofBits .f32 0xFF800000#32 = (⊥ : EReal) := by simp [Ideal.ofBits, Ideal.ieee]
  obtain ⟨k, hk⟩ : ∃ k, top s ≤ s k := by
    rcases (Finset.le_fold_max (top s)).1 le_rfl with h | ⟨k, -, h⟩
    · rw [hinf] at h
      exact ⟨0, h.trans bot_le⟩
    · exact ⟨k, h⟩
  obtain ⟨r, hr⟩ := hs k
  have e1 : ex s k = 1 := by
    have ht : top s = r := (le_antisymm hk (hle k)).trans hr
    unfold ex
    rw [ht, hr, ← EReal.coe_sub, sub_self]
    show ((Real.exp 0 : ℝ) : EReal) = 1
    rw [Real.exp_zero]
    rfl
  have hpos (l : Fin 256) : 0 ≤ ex s l := by
    unfold ex
    generalize s l - top s = x
    induction x using EReal.rec with
    | bot => exact le_rfl
    | coe r => exact EReal.coe_nonneg.2 (Real.exp_pos r).le
    | top => exact le_top
  intro h
  have h1 : ex s k ≤ ∑ l : Fin 256, ex s l := Finset.single_le_sum (fun l _ => hpos l) (Finset.mem_univ k)
  rw [h, e1] at h1
  exact absurd h1 (by simp)

/-- So the weights are quotients. -/
theorem wgt_eq (s : Fin 256 → EReal) (hs : ∀ k, Re (s k)) (k : Fin 256) : wgt s k = Ideal.div (ex s k) (∑ l : Fin 256, ex s l) :=
  Ideal.mul_one_div (ex_sum_ne_zero s hs)

/-- A factor that is real and not negative comes out of a sum. -/
theorem sum_scale {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, mul_comm _ (c : EReal), mul_comm _ (c : EReal), mul_comm _ (c : EReal),
      EReal.left_distrib_of_nonneg_of_ne_top (EReal.coe_nonneg.2 hc) (EReal.coe_ne_top c)]

/-! ## The scores -/

/-- The scaled queries' scores are the scaled scores of the queries. -/
theorem score_scale (p : Fin 1024 → EReal) (K : Fin 256 → Fin 1024 → EReal) (h : Fin 4) (k : Fin 256) :
    score (fun n => p n * Ideal.ofBits .f32 0x3D800000#32) K h k = score p K h k * Ideal.ofBits .f32 0x3D800000#32 := by
  obtain ⟨c, hc, hcc⟩ := scale_nonneg
  unfold score
  rw [hcc, ← sum_scale _ _ c hc]
  exact Finset.sum_congr rfl fun d _ => mul_right_comm _ _ _

theorem score_re (q : Fin 1024 → EReal) (K : Fin 256 → Fin 1024 → EReal) (hq : ∀ n, Re (q n)) (hK : ∀ k n, Re (K k n)) (h : Fin 4) (k : Fin 256) :
    Re (score q K h k) := Re.sum _ _ fun d => (hq _).mul (hK _ _)

open Cert.Kernel2Ideal in
theorem queryRow_re (x : Vec Ideal S128x4x1024 .f32) (g : Vec Ideal S1x1024 .f32) (w : Vec Ideal S1x1024x1024 .f32)
    (hg : ∀ i, Re (g i)) (hw : ∀ i, Re (w i)) (b : Fin 128) (s : Fin 4) (n : Fin 1024) : Re (queryRow x g w b s n) := by
  obtain ⟨c, -, hcc⟩ := scale_nonneg
  exact (Re.sum _ _ fun k => (normRow_re _ _ (fun l => hg _) k).mul (hw _)).mul ⟨c, hcc⟩

end Cert.Proof.Mlp
-- ==== Proof.MlpRefAttn.lean ====
/-
  The reference's attention at the ideal instance, element by element, and the sample's result.
-/
module

public import proofs.«01_k».proof.Proof.MlpRef
public import proofs.«01_k».proof.Proof.MlpSoft

@[expose] public section

noncomputable section

namespace Cert.Proof.MlpRef

open Cert.Reference2Ideal Cert.Reference2Ideal.Gen
open Idealize.ShloMosaic Idealize.ShloMosaic.TcCoe
open Cert.Proof.Mlp (normRow mlpRow top ex wgt col score attRow cacheRow queryRow sampleRes Re wgt_eq score_scale score_re queryRow_re)

/-- The scaled scores of the projected rows. -/
abbrev attScores (y : FVec Ideal S128x4x1024 .f32) (wq : FVec Ideal S1x1024x1024 .f32) (ck : FVec Ideal S1x128x256x4x256 .f32) :
    FVec Ideal S128x4x4x256 .f32 :=
  mulf (Host.dotGeneral dot_S128x4x4x256_S128x256x4x256_S128x4x4x256_3_3_1_1_02_02 none
    (shapeCast _ (Host.dotGeneral dot_S128x4x1024_S1024x1024_S128x4x1024_2_0_01_1_n_n none y (shapeCast _ wq shapeCasts_S1x1024x1024_S1024x1024))
      shapeCasts_S128x4x1024_S128x4x4x256) (shapeCast _ ck shapeCasts_S1x128x256x4x256_S128x256x4x256))
    (broadcastInDim S128x4x4x256 ![] bcast_S_S128x4x4x256 (constant S_ .f32 0x3D800000#32))

/-- The exponentials of the scores less each row's greatest. -/
abbrev attExp (s : FVec Ideal S128x4x4x256 .f32) : FVec Ideal S128x4x4x256 .f32 :=
  Host.exp (subf s (broadcastInDim S128x4x4x256 ![0, 1, 2, 3] bcast_S128x4x4x1_S128x4x4x256_0_1_2_3
    (broadcastInDim S128x4x4x1 ![0, 1, 2] bcast_S128x4x4_S128x4x4x1_0_1_2
      (maximumf (broadcastInDim S128x4x4 ![] bcast_S_S128x4x4 (constant S_ .f32 0xFF800000#32))
        (Host.reduce FloatOps.maximumf s (constant S_ .f32 0xFF800000#32) reducesTo_S128x4x4x256_S128x4x4_d3 h_S_)))))

/-- The rows plus the projected sums of the values, weighted by the exponentials over their sum. -/
abbrev attSum (x : FVec Ideal S128x4x1024 .f32) (e : FVec Ideal S128x4x4x256 .f32) (cv : FVec Ideal S1x128x256x4x256 .f32)
    (wo : FVec Ideal S1x1024x1024 .f32) : FVec Ideal S128x4x1024 .f32 :=
  addf x (Host.dotGeneral dot_S128x4x1024_S1024x1024_S128x4x1024_2_0_01_1_n_n none
    (shapeCast _ (transpose S128x4x4x256 [0, 3, 1, 2] (Host.dotGeneral dot_S128x256x4x256_S128x4x4x256_S128x4x256x4_1_3_3_2_02_01 none
      (shapeCast _ cv shapeCasts_S1x128x256x4x256_S128x256x4x256)
      (Host.divf e (broadcastInDim S128x4x4x256 ![0, 1, 2, 3] bcast_S128x4x4x1_S128x4x4x256_0_1_2_3
        (broadcastInDim S128x4x4x1 ![0, 1, 2] bcast_S128x4x4_S128x4x4x1_0_1_2
          (Host.reduceAdd e (constant S_ .f32 0x00000000#32) reducesTo_S128x4x4x256_S128x4x4_d3 h_S_)))))
      transposes_S128x4x256x4_S128x4x4x256_0_3_1_2) shapeCasts_S128x4x4x256_S128x4x1024)
    (shapeCast _ wo shapeCasts_S1x1024x1024_S1024x1024))

theorem attScores_at (y : FVec Ideal S128x4x1024 .f32) (wq : FVec Ideal S1x1024x1024 .f32) (ck : FVec Ideal S1x128x256x4x256 .f32)
    (b : Fin 128) (h s : Fin 4) (k : Fin 256) : attScores y wq ck (ix4 b h s k)
      = (∑ d : Fin 256, (∑ l : Fin 1024, y (ix3 b s l) * wq (ix3 0 l ⟨h.val * 256 + d.val, by omega⟩)) * ck (ix5 0 b k h d))
        * Ideal.ofBits .f32 0x3D800000#32 := by
  unfold attScores
  pointwise

theorem attExp_at (x : FVec Ideal S128x4x4x256 .f32) (b : Fin 128) (h s : Fin 4) (k : Fin 256) :
    attExp x (ix4 b h s k) = ex (fun k => x (ix4 b h s k)) k := by
  have e : attExp x (ix4 b h s k) = Ideal.exp (x (ix4 b h s k) - max (Ideal.ofBits .f32 0xFF800000#32) (top fun k => x (ix4 b h s k))) := by
    unfold attExp top
    pointwise
  have hinf : Ideal.ofBits .f32 0xFF800000#32 = (⊥ : EReal) := by simp [Ideal.ofBits, Ideal.ieee]
  rw [e, hinf, max_eq_right bot_le]
  rfl

theorem attSum_at (x : FVec Ideal S128x4x1024 .f32) (e : FVec Ideal S128x4x4x256 .f32) (cv : FVec Ideal S1x128x256x4x256 .f32)
    (wo : FVec Ideal S1x1024x1024 .f32) (b : Fin 128) (s : Fin 4) (n : Fin 1024) : attSum x e cv wo (ix3 b s n)
      = x (ix3 b s n) + ∑ j : Fin 1024, (∑ k : Fin 256, cv (ix5 0 b k ⟨j.val / 256, by omega⟩ ⟨j.val % 256, by omega⟩) *
          Ideal.div (e (ix4 b ⟨j.val / 256, by omega⟩ s k)) (∑ l : Fin 256, e (ix4 b ⟨j.val / 256, by omega⟩ s l))) * wo (ix3 0 j n) := by
  unfold attSum
  pointwise

/-- The scores are those of the scaled query rows. -/
theorem attScores_eq (x : FVec Ideal S128x4x1024 .f32) (gx : FVec Ideal S1x1024 .f32) (wq : FVec Ideal S1x1024x1024 .f32)
    (ck : FVec Ideal S1x128x256x4x256 .f32) (b : Fin 128) (h s : Fin 4) (k : Fin 256) :
    attScores (normSample x (shapeCast S1024 gx shapeCasts_S1x1024_S1024)) wq ck (ix4 b h s k) = score (queryRow x gx wq b s) (cacheRow ck b) h k := by
  have hg (k : Fin 1024) : shapeCast S1024 gx shapeCasts_S1x1024_S1024 (ix1 k) = gx (ix2 0 k) := by pointwise
  have hh := h.isLt
  refine (attScores_at _ wq ck b h s k).trans ?_
  refine Eq.trans ?_ (score_scale (fun n => ∑ l : Fin 1024, normRow (fun l => x (ix3 b s l)) (fun l => gx (ix2 0 l)) l * wq (ix3 0 l n))
    (cacheRow ck b) h k).symm
  simp only [normSample_at, hg]
  congr 1
  unfold score cacheRow
  refine Finset.sum_congr rfl fun d _ => ?_
  have e0 : (⟨h.val * 256 + d.val, by omega⟩ : Fin 1024) = col h d := Fin.ext (by show h.val * 256 + d.val = 256 * h.val + d.val; omega)
  have e1 : (⟨(col h d).val / 256, by omega⟩ : Fin 4) = h := Fin.ext (by show (256 * h.val + d.val) / 256 = h.val; omega)
  have e2 : (⟨(col h d).val % 256, by omega⟩ : Fin 256) = d := Fin.ext (by show (256 * h.val + d.val) % 256 = d.val; omega)
  rw [e0, e1, e2]

/-- The reference's rows after the attention, where the scores are real. -/
theorem heard_of (x : FVec Ideal S128x4x1024 .f32) (gx : FVec Ideal S1x1024 .f32) (wq wo : FVec Ideal S1x1024x1024 .f32)
    (ck cv : FVec Ideal S1x128x256x4x256 .f32) (hg : ∀ i, Re (gx i)) (hw : ∀ i, Re (wq i)) (hk : ∀ i, Re (ck i))
    (b : Fin 128) (s : Fin 4) (n : Fin 1024) :
    attSum x (attExp (attScores (normSample x (shapeCast S1024 gx shapeCasts_S1x1024_S1024)) wq ck)) cv wo (ix3 b s n)
      = x (ix3 b s n) + ∑ j : Fin 1024, attRow (queryRow x gx wq b s) (cacheRow ck b) (cacheRow cv b) j * wo (ix3 0 j n) := by
  refine (attSum_at x _ cv wo b s n).trans ?_
  congr 1
  refine Finset.sum_congr rfl fun j _ => ?_
  congr 1
  unfold attRow
  refine Finset.sum_congr rfl fun k _ => ?_
  have hq (k : Fin 256) : Re (score (queryRow x gx wq b s) (cacheRow ck b) ⟨j.val / 256, by omega⟩ k) :=
    score_re _ _ (fun n => queryRow_re x gx wq hg hw b s n) (fun k n => hk _) _ k
  rw [wgt_eq _ hq k, mul_comm]
  simp only [attExp_at, attScores_eq]
  rfl

section Of
variable {x x' : FVec Ideal S128x4x1024 .f32} {gx gx' : FVec Ideal S1x1024 .f32} {wq wq' wo wo' : FVec Ideal S1x1024x1024 .f32}
  {ck ck' cv cv' : FVec Ideal S1x128x256x4x256 .f32} {g g' : FVec Ideal S1x1024 .f32} {wu wu' : FVec Ideal S1x1024x4096 .f32}
  {wd wd' : FVec Ideal S1x4096x1024 .f32} {gf gf' : FVec Ideal S1024 .f32}

/-- The sample's result is the kernel's where the gain, the query projection and the keys are real. -/
theorem sample_of (hx : x' = x) (hgx : gx' = gx) (hq : wq' = wq) (ho : wo' = wo) (hk : ck' = ck) (hv : cv' = cv) (hg : g' = g) (hu : wu' = wu)
    (hd : wd' = wd) (hf : gf' = gf) (rg : ∀ i, Re (gx i)) (rw : ∀ i, Re (wq i)) (rk : ∀ i, Re (ck i))
    (j : S128x4x1024.Idx) :
    layerSample (attSum x' (attExp (attScores (normSample x' (shapeCast S1024 gx' shapeCasts_S1x1024_S1024)) wq' ck')) cv' wo') g' wu' wd' gf' j
      = sampleRes x gx wq wo ck cv g wu wd gf (j 0) (j 1) (j 2) := by
  subst hx hgx hq ho hk hv hg hu hd hf
  have ej : j = ix3 (j 0) (j 1) (j 2) := by
    funext a
    match a with
    | ⟨0, _⟩ => rfl
    | ⟨1, _⟩ => rfl
    | ⟨2, _⟩ => rfl
  refine (congrArg _ ej).trans ((layerSample_at _ g' wu' wd' gf' (j 0) (j 1) (j 2)).trans ?_)
  unfold sampleRes
  congr 1
  funext n
  exact heard_of x' gx' wq' wo' ck' cv' rg rw rk (j 0) (j 1) n
end Of

end Cert.Proof.MlpRef
-- ==== Proof.MlpClaims.lean ====
/-
  The claims of `mlp_xattn`: the frames, and the two results' equality at the ideal instance where the attention's gain, the
  query projection and the keys are finite.
-/
module

public import proofs.«01_k».proof.Proof.MlpRefAttn
public import proofs.«01_k».proof.Proof.Gen.Kernel2
public import proofs.«01_k».proof.Defs
public import Idealize.ShloMosaic.Adequacy
public import Idealize.ShloMosaic.Init

@[expose] public section

noncomputable section

namespace Cert.Proof.Mlp

open Idealize.ShloMosaic Idealize.ShloMosaic.TcCoe Idealize.SL.Sem
open Cert.Proof.MlpRef (prompt_of sample_of)

/-! ## The frames -/

theorem frame_kernelIdeal : Cert.quiescent_Kernel2Ideal := fun m ρ _ =>
  θ_run_with_sems (Cert.Kernel2Ideal.Gen.frame_of m ρ (dats m) fun _ _ => rfl) (run_main (F := Ideal) m ρ)
/-- The printed program's bodies are the ideal program's text, -/
theorem bodies_eq : Cert.Kernel2.defs₀ (F := Bits) = Cert.Kernel2Ideal.defs₀ (F := Bits) := by
  refine congrArg (Defs.onTc (nD := Cert.Kernel2.nD) (τ := Cert.Kernel2.τ) (sig := Cert.Kernel2.sig) (Λ := Cert.Kernel2.Λ₀))
    (funext fun l => funext fun a => ?_)
  match l, a with
  | 0, (t, s) => rfl
  | ⟨_ + 1, h⟩, _ => exact absurd h (Nat.not_lt.2 (Nat.le_add_left _ _))
/-- and so are its pipelines. -/
theorem defs_eq : Cert.Kernel2.defs (F := Bits) = Cert.Kernel2Ideal.defs (F := Bits) :=
  congrArg (Pipeline.defs (Cert.Kernel2.pcfgs (F := Bits))) bodies_eq
set_option maxHeartbeats 4000000 in
theorem frame_kernel : Cert.quiescent_Kernel2 := fun m ρ _ => by
  rw [defs_eq]
  exact (θ_run Cert.Kernel2Ideal.defs _ _).mono (fun _ h => h)
    (θ_run_with_sems (Cert.Kernel2Ideal.Gen.frame_of (F := Bits) m ρ (dats m) fun _ _ => rfl) (run_main (F := Bits) m ρ))
theorem frame_referenceIdeal : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-! ## The precondition -/

theorem finite_facts : Cert.Pre_finite.Facts where
  bcast_S_S1x1024 := by decide
  bcast_S_S1x1024x1024 := by decide
  bcast_S_S1x128x256x4x256 := by decide

instance : Cert.Pre_finite.Facts := finite_facts

/-- A value that the predicate's comparison admits is real. -/
theorem re_of_lt {x : EReal} (h : BitVec.ofBool (decide (max x (-x) < Ideal.ofBits .f32 0x7F800000#32)) = 1#1) : Re x := by
  have htop : Ideal.ofBits .f32 0x7F800000#32 = (⊤ : EReal) := by simp [Ideal.ofBits, Ideal.ieee]
  rw [htop] at h
  refine re_of_abs ?_
  by_contra hn
  rw [decide_eq_false hn] at h
  exact absurd h (by decide)

theorem frame_kernelIdeal_finite : Cert.quiescent_Kernel2Ideal_pre_finite := fun m ρ _ => frame_kernelIdeal m ρ trivial
theorem frame_referenceIdeal_finite : Cert.quiescent_Reference2Ideal_pre_finite := fun m ρ _ => frame_referenceIdeal m ρ trivial

/-! ## The values -/

section Run
open Cert.Kernel2Ideal Cert.Kernel2Ideal.Gen
variable (m : (ℓ : Loc nD τ sig) → Buf (Elt Ideal) ℓ) (ρ : Dev nD → PrngReg)

/-- The prompt's result on a device; -/
def outPrompt (c : Dev nD) : Vec Ideal S16384x1024 .f32 :=
  promptRes (m ((c : Thread nD τ).loc main_arg0)) (m ((c : Thread nD τ).loc main_arg7))
    (m ((c : Thread nD τ).loc main_arg8)) (m ((c : Thread nD τ).loc main_arg9)) (m ((c : Thread nD τ).loc main_arg10))
/-- and the sample's. -/
def outSample (c : Dev nD) : Vec Ideal S128x4x1024 .f32 := fun y =>
  sampleRes (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (y 0) (y 1) (y 2)

/-- The run ends with the two results in place. -/
theorem run_outs : θ_run defs (onTc (τ := τ) (main (F := Ideal))) ⟨m, fun _ => 0, ρ⟩ (fun r => ∀ c : Dev nD,
    r.2.mem ((c.tc : Thread nD τ).loc main_v23_0) = outPrompt m c ∧ r.2.mem ((c.tc : Thread nD τ).loc main_v23_1) = outSample m c) :=
  (θ_run defs _ _).mono (fun _ h c => ⟨((h.1 c).1 11).trans (prompt_end m c), ((h.1 c).1 12).trans (sample_end m c)⟩) (run_main m ρ)
end Run

theorem algebraic : Cert.algebraic_Kernel2Ideal_Reference2Ideal_pre_finite := fun m g m' g' hpre hm => by
  refine ⟨outPrompt m, outSample m, ?_, ?_⟩
  · have h₁ := run_outs m g
    have h₂ := frame_kernelIdeal m g trivial
    exact ⟨fun t ht hf c => ⟨(h₁.post t ht hf c).1, (h₁.post t ht hf c).2, (h₂.post t ht hf).1 c⟩, h₁.progress, h₁.fair⟩
  · refine (θ_run Cert.Reference2Ideal.defs _ _).mono (fun r h c => ?_) (Cert.Reference2Ideal.Value.run (F := Ideal) m' g')
    obtain ⟨e0, e1, e2, e3, e4, e5, e6, e7, e8, e9, e10⟩ := hm c
    obtain ⟨p2, p3, p5⟩ := hpre c
    obtain ⟨r0, r1, rest⟩ := h c
    refine ⟨r0.trans (funext fun j => ?_), r1.trans (funext fun j => ?_), rest⟩
    · exact prompt_of e0 e7 e8 e9 e10 j
    · exact sample_of e1 e2 e3 e4 e5 e6 e7 e8 e9 e10 (fun i => re_of_lt (congrFun p2 i))
        (fun i => re_of_lt (congrFun p3 i)) (fun i => re_of_lt (congrFun p5 i)) j

end Cert.Proof.Mlp

end
-- ==== Proof.XattnPieces.lean ====
/-
  What one batch's step of `prompt_xattn` leaves in its block.

  A step takes the 2048 rows of a batch in four chunks of 512. A chunk's normalised rows give the scaled queries, and each of the
  four heads leaves a tile of 512 rows by 256 columns in the scratch; the rows plus the projected scratch rows are the chunk's
  result. The chunks' stages interleave, so that a chunk reads its rows back after tiles of other chunks have been written.
-/
module

public import proofs.«01_k».proof.Proof.Gen.Kernel3Ideal.Frame
public import proofs.«01_k».proof.Proof.MlpSoft
public import Idealize.ShloMosaic.Lib.Pointwise

@[expose] public section

noncomputable section

namespace Cert.Proof.Xattn

open Cert.Kernel3Ideal Cert.Kernel3Ideal.Gen
open Idealize.ShloMosaic Idealize.ShloMosaic.TcCoe
open Cert.Proof.Mlp (sub sub_full)

variable {F : FTy → Type} [FloatOps F]

/-! ## The pieces -/

/-- The rows of chunk `r` in a batch's block. -/
abbrev rowsRect (r : Fin 4) : Rect S1x2048x1024 :=
  Rect.unit (s := S1x2048x1024) ![0, 512 * r.val, 0] S1x512x1024.size (by
    have := r.isLt; intro a; fin_cases a
    · exact Nat.le_refl 1
    · show 512 * r.val + 512 ≤ 2048; omega
    · exact Nat.le_refl 1024)

/-- Head `h`'s columns of a batch's memory. -/
abbrev headRect (h : Fin 4) : LoadRect S1x256x1024 :=
  (Rect.unit (s := S1x256x1024) ![0, 0, 256 * h.val] S1x256x256.size (by
    have := h.isLt; intro a; fin_cases a
    · exact Nat.le_refl 1
    · exact Nat.le_refl 256
    · show 256 * h.val + 256 ≤ 1024; omega)).toLoadRect

/-- The tile of chunk `r` and head `h` in the scratch. -/
abbrev tileRect (r h : Fin 4) : Rect S2048x1024 :=
  Rect.unit (s := S2048x1024) ![512 * r.val, 256 * h.val] S512x256.size (by
    have := r.isLt; have := h.isLt; intro a; fin_cases a
    · show 512 * r.val + 512 ≤ 2048; omega
    · show 256 * h.val + 256 ≤ 1024; omega)

/-- The rows of chunk `r` in the scratch. -/
abbrev heldRect (r : Fin 4) : LoadRect S2048x1024 :=
  (Rect.unit (s := S2048x1024) ![512 * r.val, 0] S512x1024.size (by
    have := r.isLt; intro a; fin_cases a
    · show 512 * r.val + 512 ≤ 2048; omega
    · exact Nat.le_refl 1024)).toLoadRect

theorem slices_head (h : Fin 4) : S512x1024.Slices ![0, 256 * h.val] S512x256 := by
  revert h; decide

/-- A chunk's scaled queries. -/
def query (x : Vec F S1x512x1024 .f32) (g : Vec F S1x1024 .f32) (w : Vec F S1024x1024 .bf16) : FVec F S512x1024 .bf16 := k0_pay4 x g w

/-- The exponentials of a head's scores less each row's maximum. -/
def expo (q : FVec F S512x256 .bf16) (k : Vec F S1x256x256 .bf16) : FVec F S512x256 .f32 := k0_pay14 q k

/-- A head's weighted sums of the values. -/
def headOut (q : FVec F S512x256 .bf16) (k v : Vec F S1x256x256 .bf16) : FVec F S512x256 .bf16 := k0_pay7 (expo q k) v

/-- The tile of chunk `r` and head `h`. -/
def tile (x : Vec F S1x2048x1024 .f32) (g : Vec F S1x1024 .f32) (w : Vec F S1024x1024 .bf16) (K V : Vec F S1x256x1024 .bf16)
    (r h : Fin 4) : FVec F S512x256 .bf16 :=
  headOut (extractStridedSlice S512x256 ![0, 256 * h.val] (query (sub x (rowsRect r).toLoadRect) g w) (slices_head h))
    (sub K (headRect h)) (sub V (headRect h))

/-- A chunk's rows plus the projected attention. -/
def rowsOut (x : Vec F S1x512x1024 .f32) (o : Vec F S512x1024 .bf16) (wo : Vec F S1024x1024 .bf16) : FVec F S1x512x1024 .f32 :=
  k0_pay2 (k0_pay3 x) o wo

/-- The scratch once every tile is written. -/
def held (x : Vec F S1x2048x1024 .f32) (g : Vec F S1x1024 .f32) (w : Vec F S1024x1024 .bf16) (K V : Vec F S1x256x1024 .bf16) :
    Vec F S2048x1024 .bf16 := fun y =>
  have h0 : (y 0).val < 2048 := (y 0).isLt
  have h1 : (y 1).val < 1024 := (y 1).isLt
  tile x g w K V ⟨(y 0).val / 512, by omega⟩ ⟨(y 1).val / 256, by omega⟩
    (ix2 (⟨(y 0).val % 512, by omega⟩ : Fin 512) (⟨(y 1).val % 256, by omega⟩ : Fin 256))

/-- Chunk `r`'s result. -/
def chunkOut (x : Vec F S1x2048x1024 .f32) (g : Vec F S1x1024 .f32) (w wo : Vec F S1024x1024 .bf16) (K V : Vec F S1x256x1024 .bf16)
    (r : Fin 4) : FVec F S1x512x1024 .f32 :=
  rowsOut (sub x (rowsRect r).toLoadRect) (sub (held x g w K V) (heldRect r)) wo

/-! ## Reads of written buffers -/

/-- A load of a whole buffer that holds `x` reads a part of `x`. -/
theorem readAt_unread {sp : Space} {s : Shape} {e : EltTy} {M : Memref sig .tc sp s e} (w : M.IsWhole) (x : Vec F s e) (r : LoadRect s) :
    M.view.readAt (Elt F) r (w.unread x) = sub x r := by
  funext j
  show M.view.read (Elt F) (w.unread x) (r.idx j) = x (r.idx j)
  rw [w.read_unread]

/-- A load of a whole block of this shape. -/
theorem full_gain (x : Vec F S1x1024 .f32) : sub x (Rect.unit (s := S1x1024) ![0, 0] ![1, 1024] inb_S1x1024_S1x1024_0_0).toLoadRect = x :=
  sub_full x _ _ fun a => by fin_cases a <;> rfl

/-- A load of a whole block of this shape. -/
theorem full_proj (x : Vec F S1024x1024 .bf16) : sub x (Rect.unit (s := S1024x1024) ![0, 0] ![1024, 1024] inb_S1024x1024_S1024x1024_0_0).toLoadRect = x :=
  sub_full x _ _ fun a => by fin_cases a <;> rfl

/-- Where every written piece is a part of `O`, a place that some piece holds reads `O`. -/
theorem read_part {sp : Space} {s : Shape} {e : EltTy} (v : View sig .tc sp s e) (f : v.ty.Contents (Elt F)) (O : Vec F s e)
    (L : List (View.Piece (Elt F) s e)) (hL : ∀ p ∈ L, ∀ k, p.2 k = O (p.1.emb k)) (j : s.Idx) (hj : ∃ p ∈ L, j ∈ p.1.set) :
    v.read (Elt F) (v.writes (Elt F) f L) j = O j := by
  induction L with
  | nil => obtain ⟨p, hp, -⟩ := hj; exact absurd hp List.not_mem_nil
  | cons p L ih =>
    by_cases h : j ∈ p.1.set
    · obtain ⟨k, -, rfl⟩ := Finset.mem_map.1 (by rw [← Rect.map_emb_univ] at h; exact h)
      obtain ⟨r, w⟩ := p
      rw [View.read_writes_cons_emb]
      exact hL _ List.mem_cons_self k
    · rw [View.read_writes_cons_miss _ _ p L j h]
      refine ih (fun q hq => hL q (List.mem_cons_of_mem _ hq)) ?_
      obtain ⟨q, hq, hjq⟩ := hj
      rcases List.mem_cons.1 hq with rfl | hq
      · exact absurd hjq h
      · exact ⟨q, hq, hjq⟩

/-- The tile that a list names, in its order. -/
def tiles (x : Vec F S1x2048x1024 .f32) (g : Vec F S1x1024 .f32) (w : Vec F S1024x1024 .bf16) (K V : Vec F S1x256x1024 .bf16)
    (l : List (Fin 4 × Fin 4)) : List (View.Piece (Elt F) S2048x1024 .bf16) :=
  l.map fun p => ⟨tileRect p.1 p.2, tile x g w K V p.1 p.2⟩

/-- A chunk whose four tiles are among those written reads its rows of the scratch. -/
theorem read_tiles {sp : Space} (v : View sig .tc sp S2048x1024 .bf16) (x : Vec F S1x2048x1024 .f32) (g : Vec F S1x1024 .f32)
    (w : Vec F S1024x1024 .bf16) (K V : Vec F S1x256x1024 .bf16) (l : List (Fin 4 × Fin 4)) (r : Fin 4) (hl : ∀ h, (r, h) ∈ l) :
    v.readCov (tiles x g w K V l) (heldRect r) = sub (held x g w K V) (heldRect r) := by
  funext j
  have h0 : (j 0).val < 512 := (j 0).isLt
  have h1 : (j 1).val < 1024 := (j 1).isLt
  have hr := r.isLt
  refine read_part v _ (held x g w K V) _ (fun p hp k => ?_) _ ?_
  · obtain ⟨⟨a, b⟩, -, rfl⟩ := List.mem_map.1 hp
    have k0 : (k 0).val < 512 := (k 0).isLt
    have k1 : (k 1).val < 256 := (k 1).isLt
    have ha := a.isLt
    have hb := b.isLt
    have key (a' b' : Fin 4) (k' : S512x256.Idx) (ea : a = a') (eb : b = b') (ek : k = k') :
        tile x g w K V a b k = tile x g w K V a' b' k' := by subst ea eb ek; rfl
    refine key _ _ _ (Fin.ext ?_) (Fin.ext ?_) (funext fun c => ?_)
    · show a.val = (512 * a.val + 1 * (k 0).val) / 512; omega
    · show b.val = (256 * b.val + 1 * (k 1).val) / 256; omega
    · match c with
      | ⟨0, _⟩ => exact Fin.ext (show (k 0).val = (512 * a.val + 1 * (k 0).val) % 512 by omega)
      | ⟨1, _⟩ => exact Fin.ext (show (k 1).val = (256 * b.val + 1 * (k 1).val) % 256 by omega)
  · refine ⟨_, List.mem_map.2 ⟨(r, ⟨(j 1).val / 256, by omega⟩), hl _, rfl⟩, ?_⟩
    rw [Rect.mem_set_unit]
    intro a
    match a with
    | ⟨0, _⟩ =>
      show 512 * r.val ≤ 512 * r.val + 1 * (j 0).val ∧ 512 * r.val + 1 * (j 0).val < 512 * r.val + 512
      omega
    | ⟨1, _⟩ =>
      show 256 * ((j 1).val / 256) ≤ 0 + 1 * (j 1).val ∧ 0 + 1 * (j 1).val < 256 * ((j 1).val / 256) + 256
      omega

/-! ## What the step wrote -/

set_option maxHeartbeats 4000000 in
set_option maxRecDepth 65536 in
/-- The tiles before the first chunk reads its rows back; -/
theorem tiles_10 (c : Dev nD) (M1 w1 M2 w2 M3 w3 M5 w5 M6 w6 x0 x1 x2 x4 x5) :
    kernelRun0_A.sl.HS0_10 (F := F) c M1 w1 M2 w2 M3 w3 M5 w5 M6 w6 x0 x1 x2 x4 x5
      = tiles x0 x1 x2 x4 x5 [(3, 0), (2, 1), (1, 2), (0, 3), (2, 0), (1, 1), (0, 2), (1, 0), (0, 1), (0, 0)] := by
  unfold kernelRun0_A.sl.HS0_10
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.cst_60, readAt_unread, full_gain, full_proj]
  rfl

set_option maxHeartbeats 4000000 in
set_option maxRecDepth 65536 in
/-- the second; -/
theorem tiles_13 (c : Dev nD) (M1 w1 M2 w2 M3 w3 M5 w5 M6 w6 x0 x1 x2 x4 x5) :
    kernelRun0_A.sl.HS0_13 (F := F) c M1 w1 M2 w2 M3 w3 M5 w5 M6 w6 x0 x1 x2 x4 x5
      = tiles x0 x1 x2 x4 x5 [(3, 1), (2, 2), (1, 3), (3, 0), (2, 1), (1, 2), (0, 3), (2, 0), (1, 1), (0, 2), (1, 0), (0, 1), (0, 0)] := by
  unfold kernelRun0_A.sl.HS0_13
  simp only [kernelRun0_A.sl.HS0_10, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.cst_60, readAt_unread, full_gain, full_proj]
  rfl

set_option maxHeartbeats 4000000 in
set_option maxRecDepth 65536 in
/-- the third; -/
theorem tiles_15 (c : Dev nD) (M1 w1 M2 w2 M3 w3 M5 w5 M6 w6 x0 x1 x2 x4 x5) :
    kernelRun0_A.sl.HS0_15 (F := F) c M1 w1 M2 w2 M3 w3 M5 w5 M6 w6 x0 x1 x2 x4 x5
      = tiles x0 x1 x2 x4 x5 [(3, 2), (2, 3), (3, 1), (2, 2), (1, 3), (3, 0), (2, 1), (1, 2), (0, 3), (2, 0), (1, 1), (0, 2), (1, 0), (0, 1), (0, 0)] := by
  unfold kernelRun0_A.sl.HS0_15
  simp only [kernelRun0_A.sl.HS0_10, kernelRun0_A.sl.HS0_13, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.cst_60, readAt_unread, full_gain, full_proj]
  rfl

set_option maxHeartbeats 4000000 in
set_option maxRecDepth 65536 in
/-- and the last. -/
theorem tiles_16 (c : Dev nD) (M1 w1 M2 w2 M3 w3 M5 w5 M6 w6 x0 x1 x2 x4 x5) :
    kernelRun0_A.sl.HS0_16 (F := F) c M1 w1 M2 w2 M3 w3 M5 w5 M6 w6 x0 x1 x2 x4 x5
      = tiles x0 x1 x2 x4 x5 [(3, 3), (3, 2), (2, 3), (3, 1), (2, 2), (1, 3), (3, 0), (2, 1), (1, 2), (0, 3), (2, 0), (1, 1), (0, 2), (1, 0), (0, 1), (0, 0)] := by
  unfold kernelRun0_A.sl.HS0_16
  simp only [kernelRun0_A.sl.HS0_10, kernelRun0_A.sl.HS0_13, kernelRun0_A.sl.HS0_15, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.cst_60, readAt_unread, full_gain, full_proj]
  rfl

set_option maxHeartbeats 4000000 in
set_option maxRecDepth 65536 in
/-- A step leaves the four chunks' results. -/
theorem step_pieces (c i M1 w1 M2 w2 M3 w3 M4 w4 M5 w5 M6 w6 M7 w7 M8 w8 x0 x1 x2 x3 x4 x5) :
    (kernelRun0_A (F := F) c i M1 w1 M2 w2 M3 w3 M4 w4 M5 w5 M6 w6 M7 w7 M8 w8 x0 x1 x2 x3 x4 x5).1
      = [⟨rowsRect 3, chunkOut x0 x1 x2 x3 x4 x5 3⟩, ⟨rowsRect 2, chunkOut x0 x1 x2 x3 x4 x5 2⟩,
         ⟨rowsRect 1, chunkOut x0 x1 x2 x3 x4 x5 1⟩, ⟨rowsRect 0, chunkOut x0 x1 x2 x3 x4 x5 0⟩] := by
  have e0 := read_tiles M8.view x0 x1 x2 x4 x5 _ 0 (by decide : ∀ h, ((0 : Fin 4), h) ∈ ([(3, 0), (2, 1), (1, 2), (0, 3), (2, 0), (1, 1), (0, 2), (1, 0), (0, 1), (0, 0)] : List (Fin 4 × Fin 4)))
  have e1 := read_tiles M8.view x0 x1 x2 x4 x5 _ 1 (by decide : ∀ h, ((1 : Fin 4), h) ∈ ([(3, 1), (2, 2), (1, 3), (3, 0), (2, 1), (1, 2), (0, 3), (2, 0), (1, 1), (0, 2), (1, 0), (0, 1), (0, 0)] : List (Fin 4 × Fin 4)))
  have e2 := read_tiles M8.view x0 x1 x2 x4 x5 _ 2 (by decide : ∀ h, ((2 : Fin 4), h) ∈ ([(3, 2), (2, 3), (3, 1), (2, 2), (1, 3), (3, 0), (2, 1), (1, 2), (0, 3), (2, 0), (1, 1), (0, 2), (1, 0), (0, 1), (0, 0)] : List (Fin 4 × Fin 4)))
  have e3 := read_tiles M8.view x0 x1 x2 x4 x5 _ 3 (by decide : ∀ h, ((3 : Fin 4), h) ∈ ([(3, 3), (3, 2), (2, 3), (3, 1), (2, 2), (1, 3), (3, 0), (2, 1), (1, 2), (0, 3), (2, 0), (1, 1), (0, 2), (1, 0), (0, 1), (0, 0)] : List (Fin 4 × Fin 4)))
  rw [← tiles_10 c M1 w1 M2 w2 M3 w3 M5 w5 M6 w6] at e0
  rw [← tiles_13 c M1 w1 M2 w2 M3 w3 M5 w5 M6 w6] at e1
  rw [← tiles_15 c M1 w1 M2 w2 M3 w3 M5 w5 M6 w6] at e2
  rw [← tiles_16 c M1 w1 M2 w2 M3 w3 M5 w5 M6 w6] at e3
  unfold kernelRun0_A chunkOut
  rw [← e0, ← e1, ← e2, ← e3]
  dsimp only
  simp only [kernelRun0_A.sl.v334, kernelRun0_A.sl.v407, kernelRun0_A.sl.v457, kernelRun0_A.sl.v484, kernelRun0_A.sl.r, kernelRun0_A.sl.r_4, kernelRun0_A.sl.r_11, kernelRun0_A.sl.r_21, readAt_unread, full_proj]
  rfl

/-- A step's block, from the block of rows, the gain, the projections and the batch's memory. -/
def blockOut (x : Vec F S1x2048x1024 .f32) (g : Vec F S1x1024 .f32) (w wo : Vec F S1024x1024 .bf16) (K V : Vec F S1x256x1024 .bf16) :
    Vec F S1x2048x1024 .f32 := fun y =>
  have h1 : (y 1).val < 2048 := (y 1).isLt
  chunkOut x g w wo K V ⟨(y 1).val / 512, by omega⟩ (ix3 (0 : Fin 1) (⟨(y 1).val % 512, by omega⟩ : Fin 512) (y 2))

/-- It is what a step leaves. -/
theorem step_block (c i M1 w1 M2 w2 M3 w3 M4 w4 M5 w5 M6 w6 M7 w7 M8 w8 x0 x1 x2 x3 x4 x5) :
    out0_A_6 (F := F) c i M1 w1 M2 w2 M3 w3 M4 w4 M5 w5 M6 w6 M7 w7 M8 w8 x0 x1 x2 x3 x4 x5 = blockOut x0 x1 x2 x3 x4 x5 := by
  funext y
  have cov := cover0_A_6 (F := F) c i M1 w1 M2 w2 M3 w3 M4 w4 M5 w5 M6 w6 M7 w7 M8 w8 x0 x1 x2 x3 x4 x5 y
  unfold out0_A_6
  refine read_part _ _ (blockOut x0 x1 x2 x3 x4 x5) _ ?_ y cov
  rw [step_pieces]
  have key (r : Fin 4) (k : S1x512x1024.Idx) :
      chunkOut x0 x1 x2 x3 x4 x5 r k = blockOut x0 x1 x2 x3 x4 x5 ((rowsRect r).emb k) := by
    have k0 : (k 0).val < 1 := (k 0).isLt
    have k1 : (k 1).val < 512 := (k 1).isLt
    have key' (r' : Fin 4) (k' : S1x512x1024.Idx) (er : r = r') (ek : k = k') :
        chunkOut x0 x1 x2 x3 x4 x5 r k = chunkOut x0 x1 x2 x3 x4 x5 r' k' := by subst er ek; rfl
    refine key' _ _ (Fin.ext ?_) (funext fun c => ?_)
    · show r.val = (512 * r.val + 1 * (k 1).val) / 512; omega
    · match c with
      | ⟨0, _⟩ => exact Fin.ext (show (k 0).val = 0 by omega)
      | ⟨1, _⟩ => exact Fin.ext (show (k 1).val = (512 * r.val + 1 * (k 1).val) % 512 by omega)
      | ⟨2, _⟩ => exact Fin.ext (show (k 2).val = 0 + 1 * (k 2).val by omega)
  intro p hp k
  simp only [List.mem_cons, List.not_mem_nil, or_false] at hp
  rcases hp with rfl | rfl | rfl | rfl
  · exact key 3 k
  · exact key 2 k
  · exact key 1 k
  · exact key 0 k

end Cert.Proof.Xattn

end
-- ==== Proof.XattnValues.lean ====
/-
  A batch's step of `prompt_xattn` at the ideal instance, row by row.

  A row's scaled query scores the 256 tokens of the batch's memory head by head; the row of weighted sums is `attRow`, and the
  result is the row plus its projection.
-/
module

public import proofs.«01_k».proof.Proof.XattnPieces

@[expose] public section

noncomputable section

namespace Cert.Proof.Xattn

open Cert.Kernel3Ideal Cert.Kernel3Ideal.Gen
open Idealize.ShloMosaic Idealize.ShloMosaic.TcCoe
open Cert.Proof.Mlp (sub normRow top ex wgt col score attRow rms rms_at)

/-! ## A chunk's operations at an element -/

/-- The rows of a chunk without the unit axis. -/
theorem rows_at (x : Vec Ideal S1x512x1024 .f32) (r : Fin 512) (n : Fin 1024) : k0_pay3 (F := Ideal) x (ix2 r n) = x (ix3 0 r n) := by
  unfold k0_pay3
  pointwise

/-- A chunk's queries, from its norm. -/
theorem scaled_at (y : FVec Ideal S512x1024 .f32) (w : Vec Ideal S1024x1024 .bf16) (r : Fin 512) (n : Fin 1024) :
    truncf (F := Ideal) (φ := .f32) .bf16 (mulf
      (matmul (φ₂ := .bf16) dot_S512x1024_S1024x1024_S512x1024_1_0_0_1_n_n none (truncf .bf16 y bitsLt_bf16_f32) w (constant S512x1024 .f32 0x00000000#32))
      (broadcast S512x1024 (Scalar.ofBits (F := Ideal) .f32 0x3D800000#32))) bitsLt_bf16_f32 (ix2 r n)
      = (∑ k : Fin 1024, y (ix2 r k) * w (ix2 k n)) * Ideal.ofBits .f32 0x3D800000#32 := by
  pointwise

theorem query_at (x : Vec Ideal S1x512x1024 .f32) (g : Vec Ideal S1x1024 .f32) (w : Vec Ideal S1024x1024 .bf16) (r : Fin 512) (n : Fin 1024) :
    query (F := Ideal) x g w (ix2 r n)
      = (∑ k : Fin 1024, normRow (fun l => x (ix3 0 r l)) (fun l => g (ix2 0 l)) k * w (ix2 k n)) * Ideal.ofBits .f32 0x3D800000#32 := by
  have e : query (F := Ideal) x g w = truncf (F := Ideal) (φ := .f32) .bf16 (mulf
      (matmul (φ₂ := .bf16) dot_S512x1024_S1024x1024_S512x1024_1_0_0_1_n_n none
        (truncf .bf16 (rms (F := Ideal) (k0_pay3 x) (shapeCast S1x1024 g shapeCasts_S1x1024_S1x1024)) bitsLt_bf16_f32)
        (shapeCast S1024x1024 w shapeCasts_S1024x1024_S1024x1024) (constant S512x1024 .f32 0x00000000#32))
      (broadcast S512x1024 (Scalar.ofBits (F := Ideal) .f32 0x3D800000#32))) bitsLt_bf16_f32 := rfl
  rw [e, shapeCast_self, shapeCast_self, scaled_at]
  simp only [rms_at, rows_at]

/-- The scores of a head's queries against its keys. -/
theorem dot_at (q : FVec Ideal S512x256 .bf16) (k : Vec Ideal S1x256x256 .bf16) (r : Fin 512) (n : Fin 256) :
    matmul (F := Ideal) (φ₂ := .bf16) dot_S512x256_S256x256_S512x256_1_1_0_0_n_n none q (shapeCast S256x256 k shapeCasts_S1x256x256_S256x256)
      (constant S512x256 .f32 0x00000000#32) (ix2 r n) = ∑ d : Fin 256, q (ix2 r d) * k (ix3 0 n d) := by
  pointwise

/-- The exponentials of a row's scores. -/
theorem exps_at (s : FVec Ideal S512x256 .f32) (r : Fin 512) (n : Fin 256) :
    exp (F := Ideal) (subf s (broadcastTo S512x256 (shapeCast S512x1 (multiReduction .maximumf [1] S512 s 0xFF800000#32 reduces_S512x256_S512 (.inl rfl) rfl)
      shapeCasts_S512_S512x1) broadcasts_S512x1_S512x256)) (ix2 r n) = ex (fun k => s (ix2 r k)) n := by
  unfold ex top
  pointwise

theorem expo_at (q : FVec Ideal S512x256 .bf16) (k : Vec Ideal S1x256x256 .bf16) (r : Fin 512) (n : Fin 256) :
    expo (F := Ideal) q k (ix2 r n) = ex (fun n => ∑ d : Fin 256, q (ix2 r d) * k (ix3 0 n d)) n := by
  refine (exps_at (matmul (F := Ideal) (φ₂ := .bf16) dot_S512x256_S256x256_S512x256_1_1_0_0_n_n none q
    (shapeCast S256x256 k shapeCasts_S1x256x256_S256x256) (constant S512x256 .f32 0x00000000#32)) r n).trans ?_
  simp only [dot_at]

/-- The weighted sums, from the exponentials. -/
theorem weighted_at (e : FVec Ideal S512x256 .f32) (v : Vec Ideal S1x256x256 .bf16) (r : Fin 512) (n : Fin 256) :
    k0_pay7 (F := Ideal) e v (ix2 r n)
      = ∑ k : Fin 256, e (ix2 r k) * Ideal.div 1 (∑ l : Fin 256, e (ix2 r l)) * v (ix3 0 k n) := by
  unfold k0_pay7
  pointwise

theorem headOut_at (q : FVec Ideal S512x256 .bf16) (k v : Vec Ideal S1x256x256 .bf16) (r : Fin 512) (n : Fin 256) :
    headOut (F := Ideal) q k v (ix2 r n) = ∑ l : Fin 256, wgt (fun n => ∑ d : Fin 256, q (ix2 r d) * k (ix3 0 n d)) l * v (ix3 0 l n) := by
  unfold headOut
  rw [weighted_at]
  simp only [expo_at]
  rfl

theorem rowsOut_at (x : Vec Ideal S1x512x1024 .f32) (o : Vec Ideal S512x1024 .bf16) (wo : Vec Ideal S1024x1024 .bf16) (r : Fin 512) (n : Fin 1024) :
    rowsOut (F := Ideal) x o wo (ix3 0 r n) = x (ix3 0 r n) + ∑ j : Fin 1024, o (ix2 r j) * wo (ix2 j n) := by
  have e (y : FVec Ideal S512x1024 .f32) : k0_pay2 (F := Ideal) y o wo (ix3 0 r n) = y (ix2 r n) + ∑ j : Fin 1024, o (ix2 r j) * wo (ix2 j n) := by
    unfold k0_pay2
    pointwise
  unfold rowsOut
  rw [e, rows_at]

/-! ## A step's block at an element -/

/-- A row's scaled query, from a batch's block. -/
def queryOf (x : Vec Ideal S1x2048x1024 .f32) (g : Vec Ideal S1x1024 .f32) (w : Vec Ideal S1024x1024 .bf16) (s : Fin 2048) (n : Fin 1024) : EReal :=
  (∑ k : Fin 1024, normRow (fun l => x (ix3 0 s l)) (fun l => g (ix2 0 l)) k * w (ix2 k n)) * Ideal.ofBits .f32 0x3D800000#32

theorem sub_rows (x : Vec Ideal S1x2048x1024 .f32) (r : Fin 4) (i : Fin 512) (n : Fin 1024) (s : Fin 2048) (hs : s.val = 512 * r.val + i.val) :
    sub (F := Ideal) (e := .f32) x (rowsRect r).toLoadRect (ix3 0 i n) = x (ix3 0 s n) := by
  refine congrArg x (funext fun a => ?_)
  match a with
  | ⟨0, _⟩ => rfl
  | ⟨1, _⟩ => exact Fin.ext (show 512 * r.val + 1 * i.val = s.val by omega)
  | ⟨2, _⟩ => exact Fin.ext (show 0 + 1 * n.val = n.val by omega)

theorem sub_head (x : Vec Ideal S1x256x1024 .bf16) (h : Fin 4) (k d : Fin 256) :
    sub (F := Ideal) (e := .bf16) x (headRect h) (ix3 0 k d) = x (ix3 0 k (col h d)) := by
  refine congrArg x (funext fun a => ?_)
  match a with
  | ⟨0, _⟩ => rfl
  | ⟨1, _⟩ => exact Fin.ext (show 0 + 1 * k.val = k.val by omega)
  | ⟨2, _⟩ => exact Fin.ext (show 256 * h.val + 1 * d.val = 256 * h.val + d.val by omega)

theorem cols_at (q : FVec Ideal S512x1024 .bf16) (h : Fin 4) (r : Fin 512) (d : Fin 256) :
    extractStridedSlice S512x256 ![0, 256 * h.val] q (slices_head h) (ix2 r d) = q (ix2 r (col h d)) := by
  refine congrArg q (funext fun a => ?_)
  match a with
  | ⟨0, _⟩ => exact Fin.ext (show 0 + r.val = r.val by omega)
  | ⟨1, _⟩ => rfl

/-- The scratch at an element: the attention's output. -/
theorem held_at (x : Vec Ideal S1x2048x1024 .f32) (g : Vec Ideal S1x1024 .f32) (w : Vec Ideal S1024x1024 .bf16) (K V : Vec Ideal S1x256x1024 .bf16)
    (s : Fin 2048) (j : Fin 1024) : held (F := Ideal) x g w K V (ix2 s j)
      = attRow (queryOf x g w s) (fun k n => K (ix3 0 k n)) (fun k n => V (ix3 0 k n)) j := by
  have hs := s.isLt
  have hj := j.isLt
  have key (r h : Fin 4) (i : Fin 512) (d : Fin 256) (er : s.val = 512 * r.val + i.val) (ej : j = col h d) :
      tile (F := Ideal) x g w K V r h (ix2 i d) = attRow (queryOf x g w s) (fun k n => K (ix3 0 k n)) (fun k n => V (ix3 0 k n)) j := by
    subst ej
    have hh := h.isLt
    have eh : (⟨(col h d).val / 256, by omega⟩ : Fin 4) = h := Fin.ext (by show (256 * h.val + d.val) / 256 = h.val; omega)
    unfold tile attRow
    rw [headOut_at, eh]
    refine Finset.sum_congr rfl fun l _ => ?_
    rw [sub_head]
    congr 2
    funext n
    unfold score
    refine Finset.sum_congr rfl fun e _ => ?_
    rw [sub_head, cols_at, query_at]
    simp only [fun n => sub_rows x r i n s er]
    rfl
  refine key _ _ _ _ ?_ (Fin.ext ?_)
  · show s.val = 512 * (s.val / 512) + s.val % 512; omega
  · show j.val = 256 * (j.val / 256) + j.val % 256; omega

/-- A step's block: each row plus the projection of what it heard. -/
theorem blockOut_at (x : Vec Ideal S1x2048x1024 .f32) (g : Vec Ideal S1x1024 .f32) (w wo : Vec Ideal S1024x1024 .bf16) (K V : Vec Ideal S1x256x1024 .bf16)
    (s : Fin 2048) (n : Fin 1024) : blockOut (F := Ideal) x g w wo K V (ix3 0 s n)
      = x (ix3 0 s n) + ∑ j : Fin 1024, attRow (queryOf x g w s) (fun k n => K (ix3 0 k n)) (fun k n => V (ix3 0 k n)) j * wo (ix2 j n) := by
  have hs := s.isLt
  have key (r : Fin 4) (i : Fin 512) (er : s.val = 512 * r.val + i.val) : chunkOut (F := Ideal) x g w wo K V r (ix3 0 i n)
      = x (ix3 0 s n) + ∑ j : Fin 1024, attRow (queryOf x g w s) (fun k n => K (ix3 0 k n)) (fun k n => V (ix3 0 k n)) j * wo (ix2 j n) := by
    have eh (j : Fin 1024) : sub (F := Ideal) (e := .bf16) (held x g w K V) (heldRect r) (ix2 i j) = held (F := Ideal) x g w K V (ix2 s j) := by
      refine congrArg (held x g w K V) (funext fun a => ?_)
      match a with
      | ⟨0, _⟩ => exact Fin.ext (show 512 * r.val + 1 * i.val = s.val by omega)
      | ⟨1, _⟩ => exact Fin.ext (show 0 + 1 * j.val = j.val by omega)
    unfold chunkOut
    rw [rowsOut_at, sub_rows x r i n s er]
    simp only [eh, held_at]
  refine key _ _ ?_
  show s.val = 512 * (s.val / 512) + s.val % 512
  omega

end Cert.Proof.Xattn

end
-- ==== Proof.XattnArrays.lean ====
/-
  The blocks that the steps of `prompt_xattn` find, at an element, and the result from the steps' blocks: a step per batch.
-/
module

public import proofs.«01_k».proof.Proof.XattnValues
public import Idealize.ShloMosaic.Lib.StableHlo.Run
public import Idealize.ShloMosaic.Lib.Pipeline.ValueKit

@[expose] public section

noncomputable section

namespace Cert.Proof.Xattn

open Cert.Kernel3Ideal Cert.Kernel3Ideal.Gen
open Idealize.ShloMosaic Idealize.ShloMosaic.TcCoe
open Cert.Proof.Mlp (normRow attRow)

/-! ## The host lines before the region -/

section Host
variable {F : FTy → Type} [FloatOps F] (m : (ℓ : Loc nD τ sig) → Buf (Elt F) ℓ) (c : Dev nD)

theorem V_arg0 : V m c main_arg0 = m ((c : Thread nD τ).loc main_arg0) := by
  show StableHlo.after (List.flatten [hostOps0]) _ _ = _
  simp only [hostOps0, List.flatten_cons, List.flatten_nil, List.append_nil]
  after_results_simp <;> rfl
theorem V_v1 : V m c main_v1 = shapeCast S1x1024 (shapeCast S1024 (m ((c : Thread nD τ).loc main_arg1)) shapeCasts_S1x1024_S1024) shapeCasts_S1024_S1x1024 := by
  show StableHlo.after (List.flatten [hostOps0]) _ _ = _
  simp only [hostOps0, List.flatten_cons, List.flatten_nil, List.append_nil]
  after_results_simp <;> rfl
theorem V_v3 : V m c main_v3 = truncf .bf16 (shapeCast S1024x1024 (m ((c : Thread nD τ).loc main_arg2)) shapeCasts_S1x1024x1024_S1024x1024) bitsLt_bf16_f32 := by
  show StableHlo.after (List.flatten [hostOps0]) _ _ = _
  simp only [hostOps0, List.flatten_cons, List.flatten_nil, List.append_nil]
  after_results_simp <;> rfl
theorem V_v5 : V m c main_v5 = truncf .bf16 (shapeCast S1024x1024 (m ((c : Thread nD τ).loc main_arg3)) shapeCasts_S1x1024x1024_S1024x1024) bitsLt_bf16_f32 := by
  show StableHlo.after (List.flatten [hostOps0]) _ _ = _
  simp only [hostOps0, List.flatten_cons, List.flatten_nil, List.append_nil]
  after_results_simp <;> rfl
theorem V_v7 : V m c main_v7 = truncf .bf16 (shapeCast S8x256x1024 (m ((c : Thread nD τ).loc main_arg4)) shapeCasts_S8x256x4x256_S8x256x1024) bitsLt_bf16_f32 := by
  show StableHlo.after (List.flatten [hostOps0]) _ _ = _
  simp only [hostOps0, List.flatten_cons, List.flatten_nil, List.append_nil]
  after_results_simp <;> rfl
theorem V_v9 : V m c main_v9 = truncf .bf16 (shapeCast S8x256x1024 (m ((c : Thread nD τ).loc main_arg5)) shapeCasts_S8x256x4x256_S8x256x1024) bitsLt_bf16_f32 := by
  show StableHlo.after (List.flatten [hostOps0]) _ _ = _
  simp only [hostOps0, List.flatten_cons, List.flatten_nil, List.append_nil]
  after_results_simp <;> rfl
end Host

/-! ## They, at an element -/

theorem gain_cast (x : Vec Ideal S1x1024 .f32) (k : Fin 1024) :
    shapeCast S1x1024 (shapeCast S1024 x shapeCasts_S1x1024_S1024) shapeCasts_S1024_S1x1024 (ix2 0 k) = x (ix2 0 k) := by
  pointwise
theorem weight_cast (x : Vec Ideal S1x1024x1024 .f32) (k n : Fin 1024) :
    truncf (F := Ideal) .bf16 (shapeCast S1024x1024 x shapeCasts_S1x1024x1024_S1024x1024) bitsLt_bf16_f32 (ix2 k n) = x (ix3 0 k n) := by
  pointwise
/-- A memory token's row: its four heads side by side. -/
def memOf (x : Vec Ideal S8x256x4x256 .f32) (b : Fin 8) (k : Fin 256) (j : Fin 1024) : EReal :=
  x (ix4 b k (⟨j.val / 256, by omega⟩ : Fin 4) (⟨j.val % 256, by omega⟩ : Fin 256))
theorem mem_cast (x : Vec Ideal S8x256x4x256 .f32) (b : Fin 8) (k : Fin 256) (j : Fin 1024) :
    truncf (F := Ideal) .bf16 (shapeCast S8x256x1024 x shapeCasts_S8x256x4x256_S8x256x1024) bitsLt_bf16_f32 (ix3 b k j) = memOf x b k j := by
  unfold memOf
  pointwise

/-! ## The steps' blocks, at an element -/

theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![t.val, 0, 0] := (by decide +kernel : ∀ t : Fin grid0.N, _)

variable (m : (ℓ : Loc nD τ sig) → Buf (Elt Ideal) ℓ) (c : Dev nD)

theorem blk0_at (t : Fin cfg0.N) (b : Fin 8) (hb : b.val = t.val) (s : Fin 2048) (k : Fin 1024) :
    iblk m c 0 t (ix3 0 s k) = m ((c : Thread nD τ).loc main_arg0) (ix3 b s k) := by
  have e : ((cfg0.win 0).blk t).view.emb (ix3 0 s k) = ix3 b s k := by
    blk_ext [index0]
  have h : iblk m c 0 t (ix3 0 s k) = V m c main_arg0 (((cfg0.win 0).blk t).view.emb (ix3 0 s k)) := rfl
  rw [h, e, V_arg0]
theorem blk1_at (t : Fin cfg0.N) (k : Fin 1024) : iblk m c 1 t (ix2 0 k) = m ((c : Thread nD τ).loc main_arg1) (ix2 0 k) := by
  have e : ((cfg0.win 1).blk t).view.emb (ix2 0 k) = ix2 0 k := by
    blk_ext [index1]
  have h : iblk m c 1 t (ix2 0 k) = V m c main_v1 (((cfg0.win 1).blk t).view.emb (ix2 0 k)) := rfl
  rw [h, e, V_v1]
  exact gain_cast _ k
theorem blk2_at (t : Fin cfg0.N) (k n : Fin 1024) : iblk m c 2 t (ix2 k n) = m ((c : Thread nD τ).loc main_arg2) (ix3 0 k n) := by
  have e : ((cfg0.win 2).blk t).view.emb (ix2 k n) = ix2 k n := by
    blk_ext [index2]
  have h : iblk m c 2 t (ix2 k n) = V m c main_v3 (((cfg0.win 2).blk t).view.emb (ix2 k n)) := rfl
  rw [h, e, V_v3]
  exact weight_cast _ k n
theorem blk3_at (t : Fin cfg0.N) (k n : Fin 1024) : iblk m c 3 t (ix2 k n) = m ((c : Thread nD τ).loc main_arg3) (ix3 0 k n) := by
  have e : ((cfg0.win 3).blk t).view.emb (ix2 k n) = ix2 k n := by
    blk_ext [index3]
  have h : iblk m c 3 t (ix2 k n) = V m c main_v5 (((cfg0.win 3).blk t).view.emb (ix2 k n)) := rfl
  rw [h, e, V_v5]
  exact weight_cast _ k n
theorem blk4_at (t : Fin cfg0.N) (b : Fin 8) (hb : b.val = t.val) (k : Fin 256) (j : Fin 1024) :
    iblk m c 4 t (ix3 0 k j) = memOf (m ((c : Thread nD τ).loc main_arg4)) b k j := by
  have e : ((cfg0.win 4).blk t).view.emb (ix3 0 k j) = ix3 b k j := by
    blk_ext [index4]
  have h : iblk m c 4 t (ix3 0 k j) = V m c main_v7 (((cfg0.win 4).blk t).view.emb (ix3 0 k j)) := rfl
  rw [h, e, V_v7]
  exact mem_cast _ b k j
theorem blk5_at (t : Fin cfg0.N) (b : Fin 8) (hb : b.val = t.val) (k : Fin 256) (j : Fin 1024) :
    iblk m c 5 t (ix3 0 k j) = memOf (m ((c : Thread nD τ).loc main_arg5)) b k j := by
  have e : ((cfg0.win 5).blk t).view.emb (ix3 0 k j) = ix3 b k j := by
    blk_ext [index5]
  have h : iblk m c 5 t (ix3 0 k j) = V m c main_v9 (((cfg0.win 5).blk t).view.emb (ix3 0 k j)) := rfl
  rw [h, e, V_v9]
  exact mem_cast _ b k j

/-! ## The result -/

/-- A row's scaled query. -/
def qRow (x : Vec Ideal S8x2048x1024 .f32) (g : Vec Ideal S1x1024 .f32) (w : Vec Ideal S1x1024x1024 .f32) (b : Fin 8) (s : Fin 2048) (n : Fin 1024) : EReal :=
  (∑ k : Fin 1024, normRow (fun l => x (ix3 b s l)) (fun l => g (ix2 0 l)) k * w (ix3 0 k n)) * Ideal.ofBits .f32 0x3D800000#32

/-- The result: each row plus the projection of what it heard of its batch's memory. -/
def res (x : Vec Ideal S8x2048x1024 .f32) (g : Vec Ideal S1x1024 .f32) (wq wo : Vec Ideal S1x1024x1024 .f32) (mk mv : Vec Ideal S8x256x4x256 .f32)
    (b : Fin 8) (s : Fin 2048) (n : Fin 1024) : EReal :=
  x (ix3 b s n) + ∑ j : Fin 1024, attRow (qRow x g wq b s) (memOf mk b) (memOf mv b) j * wo (ix3 0 j n)

/-- What a step leaves in the result's block is its batch's rows. -/
theorem step_at (t : Fin cfg0.N) (b : Fin 8) (hb : b.val = t.val) (s : Fin 2048) (n : Fin 1024) :
    outsAt0 m c t (ix3 0 s n) = res (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) b s n := by
  unfold outsAt0
  refine (congrFun (step_block ..) (ix3 0 s n)).trans ?_
  refine (blockOut_at (iblk m c 0 t) (iblk m c 1 t) (iblk m c 2 t) (iblk m c 3 t) (iblk m c 4 t) (iblk m c 5 t) s n).trans ?_
  have eq : queryOf (iblk m c 0 t) (iblk m c 1 t) (iblk m c 2 t) s = qRow (m ((c : Thread nD τ).loc main_arg0)) (m ((c : Thread nD τ).loc main_arg1))
      (m ((c : Thread nD τ).loc main_arg2)) b s := by
    funext n
    unfold queryOf qRow
    simp only [fun s k => blk0_at m c t b hb s k, blk1_at, blk2_at]
  have ek : (fun k n => iblk m c 4 t (ix3 0 k n)) = memOf (m ((c : Thread nD τ).loc main_arg4)) b :=
    funext fun k => funext fun j => blk4_at m c t b hb k j
  have ev : (fun k n => iblk m c 5 t (ix3 0 k n)) = memOf (m ((c : Thread nD τ).loc main_arg5)) b :=
    funext fun k => funext fun j => blk5_at m c t b hb k j
  have ew (j n : Fin 1024) := blk3_at m c t j n
  have ex := blk0_at m c t b hb s n
  unfold res
  refine congr (congrArg _ ex) (Finset.sum_congr rfl fun j _ => ?_)
  exact congr (congrArg _ (congrFun (congr (congr (congrArg attRow eq) ek) ev) j)) (ew j n)

/-- The result's array. -/
def resArr (x : Vec Ideal S8x2048x1024 .f32) (g : Vec Ideal S1x1024 .f32) (wq wo : Vec Ideal S1x1024x1024 .f32) (mk mv : Vec Ideal S8x256x4x256 .f32) :
    Vec Ideal S8x2048x1024 .f32 := fun y => res x g wq wo mk mv (y 0) (y 1) (y 2)

/-- A step's block at any element. -/
theorem step_idx (t : Fin cfg0.N) (b : Fin 8) (hb : b.val = t.val) (y : S1x2048x1024.Idx) :
    outsAt0 m c t y = resArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (ix3 b (y 1) (y 2)) := by
  have h0 : (y 0).val = 0 := by have : (y 0).val < 1 := (y 0).isLt; omega
  have ey : y = ix3 0 (y 1) (y 2) := by
    funext a
    match a with
    | ⟨0, _⟩ => exact Fin.ext h0
    | ⟨1, _⟩ => rfl
    | ⟨2, _⟩ => rfl
  have h := step_at m c t b hb (y 1) (y 2)
  generalize outsAt0 m c t = o at h ⊢
  exact (congrArg o ey).trans h

/-- The steps' blocks tile the result. -/
theorem res_end : (dats m 0 c).arrAt 6 cfg0.N = resArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have h0 : (y 0).val = 0 := by have : (y 0).val < 1 := (y 0).isLt; omega
  have ht : t.val < 8 := t.isLt
  have e : ((cfg0.win 6).blk t).view.emb y = ix3 (⟨t.val, ht⟩ : Fin 8) (y 1) (y 2) := by
    blk_ext [index6]
  have key := step_idx m c t ⟨t.val, ht⟩ rfl
  rw [e, after0_6]
  generalize outsAt0 m c t = o at key ⊢
  generalize resArr _ _ _ _ _ _ = q at key ⊢
  exact key y

end Cert.Proof.Xattn

end
-- ==== Proof.XattnRef.lean ====
/-
  The reference's result at the ideal instance, element by element, over `prompt_xattn`'s arrays.
-/
module

public import proofs.«01_k».proof.Proof.XattnArrays
public import proofs.«01_k».proof.Proof.Gen.Reference3Ideal.Run

@[expose] public section

noncomputable section

namespace Cert.Proof.XattnRef

open Cert.Reference3Ideal Cert.Reference3Ideal.Gen
open Idealize.ShloMosaic Idealize.ShloMosaic.TcCoe
open Cert.Proof.Mlp (normRow top ex wgt col score attRow Re wgt_eq score_scale score_re normRow_re scale_nonneg)
open Cert.Proof.Xattn (qRow memOf res)

/-- The norm of each row, as the reference writes it. -/
abbrev normRows (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf
    (broadcastInDim S8x2048x1 ![0, 1] bcast_S8x2048_S8x2048x1_0_1
      (Host.reduceAdd (mulf x x) (constant S_ .f32 0x00000000#32) reducesTo_S8x2048x1024_S8x2048_d2 h_S_))
    (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- The scaled scores of the projected rows. -/
abbrev attScores (y : FVec Ideal S8x2048x1024 .f32) (wq : FVec Ideal S1x1024x1024 .f32) (mk : FVec Ideal S8x256x4x256 .f32) :
    FVec Ideal S8x4x2048x256 .f32 :=
  mulf (Host.dotGeneral dot_S8x2048x4x256_S8x256x4x256_S8x4x2048x256_3_3_1_1_02_02 none
    (shapeCast _ (Host.dotGeneral dot_S8x2048x1024_S1024x1024_S8x2048x1024_2_0_01_1_n_n none y (shapeCast _ wq shapeCasts_S1x1024x1024_S1024x1024))
      shapeCasts_S8x2048x1024_S8x2048x4x256) mk)
    (broadcastInDim S8x4x2048x256 ![] bcast_S_S8x4x2048x256 (constant S_ .f32 0x3D800000#32))

/-- The exponentials of the scores less each row's greatest. -/
abbrev attExp (s : FVec Ideal S8x4x2048x256 .f32) : FVec Ideal S8x4x2048x256 .f32 :=
  Host.exp (subf s (broadcastInDim S8x4x2048x256 ![0, 1, 2, 3] bcast_S8x4x2048x1_S8x4x2048x256_0_1_2_3
    (broadcastInDim S8x4x2048x1 ![0, 1, 2] bcast_S8x4x2048_S8x4x2048x1_0_1_2
      (maximumf (broadcastInDim S8x4x2048 ![] bcast_S_S8x4x2048 (constant S_ .f32 0xFF800000#32))
        (Host.reduce FloatOps.maximumf s (constant S_ .f32 0xFF800000#32) reducesTo_S8x4x2048x256_S8x4x2048_d3 h_S_)))))

/-- The rows plus the projected sums of the values, weighted by the exponentials over their sum. -/
abbrev attSum (x : FVec Ideal S8x2048x1024 .f32) (e : FVec Ideal S8x4x2048x256 .f32) (mv : FVec Ideal S8x256x4x256 .f32)
    (wo : FVec Ideal S1x1024x1024 .f32) : FVec Ideal S8x2048x1024 .f32 :=
  addf x (Host.dotGeneral dot_S8x2048x1024_S1024x1024_S8x2048x1024_2_0_01_1_n_n none
    (shapeCast _ (transpose S8x2048x4x256 [0, 3, 1, 2] (Host.dotGeneral dot_S8x256x4x256_S8x4x2048x256_S8x4x256x2048_1_3_3_2_02_01 none mv
      (Host.divf e (broadcastInDim S8x4x2048x256 ![0, 1, 2, 3] bcast_S8x4x2048x1_S8x4x2048x256_0_1_2_3
        (broadcastInDim S8x4x2048x1 ![0, 1, 2] bcast_S8x4x2048_S8x4x2048x1_0_1_2
          (Host.reduceAdd e (constant S_ .f32 0x00000000#32) reducesTo_S8x4x2048x256_S8x4x2048_d3 h_S_)))))
      transposes_S8x4x256x2048_S8x2048x4x256_0_3_1_2) shapeCasts_S8x2048x4x256_S8x2048x1024)
    (shapeCast _ wo shapeCasts_S1x1024x1024_S1024x1024))

theorem normRows_at (x : FVec Ideal S8x2048x1024 .f32) (g : FVec Ideal S1024 .f32) (b : Fin 8) (t : Fin 2048) (n : Fin 1024) :
    normRows x g (ix3 b t n) = normRow (fun k => x (ix3 b t k)) (fun k => g (ix1 k)) n := by
  unfold normRows normRow
  pointwise

/-- The projected rows in heads. -/
theorem heads_at (y : FVec Ideal S8x2048x1024 .f32) (wq : FVec Ideal S1x1024x1024 .f32) (b : Fin 8) (s : Fin 2048) (h : Fin 4) (d : Fin 256) :
    shapeCast S8x2048x4x256 (Host.dotGeneral (F := Ideal) dot_S8x2048x1024_S1024x1024_S8x2048x1024_2_0_01_1_n_n none y
      (shapeCast S1024x1024 wq shapeCasts_S1x1024x1024_S1024x1024)) shapeCasts_S8x2048x1024_S8x2048x4x256 (ix4 b s h d)
      = ∑ l : Fin 1024, y (ix3 b s l) * wq (ix3 0 l ⟨h.val * 256 + d.val, by omega⟩) := by
  pointwise

/-- The scaled scores of rows in heads. -/
theorem scaled_at (q : FVec Ideal S8x2048x4x256 .f32) (mk : FVec Ideal S8x256x4x256 .f32) (b : Fin 8) (h : Fin 4) (s : Fin 2048) (k : Fin 256) :
    mulf (F := Ideal) (φ := .f32) (Host.dotGeneral dot_S8x2048x4x256_S8x256x4x256_S8x4x2048x256_3_3_1_1_02_02 none q mk)
      (broadcastInDim S8x4x2048x256 ![] bcast_S_S8x4x2048x256 (constant S_ .f32 0x3D800000#32)) (ix4 b h s k)
      = (∑ d : Fin 256, q (ix4 b s h d) * mk (ix4 b k h d)) * Ideal.ofBits .f32 0x3D800000#32 := by
  pointwise

theorem attScores_at (y : FVec Ideal S8x2048x1024 .f32) (wq : FVec Ideal S1x1024x1024 .f32) (mk : FVec Ideal S8x256x4x256 .f32)
    (b : Fin 8) (h : Fin 4) (s : Fin 2048) (k : Fin 256) : attScores y wq mk (ix4 b h s k)
      = (∑ d : Fin 256, (∑ l : Fin 1024, y (ix3 b s l) * wq (ix3 0 l ⟨h.val * 256 + d.val, by omega⟩)) * mk (ix4 b k h d))
        * Ideal.ofBits .f32 0x3D800000#32 := by
  unfold attScores
  refine (scaled_at _ mk b h s k).trans ?_
  simp only [heads_at]

/-- A row's greatest score. -/
theorem great_at (x : FVec Ideal S8x4x2048x256 .f32) (b : Fin 8) (h : Fin 4) (s : Fin 2048) :
    Host.reduce (FloatOps.maximumf (F := Ideal) (φ := .f32)) x (constant S_ .f32 0xFF800000#32) reducesTo_S8x4x2048x256_S8x4x2048_d3 h_S_ (ix3 b h s)
      = top fun k => x (ix4 b h s k) := by
  unfold top
  pointwise

/-- The exponentials, from the rows' greatest. -/
theorem less_at (x : FVec Ideal S8x4x2048x256 .f32) (y : FVec Ideal S8x4x2048 .f32) (b : Fin 8) (h : Fin 4) (s : Fin 2048) (k : Fin 256) :
    Host.exp (subf x (broadcastInDim S8x4x2048x256 ![0, 1, 2, 3] bcast_S8x4x2048x1_S8x4x2048x256_0_1_2_3
      (broadcastInDim S8x4x2048x1 ![0, 1, 2] bcast_S8x4x2048_S8x4x2048x1_0_1_2
        (maximumf (broadcastInDim S8x4x2048 ![] bcast_S_S8x4x2048 (constant S_ .f32 0xFF800000#32)) y)))) (ix4 b h s k)
      = Ideal.exp (x (ix4 b h s k) - max (Ideal.ofBits .f32 0xFF800000#32) (y (ix3 b h s))) := by
  pointwise

theorem attExp_at (x : FVec Ideal S8x4x2048x256 .f32) (b : Fin 8) (h : Fin 4) (s : Fin 2048) (k : Fin 256) :
    attExp x (ix4 b h s k) = ex (fun k => x (ix4 b h s k)) k := by
  have hinf : Ideal.ofBits .f32 0xFF800000#32 = (⊥ : EReal) := by simp [Ideal.ofBits, Ideal.ieee]
  refine (less_at x _ b h s k).trans ?_
  rw [great_at, hinf, max_eq_right bot_le]
  unfold ex
  rfl

theorem attSum_at (x : FVec Ideal S8x2048x1024 .f32) (e : FVec Ideal S8x4x2048x256 .f32) (mv : FVec Ideal S8x256x4x256 .f32)
    (wo : FVec Ideal S1x1024x1024 .f32) (b : Fin 8) (s : Fin 2048) (n : Fin 1024) : attSum x e mv wo (ix3 b s n)
      = x (ix3 b s n) + ∑ j : Fin 1024, (∑ k : Fin 256, mv (ix4 b k ⟨j.val / 256, by omega⟩ ⟨j.val % 256, by omega⟩) *
          Ideal.div (e (ix4 b ⟨j.val / 256, by omega⟩ s k)) (∑ l : Fin 256, e (ix4 b ⟨j.val / 256, by omega⟩ s l))) * wo (ix3 0 j n) := by
  unfold attSum
  pointwise

/-- The scores are those of the scaled query rows. -/
theorem attScores_eq (x : FVec Ideal S8x2048x1024 .f32) (gx : FVec Ideal S1x1024 .f32) (wq : FVec Ideal S1x1024x1024 .f32)
    (mk : FVec Ideal S8x256x4x256 .f32) (b : Fin 8) (h : Fin 4) (s : Fin 2048) (k : Fin 256) :
    attScores (normRows x (shapeCast S1024 gx shapeCasts_S1x1024_S1024)) wq mk (ix4 b h s k) = score (qRow x gx wq b s) (memOf mk b) h k := by
  have hg (k : Fin 1024) : shapeCast S1024 gx shapeCasts_S1x1024_S1024 (ix1 k) = gx (ix2 0 k) := by pointwise
  have hh := h.isLt
  refine (attScores_at _ wq mk b h s k).trans ?_
  refine Eq.trans ?_ (score_scale (fun n => ∑ l : Fin 1024, normRow (fun l => x (ix3 b s l)) (fun l => gx (ix2 0 l)) l * wq (ix3 0 l n))
    (memOf mk b) h k).symm
  simp only [normRows_at, hg]
  congr 1
  unfold score memOf
  refine Finset.sum_congr rfl fun d _ => ?_
  have e0 : (⟨h.val * 256 + d.val, by omega⟩ : Fin 1024) = col h d := Fin.ext (by show h.val * 256 + d.val = 256 * h.val + d.val; omega)
  have e1 : (⟨(col h d).val / 256, by omega⟩ : Fin 4) = h := Fin.ext (by show (256 * h.val + d.val) / 256 = h.val; omega)
  have e2 : (⟨(col h d).val % 256, by omega⟩ : Fin 256) = d := Fin.ext (by show (256 * h.val + d.val) % 256 = d.val; omega)
  rw [e0, e1, e2]

/-- A row's query is real where the gain and the projection are. -/
theorem qRow_re (x : FVec Ideal S8x2048x1024 .f32) (g : FVec Ideal S1x1024 .f32) (w : FVec Ideal S1x1024x1024 .f32)
    (hg : ∀ i, Re (g i)) (hw : ∀ i, Re (w i)) (b : Fin 8) (s : Fin 2048) (n : Fin 1024) : Re (qRow x g w b s n) := by
  obtain ⟨c, -, hcc⟩ := scale_nonneg
  exact (Re.sum _ _ fun k => (normRow_re _ _ (fun l => hg _) k).mul (hw _)).mul ⟨c, hcc⟩

/-- The reference's rows, where the scores are real. -/
theorem heard_of (x : FVec Ideal S8x2048x1024 .f32) (gx : FVec Ideal S1x1024 .f32) (wq wo : FVec Ideal S1x1024x1024 .f32)
    (mk mv : FVec Ideal S8x256x4x256 .f32) (hg : ∀ i, Re (gx i)) (hw : ∀ i, Re (wq i)) (hk : ∀ i, Re (mk i))
    (b : Fin 8) (s : Fin 2048) (n : Fin 1024) :
    attSum x (attExp (attScores (normRows x (shapeCast S1024 gx shapeCasts_S1x1024_S1024)) wq mk)) mv wo (ix3 b s n) = res x gx wq wo mk mv b s n := by
  refine (attSum_at x _ mv wo b s n).trans ?_
  unfold res
  congr 1
  refine Finset.sum_congr rfl fun j _ => ?_
  congr 1
  unfold attRow
  refine Finset.sum_congr rfl fun k _ => ?_
  have hq (k : Fin 256) : Re (score (qRow x gx wq b s) (memOf mk b) ⟨j.val / 256, by omega⟩ k) :=
    score_re _ _ (fun n => qRow_re x gx wq hg hw b s n) (fun k n => hk _) _ k
  rw [wgt_eq _ hq k, mul_comm]
  simp only [attExp_at, attScores_eq]
  rfl

section Of
variable {x x' : FVec Ideal S8x2048x1024 .f32} {gx gx' : FVec Ideal S1x1024 .f32} {wq wq' wo wo' : FVec Ideal S1x1024x1024 .f32}
  {mk mk' mv mv' : FVec Ideal S8x256x4x256 .f32}

/-- The result is the kernel's where the gain, the query projection and the keys are real. -/
theorem res_of (hx : x' = x) (hgx : gx' = gx) (hq : wq' = wq) (ho : wo' = wo) (hk : mk' = mk) (hv : mv' = mv)
    (rg : ∀ i, Re (gx i)) (rw : ∀ i, Re (wq i)) (rk : ∀ i, Re (mk i)) (j : S8x2048x1024.Idx) :
    attSum x' (attExp (attScores (normRows x' (shapeCast S1024 gx' shapeCasts_S1x1024_S1024)) wq' mk')) mv' wo' j
      = res x gx wq wo mk mv (j 0) (j 1) (j 2) := by
  subst hx hgx hq ho hk hv
  have ej : j = ix3 (j 0) (j 1) (j 2) := by
    funext a
    match a with
    | ⟨0, _⟩ => rfl
    | ⟨1, _⟩ => rfl
    | ⟨2, _⟩ => rfl
  exact (congrArg _ ej).trans (heard_of x' gx' wq' wo' mk' mv' rg rw rk (j 0) (j 1) (j 2))
end Of

end Cert.Proof.XattnRef

end
-- ==== Proof.XattnClaims.lean ====
/-
  The claims of `prompt_xattn`: the frames, and the result's equality at the ideal instance where the attention's gain, the query
  projection and the keys are finite.
-/
module

public import proofs.«01_k».proof.Proof.XattnRef
public import proofs.«01_k».proof.Proof.MlpClaims
public import proofs.«01_k».proof.Proof.Gen.Kernel3

@[expose] public section

noncomputable section

namespace Cert.Proof.Xattn

open Idealize.ShloMosaic Idealize.ShloMosaic.TcCoe Idealize.SL.Sem
open Cert.Proof.XattnRef (res_of)
open Cert.Proof.Mlp (re_of_lt)

/-! ## The frames -/

theorem frame_kernelIdeal : Cert.quiescent_Kernel3Ideal := fun m ρ _ => Cert.Kernel3Ideal.Gen.frame (F := Ideal) m ρ
/-- The printed program's body is the ideal program's text, -/
theorem bodies_eq : Cert.Kernel3.defs₀ (F := Bits) = Cert.Kernel3Ideal.defs₀ (F := Bits) := by
  refine congrArg (Defs.onTc (nD := Cert.Kernel3.nD) (τ := Cert.Kernel3.τ) (sig := Cert.Kernel3.sig) (Λ := Cert.Kernel3.Λ₀))
    (funext fun l => funext fun a => ?_)
  match l, a with
  | 0, (t, s) => rfl
  | ⟨_ + 1, h⟩, _ => exact absurd h (Nat.not_lt.2 (Nat.le_add_left _ _))
/-- and so is its pipeline. -/
theorem defs_eq : Cert.Kernel3.defs (F := Bits) = Cert.Kernel3Ideal.defs (F := Bits) :=
  congrArg (Pipeline.defs (Cert.Kernel3.pcfgs (F := Bits))) bodies_eq
set_option maxHeartbeats 4000000 in
theorem frame_kernel : Cert.quiescent_Kernel3 := fun m ρ _ => by
  rw [defs_eq]
  exact (θ_run Cert.Kernel3Ideal.defs _ _).mono (fun _ h => h) (Cert.Kernel3Ideal.Gen.frame (F := Bits) m ρ)
theorem frame_referenceIdeal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-! ## The precondition -/

theorem finite_facts : Cert.Pre_finite3.Facts where
  bcast_S_S1x1024 := by decide
  bcast_S_S1x1024x1024 := by decide
  bcast_S_S8x256x4x256 := by decide

instance : Cert.Pre_finite3.Facts := finite_facts

theorem frame_kernelIdeal_finite : Cert.quiescent_Kernel3Ideal_pre_finite3 := fun m ρ _ => frame_kernelIdeal m ρ trivial
theorem frame_referenceIdeal_finite : Cert.quiescent_Reference3Ideal_pre_finite3 := fun m ρ _ => frame_referenceIdeal m ρ trivial

/-! ## The value -/

section Run
open Cert.Kernel3Ideal Cert.Kernel3Ideal.Gen
variable (m : (ℓ : Loc nD τ sig) → Buf (Elt Ideal) ℓ) (ρ : Dev nD → PrngReg)

/-- The result on a device. -/
def outPrompt (c : Dev nD) : Vec Ideal S8x2048x1024 .f32 :=
  resArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The run ends with the result in place. -/
theorem run_out : θ_run defs (onTc (τ := τ) (main (F := Ideal))) ⟨m, fun _ => 0, ρ⟩ (fun r => ∀ c : Dev nD,
    r.2.mem ((c.tc : Thread nD τ).loc main_v10) = outPrompt m c) :=
  (θ_run defs _ _).mono (fun _ h c => ((h c).1 6).trans (res_end m c)) (run_main m ρ)
end Run

theorem algebraic : Cert.algebraic_Kernel3Ideal_Reference3Ideal_pre_finite3 := fun m g m' g' hpre hm => by
  refine ⟨outPrompt m, ?_, ?_⟩
  · have h₁ := run_out m g
    have h₂ := frame_kernelIdeal m g trivial
    exact ⟨fun t ht hf c => ⟨h₁.post t ht hf c, (h₂.post t ht hf).1 c⟩, h₁.progress, h₁.fair⟩
  · refine (θ_run Cert.Reference3Ideal.defs _ _).mono (fun r h c => ?_) (Cert.Reference3Ideal.Value.run (F := Ideal) m' g')
    obtain ⟨e0, e1, e2, e3, e4, e5⟩ := hm c
    obtain ⟨p1, p2, p4⟩ := hpre c
    obtain ⟨r0, rest⟩ := h c
    refine ⟨r0.trans (funext fun j => ?_), rest⟩
    exact res_of e0 e1 e2 e3 e4 e5 (fun i => re_of_lt (congrFun p1 i)) (fun i => re_of_lt (congrFun p2 i))
      (fun i => re_of_lt (congrFun p4 i)) j

end Cert.Proof.Xattn

end
-- ==== Proof.lean ====
/-
  The claims of the three calls: every run of a kernel's program, printed and idealized, and of its reference's ends with its arguments
  unchanged and every counter at zero; the idealized program is the printed one's text; and at the ideal instance the kernel's results
  are the reference's. Those of `memory_kv` are here, those of `mlp_xattn` in `MlpClaims`, those of `prompt_xattn` in `XattnClaims`.
-/
module

public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Reference2Ideal
public import proofs.«01_k».proof.Proof.Gen.Reference2Ideal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RefOutputs
public import proofs.«01_k».proof.Proof.MlpClaims
public import proofs.«01_k».proof.Proof.XattnClaims
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.ShloMosaic.TcCoe Idealize.SL.Sem
open Cert.Proof.Memory Cert.Proof.MemoryRef

/-! ## The frames -/

theorem frame_kernelIdeal : Cert.quiescent_KernelIdeal := fun m ρ _ =>
  (θ_run Cert.KernelIdeal.defs _ _).mono (fun _ h => ⟨fun c => (h.1 c).2, h.2⟩) (run_results (F := Ideal) m ρ)
set_option maxHeartbeats 4000000 in
theorem frame_kernel : Cert.quiescent_Kernel := fun m ρ _ =>
  (θ_run Cert.KernelIdeal.defs _ _).mono (fun _ h => ⟨fun c => (h.1 c).2, h.2⟩) (run_results (F := Bits) m ρ)
theorem frame_referenceIdeal : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-! ## The values -/

theorem algebraic : Cert.algebraic_KernelIdeal_ReferenceIdeal := fun m g m' g' _ hm => by
  refine ⟨fun c => heads (outK c (Cert.KernelIdeal.Gen.V m c)), fun c => heads (outV c (Cert.KernelIdeal.Gen.V m c)),
    fun c => outKb c (Cert.KernelIdeal.Gen.V m c), fun c => outVb c (Cert.KernelIdeal.Gen.V m c),
    fun c => outW c (Cert.KernelIdeal.Gen.V m c), fun c => outO c (Cert.KernelIdeal.Gen.V m c), ?_, ?_⟩
  · exact (θ_run Cert.KernelIdeal.defs _ _).mono (fun _ h c =>
      ⟨(h.1 c).1.1, (h.1 c).1.2.1, (h.1 c).1.2.2.1, (h.1 c).1.2.2.2.1, (h.1 c).1.2.2.2.2.1, (h.1 c).1.2.2.2.2.2, (h.1 c).2⟩)
      (run_results (F := Ideal) m g)
  · refine (θ_run Cert.ReferenceIdeal.defs _ _).mono (fun r h c => ?_) (Cert.ReferenceIdeal.Value.run (F := Ideal) m' g')
    obtain ⟨e0, e1, e2, e3, e4, e5⟩ := hm c
    obtain ⟨r0, r1, r2, r3, r4, r5, rest⟩ := h c
    refine ⟨r0.trans (funext fun j => ?_), r1.trans (funext fun j => ?_), r2.trans (funext fun j => ?_), r3.trans (funext fun j => ?_),
      r4.trans (funext fun j => ?_), r5.trans (funext fun j => ?_), rest⟩
    · exact (heads_of e0 e1 e2 j).trans (out0_at m c j).symm
    · exact (heads_of e0 e1 e3 j).trans (out1_at m c j).symm
    · exact (flat_of e0 e1 e2 j).trans (out2_at m c j).symm
    · exact (flat_of e0 e1 e3 j).trans (out3_at m c j).symm
    · exact (win_at _ j).trans ((congrFun e4 _).trans (out4_at m c j).symm)
    · exact (wout_at _ j).trans ((congrFun e5 _).trans (out5_at m c j).symm)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Mlp.finite_facts, Xattn.finite_facts,
  frame_kernel, frame_kernelIdeal, frame_referenceIdeal, Mlp.frame_kernel, Mlp.frame_kernelIdeal, Mlp.frame_kernelIdeal_finite,
  Mlp.frame_referenceIdeal, Mlp.frame_referenceIdeal_finite, Xattn.frame_kernel, Xattn.frame_kernelIdeal, Xattn.frame_kernelIdeal_finite,
  Xattn.frame_referenceIdeal, Xattn.frame_referenceIdeal_finite, trivial, algebraic, trivial, Mlp.algebraic, trivial, Xattn.algebraic⟩

end Cert.Proof

end
